-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Spatial (m : (ℓ : Loc Cert.Spatial.nD Cert.Spatial.τ Cert.Spatial.sig) → Buf (Elt Bits) ℓ) : Prop :=
  True

def Pre_SpatialIdeal (m : (ℓ : Loc Cert.SpatialIdeal.nD Cert.SpatialIdeal.τ Cert.SpatialIdeal.sig) → Buf (Elt Ideal) ℓ) : Prop :=
  True

def Pre_SpatialReferenceIdeal (m : (ℓ : Loc Cert.SpatialReferenceIdeal.nD Cert.SpatialReferenceIdeal.τ Cert.SpatialReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Spatial [hSpatial : Cert.Spatial.Facts] : Prop :=
  ∀ (m : (ℓ : Loc Cert.Spatial.nD Cert.Spatial.τ Cert.Spatial.sig) → Buf (Elt Bits) ℓ) (g : Dev Cert.Spatial.nD → PrngReg), Pre_Spatial m →
    θ_run (Cert.Spatial.defs (F := Bits)) (onTc (τ := Cert.Spatial.τ) (Cert.Spatial.main (F := Bits))) ⟨m, fun _ => 0, g⟩ (fun r => (∀ c : Dev Cert.Spatial.nD,
      r.2.mem ((c.tc : Thread Cert.Spatial.nD Cert.Spatial.τ).loc Cert.Spatial.main_arg0) = m ((c.tc : Thread Cert.Spatial.nD Cert.Spatial.τ).loc Cert.Spatial.main_arg0)
      ∧ r.2.mem ((c.tc : Thread Cert.Spatial.nD Cert.Spatial.τ).loc Cert.Spatial.main_arg1) = m ((c.tc : Thread Cert.Spatial.nD Cert.Spatial.τ).loc Cert.Spatial.main_arg1)
      ∧ r.2.mem ((c.tc : Thread Cert.Spatial.nD Cert.Spatial.τ).loc Cert.Spatial.main_arg2) = m ((c.tc : Thread Cert.Spatial.nD Cert.Spatial.τ).loc Cert.Spatial.main_arg2)
      ∧ r.2.mem ((c.tc : Thread Cert.Spatial.nD Cert.Spatial.τ).loc Cert.Spatial.main_arg3) = m ((c.tc : Thread Cert.Spatial.nD Cert.Spatial.τ).loc Cert.Spatial.main_arg3)
      ∧ r.2.mem ((c.tc : Thread Cert.Spatial.nD Cert.Spatial.τ).loc Cert.Spatial.main_arg4) = m ((c.tc : Thread Cert.Spatial.nD Cert.Spatial.τ).loc Cert.Spatial.main_arg4))
      ∧ r.2.sem = fun _ => 0)

def quiescent_SpatialIdeal [hSpatialIdeal : Cert.SpatialIdeal.Facts] : Prop :=
  ∀ (m : (ℓ : Loc Cert.SpatialIdeal.nD Cert.SpatialIdeal.τ Cert.SpatialIdeal.sig) → Buf (Elt Ideal) ℓ) (g : Dev Cert.SpatialIdeal.nD → PrngReg), Pre_SpatialIdeal m →
    θ_run (Cert.SpatialIdeal.defs (F := Ideal)) (onTc (τ := Cert.SpatialIdeal.τ) (Cert.SpatialIdeal.main (F := Ideal))) ⟨m, fun _ => 0, g⟩ (fun r => (∀ c : Dev Cert.SpatialIdeal.nD,
      r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
      ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
      ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
      ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3)
      ∧ r.2.mem ((c.tc : Thread Cert.SpatialIdeal.nD Cert.SpatialIdeal.τ).loc Cert.SpatialIdeal.main_arg4) = m ((c.tc : Thread Cert.SpatialIdeal.nD Cert.SpatialIdeal.τ).loc Cert.SpatialIdeal.main_arg4))
      ∧ r.2.sem = fun _ => 0)

def quiescent_SpatialReferenceIdeal [hSpatialReferenceIdeal : Cert.SpatialReferenceIdeal.Facts] : Prop :=
  ∀ (m : (ℓ : Loc Cert.SpatialReferenceIdeal.nD Cert.SpatialReferenceIdeal.τ Cert.SpatialReferenceIdeal.sig) → Buf (Elt Ideal) ℓ) (g : Dev Cert.SpatialReferenceIdeal.nD → PrngReg), Pre_SpatialReferenceIdeal m →
    θ_run (Cert.SpatialReferenceIdeal.defs (F := Ideal)) (onTc (τ := Cert.SpatialReferenceIdeal.τ) (Cert.SpatialReferenceIdeal.main (F := Ideal))) ⟨m, fun _ => 0, g⟩ (fun r => (∀ c : Dev Cert.SpatialReferenceIdeal.nD,
      r.2.mem ((c.tc : Thread Cert.SpatialReferenceIdeal.nD Cert.SpatialReferenceIdeal.τ).loc Cert.SpatialReferenceIdeal.main_arg0) = m ((c.tc : Thread Cert.SpatialReferenceIdeal.nD Cert.SpatialReferenceIdeal.τ).loc Cert.SpatialReferenceIdeal.main_arg0)
      ∧ r.2.mem ((c.tc : Thread Cert.SpatialReferenceIdeal.nD Cert.SpatialReferenceIdeal.τ).loc Cert.SpatialReferenceIdeal.main_arg1) = m ((c.tc : Thread Cert.SpatialReferenceIdeal.nD Cert.SpatialReferenceIdeal.τ).loc Cert.SpatialReferenceIdeal.main_arg1)
      ∧ r.2.mem ((c.tc : Thread Cert.SpatialReferenceIdeal.nD Cert.SpatialReferenceIdeal.τ).loc Cert.SpatialReferenceIdeal.main_arg2) = m ((c.tc : Thread Cert.SpatialReferenceIdeal.nD Cert.SpatialReferenceIdeal.τ).loc Cert.SpatialReferenceIdeal.main_arg2)
      ∧ r.2.mem ((c.tc : Thread Cert.SpatialReferenceIdeal.nD Cert.SpatialReferenceIdeal.τ).loc Cert.SpatialReferenceIdeal.main_arg3) = m ((c.tc : Thread Cert.SpatialReferenceIdeal.nD Cert.SpatialReferenceIdeal.τ).loc Cert.SpatialReferenceIdeal.main_arg3)
      ∧ r.2.mem ((c.tc : Thread Cert.SpatialReferenceIdeal.nD Cert.SpatialReferenceIdeal.τ).loc Cert.SpatialReferenceIdeal.main_arg4) = m ((c.tc : Thread Cert.SpatialReferenceIdeal.nD Cert.SpatialReferenceIdeal.τ).loc Cert.SpatialReferenceIdeal.main_arg4))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Spatial_SpatialIdeal : Prop :=
  True

def algebraic_SpatialIdeal_SpatialReferenceIdeal [hSpatialIdeal : Cert.SpatialIdeal.Facts] [hSpatialReferenceIdeal : Cert.SpatialReferenceIdeal.Facts] : Prop :=
  ∀ (m : (ℓ : Loc Cert.SpatialIdeal.nD Cert.SpatialIdeal.τ Cert.SpatialIdeal.sig) → Buf (Elt Ideal) ℓ) (g : Dev Cert.SpatialIdeal.nD → PrngReg)
    (m' : (ℓ : Loc Cert.SpatialReferenceIdeal.nD Cert.SpatialReferenceIdeal.τ Cert.SpatialReferenceIdeal.sig) → Buf (Elt Ideal) ℓ) (g' : Dev Cert.SpatialReferenceIdeal.nD → PrngReg), Pre_SpatialIdeal m →
    (∀ c : Dev Cert.SpatialIdeal.nD,
      m' ((c.tc : Thread Cert.SpatialReferenceIdeal.nD Cert.SpatialReferenceIdeal.τ).loc Cert.SpatialReferenceIdeal.main_arg0) = m ((c.tc : Thread Cert.SpatialIdeal.nD Cert.SpatialIdeal.τ).loc Cert.SpatialIdeal.main_arg0)
      ∧ m' ((c.tc : Thread Cert.SpatialReferenceIdeal.nD Cert.SpatialReferenceIdeal.τ).loc Cert.SpatialReferenceIdeal.main_arg1) = m ((c.tc : Thread Cert.SpatialIdeal.nD Cert.SpatialIdeal.τ).loc Cert.SpatialIdeal.main_arg1)
      ∧ m' ((c.tc : Thread Cert.SpatialReferenceIdeal.nD Cert.SpatialReferenceIdeal.τ).loc Cert.SpatialReferenceIdeal.main_arg2) = m ((c.tc : Thread Cert.SpatialIdeal.nD Cert.SpatialIdeal.τ).loc Cert.SpatialIdeal.main_arg2)
      ∧ m' ((c.tc : Thread Cert.SpatialReferenceIdeal.nD Cert.SpatialReferenceIdeal.τ).loc Cert.SpatialReferenceIdeal.main_arg3) = m ((c.tc : Thread Cert.SpatialIdeal.nD Cert.SpatialIdeal.τ).loc Cert.SpatialIdeal.main_arg3)
      ∧ m' ((c.tc : Thread Cert.SpatialReferenceIdeal.nD Cert.SpatialReferenceIdeal.τ).loc Cert.SpatialReferenceIdeal.main_arg4) = m ((c.tc : Thread Cert.SpatialIdeal.nD Cert.SpatialIdeal.τ).loc Cert.SpatialIdeal.main_arg4)) →
    ∃ (v0 : (c : Dev Cert.SpatialIdeal.nD) → Buf (Elt Ideal) ((c.tc : Thread Cert.SpatialIdeal.nD Cert.SpatialIdeal.τ).loc Cert.SpatialIdeal.main_v2)),
      θ_run (Cert.SpatialIdeal.defs (F := Ideal)) (onTc (τ := Cert.SpatialIdeal.τ) (Cert.SpatialIdeal.main (F := Ideal))) ⟨m, fun _ => 0, g⟩ (fun r => ∀ c : Dev Cert.SpatialIdeal.nD,
          r.2.mem ((c.tc : Thread Cert.SpatialIdeal.nD Cert.SpatialIdeal.τ).loc Cert.SpatialIdeal.main_v2) = v0 c
          ∧ r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
          ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
          ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
          ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3)
          ∧ r.2.mem ((c.tc : Thread Cert.SpatialIdeal.nD Cert.SpatialIdeal.τ).loc Cert.SpatialIdeal.main_arg4) = m ((c.tc : Thread Cert.SpatialIdeal.nD Cert.SpatialIdeal.τ).loc Cert.SpatialIdeal.main_arg4))
      ∧ θ_run (Cert.SpatialReferenceIdeal.defs (F := Ideal)) (onTc (τ := Cert.SpatialReferenceIdeal.τ) (Cert.SpatialReferenceIdeal.main (F := Ideal))) ⟨m', fun _ => 0, g'⟩ (fun r => ∀ c : Dev Cert.SpatialReferenceIdeal.nD,
          r.2.mem ((c.tc : Thread Cert.SpatialReferenceIdeal.nD Cert.SpatialReferenceIdeal.τ).loc Cert.SpatialReferenceIdeal.main_v4) = v0 c
          ∧ r.2.mem ((c.tc : Thread Cert.SpatialReferenceIdeal.nD Cert.SpatialReferenceIdeal.τ).loc Cert.SpatialReferenceIdeal.main_arg0) = m' ((c.tc : Thread Cert.SpatialReferenceIdeal.nD Cert.SpatialReferenceIdeal.τ).loc Cert.SpatialReferenceIdeal.main_arg0)
          ∧ r.2.mem ((c.tc : Thread Cert.SpatialReferenceIdeal.nD Cert.SpatialReferenceIdeal.τ).loc Cert.SpatialReferenceIdeal.main_arg1) = m' ((c.tc : Thread Cert.SpatialReferenceIdeal.nD Cert.SpatialReferenceIdeal.τ).loc Cert.SpatialReferenceIdeal.main_arg1)
          ∧ r.2.mem ((c.tc : Thread Cert.SpatialReferenceIdeal.nD Cert.SpatialReferenceIdeal.τ).loc Cert.SpatialReferenceIdeal.main_arg2) = m' ((c.tc : Thread Cert.SpatialReferenceIdeal.nD Cert.SpatialReferenceIdeal.τ).loc Cert.SpatialReferenceIdeal.main_arg2)
          ∧ r.2.mem ((c.tc : Thread Cert.SpatialReferenceIdeal.nD Cert.SpatialReferenceIdeal.τ).loc Cert.SpatialReferenceIdeal.main_arg3) = m' ((c.tc : Thread Cert.SpatialReferenceIdeal.nD Cert.SpatialReferenceIdeal.τ).loc Cert.SpatialReferenceIdeal.main_arg3)
          ∧ r.2.mem ((c.tc : Thread Cert.SpatialReferenceIdeal.nD Cert.SpatialReferenceIdeal.τ).loc Cert.SpatialReferenceIdeal.main_arg4) = m' ((c.tc : Thread Cert.SpatialReferenceIdeal.nD Cert.SpatialReferenceIdeal.τ).loc Cert.SpatialReferenceIdeal.main_arg4))

def Claim : Prop :=
  ∃ (hKernel : Cert.Kernel.Facts) (hKernelIdeal : Cert.KernelIdeal.Facts) (hReferenceIdeal : Cert.ReferenceIdeal.Facts) (hSpatial : Cert.Spatial.Facts) (hSpatialIdeal : Cert.SpatialIdeal.Facts) (hSpatialReferenceIdeal : Cert.SpatialReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ quiescent_Spatial (hSpatial := hSpatial)
    ∧ quiescent_SpatialIdeal (hSpatialIdeal := hSpatialIdeal)
    ∧ quiescent_SpatialReferenceIdeal (hSpatialReferenceIdeal := hSpatialReferenceIdeal)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
    ∧ preserves_Spatial_SpatialIdeal
    ∧ algebraic_SpatialIdeal_SpatialReferenceIdeal (hSpatialIdeal := hSpatialIdeal) (hSpatialReferenceIdeal := hSpatialReferenceIdeal)
-- ==== Pre_scales_in_range.lean ====
abbrev S2x4x5x6x3686 : Shape := ⟨5, ![2, 4, 5, 6, 3686]⟩
abbrev S2x4 : Shape := ⟨2, ![2, 4]⟩
abbrev S3x3686x2048 : Shape := ⟨3, ![3, 3686, 2048]⟩
abbrev S2048 : Shape := ⟨1, ![2048]⟩
abbrev S_ : Shape := ⟨0, ![]⟩

class Facts : Prop where
  bcast_S_S2x4 : S_.BroadcastsInDim S2x4 (![] : Fin 0 → Fin S2x4.rank)

variable [Facts]

def fn {F : FTy → Type} [FloatOps F] (main_arg0 : FVec F S2x4x5x6x3686 .fp8e4m3) (main_arg1 : FVec F S2x4 .f32) (main_arg2 : FVec F S3x3686x2048 .fp8e4m3) (main_arg3 : FVec F S2048 .f32) (main_arg4 : FVec F S2048 .f32) : IVec S2x4 1 :=
  let main_cst : FVec F S_ .f32 := constant S_ .f32 0x00000000#32
  let main_v0 : FVec F S2x4 .f32 := broadcastInDim S2x4 ![] bcast_S_S2x4 main_cst
  let main_v1 : IVec S2x4 1 := cmpf .oge main_arg1 main_v0
  let main_cst_0 : FVec F S_ .f32 := constant S_ .f32 0x7F800000#32
  let main_v2 : FVec F S2x4 .f32 := broadcastInDim S2x4 ![] bcast_S_S2x4 main_cst_0
  let main_v3 : IVec S2x4 1 := cmpf .olt main_arg1 main_v2
  let main_v4 : IVec S2x4 1 := andi main_v1 main_v3
  main_v4
-- ==== Kernel.lean ====
abbrev S2x4x5x6x3686 : Shape := ⟨5, ![2, 4, 5, 6, 3686]⟩
abbrev S2x4 : Shape := ⟨2, ![2, 4]⟩
abbrev S3x3686x2048 : Shape := ⟨3, ![3, 3686, 2048]⟩
abbrev S2048 : Shape := ⟨1, ![2048]⟩
abbrev S4x2x5x6x3686 : Shape := ⟨5, ![4, 2, 5, 6, 3686]⟩
abbrev S4x60x3686 : Shape := ⟨3, ![4, 60, 3686]⟩
abbrev S2x4x1 : Shape := ⟨3, ![2, 4, 1]⟩
abbrev S2x4x128 : Shape := ⟨3, ![2, 4, 128]⟩
abbrev S_ : Shape := ⟨0, ![]⟩
abbrev S2x8x128 : Shape := ⟨3, ![2, 8, 128]⟩
abbrev S3x2x2048 : Shape := ⟨3, ![3, 2, 2048]⟩
abbrev S3x3688x2048 : Shape := ⟨3, ![3, 3688, 2048]⟩
abbrev S60x16x4x128 : Shape := ⟨4, ![60, 16, 4, 128]⟩
abbrev S3x3712x2048 : Shape := ⟨3, ![3, 3712, 2048]⟩
abbrev S256x3712 : Shape := ⟨2, ![256, 3712]⟩
abbrev S4x64x4x4x128 : Shape := ⟨5, ![4, 64, 4, 4, 128]⟩
abbrev S4x3x2 : Shape := ⟨3, ![4, 3, 2]⟩
abbrev S3 : Shape := ⟨1, ![3]⟩
abbrev S4 : Shape := ⟨1, ![4]⟩
abbrev S1 : Shape := ⟨1, ![1]⟩
abbrev S1x1x1 : Shape := ⟨3, ![1, 1, 1]⟩
abbrev S1x3584x512 : Shape := ⟨3, ![1, 3584, 512]⟩
abbrev S3584x512 : Shape := ⟨2, ![3584, 512]⟩
abbrev S1x104x512 : Shape := ⟨3, ![1, 104, 512]⟩
abbrev S104x512 : Shape := ⟨2, ![104, 512]⟩
abbrev S1x60x3686 : Shape := ⟨3, ![1, 60, 3686]⟩
abbrev S60x3686 : Shape := ⟨2, ![60, 3686]⟩
abbrev S1x8x128 : Shape := ⟨3, ![1, 8, 128]⟩
abbrev S8x128 : Shape := ⟨2, ![8, 128]⟩
abbrev S64x128 : Shape := ⟨2, ![64, 128]⟩
abbrev S1x128 : Shape := ⟨2, ![1, 128]⟩
abbrev S32x512 : Shape := ⟨2, ![32, 512]⟩
abbrev S1x32x512 : Shape := ⟨3, ![1, 32, 512]⟩
abbrev S1x256x256 : Shape := ⟨3, ![1, 256, 256]⟩
abbrev S256x256 : Shape := ⟨2, ![256, 256]⟩
abbrev S1x128x256 : Shape := ⟨3, ![1, 128, 256]⟩
abbrev S128x256 : Shape := ⟨2, ![128, 256]⟩
abbrev S256x128 : Shape := ⟨2, ![256, 128]⟩
abbrev S192x256 : Shape := ⟨2, ![192, 256]⟩
abbrev S192x128 : Shape := ⟨2, ![192, 128]⟩
abbrev S48x128 : Shape := ⟨2, ![48, 128]⟩
abbrev S256 : Shape := ⟨1, ![256]⟩
abbrev S1x256 : Shape := ⟨2, ![1, 256]⟩
abbrev S64x256 : Shape := ⟨2, ![64, 256]⟩
abbrev S1x64x1x1x128 : Shape := ⟨5, ![1, 64, 1, 1, 128]⟩
abbrev S1x64x1x2x128 : Shape := ⟨5, ![1, 64, 1, 2, 128]⟩
abbrev S60x4x4x128 : Shape := ⟨4, ![60, 4, 4, 128]⟩
abbrev S1x60x4x4x128 : Shape := ⟨5, ![1, 60, 4, 4, 128]⟩
abbrev S2x5x6x16x4x128 : Shape := ⟨6, ![2, 5, 6, 16, 4, 128]⟩
abbrev S2x4x5x6x16x128 : Shape := ⟨6, ![2, 4, 5, 6, 16, 128]⟩
abbrev S2x4x5x6x2048 : Shape := ⟨5, ![2, 4, 5, 6, 2048]⟩

abbrev nBuf : Space → Nat
  | .hbm => 18
  | .vmem => 7
  | .smem => 0
  | _ => 0

abbrev bufTy : (tb : Table) → Fin (tcTables nBuf tb) → BufTy
  | .hbm, ⟨0, _⟩ => ⟨S2x4x5x6x3686, .fp8e4m3⟩
  | .hbm, ⟨1, _⟩ => ⟨S2x4, .f32⟩
  | .hbm, ⟨2, _⟩ => ⟨S3x3686x2048, .fp8e4m3⟩
  | .hbm, ⟨3, _⟩ => ⟨S2048, .f32⟩
  | .hbm, ⟨4, _⟩ => ⟨S2048, .f32⟩
  | .hbm, ⟨5, _⟩ => ⟨S4x2x5x6x3686, .fp8e4m3⟩
  | .hbm, ⟨6, _⟩ => ⟨S4x60x3686, .fp8e4m3⟩
  | .hbm, ⟨7, _⟩ => ⟨S2x4x1, .f32⟩
  | .hbm, ⟨8, _⟩ => ⟨S2x4x128, .f32⟩
  | .hbm, ⟨9, _⟩ => ⟨S_, .i32⟩
  | .hbm, ⟨10, _⟩ => ⟨S_, .f32⟩
  | .hbm, ⟨11, _⟩ => ⟨S2x8x128, .f32⟩
  | .hbm, ⟨12, _⟩ => ⟨S3x2x2048, .fp8e4m3⟩
  | .hbm, ⟨13, _⟩ => ⟨S3x3688x2048, .fp8e4m3⟩
  | .hbm, ⟨14, _⟩ => ⟨S60x16x4x128, .bf16⟩
  | .hbm, ⟨15, _⟩ => ⟨S2x5x6x16x4x128, .bf16⟩
  | .hbm, ⟨16, _⟩ => ⟨S2x4x5x6x16x128, .bf16⟩
  | .hbm, ⟨17, _⟩ => ⟨S2x4x5x6x2048, .bf16⟩
  | .local _ .vmem, ⟨0, _⟩ => ⟨S4x60x3686, .fp8e4m3⟩
  | .local _ .vmem, ⟨1, _⟩ => ⟨S3x3712x2048, .fp8e4m3⟩
  | .local _ .vmem, ⟨2, _⟩ => ⟨S256x3712, .fp8e4m3⟩
  | .local _ .vmem, ⟨3, _⟩ => ⟨S4x64x4x4x128, .bf16⟩
  | .local _ .vmem, ⟨4, _⟩ => ⟨S2x8x128, .f32⟩
  | .local _ .vmem, ⟨5, _⟩ => ⟨S2048, .f32⟩
  | .local _ .vmem, ⟨6, _⟩ => ⟨S2048, .f32⟩
  | _, _ => ⟨S2x4x5x6x3686, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩

abbrev nD : Nat := 1
abbrev τ : Topo := Topo.v7x

variable {F : FTy → Type} [FloatOps F]

abbrev grid0 : Pipeline.Grid := ⟨1, ![1], ![false]⟩

def k0_mult1 (i : grid0.Coords) : BitVec 32 :=
  let arg0 : BitVec 32 := BitVec.ofNat 32 (i 0).val
  let c3584_i32 : BitVec 32 := 3584#32
  let v0 : BitVec 32 := Scalar.addi arg0 c3584_i32
  v0
def k0_mult2 (i : grid0.Coords) : BitVec 32 :=
  let arg0 : BitVec 32 := BitVec.ofNat 32 (i 0).val
  let c3584_i32_0 : BitVec 32 := 3584#32
  let v2 : BitVec 32 := Scalar.addi arg0 c3584_i32_0
  v2
def k0_mult3 (i : grid0.Coords) : BitVec 32 :=
  let arg0 : BitVec 32 := BitVec.ofNat 32 (i 0).val
  let c3584_i32_1 : BitVec 32 := 3584#32
  let v4 : BitVec 32 := Scalar.addi arg0 c3584_i32_1
  v4
def k0_mult4 (i : grid0.Coords) : BitVec 32 :=
  let arg0 : BitVec 32 := BitVec.ofNat 32 (i 0).val
  let c3584_i32_2 : BitVec 32 := 3584#32
  let v6 : BitVec 32 := Scalar.addi arg0 c3584_i32_2
  v6
def k0_mult5 (i : grid0.Coords) : BitVec 32 :=
  let arg0 : BitVec 32 := BitVec.ofNat 32 (i 0).val
  let c3584_i32_3 : BitVec 32 := 3584#32
  let v8 : BitVec 32 := Scalar.addi arg0 c3584_i32_3
  v8
def k0_mult6 (i : grid0.Coords) : BitVec 32 :=
  let arg0 : BitVec 32 := BitVec.ofNat 32 (i 0).val
  let c3584_i32_4 : BitVec 32 := 3584#32
  let v10 : BitVec 32 := Scalar.addi arg0 c3584_i32_4
  v10
def k0_mult7 (i : grid0.Coords) : BitVec 32 :=
  let arg0 : BitVec 32 := BitVec.ofNat 32 (i 0).val
  let c3584_i32_5 : BitVec 32 := 3584#32
  let v12 : BitVec 32 := Scalar.addi arg0 c3584_i32_5
  v12
def k0_mult8 (i : grid0.Coords) : BitVec 32 :=
  let arg0 : BitVec 32 := BitVec.ofNat 32 (i 0).val
  let c3584_i32_6 : BitVec 32 := 3584#32
  let v14 : BitVec 32 := Scalar.addi arg0 c3584_i32_6
  v14
def k0_mult9 (i : grid0.Coords) : BitVec 32 :=
  let arg0 : BitVec 32 := BitVec.ofNat 32 (i 0).val
  let c3584_i32_7 : BitVec 32 := 3584#32
  let v16 : BitVec 32 := Scalar.addi arg0 c3584_i32_7
  v16
def k0_mult10 (i : grid0.Coords) : BitVec 32 :=
  let arg0 : BitVec 32 := BitVec.ofNat 32 (i 0).val
  let c3584_i32_8 : BitVec 32 := 3584#32
  let v18 : BitVec 32 := Scalar.addi arg0 c3584_i32_8
  v18
def k0_mult11 (i : grid0.Coords) : BitVec 32 :=
  let arg0 : BitVec 32 := BitVec.ofNat 32 (i 0).val
  let c3584_i32_9 : BitVec 32 := 3584#32
  let v20 : BitVec 32 := Scalar.addi arg0 c3584_i32_9
  v20
def k0_mult12 (i : grid0.Coords) : BitVec 32 :=
  let arg0 : BitVec 32 := BitVec.ofNat 32 (i 0).val
  let c3584_i32_10 : BitVec 32 := 3584#32
  let v22 : BitVec 32 := Scalar.addi arg0 c3584_i32_10
  v22
def k0_off1 (i : grid0.Coords) : Fin 3 → Nat :=
  let c0_i32_20 : BitVec 32 := 0#32
  let arg0 : BitVec 32 := BitVec.ofNat 32 (i 0).val
  let c3584_i32 : BitVec 32 := 3584#32
  let v0 : BitVec 32 := Scalar.addi arg0 c3584_i32
  let v1 : BitVec 32 := v0
  let c0_i32_27 : BitVec 32 := 0#32
  ![0, v1.toNat, 0]
def k0_off2 (i : grid0.Coords) : Fin 3 → Nat :=
  let c1_i32_37 : BitVec 32 := 1#32
  let arg0 : BitVec 32 := BitVec.ofNat 32 (i 0).val
  let c3584_i32_0 : BitVec 32 := 3584#32
  let v2 : BitVec 32 := Scalar.addi arg0 c3584_i32_0
  let v3 : BitVec 32 := v2
  let c0_i32_44 : BitVec 32 := 0#32
  ![1, v3.toNat, 0]
def k0_off3 (i : grid0.Coords) : Fin 3 → Nat :=
  let c2_i32_54 : BitVec 32 := 2#32
  let arg0 : BitVec 32 := BitVec.ofNat 32 (i 0).val
  let c3584_i32_1 : BitVec 32 := 3584#32
  let v4 : BitVec 32 := Scalar.addi arg0 c3584_i32_1
  let v5 : BitVec 32 := v4
  let c0_i32_61 : BitVec 32 := 0#32
  ![2, v5.toNat, 0]
def k0_off4 (i : grid0.Coords) : Fin 3 → Nat :=
  let c0_i32_70 : BitVec 32 := 0#32
  let arg0 : BitVec 32 := BitVec.ofNat 32 (i 0).val
  let c3584_i32_2 : BitVec 32 := 3584#32
  let v6 : BitVec 32 := Scalar.addi arg0 c3584_i32_2
  let v7 : BitVec 32 := v6
  let c512_i32_77 : BitVec 32 := 512#32
  ![0, v7.toNat, 512]
def k0_off5 (i : grid0.Coords) : Fin 3 → Nat :=
  let c1_i32_87 : BitVec 32 := 1#32
  let arg0 : BitVec 32 := BitVec.ofNat 32 (i 0).val
  let c3584_i32_3 : BitVec 32 := 3584#32
  let v8 : BitVec 32 := Scalar.addi arg0 c3584_i32_3
  let v9 : BitVec 32 := v8
  let c512_i32_94 : BitVec 32 := 512#32
  ![1, v9.toNat, 512]
def k0_off6 (i : grid0.Coords) : Fin 3 → Nat :=
  let c2_i32_104 : BitVec 32 := 2#32
  let arg0 : BitVec 32 := BitVec.ofNat 32 (i 0).val
  let c3584_i32_4 : BitVec 32 := 3584#32
  let v10 : BitVec 32 := Scalar.addi arg0 c3584_i32_4
  let v11 : BitVec 32 := v10
  let c512_i32_111 : BitVec 32 := 512#32
  ![2, v11.toNat, 512]
def k0_off7 (i : grid0.Coords) : Fin 3 → Nat :=
  let c0_i32_120 : BitVec 32 := 0#32
  let arg0 : BitVec 32 := BitVec.ofNat 32 (i 0).val
  let c3584_i32_5 : BitVec 32 := 3584#32
  let v12 : BitVec 32 := Scalar.addi arg0 c3584_i32_5
  let v13 : BitVec 32 := v12
  let c1024_i32_127 : BitVec 32 := 1024#32
  ![0, v13.toNat, 1024]
def k0_off8 (i : grid0.Coords) : Fin 3 → Nat :=
  let c1_i32_137 : BitVec 32 := 1#32
  let arg0 : BitVec 32 := BitVec.ofNat 32 (i 0).val
  let c3584_i32_6 : BitVec 32 := 3584#32
  let v14 : BitVec 32 := Scalar.addi arg0 c3584_i32_6
  let v15 : BitVec 32 := v14
  let c1024_i32_144 : BitVec 32 := 1024#32
  ![1, v15.toNat, 1024]
def k0_off9 (i : grid0.Coords) : Fin 3 → Nat :=
  let c2_i32_154 : BitVec 32 := 2#32
  let arg0 : BitVec 32 := BitVec.ofNat 32 (i 0).val
  let c3584_i32_7 : BitVec 32 := 3584#32
  let v16 : BitVec 32 := Scalar.addi arg0 c3584_i32_7
  let v17 : BitVec 32 := v16
  let c1024_i32_161 : BitVec 32 := 1024#32
  ![2, v17.toNat, 1024]
def k0_off10 (i : grid0.Coords) : Fin 3 → Nat :=
  let c0_i32_169 : BitVec 32 := 0#32
  let arg0 : BitVec 32 := BitVec.ofNat 32 (i 0).val
  let c3584_i32_8 : BitVec 32 := 3584#32
  let v18 : BitVec 32 := Scalar.addi arg0 c3584_i32_8
  let v19 : BitVec 32 := v18
  let c1536_i32_176 : BitVec 32 := 1536#32
  ![0, v19.toNat, 1536]
def k0_off11 (i : grid0.Coords) : Fin 3 → Nat :=
  let c1_i32_186 : BitVec 32 := 1#32
  let arg0 : BitVec 32 := BitVec.ofNat 32 (i 0).val
  let c3584_i32_9 : BitVec 32 := 3584#32
  let v20 : BitVec 32 := Scalar.addi arg0 c3584_i32_9
  let v21 : BitVec 32 := v20
  let c1536_i32_193 : BitVec 32 := 1536#32
  ![1, v21.toNat, 1536]
def k0_off12 (i : grid0.Coords) : Fin 3 → Nat :=
  let c2_i32_203 : BitVec 32 := 2#32
  let arg0 : BitVec 32 := BitVec.ofNat 32 (i 0).val
  let c3584_i32_10 : BitVec 32 := 3584#32
  let v22 : BitVec 32 := Scalar.addi arg0 c3584_i32_10
  let v23 : BitVec 32 := v22
  let c1536_i32_210 : BitVec 32 := 1536#32
  ![2, v23.toNat, 1536]
-- ==== ReferenceIdeal.lean ====
abbrev S2x4x5x6x3686 : Shape := ⟨5, ![2, 4, 5, 6, 3686]⟩
abbrev S2x4 : Shape := ⟨2, ![2, 4]⟩
abbrev S3x3686x2048 : Shape := ⟨3, ![3, 3686, 2048]⟩
abbrev S2048 : Shape := ⟨1, ![2048]⟩
abbrev S2x4x30x3686 : Shape := ⟨4, ![2, 4, 30, 3686]⟩
abbrev S1x2048 : Shape := ⟨2, ![1, 2048]⟩
abbrev S240x2048 : Shape := ⟨2, ![240, 2048]⟩
abbrev S2x4x1x1 : Shape := ⟨4, ![2, 4, 1, 1]⟩
abbrev S2x1x30x3686 : Shape := ⟨4, ![2, 1, 30, 3686]⟩
abbrev S2x6x30x3686 : Shape := ⟨4, ![2, 6, 30, 3686]⟩
abbrev S240x3686 : Shape := ⟨2, ![240, 3686]⟩
abbrev S1x3686x2048 : Shape := ⟨3, ![1, 3686, 2048]⟩
abbrev S3686x2048 : Shape := ⟨2, ![3686, 2048]⟩
abbrev S2x4x5x6x2048 : Shape := ⟨5, ![2, 4, 5, 6, 2048]⟩

abbrev nBuf : Space → Nat
  | .hbm => 10
  | .vmem => 6
  | .smem => 0
  | _ => 0

abbrev bufTy : (tb : Table) → Fin (tcTables nBuf tb) → BufTy
  | .hbm, ⟨0, _⟩ => ⟨S2x4x5x6x3686, .fp8e4m3⟩
  | .hbm, ⟨1, _⟩ => ⟨S2x4, .f32⟩
  | .hbm, ⟨2, _⟩ => ⟨S3x3686x2048, .fp8e4m3⟩
  | .hbm, ⟨3, _⟩ => ⟨S2048, .f32⟩
  | .hbm, ⟨4, _⟩ => ⟨S2048, .f32⟩
  | .hbm, ⟨5, _⟩ => ⟨S2x4x30x3686, .fp8e4m3⟩
  | .hbm, ⟨6, _⟩ => ⟨S1x2048, .f32⟩
  | .hbm, ⟨7, _⟩ => ⟨S1x2048, .f32⟩
  | .hbm, ⟨8, _⟩ => ⟨S240x2048, .bf16⟩
  | .hbm, ⟨9, _⟩ => ⟨S2x4x5x6x2048, .bf16⟩
  | .local _ .vmem, ⟨0, _⟩ => ⟨S2x4x30x3686, .fp8e4m3⟩
  | .local _ .vmem, ⟨1, _⟩ => ⟨S2x4, .f32⟩
  | .local _ .vmem, ⟨2, _⟩ => ⟨S3x3686x2048, .fp8e4m3⟩
  | .local _ .vmem, ⟨3, _⟩ => ⟨S1x2048, .f32⟩
  | .local _ .vmem, ⟨4, _⟩ => ⟨S1x2048, .f32⟩
  | .local _ .vmem, ⟨5, _⟩ => ⟨S240x2048, .bf16⟩
  | _, _ => ⟨S2x4x5x6x3686, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x4x30x3686 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3686x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S240x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Spatial.lean ====
abbrev S9x240x1024 : Shape := ⟨3, ![9, 240, 1024]⟩
abbrev S1 : Shape := ⟨1, ![1]⟩
abbrev S3x3x1024x3686 : Shape := ⟨4, ![3, 3, 1024, 3686]⟩
abbrev S3686 : Shape := ⟨1, ![3686]⟩
abbrev S3x3x3686x1024 : Shape := ⟨4, ![3, 3, 3686, 1024]⟩
abbrev S9x3686x1024 : Shape := ⟨3, ![9, 3686, 1024]⟩
abbrev S240x3584 : Shape := ⟨2, ![240, 3584]⟩
abbrev S4x9x512x1024 : Shape := ⟨4, ![4, 9, 512, 1024]⟩
abbrev S4x9 : Shape := ⟨2, ![4, 9]⟩
abbrev S_ : Shape := ⟨0, ![]⟩
abbrev S2 : Shape := ⟨1, ![2]⟩
abbrev S1x1 : Shape := ⟨2, ![1, 1]⟩
abbrev S1x1x512x1024 : Shape := ⟨4, ![1, 1, 512, 1024]⟩
abbrev S512x1024 : Shape := ⟨2, ![512, 1024]⟩
abbrev S1x512x1024 : Shape := ⟨3, ![1, 512, 1024]⟩
abbrev S1x1x256x256 : Shape := ⟨4, ![1, 1, 256, 256]⟩
abbrev S256x256 : Shape := ⟨2, ![256, 256]⟩
abbrev S1x96x256 : Shape := ⟨3, ![1, 96, 256]⟩
abbrev S96x256 : Shape := ⟨2, ![96, 256]⟩
abbrev S1x32x256 : Shape := ⟨3, ![1, 32, 256]⟩
abbrev S32x256 : Shape := ⟨2, ![32, 256]⟩
abbrev S1x16x256 : Shape := ⟨3, ![1, 16, 256]⟩
abbrev S16x256 : Shape := ⟨2, ![16, 256]⟩
abbrev S256 : Shape := ⟨1, ![256]⟩
abbrev S1x256 : Shape := ⟨2, ![1, 256]⟩

abbrev nBuf : Space → Nat
  | .hbm => 8
  | .vmem => 5
  | .smem => 1
  | _ => 0

abbrev bufTy : (tb : Table) → Fin (tcTables nBuf tb) → BufTy
  | .hbm, ⟨0, _⟩ => ⟨S9x240x1024, .bf16⟩
  | .hbm, ⟨1, _⟩ => ⟨S1, .f32⟩
  | .hbm, ⟨2, _⟩ => ⟨S3x3x1024x3686, .fp8e4m3⟩
  | .hbm, ⟨3, _⟩ => ⟨S3686, .f32⟩
  | .hbm, ⟨4, _⟩ => ⟨S3686, .f32⟩
  | .hbm, ⟨5, _⟩ => ⟨S3x3x3686x1024, .fp8e4m3⟩
  | .hbm, ⟨6, _⟩ => ⟨S9x3686x1024, .fp8e4m3⟩
  | .hbm, ⟨7, _⟩ => ⟨S240x3584, .f32⟩
  | .local _ .vmem, ⟨0, _⟩ => ⟨S9x240x1024, .bf16⟩
  | .local _ .vmem, ⟨1, _⟩ => ⟨S4x9x512x1024, .fp8e4m3⟩
  | .local _ .vmem, ⟨2, _⟩ => ⟨S240x3584, .f32⟩
  | .local _ .vmem, ⟨3, _⟩ => ⟨S3686, .f32⟩
  | .local _ .vmem, ⟨4, _⟩ => ⟨S3686, .f32⟩
  | .local _ .smem, ⟨0, _⟩ => ⟨S1, .f32⟩
  | _, _ => ⟨S9x240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := ⟨1, ![1], ![false]⟩

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]
-- ==== SpatialReferenceIdeal.lean ====
abbrev S9x240x1024 : Shape := ⟨3, ![9, 240, 1024]⟩
abbrev S1 : Shape := ⟨1, ![1]⟩
abbrev S3x3x1024x3686 : Shape := ⟨4, ![3, 3, 1024, 3686]⟩
abbrev S3686 : Shape := ⟨1, ![3686]⟩
abbrev S1x1 : Shape := ⟨2, ![1, 1]⟩
abbrev S9x1024x3686 : Shape := ⟨3, ![9, 1024, 3686]⟩
abbrev S1x3686 : Shape := ⟨2, ![1, 3686]⟩
abbrev S240x3584 : Shape := ⟨2, ![240, 3584]⟩
abbrev S1x96x1024 : Shape := ⟨3, ![1, 96, 1024]⟩
abbrev S96x1024 : Shape := ⟨2, ![96, 1024]⟩
abbrev S32x1024 : Shape := ⟨2, ![32, 1024]⟩
abbrev S1x32x1024 : Shape := ⟨3, ![1, 32, 1024]⟩
abbrev S1x16x1024 : Shape := ⟨3, ![1, 16, 1024]⟩
abbrev S16x1024 : Shape := ⟨2, ![16, 1024]⟩
abbrev S240x1024 : Shape := ⟨2, ![240, 1024]⟩
abbrev S1x1024x3584 : Shape := ⟨3, ![1, 1024, 3584]⟩
abbrev S1024x3584 : Shape := ⟨2, ![1024, 3584]⟩
abbrev S1x3584 : Shape := ⟨2, ![1, 3584]⟩

abbrev nBuf : Space → Nat
  | .hbm => 10
  | .vmem => 6
  | .smem => 0
  | _ => 0

abbrev bufTy : (tb : Table) → Fin (tcTables nBuf tb) → BufTy
  | .hbm, ⟨0, _⟩ => ⟨S9x240x1024, .bf16⟩
  | .hbm, ⟨1, _⟩ => ⟨S1, .f32⟩
  | .hbm, ⟨2, _⟩ => ⟨S3x3x1024x3686, .fp8e4m3⟩
  | .hbm, ⟨3, _⟩ => ⟨S3686, .f32⟩
  | .hbm, ⟨4, _⟩ => ⟨S3686, .f32⟩
  | .hbm, ⟨5, _⟩ => ⟨S1x1, .f32⟩
  | .hbm, ⟨6, _⟩ => ⟨S9x1024x3686, .fp8e4m3⟩
  | .hbm, ⟨7, _⟩ => ⟨S1x3686, .f32⟩
  | .hbm, ⟨8, _⟩ => ⟨S1x3686, .f32⟩
  | .hbm, ⟨9, _⟩ => ⟨S240x3584, .f32⟩
  | .local _ .vmem, ⟨0, _⟩ => ⟨S9x240x1024, .bf16⟩
  | .local _ .vmem, ⟨1, _⟩ => ⟨S1x1, .f32⟩
  | .local _ .vmem, ⟨2, _⟩ => ⟨S9x1024x3686, .fp8e4m3⟩
  | .local _ .vmem, ⟨3, _⟩ => ⟨S1x3686, .f32⟩
  | .local _ .vmem, ⟨4, _⟩ => ⟨S1x3686, .f32⟩
  | .local _ .vmem, ⟨5, _⟩ => ⟨S240x3584, .f32⟩
  | _, _ => ⟨S9x240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S9x240x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x1024x3686 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3686 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3686 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S240x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KBase.lean ====
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The whole of a buffer at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A rectangle of a buffer at contents `f`. -/
abbrev ptR (c : Dev nD) {sp : Space} {S : Shape} {e : EltTy} (M : Memref sig .tc sp S e) (R : Rect S) (f : Buf (Elt F) (M.view.loc (c : Thread nD τ))) : sProp 𝕄 :=
  M.view.loc (c : Thread nD τ) ↦[M.view.setOn R.set]{fullShare} f

/-- Read token `j` of the widened weights. -/
abbrev tokV6 (c : Dev nD) (j : ℕ) (f : Buf (Elt F) ((Memref.whole main_v6).view.loc (c : Thread nD τ))) : sProp 𝕄 :=
  (Memref.whole main_v6).view.loc (c : Thread nD τ) ↦{Transfers.shareTokN fullShare j} f

abbrev tB : Memref sig .tc .vmem S3x3712x2048 .fp8e4m3 := Memref.whole cc0_scratch1
abbrev yB : Memref sig .tc .vmem S4x64x4x4x128 .bf16 := Memref.whole cc0_scratch3
abbrev yO : Memref sig .tc .hbm S60x16x4x128 .bf16 := Memref.whole main_v7

abbrev rT000 : Rect S3x3712x2048 := Rect.unit (s := S3x3712x2048) ![0, 0, 0] ![1, 3584, 512] (by decide)
abbrev rT001 : Rect S3x3712x2048 := Rect.unit (s := S3x3712x2048) ![0, 3584, 0] ![1, 104, 512] (by decide)
abbrev rT010 : Rect S3x3712x2048 := Rect.unit (s := S3x3712x2048) ![1, 0, 0] ![1, 3584, 512] (by decide)
abbrev rT011 : Rect S3x3712x2048 := Rect.unit (s := S3x3712x2048) ![1, 3584, 0] ![1, 104, 512] (by decide)
abbrev rT020 : Rect S3x3712x2048 := Rect.unit (s := S3x3712x2048) ![2, 0, 0] ![1, 3584, 512] (by decide)
abbrev rT021 : Rect S3x3712x2048 := Rect.unit (s := S3x3712x2048) ![2, 3584, 0] ![1, 104, 512] (by decide)
abbrev rP0 : Rect S3x3712x2048 := Rect.unit (s := S3x3712x2048) ![0, 3688, 0] ![3, 24, 512] (by decide)
abbrev rS0 : Rect S3x3712x2048 := Rect.unit (s := S3x3712x2048) ![0, 0, 0] ![3, 3712, 512] (by decide)
abbrev rT100 : Rect S3x3712x2048 := Rect.unit (s := S3x3712x2048) ![0, 0, 512] ![1, 3584, 512] (by decide)
abbrev rT101 : Rect S3x3712x2048 := Rect.unit (s := S3x3712x2048) ![0, 3584, 512] ![1, 104, 512] (by decide)
abbrev rT110 : Rect S3x3712x2048 := Rect.unit (s := S3x3712x2048) ![1, 0, 512] ![1, 3584, 512] (by decide)
abbrev rT111 : Rect S3x3712x2048 := Rect.unit (s := S3x3712x2048) ![1, 3584, 512] ![1, 104, 512] (by decide)
abbrev rT120 : Rect S3x3712x2048 := Rect.unit (s := S3x3712x2048) ![2, 0, 512] ![1, 3584, 512] (by decide)
abbrev rT121 : Rect S3x3712x2048 := Rect.unit (s := S3x3712x2048) ![2, 3584, 512] ![1, 104, 512] (by decide)
abbrev rP1 : Rect S3x3712x2048 := Rect.unit (s := S3x3712x2048) ![0, 3688, 512] ![3, 24, 512] (by decide)
abbrev rS1 : Rect S3x3712x2048 := Rect.unit (s := S3x3712x2048) ![0, 0, 512] ![3, 3712, 512] (by decide)
abbrev rT200 : Rect S3x3712x2048 := Rect.unit (s := S3x3712x2048) ![0, 0, 1024] ![1, 3584, 512] (by decide)
abbrev rT201 : Rect S3x3712x2048 := Rect.unit (s := S3x3712x2048) ![0, 3584, 1024] ![1, 104, 512] (by decide)
abbrev rT210 : Rect S3x3712x2048 := Rect.unit (s := S3x3712x2048) ![1, 0, 1024] ![1, 3584, 512] (by decide)
abbrev rT211 : Rect S3x3712x2048 := Rect.unit (s := S3x3712x2048) ![1, 3584, 1024] ![1, 104, 512] (by decide)
abbrev rT220 : Rect S3x3712x2048 := Rect.unit (s := S3x3712x2048) ![2, 0, 1024] ![1, 3584, 512] (by decide)
abbrev rT221 : Rect S3x3712x2048 := Rect.unit (s := S3x3712x2048) ![2, 3584, 1024] ![1, 104, 512] (by decide)
abbrev rP2 : Rect S3x3712x2048 := Rect.unit (s := S3x3712x2048) ![0, 3688, 1024] ![3, 24, 512] (by decide)
abbrev rS2 : Rect S3x3712x2048 := Rect.unit (s := S3x3712x2048) ![0, 0, 1024] ![3, 3712, 512] (by decide)
abbrev rT300 : Rect S3x3712x2048 := Rect.unit (s := S3x3712x2048) ![0, 0, 1536] ![1, 3584, 512] (by decide)
abbrev rT301 : Rect S3x3712x2048 := Rect.unit (s := S3x3712x2048) ![0, 3584, 1536] ![1, 104, 512] (by decide)
abbrev rT310 : Rect S3x3712x2048 := Rect.unit (s := S3x3712x2048) ![1, 0, 1536] ![1, 3584, 512] (by decide)
abbrev rT311 : Rect S3x3712x2048 := Rect.unit (s := S3x3712x2048) ![1, 3584, 1536] ![1, 104, 512] (by decide)
abbrev rT320 : Rect S3x3712x2048 := Rect.unit (s := S3x3712x2048) ![2, 0, 1536] ![1, 3584, 512] (by decide)
abbrev rT321 : Rect S3x3712x2048 := Rect.unit (s := S3x3712x2048) ![2, 3584, 1536] ![1, 104, 512] (by decide)
abbrev rP3 : Rect S3x3712x2048 := Rect.unit (s := S3x3712x2048) ![0, 3688, 1536] ![3, 24, 512] (by decide)
abbrev rS3 : Rect S3x3712x2048 := Rect.unit (s := S3x3712x2048) ![0, 0, 1536] ![3, 3712, 512] (by decide)
abbrev rY0 : Rect S4x64x4x4x128 := Rect.unit (s := S4x64x4x4x128) ![0, 0, 0, 0, 0] ![1, 64, 4, 4, 128] (by decide)
abbrev rO0 : Rect S60x16x4x128 := Rect.unit (s := S60x16x4x128) ![0, 0, 0, 0] ![60, 4, 4, 128] (by decide)
abbrev rY1 : Rect S4x64x4x4x128 := Rect.unit (s := S4x64x4x4x128) ![1, 0, 0, 0, 0] ![1, 64, 4, 4, 128] (by decide)
abbrev rO1 : Rect S60x16x4x128 := Rect.unit (s := S60x16x4x128) ![0, 4, 0, 0] ![60, 4, 4, 128] (by decide)
abbrev rY2 : Rect S4x64x4x4x128 := Rect.unit (s := S4x64x4x4x128) ![2, 0, 0, 0, 0] ![1, 64, 4, 4, 128] (by decide)
abbrev rO2 : Rect S60x16x4x128 := Rect.unit (s := S60x16x4x128) ![0, 8, 0, 0] ![60, 4, 4, 128] (by decide)
abbrev rY3 : Rect S4x64x4x4x128 := Rect.unit (s := S4x64x4x4x128) ![3, 0, 0, 0, 0] ![1, 64, 4, 4, 128] (by decide)
abbrev rO3 : Rect S60x16x4x128 := Rect.unit (s := S60x16x4x128) ![0, 12, 0, 0] ![60, 4, 4, 128] (by decide)

/-! ## Cutting a buffer into rectangles and joining them again -/

section Cut

variable {c : Dev nD} {sp : Space} {S : Shape} {e : EltTy} {T : Type} [Fintype T] [DecidableEq T]

/-- A family of element sets in which each element's place is one member of the family cuts the set `A` into disjoint parts. -/
theorem cut_eq {ℓ : Loc nD τ sig} (A : Finset (Idx ℓ)) (K : T → Finset (Idx ℓ)) (place : Idx ℓ → T) (h : ∀ t x, x ∈ K t ↔ x ∈ A ∧ place x = t)
    (f : Buf (Elt F) ℓ) : (ℓ ↦[A]{fullShare} f : sProp 𝕄) = BI.bigSep (Finset.univ : Finset T) (fun t => ℓ ↦[K t]{fullShare} f) := by
  rw [← pointsTo_biUnion Finset.univ K (fun t _ t' _ htt => Finset.disjoint_left.2 fun x hx hx' => htt (((h t x).1 hx).2.symm.trans ((h t' x).1 hx').2))]
  congr 1
  ext x
  rw [Finset.mem_biUnion]
  exact ⟨fun hx => ⟨place x, Finset.mem_univ _, (h _ x).2 ⟨hx, rfl⟩⟩, fun ⟨t, _, ht⟩ => ((h t x).1 ht).1⟩

/-- The parts of such a cut, each at its own contents, joined: some contents agree with each part's on that part. -/
theorem cut_join {ℓ : Loc nD τ sig} (A : Finset (Idx ℓ)) (K : T → Finset (Idx ℓ)) (place : Idx ℓ → T) (h : ∀ t x, x ∈ K t ↔ x ∈ A ∧ place x = t)
    (f : T → Buf (Elt F) ℓ) (f₀ : Buf (Elt F) ℓ) :
    BI.bigSep (Finset.univ : Finset T) (fun t => ℓ ↦[K t]{fullShare} f t)
      ⊢ (iprop(∃ g, ⌜∀ t, ∀ x ∈ K t, g x = f t x⌝ ∗ ℓ ↦[A]{fullShare} g) : sProp 𝕄) := by
  refine (pointsTo_biUnion_join Finset.univ K f f₀ (fun t _ t' _ htt => Finset.disjoint_left.2 fun x hx hx' => htt (((h t x).1 hx).2.symm.trans ((h t' x).1 hx').2))).trans ?_
  have e : Finset.univ.biUnion K = A := by
    ext x
    rw [Finset.mem_biUnion]
    exact ⟨fun ⟨t, _, ht⟩ => ((h t x).1 ht).1, fun hx => ⟨place x, Finset.mem_univ _, (h _ x).2 ⟨hx, rfl⟩⟩⟩
  rw [e]
  iintro ⟨%g, %hg, HG⟩
  iexists g
  isplitr [HG]
  · ipureintro; exact fun t x hx => hg t (Finset.mem_univ t) x hx
  · iexact HG

end Cut

theorem mem_tB (R : Rect S3x3712x2048) (x : S3x3712x2048.Idx) : x ∈ tB.view.setOn R.set ↔ x ∈ R.set := View.mem_setOn (v := tB.view) (x := x)
theorem mem_yB (R : Rect S4x64x4x4x128) (x : S4x64x4x4x128.Idx) : x ∈ yB.view.setOn R.set ↔ x ∈ R.set := View.mem_setOn (v := yB.view) (x := x)
theorem mem_yO (R : Rect S60x16x4x128) (x : S60x16x4x128.Idx) : x ∈ yO.view.setOn R.set ↔ x ∈ R.set := View.mem_setOn (v := yO.view) (x := x)

/-! ### The weight buffer: four slabs of 512 columns, each of seven pieces -/

/-- Where piece `t` of a slab starts. -/
def pieceOff (o : ℕ) : Fin 7 → Fin 3 → ℕ
  | 0 => ![0, 0, o] | 1 => ![0, 3584, o] | 2 => ![1, 0, o] | 3 => ![1, 3584, o] | 4 => ![2, 0, o] | 5 => ![2, 3584, o] | 6 => ![0, 3688, o]

/-- How many elements piece `t` of a slab has along each axis. -/
def pieceSize : Fin 7 → Fin 3 → ℕ
  | 0 => ![1, 3584, 512] | 1 => ![1, 104, 512] | 2 => ![1, 3584, 512] | 3 => ![1, 104, 512] | 4 => ![1, 3584, 512] | 5 => ![1, 104, 512] | 6 => ![3, 24, 512]

/-- The piece of its slab an element lies in. -/
def pieceAt (x : S3x3712x2048.Idx) : Fin 7 :=
  if 3688 ≤ (x 1 : ℕ) then 6 else if 3584 ≤ (x 1 : ℕ) then (if (x 0 : ℕ) = 0 then 1 else if (x 0 : ℕ) = 1 then 3 else 5)
    else (if (x 0 : ℕ) = 0 then 0 else if (x 0 : ℕ) = 1 then 2 else 4)

theorem forall3 {p : Fin 3 → Prop} : (∀ a, p a) ↔ p 0 ∧ p 1 ∧ p 2 := Fin.forall_fin_succ.trans (and_congr Iff.rfl Fin.forall_fin_two)

theorem mem_rect3 (o n : Fin 3 → ℕ) (hb : ∀ a, o a + n a ≤ S3x3712x2048.size a) (x : S3x3712x2048.Idx) :
    x ∈ (Rect.unit (s := S3x3712x2048) o n hb).set ↔
      (o 0 ≤ x 0 ∧ (x 0 : ℕ) < o 0 + n 0) ∧ (o 1 ≤ x 1 ∧ (x 1 : ℕ) < o 1 + n 1) ∧ (o 2 ≤ x 2 ∧ (x 2 : ℕ) < o 2 + n 2) := by
  rw [Rect.mem_set_unit]; exact forall3

theorem mem_slab (o : ℕ) (hb' : ∀ a, ![0, 0, o] a + ![3, 3712, 512] a ≤ S3x3712x2048.size a) (x : S3x3712x2048.Idx) :
    x ∈ (Rect.unit (s := S3x3712x2048) ![0, 0, o] ![3, 3712, 512] hb').set ↔ o ≤ (x 2 : ℕ) ∧ (x 2 : ℕ) < o + 512 := by
  rw [mem_rect3]
  have h0 : (x 0 : ℕ) < 3 := (x 0).isLt
  have h1 : (x 1 : ℕ) < 3712 := (x 1).isLt
  show (0 ≤ (x 0 : ℕ) ∧ (x 0 : ℕ) < 0 + 3) ∧ (0 ≤ (x 1 : ℕ) ∧ (x 1 : ℕ) < 0 + 3712) ∧ (o ≤ (x 2 : ℕ) ∧ (x 2 : ℕ) < o + 512) ↔ _
  omega

theorem mem_piece (o : ℕ) (hb : ∀ t a, pieceOff o t a + pieceSize t a ≤ S3x3712x2048.size a) (t : Fin 7) (x : S3x3712x2048.Idx) :
    x ∈ (Rect.unit (s := S3x3712x2048) (pieceOff o t) (pieceSize t) (hb t)).set ↔ (o ≤ (x 2 : ℕ) ∧ (x 2 : ℕ) < o + 512) ∧ pieceAt x = t := by
  rw [mem_rect3]
  have h0 : (x 0 : ℕ) < 3 := (x 0).isLt
  have h1 : (x 1 : ℕ) < 3712 := (x 1).isLt
  generalize hx0 : (x 0 : ℕ) = a0 at h0 ⊢
  generalize hx1 : (x 1 : ℕ) = a1 at h1 ⊢
  generalize hx2 : (x 2 : ℕ) = a2
  have hp : pieceAt x = if 3688 ≤ a1 then 6 else if 3584 ≤ a1 then (if a0 = 0 then 1 else if a0 = 1 then 3 else 5)
      else (if a0 = 0 then 0 else if a0 = 1 then 2 else 4) := by unfold pieceAt; rw [hx0, hx1]
  rw [hp]
  clear hp
  have key : ∀ (b0 b1 n0 n1 : ℕ) (t : Fin 7), (pieceOff o t 0 = b0 ∧ pieceOff o t 1 = b1 ∧ pieceOff o t 2 = o ∧ pieceSize t 0 = n0 ∧ pieceSize t 1 = n1 ∧ pieceSize t 2 = 512) →
      ((b0 ≤ a0 ∧ a0 < b0 + n0) ∧ (b1 ≤ a1 ∧ a1 < b1 + n1) ↔ (if 3688 ≤ a1 then (6 : Fin 7) else if 3584 ≤ a1 then (if a0 = 0 then 1 else if a0 = 1 then 3 else 5)
      else (if a0 = 0 then 0 else if a0 = 1 then 2 else 4)) = t) →
      ((pieceOff o t 0 ≤ a0 ∧ a0 < pieceOff o t 0 + pieceSize t 0) ∧ (pieceOff o t 1 ≤ a1 ∧ a1 < pieceOff o t 1 + pieceSize t 1) ∧ (pieceOff o t 2 ≤ a2 ∧ a2 < pieceOff o t 2 + pieceSize t 2)
        ↔ (o ≤ a2 ∧ a2 < o + 512) ∧ (if 3688 ≤ a1 then (6 : Fin 7) else if 3584 ≤ a1 then (if a0 = 0 then 1 else if a0 = 1 then 3 else 5)
      else (if a0 = 0 then 0 else if a0 = 1 then 2 else 4)) = t) := by
    rintro b0 b1 n0 n1 t ⟨e1, e2, e3, e4, e5, e6⟩ h
    rw [e1, e2, e3, e4, e5, e6, ← h]
    tauto
  match t with
  | 0 => refine key 0 0 1 3584 0 ⟨rfl, rfl, rfl, rfl, rfl, rfl⟩ ?_; split_ifs <;> simp <;> omega
  | 1 => refine key 0 3584 1 104 1 ⟨rfl, rfl, rfl, rfl, rfl, rfl⟩ ?_; split_ifs <;> simp <;> omega
  | 2 => refine key 1 0 1 3584 2 ⟨rfl, rfl, rfl, rfl, rfl, rfl⟩ ?_; split_ifs <;> simp <;> omega
  | 3 => refine key 1 3584 1 104 3 ⟨rfl, rfl, rfl, rfl, rfl, rfl⟩ ?_; split_ifs <;> simp <;> omega
  | 4 => refine key 2 0 1 3584 4 ⟨rfl, rfl, rfl, rfl, rfl, rfl⟩ ?_; split_ifs <;> simp <;> omega
  | 5 => refine key 2 3584 1 104 5 ⟨rfl, rfl, rfl, rfl, rfl, rfl⟩ ?_; split_ifs <;> simp <;> omega
  | 6 => refine key 0 3688 3 24 6 ⟨rfl, rfl, rfl, rfl, rfl, rfl⟩ ?_; split_ifs <;> simp <;> omega

/-- The pieces of a slab, as `cut_eq` and `cut_join` take them. -/
theorem slab_cut (o : ℕ) (hb : ∀ t a, pieceOff o t a + pieceSize t a ≤ S3x3712x2048.size a) (hb' : ∀ a, ![0, 0, o] a + ![3, 3712, 512] a ≤ S3x3712x2048.size a)
    (t : Fin 7) (x : S3x3712x2048.Idx) :
    x ∈ tB.view.setOn (Rect.unit (s := S3x3712x2048) (pieceOff o t) (pieceSize t) (hb t)).set
      ↔ x ∈ tB.view.setOn (Rect.unit (s := S3x3712x2048) ![0, 0, o] ![3, 3712, 512] hb').set ∧ pieceAt x = t := by
  rw [mem_tB, mem_tB, mem_piece, mem_slab]

/-- The six landed pieces and the padding rows of a 512-column slab make the slab. -/
theorem joinSlab (c : Dev nD) (o : ℕ) (hb : ∀ t a, pieceOff o t a + pieceSize t a ≤ S3x3712x2048.size a) (hb' : ∀ a, ![0, 0, o] a + ![3, 3712, 512] a ≤ S3x3712x2048.size a)
    (W : Buf (Elt F) (tB.view.loc (c : Thread nD τ))) (f : Fin 7 → Buf (Elt F) (tB.view.loc (c : Thread nD τ)))
    (hf : ∀ t, t ≠ 6 → ∀ x ∈ (Rect.unit (s := S3x3712x2048) (pieceOff o t) (pieceSize t) (hb t)).set, f t x = W x) :
    BI.bigSep (Finset.univ : Finset (Fin 7)) (fun t => ptR c tB (Rect.unit (s := S3x3712x2048) (pieceOff o t) (pieceSize t) (hb t)) (f t))
      ⊢ iprop(∃ g, ⌜∀ x ∈ (Rect.unit (s := S3x3712x2048) ![0, 0, o] ![3, 3712, 512] hb').set, (x 1 : ℕ) < 3688 → g x = W x⌝
          ∗ ptR c tB (Rect.unit (s := S3x3712x2048) ![0, 0, o] ![3, 3712, 512] hb') g) := by
  refine (cut_join (ℓ := tB.view.loc (c : Thread nD τ)) _ _ pieceAt (slab_cut o hb hb') f (f 0)).trans ?_
  iintro ⟨%g, %hg, HG⟩
  iexists g
  isplitr [HG]
  · ipureintro
    intro x hx hlt
    have hx' := (slab_cut o hb hb' (pieceAt x) x).2 ⟨(mem_tB _ x).2 hx, rfl⟩
    rw [hg (pieceAt x) x hx']
    refine hf (pieceAt x) ?_ x ((mem_tB _ x).1 hx')
    unfold pieceAt
    rw [if_neg (by omega)]
    split_ifs <;> decide
  · iexact HG

/-- The slab's four, as `cut_eq` and `cut_join` take them. -/
theorem slabs_cut (t : Fin 4) (x : S3x3712x2048.Idx) :
    x ∈ tB.view.setOn ((![rS0, rS1, rS2, rS3] : Fin 4 → Rect S3x3712x2048) t).set ↔ x ∈ (Finset.univ : Finset S3x3712x2048.Idx) ∧ (⟨(x 2 : ℕ) / 512, by have : (x 2 : ℕ) < 2048 := (x 2).isLt; omega⟩ : Fin 4) = t := by
  rw [mem_tB, Fin.ext_iff]
  have h2 : (x 2 : ℕ) < 2048 := (x 2).isLt
  simp only [Finset.mem_univ, true_and]
  match t with
  | 0 => rw [show (![rS0, rS1, rS2, rS3] : Fin 4 → Rect S3x3712x2048) 0 = rS0 from rfl, mem_slab]; show _ ↔ (x 2 : ℕ) / 512 = 0; omega
  | 1 => rw [show (![rS0, rS1, rS2, rS3] : Fin 4 → Rect S3x3712x2048) 1 = rS1 from rfl, mem_slab]; show _ ↔ (x 2 : ℕ) / 512 = 1; omega
  | 2 => rw [show (![rS0, rS1, rS2, rS3] : Fin 4 → Rect S3x3712x2048) 2 = rS2 from rfl, mem_slab]; show _ ↔ (x 2 : ℕ) / 512 = 2; omega
  | 3 => rw [show (![rS0, rS1, rS2, rS3] : Fin 4 → Rect S3x3712x2048) 3 = rS3 from rfl, mem_slab]; show _ ↔ (x 2 : ℕ) / 512 = 3; omega

/-- The output chunks in scratch, one per 512 columns. -/
theorem ys_cut (t : Fin 4) (x : S4x64x4x4x128.Idx) :
    x ∈ yB.view.setOn ((![rY0, rY1, rY2, rY3] : Fin 4 → Rect S4x64x4x4x128) t).set ↔ x ∈ (Finset.univ : Finset S4x64x4x4x128.Idx) ∧ (⟨(x 0 : ℕ), (x 0).isLt⟩ : Fin 4) = t := by
  rw [mem_yB]
  simp only [Finset.mem_univ, true_and]
  have h0 : (x 0 : ℕ) < 4 := (x 0).isLt
  have h1 : (x 1 : ℕ) < 64 := (x 1).isLt
  have h2 : (x 2 : ℕ) < 4 := (x 2).isLt
  have h3 : (x 3 : ℕ) < 4 := (x 3).isLt
  have h4 : (x 4 : ℕ) < 128 := (x 4).isLt
  have key : ∀ (n : ℕ) hb, x ∈ (Rect.unit (s := S4x64x4x4x128) ![n, 0, 0, 0, 0] ![1, 64, 4, 4, 128] hb).set ↔ (x 0 : ℕ) = n := by
    intro n hb
    rw [Rect.mem_set_unit]
    constructor
    · intro h; have := h 0; change n ≤ (x 0 : ℕ) ∧ (x 0 : ℕ) < n + 1 at this; omega
    · intro h a
      match a with
      | 0 => show n ≤ (x 0 : ℕ) ∧ (x 0 : ℕ) < n + 1; omega
      | 1 => show 0 ≤ (x 1 : ℕ) ∧ (x 1 : ℕ) < 0 + 64; omega
      | 2 => show 0 ≤ (x 2 : ℕ) ∧ (x 2 : ℕ) < 0 + 4; omega
      | 3 => show 0 ≤ (x 3 : ℕ) ∧ (x 3 : ℕ) < 0 + 4; omega
      | 4 => show 0 ≤ (x 4 : ℕ) ∧ (x 4 : ℕ) < 0 + 128; omega
  match t with
  | 0 => exact (key 0 (by decide)).trans ⟨fun h => Fin.ext h, fun h => congrArg Fin.val h⟩
  | 1 => exact (key 1 (by decide)).trans ⟨fun h => Fin.ext h, fun h => congrArg Fin.val h⟩
  | 2 => exact (key 2 (by decide)).trans ⟨fun h => Fin.ext h, fun h => congrArg Fin.val h⟩
  | 3 => exact (key 3 (by decide)).trans ⟨fun h => Fin.ext h, fun h => congrArg Fin.val h⟩

/-- The result's four parts, one per 512 columns. -/
theorem os_cut (t : Fin 4) (x : S60x16x4x128.Idx) :
    x ∈ yO.view.setOn ((![rO0, rO1, rO2, rO3] : Fin 4 → Rect S60x16x4x128) t).set ↔ x ∈ (Finset.univ : Finset S60x16x4x128.Idx) ∧ (⟨(x 1 : ℕ) / 4, by have : (x 1 : ℕ) < 16 := (x 1).isLt; omega⟩ : Fin 4) = t := by
  rw [mem_yO]
  simp only [Finset.mem_univ, true_and]
  have h0 : (x 0 : ℕ) < 60 := (x 0).isLt
  have h1 : (x 1 : ℕ) < 16 := (x 1).isLt
  have h2 : (x 2 : ℕ) < 4 := (x 2).isLt
  have h3 : (x 3 : ℕ) < 128 := (x 3).isLt
  have key : ∀ (n : ℕ) hb, x ∈ (Rect.unit (s := S60x16x4x128) ![0, 4 * n, 0, 0] ![60, 4, 4, 128] hb).set ↔ (x 1 : ℕ) / 4 = n := by
    intro n hb
    rw [Rect.mem_set_unit]
    constructor
    · intro h; have := h 1; change 4 * n ≤ (x 1 : ℕ) ∧ (x 1 : ℕ) < 4 * n + 4 at this; omega
    · intro h a
      match a with
      | 0 => show 0 ≤ (x 0 : ℕ) ∧ (x 0 : ℕ) < 0 + 60; omega
      | 1 => show 4 * n ≤ (x 1 : ℕ) ∧ (x 1 : ℕ) < 4 * n + 4; omega
      | 2 => show 0 ≤ (x 2 : ℕ) ∧ (x 2 : ℕ) < 0 + 4; omega
      | 3 => show 0 ≤ (x 3 : ℕ) ∧ (x 3 : ℕ) < 0 + 128; omega
  match t with
  | 0 => exact (key 0 (by decide)).trans ⟨fun h => Fin.ext h, fun h => congrArg Fin.val h⟩
  | 1 => exact (key 1 (by decide)).trans ⟨fun h => Fin.ext h, fun h => congrArg Fin.val h⟩
  | 2 => exact (key 2 (by decide)).trans ⟨fun h => Fin.ext h, fun h => congrArg Fin.val h⟩
  | 3 => exact (key 3 (by decide)).trans ⟨fun h => Fin.ext h, fun h => congrArg Fin.val h⟩

/-- Slab 0 as its seven pieces. -/
theorem slab0_eq (c : Dev nD) (f : Buf (Elt F) (tB.view.loc (c : Thread nD τ))) :
    ptR c tB rS0 f = iprop(ptR c tB rT000 f ∗ ptR c tB rT001 f ∗ ptR c tB rT010 f ∗ ptR c tB rT011 f ∗ ptR c tB rT020 f ∗ ptR c tB rT021 f ∗ ptR c tB rP0 f) := by
  rw [ptR, cut_eq (ℓ := tB.view.loc (c : Thread nD τ)) _ _ pieceAt (slab_cut 0 (by decide) (by decide)) f,
    BI.bigSep_eq_bigSepL_of_eq (l := [0, 1, 2, 3, 4, 5, 6]) (by decide) (by decide)]
  rfl

theorem joinSlab0 (c : Dev nD) (W : Buf (Elt F) (tB.view.loc (c : Thread nD τ))) f0 f1 f2 f3 f4 f5 f6
    (h0 : ∀ x ∈ rT000.set, f0 x = W x) (h1 : ∀ x ∈ rT001.set, f1 x = W x) (h2 : ∀ x ∈ rT010.set, f2 x = W x) (h3 : ∀ x ∈ rT011.set, f3 x = W x) (h4 : ∀ x ∈ rT020.set, f4 x = W x) (h5 : ∀ x ∈ rT021.set, f5 x = W x) :
    iprop(ptR c tB rT000 f0 ∗ ptR c tB rT001 f1 ∗ ptR c tB rT010 f2 ∗ ptR c tB rT011 f3 ∗ ptR c tB rT020 f4 ∗ ptR c tB rT021 f5 ∗ ptR c tB rP0 f6)
      ⊢ iprop(∃ g, ⌜∀ x ∈ rS0.set, (x 1 : ℕ) < 3688 → g x = W x⌝ ∗ ptR (F := F) c tB rS0 g) := by
  refine BIBase.Entails.trans ?_ (joinSlab c 0 (by decide) (by decide) W ![f0, f1, f2, f3, f4, f5, f6] ?_)
  · rw [BI.bigSep_eq_bigSepL_of_eq (l := [0, 1, 2, 3, 4, 5, 6]) (by decide) (by decide)]
    exact BIBase.Entails.rfl
  · intro t ht
    match t with
    | 0 => exact h0
    | 1 => exact h1
    | 2 => exact h2
    | 3 => exact h3
    | 4 => exact h4
    | 5 => exact h5
    | 6 => exact absurd rfl ht

/-- Slab 1 as its seven pieces. -/
theorem slab1_eq (c : Dev nD) (f : Buf (Elt F) (tB.view.loc (c : Thread nD τ))) :
    ptR c tB rS1 f = iprop(ptR c tB rT100 f ∗ ptR c tB rT101 f ∗ ptR c tB rT110 f ∗ ptR c tB rT111 f ∗ ptR c tB rT120 f ∗ ptR c tB rT121 f ∗ ptR c tB rP1 f) := by
  rw [ptR, cut_eq (ℓ := tB.view.loc (c : Thread nD τ)) _ _ pieceAt (slab_cut 512 (by decide) (by decide)) f,
    BI.bigSep_eq_bigSepL_of_eq (l := [0, 1, 2, 3, 4, 5, 6]) (by decide) (by decide)]
  rfl

theorem joinSlab1 (c : Dev nD) (W : Buf (Elt F) (tB.view.loc (c : Thread nD τ))) f0 f1 f2 f3 f4 f5 f6
    (h0 : ∀ x ∈ rT100.set, f0 x = W x) (h1 : ∀ x ∈ rT101.set, f1 x = W x) (h2 : ∀ x ∈ rT110.set, f2 x = W x) (h3 : ∀ x ∈ rT111.set, f3 x = W x) (h4 : ∀ x ∈ rT120.set, f4 x = W x) (h5 : ∀ x ∈ rT121.set, f5 x = W x) :
    iprop(ptR c tB rT100 f0 ∗ ptR c tB rT101 f1 ∗ ptR c tB rT110 f2 ∗ ptR c tB rT111 f3 ∗ ptR c tB rT120 f4 ∗ ptR c tB rT121 f5 ∗ ptR c tB rP1 f6)
      ⊢ iprop(∃ g, ⌜∀ x ∈ rS1.set, (x 1 : ℕ) < 3688 → g x = W x⌝ ∗ ptR (F := F) c tB rS1 g) := by
  refine BIBase.Entails.trans ?_ (joinSlab c 512 (by decide) (by decide) W ![f0, f1, f2, f3, f4, f5, f6] ?_)
  · rw [BI.bigSep_eq_bigSepL_of_eq (l := [0, 1, 2, 3, 4, 5, 6]) (by decide) (by decide)]
    exact BIBase.Entails.rfl
  · intro t ht
    match t with
    | 0 => exact h0
    | 1 => exact h1
    | 2 => exact h2
    | 3 => exact h3
    | 4 => exact h4
    | 5 => exact h5
    | 6 => exact absurd rfl ht

/-- Slab 2 as its seven pieces. -/
theorem slab2_eq (c : Dev nD) (f : Buf (Elt F) (tB.view.loc (c : Thread nD τ))) :
    ptR c tB rS2 f = iprop(ptR c tB rT200 f ∗ ptR c tB rT201 f ∗ ptR c tB rT210 f ∗ ptR c tB rT211 f ∗ ptR c tB rT220 f ∗ ptR c tB rT221 f ∗ ptR c tB rP2 f) := by
  rw [ptR, cut_eq (ℓ := tB.view.loc (c : Thread nD τ)) _ _ pieceAt (slab_cut 1024 (by decide) (by decide)) f,
    BI.bigSep_eq_bigSepL_of_eq (l := [0, 1, 2, 3, 4, 5, 6]) (by decide) (by decide)]
  rfl

theorem joinSlab2 (c : Dev nD) (W : Buf (Elt F) (tB.view.loc (c : Thread nD τ))) f0 f1 f2 f3 f4 f5 f6
    (h0 : ∀ x ∈ rT200.set, f0 x = W x) (h1 : ∀ x ∈ rT201.set, f1 x = W x) (h2 : ∀ x ∈ rT210.set, f2 x = W x) (h3 : ∀ x ∈ rT211.set, f3 x = W x) (h4 : ∀ x ∈ rT220.set, f4 x = W x) (h5 : ∀ x ∈ rT221.set, f5 x = W x) :
    iprop(ptR c tB rT200 f0 ∗ ptR c tB rT201 f1 ∗ ptR c tB rT210 f2 ∗ ptR c tB rT211 f3 ∗ ptR c tB rT220 f4 ∗ ptR c tB rT221 f5 ∗ ptR c tB rP2 f6)
      ⊢ iprop(∃ g, ⌜∀ x ∈ rS2.set, (x 1 : ℕ) < 3688 → g x = W x⌝ ∗ ptR (F := F) c tB rS2 g) := by
  refine BIBase.Entails.trans ?_ (joinSlab c 1024 (by decide) (by decide) W ![f0, f1, f2, f3, f4, f5, f6] ?_)
  · rw [BI.bigSep_eq_bigSepL_of_eq (l := [0, 1, 2, 3, 4, 5, 6]) (by decide) (by decide)]
    exact BIBase.Entails.rfl
  · intro t ht
    match t with
    | 0 => exact h0
    | 1 => exact h1
    | 2 => exact h2
    | 3 => exact h3
    | 4 => exact h4
    | 5 => exact h5
    | 6 => exact absurd rfl ht

/-- Slab 3 as its seven pieces. -/
theorem slab3_eq (c : Dev nD) (f : Buf (Elt F) (tB.view.loc (c : Thread nD τ))) :
    ptR c tB rS3 f = iprop(ptR c tB rT300 f ∗ ptR c tB rT301 f ∗ ptR c tB rT310 f ∗ ptR c tB rT311 f ∗ ptR c tB rT320 f ∗ ptR c tB rT321 f ∗ ptR c tB rP3 f) := by
  rw [ptR, cut_eq (ℓ := tB.view.loc (c : Thread nD τ)) _ _ pieceAt (slab_cut 1536 (by decide) (by decide)) f,
    BI.bigSep_eq_bigSepL_of_eq (l := [0, 1, 2, 3, 4, 5, 6]) (by decide) (by decide)]
  rfl

theorem joinSlab3 (c : Dev nD) (W : Buf (Elt F) (tB.view.loc (c : Thread nD τ))) f0 f1 f2 f3 f4 f5 f6
    (h0 : ∀ x ∈ rT300.set, f0 x = W x) (h1 : ∀ x ∈ rT301.set, f1 x = W x) (h2 : ∀ x ∈ rT310.set, f2 x = W x) (h3 : ∀ x ∈ rT311.set, f3 x = W x) (h4 : ∀ x ∈ rT320.set, f4 x = W x) (h5 : ∀ x ∈ rT321.set, f5 x = W x) :
    iprop(ptR c tB rT300 f0 ∗ ptR c tB rT301 f1 ∗ ptR c tB rT310 f2 ∗ ptR c tB rT311 f3 ∗ ptR c tB rT320 f4 ∗ ptR c tB rT321 f5 ∗ ptR c tB rP3 f6)
      ⊢ iprop(∃ g, ⌜∀ x ∈ rS3.set, (x 1 : ℕ) < 3688 → g x = W x⌝ ∗ ptR (F := F) c tB rS3 g) := by
  refine BIBase.Entails.trans ?_ (joinSlab c 1536 (by decide) (by decide) W ![f0, f1, f2, f3, f4, f5, f6] ?_)
  · rw [BI.bigSep_eq_bigSepL_of_eq (l := [0, 1, 2, 3, 4, 5, 6]) (by decide) (by decide)]
    exact BIBase.Entails.rfl
  · intro t ht
    match t with
    | 0 => exact h0
    | 1 => exact h1
    | 2 => exact h2
    | 3 => exact h3
    | 4 => exact h4
    | 5 => exact h5
    | 6 => exact absurd rfl ht

/-- The buffer whole is its four parts. -/
theorem slabs_eq (c : Dev nD) (f : Buf (Elt F) (tB.view.loc (c : Thread nD τ))) :
    pt c tB f = iprop(ptR c tB rS0 f ∗ ptR c tB rS1 f ∗ ptR c tB rS2 f ∗ ptR c tB rS3 f) := by
  rw [pt, cut_eq (ℓ := tB.view.loc (c : Thread nD τ)) Finset.univ _ (fun x : S3x3712x2048.Idx => (⟨(x 2 : ℕ) / 512, by have : (x 2 : ℕ) < 2048 := (x 2).isLt; omega⟩ : Fin 4)) slabs_cut f,
    BI.bigSep_eq_bigSepL_of_eq (l := [0, 1, 2, 3]) (by decide) (by decide)]
  rfl

/-- The four parts, each at its own contents, are the buffer whole at contents agreeing with each. -/
theorem slabs_join (c : Dev nD) f0 f1 f2 f3 :
    iprop(ptR c tB rS0 f0 ∗ ptR c tB rS1 f1 ∗ ptR c tB rS2 f2 ∗ ptR c tB rS3 f3)
      ⊢ iprop(∃ g, ⌜(∀ x ∈ rS0.set, g x = f0 x) ∧ (∀ x ∈ rS1.set, g x = f1 x) ∧ (∀ x ∈ rS2.set, g x = f2 x) ∧ (∀ x ∈ rS3.set, g x = f3 x)⌝ ∗ pt (F := F) c tB g) := by
  refine BIBase.Entails.trans ?_ ((cut_join (ℓ := tB.view.loc (c : Thread nD τ)) Finset.univ _ (fun x : S3x3712x2048.Idx => (⟨(x 2 : ℕ) / 512, by have : (x 2 : ℕ) < 2048 := (x 2).isLt; omega⟩ : Fin 4)) slabs_cut ![f0, f1, f2, f3] f0).trans ?_)
  · rw [BI.bigSep_eq_bigSepL_of_eq (l := [0, 1, 2, 3]) (by decide) (by decide)]
    exact BIBase.Entails.rfl
  · iintro ⟨%g, %hg, HG⟩
    iexists g
    isplitr [HG]
    · ipureintro
      exact ⟨fun x hx => hg 0 x ((mem_tB _ x).2 hx), fun x hx => hg 1 x ((mem_tB _ x).2 hx), fun x hx => hg 2 x ((mem_tB _ x).2 hx), fun x hx => hg 3 x ((mem_tB _ x).2 hx)⟩
    · iexact HG

/-- The buffer whole is its four parts. -/
theorem ys_eq (c : Dev nD) (f : Buf (Elt F) (yB.view.loc (c : Thread nD τ))) :
    pt c yB f = iprop(ptR c yB rY0 f ∗ ptR c yB rY1 f ∗ ptR c yB rY2 f ∗ ptR c yB rY3 f) := by
  rw [pt, cut_eq (ℓ := yB.view.loc (c : Thread nD τ)) Finset.univ _ (fun x : S4x64x4x4x128.Idx => (⟨(x 0 : ℕ), (x 0).isLt⟩ : Fin 4)) ys_cut f,
    BI.bigSep_eq_bigSepL_of_eq (l := [0, 1, 2, 3]) (by decide) (by decide)]
  rfl

/-- The four parts, each at its own contents, are the buffer whole at contents agreeing with each. -/
theorem ys_join (c : Dev nD) f0 f1 f2 f3 :
    iprop(ptR c yB rY0 f0 ∗ ptR c yB rY1 f1 ∗ ptR c yB rY2 f2 ∗ ptR c yB rY3 f3)
      ⊢ iprop(∃ g, ⌜(∀ x ∈ rY0.set, g x = f0 x) ∧ (∀ x ∈ rY1.set, g x = f1 x) ∧ (∀ x ∈ rY2.set, g x = f2 x) ∧ (∀ x ∈ rY3.set, g x = f3 x)⌝ ∗ pt (F := F) c yB g) := by
  refine BIBase.Entails.trans ?_ ((cut_join (ℓ := yB.view.loc (c : Thread nD τ)) Finset.univ _ (fun x : S4x64x4x4x128.Idx => (⟨(x 0 : ℕ), (x 0).isLt⟩ : Fin 4)) ys_cut ![f0, f1, f2, f3] f0).trans ?_)
  · rw [BI.bigSep_eq_bigSepL_of_eq (l := [0, 1, 2, 3]) (by decide) (by decide)]
    exact BIBase.Entails.rfl
  · iintro ⟨%g, %hg, HG⟩
    iexists g
    isplitr [HG]
    · ipureintro
      exact ⟨fun x hx => hg 0 x ((mem_yB _ x).2 hx), fun x hx => hg 1 x ((mem_yB _ x).2 hx), fun x hx => hg 2 x ((mem_yB _ x).2 hx), fun x hx => hg 3 x ((mem_yB _ x).2 hx)⟩
    · iexact HG

/-- The buffer whole is its four parts. -/
theorem os_eq (c : Dev nD) (f : Buf (Elt F) (yO.view.loc (c : Thread nD τ))) :
    pt c yO f = iprop(ptR c yO rO0 f ∗ ptR c yO rO1 f ∗ ptR c yO rO2 f ∗ ptR c yO rO3 f) := by
  rw [pt, cut_eq (ℓ := yO.view.loc (c : Thread nD τ)) Finset.univ _ (fun x : S60x16x4x128.Idx => (⟨(x 1 : ℕ) / 4, by have : (x 1 : ℕ) < 16 := (x 1).isLt; omega⟩ : Fin 4)) os_cut f,
    BI.bigSep_eq_bigSepL_of_eq (l := [0, 1, 2, 3]) (by decide) (by decide)]
  rfl

/-- The four parts, each at its own contents, are the buffer whole at contents agreeing with each. -/
theorem os_join (c : Dev nD) f0 f1 f2 f3 :
    iprop(ptR c yO rO0 f0 ∗ ptR c yO rO1 f1 ∗ ptR c yO rO2 f2 ∗ ptR c yO rO3 f3)
      ⊢ iprop(∃ g, ⌜(∀ x ∈ rO0.set, g x = f0 x) ∧ (∀ x ∈ rO1.set, g x = f1 x) ∧ (∀ x ∈ rO2.set, g x = f2 x) ∧ (∀ x ∈ rO3.set, g x = f3 x)⌝ ∗ pt (F := F) c yO g) := by
  refine BIBase.Entails.trans ?_ ((cut_join (ℓ := yO.view.loc (c : Thread nD τ)) Finset.univ _ (fun x : S60x16x4x128.Idx => (⟨(x 1 : ℕ) / 4, by have : (x 1 : ℕ) < 16 := (x 1).isLt; omega⟩ : Fin 4)) os_cut ![f0, f1, f2, f3] f0).trans ?_)
  · rw [BI.bigSep_eq_bigSepL_of_eq (l := [0, 1, 2, 3]) (by decide) (by decide)]
    exact BIBase.Entails.rfl
  · iintro ⟨%g, %hg, HG⟩
    iexists g
    isplitr [HG]
    · ipureintro
      exact ⟨fun x hx => hg 0 x ((mem_yO _ x).2 hx), fun x hx => hg 1 x ((mem_yO _ x).2 hx), fun x hx => hg 2 x ((mem_yO _ x).2 hx), fun x hx => hg 3 x ((mem_yO _ x).2 hx)⟩
    · iexact HG

end Cert.Kernel.Hand
end
-- ==== Proof.KLand.lean ====
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp

public import proofs.«01_k».proof.Proof.KBase

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The kernel's weights as the weight buffer's elements see them: plane, row and column of the widened argument. -/
def wAt (c : Dev nD) (f : Buf (Elt F) ((Memref.whole main_v6).view.loc (c : Thread nD τ))) : Buf (Elt F) (tB.view.loc (c : Thread nD τ)) :=
  fun x => f (ValueIdx.ix3 (x 0) ⟨(x 1 : ℕ) % 3688, Nat.mod_lt _ (by decide)⟩ (x 2))

/-- A weight copy of 3584 rows leaves the widened argument's rows in its piece of the weight buffer. -/
theorem landA (c : Dev nD) (off offw : Fin 3 → ℕ)
    (h : ∀ a, off a + S1x3584x512.size a ≤ S3x3712x2048.size a) (hw : ∀ a, offw a + S1x3584x512.size a ≤ S3x3688x2048.size a)
    (he : offw = off) (g2 : Buf (Elt F) (tB.view.loc (c : Thread nD τ)))
    (f3 : Buf (Elt F) ((Memref.whole main_v6).view.loc (c : Thread nD τ))) :
    ∀ x ∈ (Rect.unit (s := S3x3712x2048) off S1x3584x512.size h).set,
      View.write (Elt F) ((tB.slice (Rect.unit (s := S3x3712x2048) off S1x3584x512.size h) (fun _ => rfl)).squeeze S3584x512 squeezes_S1x3584x512_S3584x512).view g2
        (ReadAs.same.apply (View.read (Elt F) (((Memref.whole main_v6 : Memref sig .tc .hbm S3x3688x2048 .fp8e4m3).slice
          (Rect.unit (s := S3x3688x2048) offw S1x3584x512.size hw) (fun _ => rfl)).squeeze S3584x512 squeezes_S1x3584x512_S3584x512).view f3)) Finset.univ x
      = wAt c f3 x := by
  intro x hx
  subst he
  have hm := Rect.mem_set_unit.mp hx
  have h0 := hm 0; have h1 := hm 1; have h2 := hm 2
  have b1 : (x 1 : ℕ) - offw 1 < 3584 := by
    have : (x 1 : ℕ) < offw 1 + 3584 := h1.2
    have := h1.1; omega
  have b2 : (x 2 : ℕ) - offw 2 < 512 := by
    have : (x 2 : ℕ) < offw 2 + 512 := h2.2
    have := h2.1; omega
  have b0 : (x 0 : ℕ) = offw 0 := by
    have : (x 0 : ℕ) < offw 0 + 1 := h0.2
    have := h0.1; omega
  have hlt : (x 1 : ℕ) < 3688 := by
    have : offw 1 + 3584 ≤ 3688 := hw 1
    have := h1.1; omega
  have key : x = ((tB.slice (Rect.unit (s := S3x3712x2048) offw S1x3584x512.size h) (fun _ => rfl)).squeeze S3584x512 squeezes_S1x3584x512_S3584x512).view.emb
      (ValueIdx.ix2 ⟨(x 1 : ℕ) - offw 1, b1⟩ ⟨(x 2 : ℕ) - offw 2, b2⟩) := by
    show x = (Rect.unit (s := S3x3712x2048) offw S1x3584x512.size h).emb (Shape.reshapeEquiv _ _)
    rw [ValueIdx.reshapeEquiv_ix2_1ab]
    funext a
    apply Fin.ext
    have e : ((Rect.unit (s := S3x3712x2048) offw S1x3584x512.size h).emb (ValueIdx.ix3 (⟨0, Nat.one_pos⟩ : Fin 1) (⟨(x 1 : ℕ) - offw 1, b1⟩ : Fin 3584) (⟨(x 2 : ℕ) - offw 2, b2⟩ : Fin 512)) a : ℕ) = offw a + 1 * _ := rfl
    rw [e]
    fin_cases a
    · show (x 0 : ℕ) = offw 0 + 1 * 0
      omega
    · show (x 1 : ℕ) = offw 1 + 1 * ((x 1 : ℕ) - offw 1)
      have := h1.1; omega
    · show (x 2 : ℕ) = offw 2 + 1 * ((x 2 : ℕ) - offw 2)
      have := h2.1; omega
  conv_lhs => rw [key]
  rw [View.write_emb_of_mem _ _ (Finset.mem_univ _)]
  show f3 ((Rect.unit (s := S3x3688x2048) offw S1x3584x512.size hw).emb (Shape.reshapeEquiv _ _)) = f3 _
  rw [ValueIdx.reshapeEquiv_ix2_1ab]
  congr 1
  funext a
  apply Fin.ext
  have e : ((Rect.unit (s := S3x3688x2048) offw S1x3584x512.size hw).emb (ValueIdx.ix3 (⟨0, Nat.one_pos⟩ : Fin 1) (⟨(x 1 : ℕ) - offw 1, b1⟩ : Fin 3584) (⟨(x 2 : ℕ) - offw 2, b2⟩ : Fin 512)) a : ℕ) = offw a + 1 * _ := rfl
  rw [e]
  fin_cases a
  · show offw 0 + 1 * 0 = (x 0 : ℕ)
    omega
  · show offw 1 + 1 * ((x 1 : ℕ) - offw 1) = (x 1 : ℕ) % 3688
    rw [Nat.mod_eq_of_lt hlt]; have := h1.1; omega
  · show offw 2 + 1 * ((x 2 : ℕ) - offw 2) = (x 2 : ℕ)
    have := h2.1; omega

/-- A weight copy of 104 rows leaves the widened argument's rows in its piece of the weight buffer. -/
theorem landB (c : Dev nD) (off offw : Fin 3 → ℕ)
    (h : ∀ a, off a + S1x104x512.size a ≤ S3x3712x2048.size a) (hw : ∀ a, offw a + S1x104x512.size a ≤ S3x3688x2048.size a)
    (he : offw = off) (g2 : Buf (Elt F) (tB.view.loc (c : Thread nD τ)))
    (f3 : Buf (Elt F) ((Memref.whole main_v6).view.loc (c : Thread nD τ))) :
    ∀ x ∈ (Rect.unit (s := S3x3712x2048) off S1x104x512.size h).set,
      View.write (Elt F) ((tB.slice (Rect.unit (s := S3x3712x2048) off S1x104x512.size h) (fun _ => rfl)).squeeze S104x512 squeezes_S1x104x512_S104x512).view g2
        (ReadAs.same.apply (View.read (Elt F) (((Memref.whole main_v6 : Memref sig .tc .hbm S3x3688x2048 .fp8e4m3).slice
          (Rect.unit (s := S3x3688x2048) offw S1x104x512.size hw) (fun _ => rfl)).squeeze S104x512 squeezes_S1x104x512_S104x512).view f3)) Finset.univ x
      = wAt c f3 x := by
  intro x hx
  subst he
  have hm := Rect.mem_set_unit.mp hx
  have h0 := hm 0; have h1 := hm 1; have h2 := hm 2
  have b1 : (x 1 : ℕ) - offw 1 < 104 := by
    have : (x 1 : ℕ) < offw 1 + 104 := h1.2
    have := h1.1; omega
  have b2 : (x 2 : ℕ) - offw 2 < 512 := by
    have : (x 2 : ℕ) < offw 2 + 512 := h2.2
    have := h2.1; omega
  have b0 : (x 0 : ℕ) = offw 0 := by
    have : (x 0 : ℕ) < offw 0 + 1 := h0.2
    have := h0.1; omega
  have hlt : (x 1 : ℕ) < 3688 := by
    have : offw 1 + 104 ≤ 3688 := hw 1
    have := h1.1; omega
  have key : x = ((tB.slice (Rect.unit (s := S3x3712x2048) offw S1x104x512.size h) (fun _ => rfl)).squeeze S104x512 squeezes_S1x104x512_S104x512).view.emb
      (ValueIdx.ix2 ⟨(x 1 : ℕ) - offw 1, b1⟩ ⟨(x 2 : ℕ) - offw 2, b2⟩) := by
    show x = (Rect.unit (s := S3x3712x2048) offw S1x104x512.size h).emb (Shape.reshapeEquiv _ _)
    rw [ValueIdx.reshapeEquiv_ix2_1ab]
    funext a
    apply Fin.ext
    have e : ((Rect.unit (s := S3x3712x2048) offw S1x104x512.size h).emb (ValueIdx.ix3 (⟨0, Nat.one_pos⟩ : Fin 1) (⟨(x 1 : ℕ) - offw 1, b1⟩ : Fin 104) (⟨(x 2 : ℕ) - offw 2, b2⟩ : Fin 512)) a : ℕ) = offw a + 1 * _ := rfl
    rw [e]
    fin_cases a
    · show (x 0 : ℕ) = offw 0 + 1 * 0
      omega
    · show (x 1 : ℕ) = offw 1 + 1 * ((x 1 : ℕ) - offw 1)
      have := h1.1; omega
    · show (x 2 : ℕ) = offw 2 + 1 * ((x 2 : ℕ) - offw 2)
      have := h2.1; omega
  conv_lhs => rw [key]
  rw [View.write_emb_of_mem _ _ (Finset.mem_univ _)]
  show f3 ((Rect.unit (s := S3x3688x2048) offw S1x104x512.size hw).emb (Shape.reshapeEquiv _ _)) = f3 _
  rw [ValueIdx.reshapeEquiv_ix2_1ab]
  congr 1
  funext a
  apply Fin.ext
  have e : ((Rect.unit (s := S3x3688x2048) offw S1x104x512.size hw).emb (ValueIdx.ix3 (⟨0, Nat.one_pos⟩ : Fin 1) (⟨(x 1 : ℕ) - offw 1, b1⟩ : Fin 104) (⟨(x 2 : ℕ) - offw 2, b2⟩ : Fin 512)) a : ℕ) = offw a + 1 * _ := rfl
  rw [e]
  fin_cases a
  · show offw 0 + 1 * 0 = (x 0 : ℕ)
    omega
  · show offw 1 + 1 * ((x 1 : ℕ) - offw 1) = (x 1 : ℕ) % 3688
    rw [Nat.mod_eq_of_lt hlt]; have := h1.1; omega
  · show offw 2 + 1 * ((x 2 : ℕ) - offw 2) = (x 2 : ℕ)
    have := h2.1; omega

end Cert.Kernel.Hand
end
-- ==== Proof.KRun.lean ====
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp

public import proofs.«01_k».proof.Proof.KLand

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem coord0 (i : grid0.Coords) : (i 0 : ℕ) = 0 := Nat.lt_one_iff.mp (i 0).isLt

/-- Row part 1 of tap 0, chunk 0: where its copy starts in the widened argument. -/
theorem off_eq1 (i : grid0.Coords) : k0_off1 i = ![0, 3584, 0] := by
  unfold k0_off1; rw [coord0]; rfl

/-- Row part 1 of tap 1, chunk 0: where its copy starts in the widened argument. -/
theorem off_eq2 (i : grid0.Coords) : k0_off2 i = ![1, 3584, 0] := by
  unfold k0_off2; rw [coord0]; rfl

/-- Row part 1 of tap 2, chunk 0: where its copy starts in the widened argument. -/
theorem off_eq3 (i : grid0.Coords) : k0_off3 i = ![2, 3584, 0] := by
  unfold k0_off3; rw [coord0]; rfl

/-- Row part 1 of tap 0, chunk 1: where its copy starts in the widened argument. -/
theorem off_eq4 (i : grid0.Coords) : k0_off4 i = ![0, 3584, 512] := by
  unfold k0_off4; rw [coord0]; rfl

/-- Row part 1 of tap 1, chunk 1: where its copy starts in the widened argument. -/
theorem off_eq5 (i : grid0.Coords) : k0_off5 i = ![1, 3584, 512] := by
  unfold k0_off5; rw [coord0]; rfl

/-- Row part 1 of tap 2, chunk 1: where its copy starts in the widened argument. -/
theorem off_eq6 (i : grid0.Coords) : k0_off6 i = ![2, 3584, 512] := by
  unfold k0_off6; rw [coord0]; rfl

/-- Row part 1 of tap 0, chunk 2: where its copy starts in the widened argument. -/
theorem off_eq7 (i : grid0.Coords) : k0_off7 i = ![0, 3584, 1024] := by
  unfold k0_off7; rw [coord0]; rfl

/-- Row part 1 of tap 1, chunk 2: where its copy starts in the widened argument. -/
theorem off_eq8 (i : grid0.Coords) : k0_off8 i = ![1, 3584, 1024] := by
  unfold k0_off8; rw [coord0]; rfl

/-- Row part 1 of tap 2, chunk 2: where its copy starts in the widened argument. -/
theorem off_eq9 (i : grid0.Coords) : k0_off9 i = ![2, 3584, 1024] := by
  unfold k0_off9; rw [coord0]; rfl

/-- Row part 1 of tap 0, chunk 3: where its copy starts in the widened argument. -/
theorem off_eq10 (i : grid0.Coords) : k0_off10 i = ![0, 3584, 1536] := by
  unfold k0_off10; rw [coord0]; rfl

/-- Row part 1 of tap 1, chunk 3: where its copy starts in the widened argument. -/
theorem off_eq11 (i : grid0.Coords) : k0_off11 i = ![1, 3584, 1536] := by
  unfold k0_off11; rw [coord0]; rfl

/-- Row part 1 of tap 2, chunk 3: where its copy starts in the widened argument. -/
theorem off_eq12 (i : grid0.Coords) : k0_off12 i = ![2, 3584, 1536] := by
  unfold k0_off12; rw [coord0]; rfl

set_option maxHeartbeats 0 in
/-- What the body leaves in each part of the result, as a function of what it starts from and of the four joined slabs of
    weights `t0` … `t3`, and the run of the body that leaves it. -/
def run (c : Dev nD) (i : grid0.Coords)
    (f1 : Buf (Elt F) ((Memref.whole main_v1).view.loc (c : Thread nD τ))) (f2 : Buf (Elt F) ((Memref.whole main_v4).view.loc (c : Thread nD τ))) (f3 : Buf (Elt F) ((Memref.whole main_v6).view.loc (c : Thread nD τ))) (f4 : Buf (Elt F) ((Memref.whole main_arg3).view.loc (c : Thread nD τ))) (f5 : Buf (Elt F) ((Memref.whole main_arg4).view.loc (c : Thread nD τ))) (f6 : Buf (Elt F) ((Memref.whole main_v7).view.loc (c : Thread nD τ))) (g1 : Buf (Elt F) ((Memref.whole cc0_scratch0).view.loc (c : Thread nD τ))) (g2 : Buf (Elt F) ((Memref.whole cc0_scratch1).view.loc (c : Thread nD τ))) (g3 : Buf (Elt F) ((Memref.whole cc0_scratch2).view.loc (c : Thread nD τ))) (g4 : Buf (Elt F) ((Memref.whole cc0_scratch3).view.loc (c : Thread nD τ))) (g5 : Buf (Elt F) ((Memref.whole cc0_scratch4).view.loc (c : Thread nD τ))) (g6 : Buf (Elt F) ((Memref.whole cc0_scratch5).view.loc (c : Thread nD τ))) (g7 : Buf (Elt F) ((Memref.whole cc0_scratch6).view.loc (c : Thread nD τ))) :
    { Y : (Buf (Elt F) (tB.view.loc (c : Thread nD τ)) → Buf (Elt F) (tB.view.loc (c : Thread nD τ)) → Buf (Elt F) (tB.view.loc (c : Thread nD τ)) → Buf (Elt F) (tB.view.loc (c : Thread nD τ)) → (S60x4x4x128.Idx → Elt F .bf16)) × (Buf (Elt F) (tB.view.loc (c : Thread nD τ)) → Buf (Elt F) (tB.view.loc (c : Thread nD τ)) → Buf (Elt F) (tB.view.loc (c : Thread nD τ)) → Buf (Elt F) (tB.view.loc (c : Thread nD τ)) → (S60x4x4x128.Idx → Elt F .bf16)) × (Buf (Elt F) (tB.view.loc (c : Thread nD τ)) → Buf (Elt F) (tB.view.loc (c : Thread nD τ)) → Buf (Elt F) (tB.view.loc (c : Thread nD τ)) → Buf (Elt F) (tB.view.loc (c : Thread nD τ)) → (S60x4x4x128.Idx → Elt F .bf16)) × (Buf (Elt F) (tB.view.loc (c : Thread nD τ)) → Buf (Elt F) (tB.view.loc (c : Thread nD τ)) → Buf (Elt F) (tB.view.loc (c : Thread nD τ)) → Buf (Elt F) (tB.view.loc (c : Thread nD τ)) → (S60x4x4x128.Idx → Elt F .bf16)) //
      ∀ (W : Waits sig Unit) (K : PUnit → sProp 𝕄),
        iprop(ptR c tB rT000 g2 ∗ ptR c tB rT001 g2 ∗ ptR c tB rT010 g2 ∗ ptR c tB rT011 g2 ∗ ptR c tB rT020 g2 ∗ ptR c tB rT021 g2 ∗ ptR c tB rP0 g2 ∗ ptR c tB rT100 g2 ∗ ptR c tB rT101 g2 ∗ ptR c tB rT110 g2 ∗ ptR c tB rT111 g2 ∗ ptR c tB rT120 g2 ∗ ptR c tB rT121 g2 ∗ ptR c tB rP1 g2 ∗ ptR c tB rT200 g2 ∗ ptR c tB rT201 g2 ∗ ptR c tB rT210 g2 ∗ ptR c tB rT211 g2 ∗ ptR c tB rT220 g2 ∗ ptR c tB rT221 g2 ∗ ptR c tB rP2 g2 ∗ ptR c tB rT300 g2 ∗ ptR c tB rT301 g2 ∗ ptR c tB rT310 g2 ∗ ptR c tB rT311 g2 ∗ ptR c tB rT320 g2 ∗ ptR c tB rT321 g2 ∗ ptR c tB rP3 g2 ∗ ptR c yB rY0 g4 ∗ ptR c yO rO0 f6 ∗ ptR c yB rY1 g4 ∗ ptR c yO rO1 f6 ∗ ptR c yB rY2 g4 ∗ ptR c yO rO2 f6 ∗ ptR c yB rY3 g4 ∗ ptR c yO rO3 f6 ∗ pt c (Memref.whole main_v1) f1 ∗ pt c (Memref.whole main_v4) f2 ∗ pt c (Memref.whole main_arg3) f4 ∗ pt c (Memref.whole main_arg4) f5 ∗ pt c (Memref.whole cc0_scratch0) g1 ∗ pt c (Memref.whole cc0_scratch2) g3 ∗ pt c (Memref.whole cc0_scratch4) g5 ∗ pt c (Memref.whole cc0_scratch5) g6 ∗ pt c (Memref.whole cc0_scratch6) g7 ∗ tokV6 c 0 f3 ∗ tokV6 c 1 f3 ∗ tokV6 c 2 f3 ∗ tokV6 c 3 f3 ∗ tokV6 c 4 f3 ∗ tokV6 c 5 f3 ∗ tokV6 c 6 f3 ∗ tokV6 c 7 f3 ∗ tokV6 c 8 f3 ∗ tokV6 c 9 f3 ∗ tokV6 c 10 f3 ∗ tokV6 c 11 f3 ∗ tokV6 c 12 f3 ∗ tokV6 c 13 f3 ∗ tokV6 c 14 f3 ∗ tokV6 c 15 f3 ∗ tokV6 c 16 f3 ∗ tokV6 c 17 f3 ∗ tokV6 c 18 f3 ∗ tokV6 c 19 f3 ∗ tokV6 c 20 f3 ∗ tokV6 c 21 f3 ∗ tokV6 c 22 f3 ∗ tokV6 c 23 f3 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ owes (c : Thread nD τ) 0 W
          ∗ (∀ t0 t1 t2 t3, ⌜(∀ x ∈ rS0.set, (x 1 : ℕ) < 3688 → t0 x = wAt c f3 x) ∧ (∀ x ∈ rS1.set, (x 1 : ℕ) < 3688 → t1 x = wAt c f3 x)
                ∧ (∀ x ∈ rS2.set, (x 1 : ℕ) < 3688 → t2 x = wAt c f3 x) ∧ (∀ x ∈ rS3.set, (x 1 : ℕ) < 3688 → t3 x = wAt c f3 x)⌝ -∗
              iprop(ptR c yO rO0 (yO.view.writes (Elt F) f6 [⟨Rect.unit (s := S60x16x4x128) ![0, 0, 0, 0] S60x4x4x128.size inb_S60x16x4x128_S60x4x4x128_0_0_0_0, Y.1 t0 t1 t2 t3⟩]) ∗ ptR c yO rO1 (yO.view.writes (Elt F) f6 [⟨Rect.unit (s := S60x16x4x128) ![0, 4, 0, 0] S60x4x4x128.size inb_S60x16x4x128_S60x4x4x128_0_4_0_0, Y.2.1 t0 t1 t2 t3⟩]) ∗ ptR c yO rO2 (yO.view.writes (Elt F) f6 [⟨Rect.unit (s := S60x16x4x128) ![0, 8, 0, 0] S60x4x4x128.size inb_S60x16x4x128_S60x4x4x128_0_8_0_0, Y.2.2.1 t0 t1 t2 t3⟩]) ∗ ptR c yO rO3 (yO.view.writes (Elt F) f6 [⟨Rect.unit (s := S60x16x4x128) ![0, 12, 0, 0] S60x4x4x128.size inb_S60x16x4x128_S60x4x4x128_0_12_0_0, Y.2.2.2 t0 t1 t2 t3⟩]) ∗ pt c (Memref.whole main_v1) f1 ∗ pt c (Memref.whole main_v4) f2 ∗ pt c (Memref.whole main_arg3) f4 ∗ pt c (Memref.whole main_arg4) f5 ∗ tokV6 c 0 f3 ∗ tokV6 c 1 f3 ∗ tokV6 c 2 f3 ∗ tokV6 c 3 f3 ∗ tokV6 c 4 f3 ∗ tokV6 c 5 f3 ∗ tokV6 c 6 f3 ∗ tokV6 c 7 f3 ∗ tokV6 c 8 f3 ∗ tokV6 c 9 f3 ∗ tokV6 c 10 f3 ∗ tokV6 c 11 f3 ∗ tokV6 c 12 f3 ∗ tokV6 c 13 f3 ∗ tokV6 c 14 f3 ∗ tokV6 c 15 f3 ∗ tokV6 c 16 f3 ∗ tokV6 c 17 f3 ∗ tokV6 c 18 f3 ∗ tokV6 c 19 f3 ∗ tokV6 c 20 f3 ∗ tokV6 c 21 f3 ∗ tokV6 c 22 f3 ∗ tokV6 c 23 f3 ∗ (∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ (∃ g, pt (F := F) c (Memref.whole cc0_scratch5) g) ∗ (∃ g, pt (F := F) c (Memref.whole cc0_scratch6) g) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ (∃ W', owes (c : Thread nD τ) 0 W')) -∗ K ⟨⟩))
          ⊢ wp frame (wpE (defs₀ (F := F)) Variants.none c none) Set.univ (cc0_r2plus1d i (Memref.whole main_v1) (Memref.isWhole_whole _) (Memref.whole main_v4) (Memref.isWhole_whole _) (Memref.whole main_v6) (Memref.isWhole_whole _) (Memref.whole main_arg3) (Memref.isWhole_whole _) (Memref.whole main_arg4) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) K } := by
  refine ⟨(?y0, ?y1, ?y2, ?y3), fun W K => ?run⟩
  case run =>
    sl_unfold [cc0_r2plus1d]
    iintro ⟨T000, T001, T010, T011, T020, T021, P0, T100, T101, T110, T111, T120, T121, P1, T200, T201, T210, T211, T220, T221, P2, T300, T301, T310, T311, T320, T321, P3, Y0, O0, Y1, O1, Y2, O2, Y3, O3, H1, H2, H4, H5, G1, G3, G5, G6, G7, V0, V1, V2, V3, V4, V5, V6, V7, V8, V9, V10, V11, V12, V13, V14, V15, V16, V17, V18, V19, V20, V21, V22, V23, S0, S1, S2, S3, S4, S5, S6, S7, S8, S9, S10, S11, S12, S13, S14, S15, S16, S17, S18, S19, S20, S21, S22, S23, S24, S25, S26, S27, S28, S29, S30, S31, HW, HK⟩
    sl_exec_parts
    ihave TS0 := (joinSlab0 c (wAt c f3) _ _ _ _ _ _ _ (landA c ![0, 0, 0] ![0, 0, 0] (by decide) (by decide) rfl g2 f3) (landB c ![0, 3584, 0] (k0_off1 i) (by decide) (k0_off1_inb i) (off_eq1 i) g2 f3) (landA c ![1, 0, 0] ![1, 0, 0] (by decide) (by decide) rfl g2 f3) (landB c ![1, 3584, 0] (k0_off2 i) (by decide) (k0_off2_inb i) (off_eq2 i) g2 f3) (landA c ![2, 0, 0] ![2, 0, 0] (by decide) (by decide) rfl g2 f3) (landB c ![2, 3584, 0] (k0_off3 i) (by decide) (k0_off3_inb i) (off_eq3 i) g2 f3)) $$ [T000 T001 T010 T011 T020 T021 P0]
    · isplitl [T000]; · iexact T000
      isplitl [T001]; · iexact T001
      isplitl [T010]; · iexact T010
      isplitl [T011]; · iexact T011
      isplitl [T020]; · iexact T020
      isplitl [T021]; · iexact T021
      iexact P0
    icases TS0 with ⟨%t0, %ht0, TS0⟩
    sl_exec_parts
    ihave TS1 := (joinSlab1 c (wAt c f3) _ _ _ _ _ _ _ (landA c ![0, 0, 512] ![0, 0, 512] (by decide) (by decide) rfl g2 f3) (landB c ![0, 3584, 512] (k0_off4 i) (by decide) (k0_off4_inb i) (off_eq4 i) g2 f3) (landA c ![1, 0, 512] ![1, 0, 512] (by decide) (by decide) rfl g2 f3) (landB c ![1, 3584, 512] (k0_off5 i) (by decide) (k0_off5_inb i) (off_eq5 i) g2 f3) (landA c ![2, 0, 512] ![2, 0, 512] (by decide) (by decide) rfl g2 f3) (landB c ![2, 3584, 512] (k0_off6 i) (by decide) (k0_off6_inb i) (off_eq6 i) g2 f3)) $$ [T100 T101 T110 T111 T120 T121 P1]
    · isplitl [T100]; · iexact T100
      isplitl [T101]; · iexact T101
      isplitl [T110]; · iexact T110
      isplitl [T111]; · iexact T111
      isplitl [T120]; · iexact T120
      isplitl [T121]; · iexact T121
      iexact P1
    icases TS1 with ⟨%t1, %ht1, TS1⟩
    sl_exec_parts
    ihave TS2 := (joinSlab2 c (wAt c f3) _ _ _ _ _ _ _ (landA c ![0, 0, 1024] ![0, 0, 1024] (by decide) (by decide) rfl g2 f3) (landB c ![0, 3584, 1024] (k0_off7 i) (by decide) (k0_off7_inb i) (off_eq7 i) g2 f3) (landA c ![1, 0, 1024] ![1, 0, 1024] (by decide) (by decide) rfl g2 f3) (landB c ![1, 3584, 1024] (k0_off8 i) (by decide) (k0_off8_inb i) (off_eq8 i) g2 f3) (landA c ![2, 0, 1024] ![2, 0, 1024] (by decide) (by decide) rfl g2 f3) (landB c ![2, 3584, 1024] (k0_off9 i) (by decide) (k0_off9_inb i) (off_eq9 i) g2 f3)) $$ [T200 T201 T210 T211 T220 T221 P2]
    · isplitl [T200]; · iexact T200
      isplitl [T201]; · iexact T201
      isplitl [T210]; · iexact T210
      isplitl [T211]; · iexact T211
      isplitl [T220]; · iexact T220
      isplitl [T221]; · iexact T221
      iexact P2
    icases TS2 with ⟨%t2, %ht2, TS2⟩
    sl_exec_parts
    ihave TS3 := (joinSlab3 c (wAt c f3) _ _ _ _ _ _ _ (landA c ![0, 0, 1536] ![0, 0, 1536] (by decide) (by decide) rfl g2 f3) (landB c ![0, 3584, 1536] (k0_off10 i) (by decide) (k0_off10_inb i) (off_eq10 i) g2 f3) (landA c ![1, 0, 1536] ![1, 0, 1536] (by decide) (by decide) rfl g2 f3) (landB c ![1, 3584, 1536] (k0_off11 i) (by decide) (k0_off11_inb i) (off_eq11 i) g2 f3) (landA c ![2, 0, 1536] ![2, 0, 1536] (by decide) (by decide) rfl g2 f3) (landB c ![2, 3584, 1536] (k0_off12 i) (by decide) (k0_off12_inb i) (off_eq12 i) g2 f3)) $$ [T300 T301 T310 T311 T320 T321 P3]
    · isplitl [T300]; · iexact T300
      isplitl [T301]; · iexact T301
      isplitl [T310]; · iexact T310
      isplitl [T311]; · iexact T311
      isplitl [T320]; · iexact T320
      isplitl [T321]; · iexact T321
      iexact P3
    icases TS3 with ⟨%t3, %ht3, TS3⟩
    sl_exec_parts
    sl_step
    ispecialize HK $$ %t0 %t1 %t2 %t3 %⟨ht0, ht1, ht2, ht3⟩
    iapply HK
    isplitl [O0]; · iexact O0
    isplitl [O1]; · iexact O1
    isplitl [O2]; · iexact O2
    isplitl [O3]; · iexact O3
    isplitl [H1]; · iexact H1
    isplitl [H2]; · iexact H2
    isplitl [H4]; · iexact H4
    isplitl [H5]; · iexact H5
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    isplitl [G1]; · iexists _; iexact G1
    isplitl [TS0 TS1 TS2 TS3]
    · ihave TS := (slabs_join c _ _ _ _) $$ [TS0 TS1 TS2 TS3]
      · isplitl [TS0]; · iexact TS0
        isplitl [TS1]; · iexact TS1
        isplitl [TS2]; · iexact TS2
        iexact TS3
      icases TS with ⟨%g, -, TS⟩
      iexists _; iexact TS
    isplitl [G3]; · iexists _; iexact G3
    isplitl [Y0 Y1 Y2 Y3]
    · ihave YS := (ys_join c _ _ _ _) $$ [Y0 Y1 Y2 Y3]
      · isplitl [Y0]; · iexact Y0
        isplitl [Y1]; · iexact Y1
        isplitl [Y2]; · iexact Y2
        iexact Y3
      icases YS with ⟨%g, -, YS⟩
      iexists _; iexact YS
    isplitl [G5]; · iexists _; iexact G5
    isplitl [G6]; · iexists _; iexact G6
    isplitl [G7]; · iexists _; iexact G7
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    iexists _; iexact HW
end Cert.Kernel.Hand
end
-- ==== Proof.KBody.lean ====
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp

public import proofs.«01_k».proof.Proof.KRun

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four slabs of the weight buffer hold the widened weights wherever the widened argument has rows. -/
def Landed (c : Dev nD) (f3 : Buf (Elt F) ((Memref.whole main_v6).view.loc (c : Thread nD τ))) (t0 t1 t2 t3 : Buf (Elt F) (tB.view.loc (c : Thread nD τ))) : Prop :=
  (∀ x ∈ rS0.set, (x 1 : ℕ) < 3688 → t0 x = wAt c f3 x) ∧ (∀ x ∈ rS1.set, (x 1 : ℕ) < 3688 → t1 x = wAt c f3 x)
    ∧ (∀ x ∈ rS2.set, (x 1 : ℕ) < 3688 → t2 x = wAt c f3 x) ∧ (∀ x ∈ rS3.set, (x 1 : ℕ) < 3688 → t3 x = wAt c f3 x)

/-- What the run says of the result's final contents `g`: each part is what the run stores there, from landed slabs. -/
def Result (c : Dev nD) (i : grid0.Coords) (f1 : Buf (Elt F) ((Memref.whole main_v1).view.loc (c : Thread nD τ))) (f2 : Buf (Elt F) ((Memref.whole main_v4).view.loc (c : Thread nD τ))) (f3 : Buf (Elt F) ((Memref.whole main_v6).view.loc (c : Thread nD τ))) (f4 : Buf (Elt F) ((Memref.whole main_arg3).view.loc (c : Thread nD τ))) (f5 : Buf (Elt F) ((Memref.whole main_arg4).view.loc (c : Thread nD τ))) (f6 : Buf (Elt F) ((Memref.whole main_v7).view.loc (c : Thread nD τ))) (g1 : Buf (Elt F) ((Memref.whole cc0_scratch0).view.loc (c : Thread nD τ))) (g2 : Buf (Elt F) ((Memref.whole cc0_scratch1).view.loc (c : Thread nD τ))) (g3 : Buf (Elt F) ((Memref.whole cc0_scratch2).view.loc (c : Thread nD τ))) (g4 : Buf (Elt F) ((Memref.whole cc0_scratch3).view.loc (c : Thread nD τ))) (g5 : Buf (Elt F) ((Memref.whole cc0_scratch4).view.loc (c : Thread nD τ))) (g6 : Buf (Elt F) ((Memref.whole cc0_scratch5).view.loc (c : Thread nD τ))) (g7 : Buf (Elt F) ((Memref.whole cc0_scratch6).view.loc (c : Thread nD τ)))
    (g : Buf (Elt F) ((Memref.whole main_v7).view.loc (c : Thread nD τ))) : Prop :=
  ∃ t0 t1 t2 t3, Landed c f3 t0 t1 t2 t3 ∧ (∀ x ∈ rO0.set, g x = yO.view.writes (Elt F) f6 [⟨Rect.unit (s := S60x16x4x128) ![0, 0, 0, 0] S60x4x4x128.size inb_S60x16x4x128_S60x4x4x128_0_0_0_0, (run c i f1 f2 f3 f4 f5 f6 g1 g2 g3 g4 g5 g6 g7).1.1 t0 t1 t2 t3⟩] x) ∧ (∀ x ∈ rO1.set, g x = yO.view.writes (Elt F) f6 [⟨Rect.unit (s := S60x16x4x128) ![0, 4, 0, 0] S60x4x4x128.size inb_S60x16x4x128_S60x4x4x128_0_4_0_0, (run c i f1 f2 f3 f4 f5 f6 g1 g2 g3 g4 g5 g6 g7).1.2.1 t0 t1 t2 t3⟩] x) ∧ (∀ x ∈ rO2.set, g x = yO.view.writes (Elt F) f6 [⟨Rect.unit (s := S60x16x4x128) ![0, 8, 0, 0] S60x4x4x128.size inb_S60x16x4x128_S60x4x4x128_0_8_0_0, (run c i f1 f2 f3 f4 f5 f6 g1 g2 g3 g4 g5 g6 g7).1.2.2.1 t0 t1 t2 t3⟩] x) ∧ (∀ x ∈ rO3.set, g x = yO.view.writes (Elt F) f6 [⟨Rect.unit (s := S60x16x4x128) ![0, 12, 0, 0] S60x4x4x128.size inb_S60x16x4x128_S60x4x4x128_0_12_0_0, (run c i f1 f2 f3 f4 f5 f6 g1 g2 g3 g4 g5 g6 g7).1.2.2.2 t0 t1 t2 t3⟩] x)

/-- A buffer whole is its 24 read tokens and the share left over. -/
theorem toks_eq (c : Dev nD) (f3 : Buf (Elt F) ((Memref.whole main_v6).view.loc (c : Thread nD τ))) :
    (pt c (Memref.whole main_v6) f3 : sProp 𝕄) ⊣⊢ iprop(((Memref.whole main_v6).view.loc (c : Thread nD τ) ↦{Transfers.shareDrop fullShare 24} f3) ∗ tokV6 c 0 f3 ∗ tokV6 c 1 f3 ∗ tokV6 c 2 f3 ∗ tokV6 c 3 f3 ∗ tokV6 c 4 f3 ∗ tokV6 c 5 f3 ∗ tokV6 c 6 f3 ∗ tokV6 c 7 f3 ∗ tokV6 c 8 f3 ∗ tokV6 c 9 f3 ∗ tokV6 c 10 f3 ∗ tokV6 c 11 f3 ∗ tokV6 c 12 f3 ∗ tokV6 c 13 f3 ∗ tokV6 c 14 f3 ∗ tokV6 c 15 f3 ∗ tokV6 c 16 f3 ∗ tokV6 c 17 f3 ∗ tokV6 c 18 f3 ∗ tokV6 c 19 f3 ∗ tokV6 c 20 f3 ∗ tokV6 c 21 f3 ∗ tokV6 c 22 f3 ∗ tokV6 c 23 f3) := by
  have h := Transfers.pointsTo_toks_range (ℓ := (Memref.whole main_v6).view.loc (c : Thread nD τ)) (S := Finset.univ) (f := f3) (Ix := Unit) (Name := ℕ) (U := Pipeline.UD sig nD τ) (Lvl := ℕ) fullShare 24
  rw [BI.bigSep_eq_bigSepL_of_eq (l := [0, 1, 2, 3, 4, 5, 6, 7, 8, 9, 10, 11, 12, 13, 14, 15, 16, 17, 18, 19, 20, 21, 22, 23]) (by decide) (by decide)] at h
  exact h

set_option maxHeartbeats 0 in
/-- The body on whole buffers: from the arguments, the scratch and the result at anything and every semaphore at zero, it
    runs to the arguments unchanged, the result as `Result` says, the scratch at something and the semaphores at zero. -/
theorem body_whole (c : Dev nD) (i : grid0.Coords) (f1 : Buf (Elt F) ((Memref.whole main_v1).view.loc (c : Thread nD τ))) (f2 : Buf (Elt F) ((Memref.whole main_v4).view.loc (c : Thread nD τ))) (f3 : Buf (Elt F) ((Memref.whole main_v6).view.loc (c : Thread nD τ))) (f4 : Buf (Elt F) ((Memref.whole main_arg3).view.loc (c : Thread nD τ))) (f5 : Buf (Elt F) ((Memref.whole main_arg4).view.loc (c : Thread nD τ))) (f6 : Buf (Elt F) ((Memref.whole main_v7).view.loc (c : Thread nD τ))) (g1 : Buf (Elt F) ((Memref.whole cc0_scratch0).view.loc (c : Thread nD τ))) (g2 : Buf (Elt F) ((Memref.whole cc0_scratch1).view.loc (c : Thread nD τ))) (g3 : Buf (Elt F) ((Memref.whole cc0_scratch2).view.loc (c : Thread nD τ))) (g4 : Buf (Elt F) ((Memref.whole cc0_scratch3).view.loc (c : Thread nD τ))) (g5 : Buf (Elt F) ((Memref.whole cc0_scratch4).view.loc (c : Thread nD τ))) (g6 : Buf (Elt F) ((Memref.whole cc0_scratch5).view.loc (c : Thread nD τ))) (g7 : Buf (Elt F) ((Memref.whole cc0_scratch6).view.loc (c : Thread nD τ))) (W : Waits sig Unit) (K : PUnit → sProp 𝕄) :
    iprop(pt c (Memref.whole main_v1) f1 ∗ pt c (Memref.whole main_v4) f2 ∗ pt c (Memref.whole main_v6) f3 ∗ pt c (Memref.whole main_arg3) f4 ∗ pt c (Memref.whole main_arg4) f5 ∗ pt c (Memref.whole main_v7) f6 ∗ pt c (Memref.whole cc0_scratch0) g1 ∗ pt c (Memref.whole cc0_scratch1) g2 ∗ pt c (Memref.whole cc0_scratch2) g3 ∗ pt c (Memref.whole cc0_scratch3) g4 ∗ pt c (Memref.whole cc0_scratch4) g5 ∗ pt c (Memref.whole cc0_scratch5) g6 ∗ pt c (Memref.whole cc0_scratch6) g7 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ owes (c : Thread nD τ) 0 W
      ∗ (∀ g, ⌜Result c i f1 f2 f3 f4 f5 f6 g1 g2 g3 g4 g5 g6 g7 g⌝ -∗ iprop(pt c (Memref.whole main_v1) f1 ∗ pt c (Memref.whole main_v4) f2 ∗ pt c (Memref.whole main_v6) f3 ∗ pt c (Memref.whole main_arg3) f4 ∗ pt c (Memref.whole main_arg4) f5 ∗ pt c (Memref.whole main_v7) g ∗ (∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ (∃ g, pt (F := F) c (Memref.whole cc0_scratch5) g) ∗ (∃ g, pt (F := F) c (Memref.whole cc0_scratch6) g) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ (∃ W', owes (c : Thread nD τ) 0 W')) -∗ K ⟨⟩))
    ⊢ wp frame (wpE (defs₀ (F := F)) Variants.none c none) Set.univ (cc0_r2plus1d i (Memref.whole main_v1) (Memref.isWhole_whole _) (Memref.whole main_v4) (Memref.isWhole_whole _) (Memref.whole main_v6) (Memref.isWhole_whole _) (Memref.whole main_arg3) (Memref.isWhole_whole _) (Memref.whole main_arg4) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) K := by
  rw [show pt c (Memref.whole cc0_scratch1) g2 = pt c tB g2 from rfl, slabs_eq, slab0_eq, slab1_eq, slab2_eq, slab3_eq,
    show pt c (Memref.whole cc0_scratch3) g4 = pt c yB g4 from rfl, ys_eq,
    show pt c (Memref.whole main_v7) f6 = pt c yO f6 from rfl, os_eq]
  iintro ⟨H1, H2, H3, H4, H5, ⟨O0, O1, O2, O3⟩, G1, ⟨⟨T000, T001, T010, T011, T020, T021, P0⟩, ⟨T100, T101, T110, T111, T120, T121, P1⟩, ⟨T200, T201, T210, T211, T220, T221, P2⟩, ⟨T300, T301, T310, T311, T320, T321, P3⟩⟩, G3, ⟨Y0, Y1, Y2, Y3⟩, G5, G6, G7, S0, S1, S2, S3, S4, S5, S6, S7, S8, S9, S10, S11, S12, S13, S14, S15, S16, S17, S18, S19, S20, S21, S22, S23, S24, S25, S26, S27, S28, S29, S30, S31, HW, HK⟩
  ihave H3 := (toks_eq c f3).1 $$ H3
  icases H3 with ⟨V, V0, V1, V2, V3, V4, V5, V6, V7, V8, V9, V10, V11, V12, V13, V14, V15, V16, V17, V18, V19, V20, V21, V22, V23⟩
  iapply ((run c i f1 f2 f3 f4 f5 f6 g1 g2 g3 g4 g5 g6 g7).2 W K)
  isplitl [T000]; · iexact T000
  isplitl [T001]; · iexact T001
  isplitl [T010]; · iexact T010
  isplitl [T011]; · iexact T011
  isplitl [T020]; · iexact T020
  isplitl [T021]; · iexact T021
  isplitl [P0]; · iexact P0
  isplitl [T100]; · iexact T100
  isplitl [T101]; · iexact T101
  isplitl [T110]; · iexact T110
  isplitl [T111]; · iexact T111
  isplitl [T120]; · iexact T120
  isplitl [T121]; · iexact T121
  isplitl [P1]; · iexact P1
  isplitl [T200]; · iexact T200
  isplitl [T201]; · iexact T201
  isplitl [T210]; · iexact T210
  isplitl [T211]; · iexact T211
  isplitl [T220]; · iexact T220
  isplitl [T221]; · iexact T221
  isplitl [P2]; · iexact P2
  isplitl [T300]; · iexact T300
  isplitl [T301]; · iexact T301
  isplitl [T310]; · iexact T310
  isplitl [T311]; · iexact T311
  isplitl [T320]; · iexact T320
  isplitl [T321]; · iexact T321
  isplitl [P3]; · iexact P3
  isplitl [Y0]; · iexact Y0
  isplitl [O0]; · iexact O0
  isplitl [Y1]; · iexact Y1
  isplitl [O1]; · iexact O1
  isplitl [Y2]; · iexact Y2
  isplitl [O2]; · iexact O2
  isplitl [Y3]; · iexact Y3
  isplitl [O3]; · iexact O3
  isplitl [H1]; · iexact H1
  isplitl [H2]; · iexact H2
  isplitl [H4]; · iexact H4
  isplitl [H5]; · iexact H5
  isplitl [G1]; · iexact G1
  isplitl [G3]; · iexact G3
  isplitl [G5]; · iexact G5
  isplitl [G6]; · iexact G6
  isplitl [G7]; · iexact G7
  isplitl [V0]; · iexact V0
  isplitl [V1]; · iexact V1
  isplitl [V2]; · iexact V2
  isplitl [V3]; · iexact V3
  isplitl [V4]; · iexact V4
  isplitl [V5]; · iexact V5
  isplitl [V6]; · iexact V6
  isplitl [V7]; · iexact V7
  isplitl [V8]; · iexact V8
  isplitl [V9]; · iexact V9
  isplitl [V10]; · iexact V10
  isplitl [V11]; · iexact V11
  isplitl [V12]; · iexact V12
  isplitl [V13]; · iexact V13
  isplitl [V14]; · iexact V14
  isplitl [V15]; · iexact V15
  isplitl [V16]; · iexact V16
  isplitl [V17]; · iexact V17
  isplitl [V18]; · iexact V18
  isplitl [V19]; · iexact V19
  isplitl [V20]; · iexact V20
  isplitl [V21]; · iexact V21
  isplitl [V22]; · iexact V22
  isplitl [V23]; · iexact V23
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [HW]; · iexact HW
  iintro %t0 %t1 %t2 %t3 %ht ⟨O0, O1, O2, O3, H1, H2, H4, H5, V0, V1, V2, V3, V4, V5, V6, V7, V8, V9, V10, V11, V12, V13, V14, V15, V16, V17, V18, V19, V20, V21, V22, V23, G1, G2, G3, G4, G5, G6, G7, S0, S1, S2, S3, S4, S5, S6, S7, S8, S9, S10, S11, S12, S13, S14, S15, S16, S17, S18, S19, S20, S21, S22, S23, S24, S25, S26, S27, S28, S29, S30, S31, HW⟩
  ihave O := (os_join c _ _ _ _) $$ [O0 O1 O2 O3]
  · isplitl [O0]; · iexact O0
    isplitl [O1]; · iexact O1
    isplitl [O2]; · iexact O2
    iexact O3
  icases O with ⟨%g, %hg, O⟩
  ispecialize HK $$ %g %⟨t0, t1, t2, t3, ht, hg⟩
  iapply HK
  isplitl [H1]; · iexact H1
  isplitl [H2]; · iexact H2
  isplitl [V V0 V1 V2 V3 V4 V5 V6 V7 V8 V9 V10 V11 V12 V13 V14 V15 V16 V17 V18 V19 V20 V21 V22 V23]
  · iapply (toks_eq c f3).2
    isplitl [V]; · iexact V
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    iexact V23
  isplitl [H4]; · iexact H4
  isplitl [H5]; · iexact H5
  isplitl [O]; · iexact O
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  iexact HW

end Cert.Kernel.Hand
end
-- ==== Proof.KFrame.lean ====
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp

public import proofs.«01_k».proof.Proof.KBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program around its region: the host lines before it, the region, the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The body's own semaphores: all 32. -/
abbrev osem0 : Fin 32 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31] : Fin 32 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)]; rfl

/-- The buffers the body reads by its own transfers. -/
def H0 : Finset (Ref sig .tc) := {main_v1, main_v4, main_v6, main_arg3, main_arg4}
/-- The buffer it writes by its own transfers: the result. -/
def R0 : Finset (Ref sig .tc) := {main_v7}
/-- The buffers the host lines after the region write. -/
def T0 : Finset (Ref sig .tc) := {main_v8, main_v9, main_v10}
theorem H0_sub : H0 ⊆ Pipeline.restRefs sig (cfg0.spec) := by decide
theorem R0_sub : R0 ⊆ Pipeline.restRefs sig (cfg0.spec) \ H0 := by decide

theorem hbmPts0_eq (c : Dev nD) :
    (bigSep H0 (fun b => ((c : Thread nD τ).loc b) ↦{fullShare} V m c b) : sProp 𝕄) = iprop(pt c (Memref.whole main_v1) (V m c main_v1) ∗ pt c (Memref.whole main_v4) (V m c main_v4) ∗ pt c (Memref.whole main_v6) (V m c main_v6) ∗ pt c (Memref.whole main_arg3) (V m c main_arg3) ∗ pt c (Memref.whole main_arg4) (V m c main_arg4)) := by
  rw [BI.bigSep_eq_bigSepL_of_eq [main_v1, main_v4, main_v6, main_arg3, main_arg4] (by decide) (by decide)]; rfl

theorem ownedPts0_eq (c : Dev nD) : (Pipeline.owned R0 c : sProp 𝕄) = iprop(∃ f, pt c (Memref.whole main_v7) f) := by
  unfold Pipeline.owned; rw [BI.bigSep_eq_bigSepL_of_eq [main_v7] (by decide) (by decide)]; rfl

theorem scoped_eq (c : Dev nD) :
    (Pipeline.scopedRest (Ix := Unit) (Name := ℕ) (U := Pipeline.UD sig nD τ) (Lvl := ℕ) (Val := Elt F) (cfg0.spec) c : sProp 𝕄) = iprop((∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ (∃ g, pt (F := F) c (Memref.whole cc0_scratch5) g) ∗ (∃ g, pt (F := F) c (Memref.whole cc0_scratch6) g)) :=
  scopedRest0_eq c

theorem PhiDR0_eq (c : Dev nD) :
    (Pipeline.ΦDR osem0 (cfg0.spec) H0 R0 (V m) c : sProp 𝕄)
      = iprop(iprop((∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ (∃ g, pt (F := F) c (Memref.whole cc0_scratch5) g) ∗ (∃ g, pt (F := F) c (Memref.whole cc0_scratch6) g)) ∗ (∃ r, prngReg c r) ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) ∗ iprop(pt c (Memref.whole main_v1) (V m c main_v1) ∗ pt c (Memref.whole main_v4) (V m c main_v4) ∗ pt c (Memref.whole main_v6) (V m c main_v6) ∗ pt c (Memref.whole main_arg3) (V m c main_arg3) ∗ pt c (Memref.whole main_arg4) (V m c main_arg4)) ∗ iprop(∃ f, pt c (Memref.whole main_v7) f)) := by
  rw [Pipeline.ΦDR_eq, scoped_eq, ownSems00_eq, hbmPts0_eq, ownedPts0_eq]

/-- The proof data of the one pipeline: no windows, the own-transfer invariant with the result owned, nothing owed. -/
def dats (_ : Fin 1) (c : Dev nD) : Dat τ (Elt F) Unit ℕ (Pipeline.UD sig nD τ) ℕ cfg0 c where
  A w := w.elim0
  after w _ := w.elim0
  Φ _ := Pipeline.ΦDR osem0 (cfg0.spec) H0 R0 (V m) c
  q _ := fullShare
  owed _ := 0

set_option maxHeartbeats 0 in
theorem sound_body (c : Dev nD) (t : Fin cfg0.N) :
    iprop((dats m 0 c).Φ t.castSucc ∗ (dats m 0 c).owesAt () t.castSucc) ⊢ wp frame (wpE (defs₀ (F := F)) Variants.none c none) Set.univ (bodyAt0 t)
      (fun _ => iprop((dats m 0 c).Φ t.succ ∗ (dats m 0 c).owesAt () t.succ)) := by
  unfold bodyAt0
  rw [show (dats m 0 c).Φ t.succ = (dats m 0 c).Φ t.castSucc from rfl]
  rw [show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%g1, G1⟩, ⟨%g2, G2⟩, ⟨%g3, G3⟩, ⟨%g4, G4⟩, ⟨%g5, G5⟩, ⟨%g6, G6⟩, ⟨%g7, G7⟩⟩, Hg, ⟨S0, S1, S2, S3, S4, S5, S6, S7, S8, S9, S10, S11, S12, S13, S14, S15, S16, S17, S18, S19, S20, S21, S22, S23, S24, S25, S26, S27, S28, S29, S30, S31⟩, ⟨H1, H2, H3, H4, H5⟩, ⟨%f6, O⟩⟩, ⟨%W, -, HW⟩⟩
  iapply (body_whole c _ (V m c main_v1) (V m c main_v4) (V m c main_v6) (V m c main_arg3) (V m c main_arg4) f6 g1 g2 g3 g4 g5 g6 g7 W _)
  isplitl [H1]; · iexact H1
  isplitl [H2]; · iexact H2
  isplitl [H3]; · iexact H3
  isplitl [H4]; · iexact H4
  isplitl [H5]; · iexact H5
  isplitl [O]; · iexact O
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [HW]; · iexact HW
  iintro %g %hg ⟨H1, H2, H3, H4, H5, O, G1, G2, G3, G4, G5, G6, G7, S0, S1, S2, S3, S4, S5, S6, S7, S8, S9, S10, S11, S12, S13, S14, S15, S16, S17, S18, S19, S20, S21, S22, S23, S24, S25, S26, S27, S28, S29, S30, S31, ⟨%W', HW⟩⟩
  isplitr [HW]
  · isplitl [G1 G2 G3 G4 G5 G6 G7]
    · isplitl [G1]; iexact G1; isplitl [G2]; iexact G2; isplitl [G3]; iexact G3; isplitl [G4]; iexact G4; isplitl [G5]; iexact G5; isplitl [G6]; iexact G6; iexact G7
    isplitl [Hg]; · iexact Hg
    isplitl [S0 S1 S2 S3 S4 S5 S6 S7 S8 S9 S10 S11 S12 S13 S14 S15 S16 S17 S18 S19 S20 S21 S22 S23 S24 S25 S26 S27 S28 S29 S30 S31]
    · isplitl [S0]; iexact S0; isplitl [S1]; iexact S1; isplitl [S2]; iexact S2; isplitl [S3]; iexact S3; isplitl [S4]; iexact S4; isplitl [S5]; iexact S5; isplitl [S6]; iexact S6; isplitl [S7]; iexact S7; isplitl [S8]; iexact S8; isplitl [S9]; iexact S9; isplitl [S10]; iexact S10; isplitl [S11]; iexact S11; isplitl [S12]; iexact S12; isplitl [S13]; iexact S13; isplitl [S14]; iexact S14; isplitl [S15]; iexact S15; isplitl [S16]; iexact S16; isplitl [S17]; iexact S17; isplitl [S18]; iexact S18; isplitl [S19]; iexact S19; isplitl [S20]; iexact S20; isplitl [S21]; iexact S21; isplitl [S22]; iexact S22; isplitl [S23]; iexact S23; isplitl [S24]; iexact S24; isplitl [S25]; iexact S25; isplitl [S26]; iexact S26; isplitl [S27]; iexact S27; isplitl [S28]; iexact S28; isplitl [S29]; iexact S29; isplitl [S30]; iexact S30; iexact S31
    isplitl [H1 H2 H3 H4 H5]
    · isplitl [H1]; iexact H1; isplitl [H2]; iexact H2; isplitl [H3]; iexact H3; isplitl [H4]; iexact H4; iexact H5
    iexists g; iexact O
  iexists W'; isplitr
  · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [show (Finset.univ : Finset (Fin cfg0.W)) = ∅ from rfl, BI.bigSep_empty, BI.bigSep_empty, defs₀_row]
  refine triple_restated (sound_body m c t) rfl ?_ fun _ => ?_
  · iintro ⟨H, HO, -⟩
    isplitl [H]; · iexact H
    iexact HO
  · iintro ⟨H, HO⟩
    isplitl [H]; · iexact H
    isplitl [HO]; · iexact HO
    iempintro

theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl | rfl <;>
    (simp only [StableHlo.unary_writes, StableHlo.reshape_writes, Finset.mem_singleton] at hb
     have hb' := Proc.devRef_injective _ hb
     subst hb'
     decide)

set_option backward.isDefEq.respectTransparency.types false in
theorem run_main : θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmain m Variants.none) (hA := fun _ w => w.elim0)
    (hin := fun _ => .rfl) (hout := fun _ => .rfl)

/-- Every argument ends as it began and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c)⟩, h.2⟩) (run_main m ρ)

end Cert.Kernel.Hand
end
-- ==== Proof.IBase.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The whole of a buffer at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A rectangle of a buffer at contents `f`. -/
abbrev ptR (c : Dev nD) {sp : Space} {S : Shape} {e : EltTy} (M : Memref sig .tc sp S e) (R : Rect S) (f : Buf (Elt F) (M.view.loc (c : Thread nD τ))) : sProp 𝕄 :=
  M.view.loc (c : Thread nD τ) ↦[M.view.setOn R.set]{fullShare} f

/-- Read token `j` of the widened weights. -/
abbrev tokV6 (c : Dev nD) (j : ℕ) (f : Buf (Elt F) ((Memref.whole main_v6).view.loc (c : Thread nD τ))) : sProp 𝕄 :=
  (Memref.whole main_v6).view.loc (c : Thread nD τ) ↦{Transfers.shareTokN fullShare j} f

abbrev tB : Memref sig .tc .vmem S3x3712x2048 .fp8e4m3 := Memref.whole cc0_scratch1
abbrev yB : Memref sig .tc .vmem S4x64x4x4x128 .bf16 := Memref.whole cc0_scratch3
abbrev yO : Memref sig .tc .hbm S60x16x4x128 .bf16 := Memref.whole main_v7

abbrev rT000 : Rect S3x3712x2048 := Rect.unit (s := S3x3712x2048) ![0, 0, 0] ![1, 3584, 512] (by decide)
abbrev rT001 : Rect S3x3712x2048 := Rect.unit (s := S3x3712x2048) ![0, 3584, 0] ![1, 104, 512] (by decide)
abbrev rT010 : Rect S3x3712x2048 := Rect.unit (s := S3x3712x2048) ![1, 0, 0] ![1, 3584, 512] (by decide)
abbrev rT011 : Rect S3x3712x2048 := Rect.unit (s := S3x3712x2048) ![1, 3584, 0] ![1, 104, 512] (by decide)
abbrev rT020 : Rect S3x3712x2048 := Rect.unit (s := S3x3712x2048) ![2, 0, 0] ![1, 3584, 512] (by decide)
abbrev rT021 : Rect S3x3712x2048 := Rect.unit (s := S3x3712x2048) ![2, 3584, 0] ![1, 104, 512] (by decide)
abbrev rP0 : Rect S3x3712x2048 := Rect.unit (s := S3x3712x2048) ![0, 3688, 0] ![3, 24, 512] (by decide)
abbrev rS0 : Rect S3x3712x2048 := Rect.unit (s := S3x3712x2048) ![0, 0, 0] ![3, 3712, 512] (by decide)
abbrev rT100 : Rect S3x3712x2048 := Rect.unit (s := S3x3712x2048) ![0, 0, 512] ![1, 3584, 512] (by decide)
abbrev rT101 : Rect S3x3712x2048 := Rect.unit (s := S3x3712x2048) ![0, 3584, 512] ![1, 104, 512] (by decide)
abbrev rT110 : Rect S3x3712x2048 := Rect.unit (s := S3x3712x2048) ![1, 0, 512] ![1, 3584, 512] (by decide)
abbrev rT111 : Rect S3x3712x2048 := Rect.unit (s := S3x3712x2048) ![1, 3584, 512] ![1, 104, 512] (by decide)
abbrev rT120 : Rect S3x3712x2048 := Rect.unit (s := S3x3712x2048) ![2, 0, 512] ![1, 3584, 512] (by decide)
abbrev rT121 : Rect S3x3712x2048 := Rect.unit (s := S3x3712x2048) ![2, 3584, 512] ![1, 104, 512] (by decide)
abbrev rP1 : Rect S3x3712x2048 := Rect.unit (s := S3x3712x2048) ![0, 3688, 512] ![3, 24, 512] (by decide)
abbrev rS1 : Rect S3x3712x2048 := Rect.unit (s := S3x3712x2048) ![0, 0, 512] ![3, 3712, 512] (by decide)
abbrev rT200 : Rect S3x3712x2048 := Rect.unit (s := S3x3712x2048) ![0, 0, 1024] ![1, 3584, 512] (by decide)
abbrev rT201 : Rect S3x3712x2048 := Rect.unit (s := S3x3712x2048) ![0, 3584, 1024] ![1, 104, 512] (by decide)
abbrev rT210 : Rect S3x3712x2048 := Rect.unit (s := S3x3712x2048) ![1, 0, 1024] ![1, 3584, 512] (by decide)
abbrev rT211 : Rect S3x3712x2048 := Rect.unit (s := S3x3712x2048) ![1, 3584, 1024] ![1, 104, 512] (by decide)
abbrev rT220 : Rect S3x3712x2048 := Rect.unit (s := S3x3712x2048) ![2, 0, 1024] ![1, 3584, 512] (by decide)
abbrev rT221 : Rect S3x3712x2048 := Rect.unit (s := S3x3712x2048) ![2, 3584, 1024] ![1, 104, 512] (by decide)
abbrev rP2 : Rect S3x3712x2048 := Rect.unit (s := S3x3712x2048) ![0, 3688, 1024] ![3, 24, 512] (by decide)
abbrev rS2 : Rect S3x3712x2048 := Rect.unit (s := S3x3712x2048) ![0, 0, 1024] ![3, 3712, 512] (by decide)
abbrev rT300 : Rect S3x3712x2048 := Rect.unit (s := S3x3712x2048) ![0, 0, 1536] ![1, 3584, 512] (by decide)
abbrev rT301 : Rect S3x3712x2048 := Rect.unit (s := S3x3712x2048) ![0, 3584, 1536] ![1, 104, 512] (by decide)
abbrev rT310 : Rect S3x3712x2048 := Rect.unit (s := S3x3712x2048) ![1, 0, 1536] ![1, 3584, 512] (by decide)
abbrev rT311 : Rect S3x3712x2048 := Rect.unit (s := S3x3712x2048) ![1, 3584, 1536] ![1, 104, 512] (by decide)
abbrev rT320 : Rect S3x3712x2048 := Rect.unit (s := S3x3712x2048) ![2, 0, 1536] ![1, 3584, 512] (by decide)
abbrev rT321 : Rect S3x3712x2048 := Rect.unit (s := S3x3712x2048) ![2, 3584, 1536] ![1, 104, 512] (by decide)
abbrev rP3 : Rect S3x3712x2048 := Rect.unit (s := S3x3712x2048) ![0, 3688, 1536] ![3, 24, 512] (by decide)
abbrev rS3 : Rect S3x3712x2048 := Rect.unit (s := S3x3712x2048) ![0, 0, 1536] ![3, 3712, 512] (by decide)
abbrev rY0 : Rect S4x64x4x4x128 := Rect.unit (s := S4x64x4x4x128) ![0, 0, 0, 0, 0] ![1, 64, 4, 4, 128] (by decide)
abbrev rO0 : Rect S60x16x4x128 := Rect.unit (s := S60x16x4x128) ![0, 0, 0, 0] ![60, 4, 4, 128] (by decide)
abbrev rY1 : Rect S4x64x4x4x128 := Rect.unit (s := S4x64x4x4x128) ![1, 0, 0, 0, 0] ![1, 64, 4, 4, 128] (by decide)
abbrev rO1 : Rect S60x16x4x128 := Rect.unit (s := S60x16x4x128) ![0, 4, 0, 0] ![60, 4, 4, 128] (by decide)
abbrev rY2 : Rect S4x64x4x4x128 := Rect.unit (s := S4x64x4x4x128) ![2, 0, 0, 0, 0] ![1, 64, 4, 4, 128] (by decide)
abbrev rO2 : Rect S60x16x4x128 := Rect.unit (s := S60x16x4x128) ![0, 8, 0, 0] ![60, 4, 4, 128] (by decide)
abbrev rY3 : Rect S4x64x4x4x128 := Rect.unit (s := S4x64x4x4x128) ![3, 0, 0, 0, 0] ![1, 64, 4, 4, 128] (by decide)
abbrev rO3 : Rect S60x16x4x128 := Rect.unit (s := S60x16x4x128) ![0, 12, 0, 0] ![60, 4, 4, 128] (by decide)

/-! ## Cutting a buffer into rectangles and joining them again -/

section Cut

variable {c : Dev nD} {sp : Space} {S : Shape} {e : EltTy} {T : Type} [Fintype T] [DecidableEq T]

/-- A family of element sets in which each element's place is one member of the family cuts the set `A` into disjoint parts. -/
theorem cut_eq {ℓ : Loc nD τ sig} (A : Finset (Idx ℓ)) (K : T → Finset (Idx ℓ)) (place : Idx ℓ → T) (h : ∀ t x, x ∈ K t ↔ x ∈ A ∧ place x = t)
    (f : Buf (Elt F) ℓ) : (ℓ ↦[A]{fullShare} f : sProp 𝕄) = BI.bigSep (Finset.univ : Finset T) (fun t => ℓ ↦[K t]{fullShare} f) := by
  rw [← pointsTo_biUnion Finset.univ K (fun t _ t' _ htt => Finset.disjoint_left.2 fun x hx hx' => htt (((h t x).1 hx).2.symm.trans ((h t' x).1 hx').2))]
  congr 1
  ext x
  rw [Finset.mem_biUnion]
  exact ⟨fun hx => ⟨place x, Finset.mem_univ _, (h _ x).2 ⟨hx, rfl⟩⟩, fun ⟨t, _, ht⟩ => ((h t x).1 ht).1⟩

/-- The parts of such a cut, each at its own contents, joined: some contents agree with each part's on that part. -/
theorem cut_join {ℓ : Loc nD τ sig} (A : Finset (Idx ℓ)) (K : T → Finset (Idx ℓ)) (place : Idx ℓ → T) (h : ∀ t x, x ∈ K t ↔ x ∈ A ∧ place x = t)
    (f : T → Buf (Elt F) ℓ) (f₀ : Buf (Elt F) ℓ) :
    BI.bigSep (Finset.univ : Finset T) (fun t => ℓ ↦[K t]{fullShare} f t)
      ⊢ (iprop(∃ g, ⌜∀ t, ∀ x ∈ K t, g x = f t x⌝ ∗ ℓ ↦[A]{fullShare} g) : sProp 𝕄) := by
  refine (pointsTo_biUnion_join Finset.univ K f f₀ (fun t _ t' _ htt => Finset.disjoint_left.2 fun x hx hx' => htt (((h t x).1 hx).2.symm.trans ((h t' x).1 hx').2))).trans ?_
  have e : Finset.univ.biUnion K = A := by
    ext x
    rw [Finset.mem_biUnion]
    exact ⟨fun ⟨t, _, ht⟩ => ((h t x).1 ht).1, fun hx => ⟨place x, Finset.mem_univ _, (h _ x).2 ⟨hx, rfl⟩⟩⟩
  rw [e]
  iintro ⟨%g, %hg, HG⟩
  iexists g
  isplitr [HG]
  · ipureintro; exact fun t x hx => hg t (Finset.mem_univ t) x hx
  · iexact HG

end Cut

theorem mem_tB (R : Rect S3x3712x2048) (x : S3x3712x2048.Idx) : x ∈ tB.view.setOn R.set ↔ x ∈ R.set := View.mem_setOn (v := tB.view) (x := x)
theorem mem_yB (R : Rect S4x64x4x4x128) (x : S4x64x4x4x128.Idx) : x ∈ yB.view.setOn R.set ↔ x ∈ R.set := View.mem_setOn (v := yB.view) (x := x)
theorem mem_yO (R : Rect S60x16x4x128) (x : S60x16x4x128.Idx) : x ∈ yO.view.setOn R.set ↔ x ∈ R.set := View.mem_setOn (v := yO.view) (x := x)

/-! ### The weight buffer: four slabs of 512 columns, each of seven pieces -/

/-- Where piece `t` of a slab starts. -/
def pieceOff (o : ℕ) : Fin 7 → Fin 3 → ℕ
  | 0 => ![0, 0, o] | 1 => ![0, 3584, o] | 2 => ![1, 0, o] | 3 => ![1, 3584, o] | 4 => ![2, 0, o] | 5 => ![2, 3584, o] | 6 => ![0, 3688, o]

/-- How many elements piece `t` of a slab has along each axis. -/
def pieceSize : Fin 7 → Fin 3 → ℕ
  | 0 => ![1, 3584, 512] | 1 => ![1, 104, 512] | 2 => ![1, 3584, 512] | 3 => ![1, 104, 512] | 4 => ![1, 3584, 512] | 5 => ![1, 104, 512] | 6 => ![3, 24, 512]

/-- The piece of its slab an element lies in. -/
def pieceAt (x : S3x3712x2048.Idx) : Fin 7 :=
  if 3688 ≤ (x 1 : ℕ) then 6 else if 3584 ≤ (x 1 : ℕ) then (if (x 0 : ℕ) = 0 then 1 else if (x 0 : ℕ) = 1 then 3 else 5)
    else (if (x 0 : ℕ) = 0 then 0 else if (x 0 : ℕ) = 1 then 2 else 4)

theorem forall3 {p : Fin 3 → Prop} : (∀ a, p a) ↔ p 0 ∧ p 1 ∧ p 2 := Fin.forall_fin_succ.trans (and_congr Iff.rfl Fin.forall_fin_two)

theorem mem_rect3 (o n : Fin 3 → ℕ) (hb : ∀ a, o a + n a ≤ S3x3712x2048.size a) (x : S3x3712x2048.Idx) :
    x ∈ (Rect.unit (s := S3x3712x2048) o n hb).set ↔
      (o 0 ≤ x 0 ∧ (x 0 : ℕ) < o 0 + n 0) ∧ (o 1 ≤ x 1 ∧ (x 1 : ℕ) < o 1 + n 1) ∧ (o 2 ≤ x 2 ∧ (x 2 : ℕ) < o 2 + n 2) := by
  rw [Rect.mem_set_unit]; exact forall3

theorem mem_slab (o : ℕ) (hb' : ∀ a, ![0, 0, o] a + ![3, 3712, 512] a ≤ S3x3712x2048.size a) (x : S3x3712x2048.Idx) :
    x ∈ (Rect.unit (s := S3x3712x2048) ![0, 0, o] ![3, 3712, 512] hb').set ↔ o ≤ (x 2 : ℕ) ∧ (x 2 : ℕ) < o + 512 := by
  rw [mem_rect3]
  have h0 : (x 0 : ℕ) < 3 := (x 0).isLt
  have h1 : (x 1 : ℕ) < 3712 := (x 1).isLt
  show (0 ≤ (x 0 : ℕ) ∧ (x 0 : ℕ) < 0 + 3) ∧ (0 ≤ (x 1 : ℕ) ∧ (x 1 : ℕ) < 0 + 3712) ∧ (o ≤ (x 2 : ℕ) ∧ (x 2 : ℕ) < o + 512) ↔ _
  omega

theorem mem_piece (o : ℕ) (hb : ∀ t a, pieceOff o t a + pieceSize t a ≤ S3x3712x2048.size a) (t : Fin 7) (x : S3x3712x2048.Idx) :
    x ∈ (Rect.unit (s := S3x3712x2048) (pieceOff o t) (pieceSize t) (hb t)).set ↔ (o ≤ (x 2 : ℕ) ∧ (x 2 : ℕ) < o + 512) ∧ pieceAt x = t := by
  rw [mem_rect3]
  have h0 : (x 0 : ℕ) < 3 := (x 0).isLt
  have h1 : (x 1 : ℕ) < 3712 := (x 1).isLt
  generalize hx0 : (x 0 : ℕ) = a0 at h0 ⊢
  generalize hx1 : (x 1 : ℕ) = a1 at h1 ⊢
  generalize hx2 : (x 2 : ℕ) = a2
  have hp : pieceAt x = if 3688 ≤ a1 then 6 else if 3584 ≤ a1 then (if a0 = 0 then 1 else if a0 = 1 then 3 else 5)
      else (if a0 = 0 then 0 else if a0 = 1 then 2 else 4) := by unfold pieceAt; rw [hx0, hx1]
  rw [hp]
  clear hp
  have key : ∀ (b0 b1 n0 n1 : ℕ) (t : Fin 7), (pieceOff o t 0 = b0 ∧ pieceOff o t 1 = b1 ∧ pieceOff o t 2 = o ∧ pieceSize t 0 = n0 ∧ pieceSize t 1 = n1 ∧ pieceSize t 2 = 512) →
      ((b0 ≤ a0 ∧ a0 < b0 + n0) ∧ (b1 ≤ a1 ∧ a1 < b1 + n1) ↔ (if 3688 ≤ a1 then (6 : Fin 7) else if 3584 ≤ a1 then (if a0 = 0 then 1 else if a0 = 1 then 3 else 5)
      else (if a0 = 0 then 0 else if a0 = 1 then 2 else 4)) = t) →
      ((pieceOff o t 0 ≤ a0 ∧ a0 < pieceOff o t 0 + pieceSize t 0) ∧ (pieceOff o t 1 ≤ a1 ∧ a1 < pieceOff o t 1 + pieceSize t 1) ∧ (pieceOff o t 2 ≤ a2 ∧ a2 < pieceOff o t 2 + pieceSize t 2)
        ↔ (o ≤ a2 ∧ a2 < o + 512) ∧ (if 3688 ≤ a1 then (6 : Fin 7) else if 3584 ≤ a1 then (if a0 = 0 then 1 else if a0 = 1 then 3 else 5)
      else (if a0 = 0 then 0 else if a0 = 1 then 2 else 4)) = t) := by
    rintro b0 b1 n0 n1 t ⟨e1, e2, e3, e4, e5, e6⟩ h
    rw [e1, e2, e3, e4, e5, e6, ← h]
    tauto
  match t with
  | 0 => refine key 0 0 1 3584 0 ⟨rfl, rfl, rfl, rfl, rfl, rfl⟩ ?_; split_ifs <;> simp <;> omega
  | 1 => refine key 0 3584 1 104 1 ⟨rfl, rfl, rfl, rfl, rfl, rfl⟩ ?_; split_ifs <;> simp <;> omega
  | 2 => refine key 1 0 1 3584 2 ⟨rfl, rfl, rfl, rfl, rfl, rfl⟩ ?_; split_ifs <;> simp <;> omega
  | 3 => refine key 1 3584 1 104 3 ⟨rfl, rfl, rfl, rfl, rfl, rfl⟩ ?_; split_ifs <;> simp <;> omega
  | 4 => refine key 2 0 1 3584 4 ⟨rfl, rfl, rfl, rfl, rfl, rfl⟩ ?_; split_ifs <;> simp <;> omega
  | 5 => refine key 2 3584 1 104 5 ⟨rfl, rfl, rfl, rfl, rfl, rfl⟩ ?_; split_ifs <;> simp <;> omega
  | 6 => refine key 0 3688 3 24 6 ⟨rfl, rfl, rfl, rfl, rfl, rfl⟩ ?_; split_ifs <;> simp <;> omega

/-- The pieces of a slab, as `cut_eq` and `cut_join` take them. -/
theorem slab_cut (o : ℕ) (hb : ∀ t a, pieceOff o t a + pieceSize t a ≤ S3x3712x2048.size a) (hb' : ∀ a, ![0, 0, o] a + ![3, 3712, 512] a ≤ S3x3712x2048.size a)
    (t : Fin 7) (x : S3x3712x2048.Idx) :
    x ∈ tB.view.setOn (Rect.unit (s := S3x3712x2048) (pieceOff o t) (pieceSize t) (hb t)).set
      ↔ x ∈ tB.view.setOn (Rect.unit (s := S3x3712x2048) ![0, 0, o] ![3, 3712, 512] hb').set ∧ pieceAt x = t := by
  rw [mem_tB, mem_tB, mem_piece, mem_slab]

/-- The six landed pieces and the padding rows of a 512-column slab make the slab. -/
theorem joinSlab (c : Dev nD) (o : ℕ) (hb : ∀ t a, pieceOff o t a + pieceSize t a ≤ S3x3712x2048.size a) (hb' : ∀ a, ![0, 0, o] a + ![3, 3712, 512] a ≤ S3x3712x2048.size a)
    (W : Buf (Elt F) (tB.view.loc (c : Thread nD τ))) (f : Fin 7 → Buf (Elt F) (tB.view.loc (c : Thread nD τ)))
    (hf : ∀ t, t ≠ 6 → ∀ x ∈ (Rect.unit (s := S3x3712x2048) (pieceOff o t) (pieceSize t) (hb t)).set, f t x = W x) :
    BI.bigSep (Finset.univ : Finset (Fin 7)) (fun t => ptR c tB (Rect.unit (s := S3x3712x2048) (pieceOff o t) (pieceSize t) (hb t)) (f t))
      ⊢ iprop(∃ g, ⌜∀ x ∈ (Rect.unit (s := S3x3712x2048) ![0, 0, o] ![3, 3712, 512] hb').set, (x 1 : ℕ) < 3688 → g x = W x⌝
          ∗ ptR c tB (Rect.unit (s := S3x3712x2048) ![0, 0, o] ![3, 3712, 512] hb') g) := by
  refine (cut_join (ℓ := tB.view.loc (c : Thread nD τ)) _ _ pieceAt (slab_cut o hb hb') f (f 0)).trans ?_
  iintro ⟨%g, %hg, HG⟩
  iexists g
  isplitr [HG]
  · ipureintro
    intro x hx hlt
    have hx' := (slab_cut o hb hb' (pieceAt x) x).2 ⟨(mem_tB _ x).2 hx, rfl⟩
    rw [hg (pieceAt x) x hx']
    refine hf (pieceAt x) ?_ x ((mem_tB _ x).1 hx')
    unfold pieceAt
    rw [if_neg (by omega)]
    split_ifs <;> decide
  · iexact HG

/-- The slab's four, as `cut_eq` and `cut_join` take them. -/
theorem slabs_cut (t : Fin 4) (x : S3x3712x2048.Idx) :
    x ∈ tB.view.setOn ((![rS0, rS1, rS2, rS3] : Fin 4 → Rect S3x3712x2048) t).set ↔ x ∈ (Finset.univ : Finset S3x3712x2048.Idx) ∧ (⟨(x 2 : ℕ) / 512, by have : (x 2 : ℕ) < 2048 := (x 2).isLt; omega⟩ : Fin 4) = t := by
  rw [mem_tB, Fin.ext_iff]
  have h2 : (x 2 : ℕ) < 2048 := (x 2).isLt
  simp only [Finset.mem_univ, true_and]
  match t with
  | 0 => rw [show (![rS0, rS1, rS2, rS3] : Fin 4 → Rect S3x3712x2048) 0 = rS0 from rfl, mem_slab]; show _ ↔ (x 2 : ℕ) / 512 = 0; omega
  | 1 => rw [show (![rS0, rS1, rS2, rS3] : Fin 4 → Rect S3x3712x2048) 1 = rS1 from rfl, mem_slab]; show _ ↔ (x 2 : ℕ) / 512 = 1; omega
  | 2 => rw [show (![rS0, rS1, rS2, rS3] : Fin 4 → Rect S3x3712x2048) 2 = rS2 from rfl, mem_slab]; show _ ↔ (x 2 : ℕ) / 512 = 2; omega
  | 3 => rw [show (![rS0, rS1, rS2, rS3] : Fin 4 → Rect S3x3712x2048) 3 = rS3 from rfl, mem_slab]; show _ ↔ (x 2 : ℕ) / 512 = 3; omega

/-- The output chunks in scratch, one per 512 columns. -/
theorem ys_cut (t : Fin 4) (x : S4x64x4x4x128.Idx) :
    x ∈ yB.view.setOn ((![rY0, rY1, rY2, rY3] : Fin 4 → Rect S4x64x4x4x128) t).set ↔ x ∈ (Finset.univ : Finset S4x64x4x4x128.Idx) ∧ (⟨(x 0 : ℕ), (x 0).isLt⟩ : Fin 4) = t := by
  rw [mem_yB]
  simp only [Finset.mem_univ, true_and]
  have h0 : (x 0 : ℕ) < 4 := (x 0).isLt
  have h1 : (x 1 : ℕ) < 64 := (x 1).isLt
  have h2 : (x 2 : ℕ) < 4 := (x 2).isLt
  have h3 : (x 3 : ℕ) < 4 := (x 3).isLt
  have h4 : (x 4 : ℕ) < 128 := (x 4).isLt
  have key : ∀ (n : ℕ) hb, x ∈ (Rect.unit (s := S4x64x4x4x128) ![n, 0, 0, 0, 0] ![1, 64, 4, 4, 128] hb).set ↔ (x 0 : ℕ) = n := by
    intro n hb
    rw [Rect.mem_set_unit]
    constructor
    · intro h; have := h 0; change n ≤ (x 0 : ℕ) ∧ (x 0 : ℕ) < n + 1 at this; omega
    · intro h a
      match a with
      | 0 => show n ≤ (x 0 : ℕ) ∧ (x 0 : ℕ) < n + 1; omega
      | 1 => show 0 ≤ (x 1 : ℕ) ∧ (x 1 : ℕ) < 0 + 64; omega
      | 2 => show 0 ≤ (x 2 : ℕ) ∧ (x 2 : ℕ) < 0 + 4; omega
      | 3 => show 0 ≤ (x 3 : ℕ) ∧ (x 3 : ℕ) < 0 + 4; omega
      | 4 => show 0 ≤ (x 4 : ℕ) ∧ (x 4 : ℕ) < 0 + 128; omega
  match t with
  | 0 => exact (key 0 (by decide)).trans ⟨fun h => Fin.ext h, fun h => congrArg Fin.val h⟩
  | 1 => exact (key 1 (by decide)).trans ⟨fun h => Fin.ext h, fun h => congrArg Fin.val h⟩
  | 2 => exact (key 2 (by decide)).trans ⟨fun h => Fin.ext h, fun h => congrArg Fin.val h⟩
  | 3 => exact (key 3 (by decide)).trans ⟨fun h => Fin.ext h, fun h => congrArg Fin.val h⟩

/-- The result's four parts, one per 512 columns. -/
theorem os_cut (t : Fin 4) (x : S60x16x4x128.Idx) :
    x ∈ yO.view.setOn ((![rO0, rO1, rO2, rO3] : Fin 4 → Rect S60x16x4x128) t).set ↔ x ∈ (Finset.univ : Finset S60x16x4x128.Idx) ∧ (⟨(x 1 : ℕ) / 4, by have : (x 1 : ℕ) < 16 := (x 1).isLt; omega⟩ : Fin 4) = t := by
  rw [mem_yO]
  simp only [Finset.mem_univ, true_and]
  have h0 : (x 0 : ℕ) < 60 := (x 0).isLt
  have h1 : (x 1 : ℕ) < 16 := (x 1).isLt
  have h2 : (x 2 : ℕ) < 4 := (x 2).isLt
  have h3 : (x 3 : ℕ) < 128 := (x 3).isLt
  have key : ∀ (n : ℕ) hb, x ∈ (Rect.unit (s := S60x16x4x128) ![0, 4 * n, 0, 0] ![60, 4, 4, 128] hb).set ↔ (x 1 : ℕ) / 4 = n := by
    intro n hb
    rw [Rect.mem_set_unit]
    constructor
    · intro h; have := h 1; change 4 * n ≤ (x 1 : ℕ) ∧ (x 1 : ℕ) < 4 * n + 4 at this; omega
    · intro h a
      match a with
      | 0 => show 0 ≤ (x 0 : ℕ) ∧ (x 0 : ℕ) < 0 + 60; omega
      | 1 => show 4 * n ≤ (x 1 : ℕ) ∧ (x 1 : ℕ) < 4 * n + 4; omega
      | 2 => show 0 ≤ (x 2 : ℕ) ∧ (x 2 : ℕ) < 0 + 4; omega
      | 3 => show 0 ≤ (x 3 : ℕ) ∧ (x 3 : ℕ) < 0 + 128; omega
  match t with
  | 0 => exact (key 0 (by decide)).trans ⟨fun h => Fin.ext h, fun h => congrArg Fin.val h⟩
  | 1 => exact (key 1 (by decide)).trans ⟨fun h => Fin.ext h, fun h => congrArg Fin.val h⟩
  | 2 => exact (key 2 (by decide)).trans ⟨fun h => Fin.ext h, fun h => congrArg Fin.val h⟩
  | 3 => exact (key 3 (by decide)).trans ⟨fun h => Fin.ext h, fun h => congrArg Fin.val h⟩

/-- Slab 0 as its seven pieces. -/
theorem slab0_eq (c : Dev nD) (f : Buf (Elt F) (tB.view.loc (c : Thread nD τ))) :
    ptR c tB rS0 f = iprop(ptR c tB rT000 f ∗ ptR c tB rT001 f ∗ ptR c tB rT010 f ∗ ptR c tB rT011 f ∗ ptR c tB rT020 f ∗ ptR c tB rT021 f ∗ ptR c tB rP0 f) := by
  rw [ptR, cut_eq (ℓ := tB.view.loc (c : Thread nD τ)) _ _ pieceAt (slab_cut 0 (by decide) (by decide)) f,
    BI.bigSep_eq_bigSepL_of_eq (l := [0, 1, 2, 3, 4, 5, 6]) (by decide) (by decide)]
  rfl

theorem joinSlab0 (c : Dev nD) (W : Buf (Elt F) (tB.view.loc (c : Thread nD τ))) f0 f1 f2 f3 f4 f5 f6
    (h0 : ∀ x ∈ rT000.set, f0 x = W x) (h1 : ∀ x ∈ rT001.set, f1 x = W x) (h2 : ∀ x ∈ rT010.set, f2 x = W x) (h3 : ∀ x ∈ rT011.set, f3 x = W x) (h4 : ∀ x ∈ rT020.set, f4 x = W x) (h5 : ∀ x ∈ rT021.set, f5 x = W x) :
    iprop(ptR c tB rT000 f0 ∗ ptR c tB rT001 f1 ∗ ptR c tB rT010 f2 ∗ ptR c tB rT011 f3 ∗ ptR c tB rT020 f4 ∗ ptR c tB rT021 f5 ∗ ptR c tB rP0 f6)
      ⊢ iprop(∃ g, ⌜∀ x ∈ rS0.set, (x 1 : ℕ) < 3688 → g x = W x⌝ ∗ ptR (F := F) c tB rS0 g) := by
  refine BIBase.Entails.trans ?_ (joinSlab c 0 (by decide) (by decide) W ![f0, f1, f2, f3, f4, f5, f6] ?_)
  · rw [BI.bigSep_eq_bigSepL_of_eq (l := [0, 1, 2, 3, 4, 5, 6]) (by decide) (by decide)]
    exact BIBase.Entails.rfl
  · intro t ht
    match t with
    | 0 => exact h0
    | 1 => exact h1
    | 2 => exact h2
    | 3 => exact h3
    | 4 => exact h4
    | 5 => exact h5
    | 6 => exact absurd rfl ht

/-- Slab 1 as its seven pieces. -/
theorem slab1_eq (c : Dev nD) (f : Buf (Elt F) (tB.view.loc (c : Thread nD τ))) :
    ptR c tB rS1 f = iprop(ptR c tB rT100 f ∗ ptR c tB rT101 f ∗ ptR c tB rT110 f ∗ ptR c tB rT111 f ∗ ptR c tB rT120 f ∗ ptR c tB rT121 f ∗ ptR c tB rP1 f) := by
  rw [ptR, cut_eq (ℓ := tB.view.loc (c : Thread nD τ)) _ _ pieceAt (slab_cut 512 (by decide) (by decide)) f,
    BI.bigSep_eq_bigSepL_of_eq (l := [0, 1, 2, 3, 4, 5, 6]) (by decide) (by decide)]
  rfl

theorem joinSlab1 (c : Dev nD) (W : Buf (Elt F) (tB.view.loc (c : Thread nD τ))) f0 f1 f2 f3 f4 f5 f6
    (h0 : ∀ x ∈ rT100.set, f0 x = W x) (h1 : ∀ x ∈ rT101.set, f1 x = W x) (h2 : ∀ x ∈ rT110.set, f2 x = W x) (h3 : ∀ x ∈ rT111.set, f3 x = W x) (h4 : ∀ x ∈ rT120.set, f4 x = W x) (h5 : ∀ x ∈ rT121.set, f5 x = W x) :
    iprop(ptR c tB rT100 f0 ∗ ptR c tB rT101 f1 ∗ ptR c tB rT110 f2 ∗ ptR c tB rT111 f3 ∗ ptR c tB rT120 f4 ∗ ptR c tB rT121 f5 ∗ ptR c tB rP1 f6)
      ⊢ iprop(∃ g, ⌜∀ x ∈ rS1.set, (x 1 : ℕ) < 3688 → g x = W x⌝ ∗ ptR (F := F) c tB rS1 g) := by
  refine BIBase.Entails.trans ?_ (joinSlab c 512 (by decide) (by decide) W ![f0, f1, f2, f3, f4, f5, f6] ?_)
  · rw [BI.bigSep_eq_bigSepL_of_eq (l := [0, 1, 2, 3, 4, 5, 6]) (by decide) (by decide)]
    exact BIBase.Entails.rfl
  · intro t ht
    match t with
    | 0 => exact h0
    | 1 => exact h1
    | 2 => exact h2
    | 3 => exact h3
    | 4 => exact h4
    | 5 => exact h5
    | 6 => exact absurd rfl ht

/-- Slab 2 as its seven pieces. -/
theorem slab2_eq (c : Dev nD) (f : Buf (Elt F) (tB.view.loc (c : Thread nD τ))) :
    ptR c tB rS2 f = iprop(ptR c tB rT200 f ∗ ptR c tB rT201 f ∗ ptR c tB rT210 f ∗ ptR c tB rT211 f ∗ ptR c tB rT220 f ∗ ptR c tB rT221 f ∗ ptR c tB rP2 f) := by
  rw [ptR, cut_eq (ℓ := tB.view.loc (c : Thread nD τ)) _ _ pieceAt (slab_cut 1024 (by decide) (by decide)) f,
    BI.bigSep_eq_bigSepL_of_eq (l := [0, 1, 2, 3, 4, 5, 6]) (by decide) (by decide)]
  rfl

theorem joinSlab2 (c : Dev nD) (W : Buf (Elt F) (tB.view.loc (c : Thread nD τ))) f0 f1 f2 f3 f4 f5 f6
    (h0 : ∀ x ∈ rT200.set, f0 x = W x) (h1 : ∀ x ∈ rT201.set, f1 x = W x) (h2 : ∀ x ∈ rT210.set, f2 x = W x) (h3 : ∀ x ∈ rT211.set, f3 x = W x) (h4 : ∀ x ∈ rT220.set, f4 x = W x) (h5 : ∀ x ∈ rT221.set, f5 x = W x) :
    iprop(ptR c tB rT200 f0 ∗ ptR c tB rT201 f1 ∗ ptR c tB rT210 f2 ∗ ptR c tB rT211 f3 ∗ ptR c tB rT220 f4 ∗ ptR c tB rT221 f5 ∗ ptR c tB rP2 f6)
      ⊢ iprop(∃ g, ⌜∀ x ∈ rS2.set, (x 1 : ℕ) < 3688 → g x = W x⌝ ∗ ptR (F := F) c tB rS2 g) := by
  refine BIBase.Entails.trans ?_ (joinSlab c 1024 (by decide) (by decide) W ![f0, f1, f2, f3, f4, f5, f6] ?_)
  · rw [BI.bigSep_eq_bigSepL_of_eq (l := [0, 1, 2, 3, 4, 5, 6]) (by decide) (by decide)]
    exact BIBase.Entails.rfl
  · intro t ht
    match t with
    | 0 => exact h0
    | 1 => exact h1
    | 2 => exact h2
    | 3 => exact h3
    | 4 => exact h4
    | 5 => exact h5
    | 6 => exact absurd rfl ht

/-- Slab 3 as its seven pieces. -/
theorem slab3_eq (c : Dev nD) (f : Buf (Elt F) (tB.view.loc (c : Thread nD τ))) :
    ptR c tB rS3 f = iprop(ptR c tB rT300 f ∗ ptR c tB rT301 f ∗ ptR c tB rT310 f ∗ ptR c tB rT311 f ∗ ptR c tB rT320 f ∗ ptR c tB rT321 f ∗ ptR c tB rP3 f) := by
  rw [ptR, cut_eq (ℓ := tB.view.loc (c : Thread nD τ)) _ _ pieceAt (slab_cut 1536 (by decide) (by decide)) f,
    BI.bigSep_eq_bigSepL_of_eq (l := [0, 1, 2, 3, 4, 5, 6]) (by decide) (by decide)]
  rfl

theorem joinSlab3 (c : Dev nD) (W : Buf (Elt F) (tB.view.loc (c : Thread nD τ))) f0 f1 f2 f3 f4 f5 f6
    (h0 : ∀ x ∈ rT300.set, f0 x = W x) (h1 : ∀ x ∈ rT301.set, f1 x = W x) (h2 : ∀ x ∈ rT310.set, f2 x = W x) (h3 : ∀ x ∈ rT311.set, f3 x = W x) (h4 : ∀ x ∈ rT320.set, f4 x = W x) (h5 : ∀ x ∈ rT321.set, f5 x = W x) :
    iprop(ptR c tB rT300 f0 ∗ ptR c tB rT301 f1 ∗ ptR c tB rT310 f2 ∗ ptR c tB rT311 f3 ∗ ptR c tB rT320 f4 ∗ ptR c tB rT321 f5 ∗ ptR c tB rP3 f6)
      ⊢ iprop(∃ g, ⌜∀ x ∈ rS3.set, (x 1 : ℕ) < 3688 → g x = W x⌝ ∗ ptR (F := F) c tB rS3 g) := by
  refine BIBase.Entails.trans ?_ (joinSlab c 1536 (by decide) (by decide) W ![f0, f1, f2, f3, f4, f5, f6] ?_)
  · rw [BI.bigSep_eq_bigSepL_of_eq (l := [0, 1, 2, 3, 4, 5, 6]) (by decide) (by decide)]
    exact BIBase.Entails.rfl
  · intro t ht
    match t with
    | 0 => exact h0
    | 1 => exact h1
    | 2 => exact h2
    | 3 => exact h3
    | 4 => exact h4
    | 5 => exact h5
    | 6 => exact absurd rfl ht

/-- The buffer whole is its four parts. -/
theorem slabs_eq (c : Dev nD) (f : Buf (Elt F) (tB.view.loc (c : Thread nD τ))) :
    pt c tB f = iprop(ptR c tB rS0 f ∗ ptR c tB rS1 f ∗ ptR c tB rS2 f ∗ ptR c tB rS3 f) := by
  rw [pt, cut_eq (ℓ := tB.view.loc (c : Thread nD τ)) Finset.univ _ (fun x : S3x3712x2048.Idx => (⟨(x 2 : ℕ) / 512, by have : (x 2 : ℕ) < 2048 := (x 2).isLt; omega⟩ : Fin 4)) slabs_cut f,
    BI.bigSep_eq_bigSepL_of_eq (l := [0, 1, 2, 3]) (by decide) (by decide)]
  rfl

/-- The four parts, each at its own contents, are the buffer whole at contents agreeing with each. -/
theorem slabs_join (c : Dev nD) f0 f1 f2 f3 :
    iprop(ptR c tB rS0 f0 ∗ ptR c tB rS1 f1 ∗ ptR c tB rS2 f2 ∗ ptR c tB rS3 f3)
      ⊢ iprop(∃ g, ⌜(∀ x ∈ rS0.set, g x = f0 x) ∧ (∀ x ∈ rS1.set, g x = f1 x) ∧ (∀ x ∈ rS2.set, g x = f2 x) ∧ (∀ x ∈ rS3.set, g x = f3 x)⌝ ∗ pt (F := F) c tB g) := by
  refine BIBase.Entails.trans ?_ ((cut_join (ℓ := tB.view.loc (c : Thread nD τ)) Finset.univ _ (fun x : S3x3712x2048.Idx => (⟨(x 2 : ℕ) / 512, by have : (x 2 : ℕ) < 2048 := (x 2).isLt; omega⟩ : Fin 4)) slabs_cut ![f0, f1, f2, f3] f0).trans ?_)
  · rw [BI.bigSep_eq_bigSepL_of_eq (l := [0, 1, 2, 3]) (by decide) (by decide)]
    exact BIBase.Entails.rfl
  · iintro ⟨%g, %hg, HG⟩
    iexists g
    isplitr [HG]
    · ipureintro
      exact ⟨fun x hx => hg 0 x ((mem_tB _ x).2 hx), fun x hx => hg 1 x ((mem_tB _ x).2 hx), fun x hx => hg 2 x ((mem_tB _ x).2 hx), fun x hx => hg 3 x ((mem_tB _ x).2 hx)⟩
    · iexact HG

/-- The buffer whole is its four parts. -/
theorem ys_eq (c : Dev nD) (f : Buf (Elt F) (yB.view.loc (c : Thread nD τ))) :
    pt c yB f = iprop(ptR c yB rY0 f ∗ ptR c yB rY1 f ∗ ptR c yB rY2 f ∗ ptR c yB rY3 f) := by
  rw [pt, cut_eq (ℓ := yB.view.loc (c : Thread nD τ)) Finset.univ _ (fun x : S4x64x4x4x128.Idx => (⟨(x 0 : ℕ), (x 0).isLt⟩ : Fin 4)) ys_cut f,
    BI.bigSep_eq_bigSepL_of_eq (l := [0, 1, 2, 3]) (by decide) (by decide)]
  rfl

/-- The four parts, each at its own contents, are the buffer whole at contents agreeing with each. -/
theorem ys_join (c : Dev nD) f0 f1 f2 f3 :
    iprop(ptR c yB rY0 f0 ∗ ptR c yB rY1 f1 ∗ ptR c yB rY2 f2 ∗ ptR c yB rY3 f3)
      ⊢ iprop(∃ g, ⌜(∀ x ∈ rY0.set, g x = f0 x) ∧ (∀ x ∈ rY1.set, g x = f1 x) ∧ (∀ x ∈ rY2.set, g x = f2 x) ∧ (∀ x ∈ rY3.set, g x = f3 x)⌝ ∗ pt (F := F) c yB g) := by
  refine BIBase.Entails.trans ?_ ((cut_join (ℓ := yB.view.loc (c : Thread nD τ)) Finset.univ _ (fun x : S4x64x4x4x128.Idx => (⟨(x 0 : ℕ), (x 0).isLt⟩ : Fin 4)) ys_cut ![f0, f1, f2, f3] f0).trans ?_)
  · rw [BI.bigSep_eq_bigSepL_of_eq (l := [0, 1, 2, 3]) (by decide) (by decide)]
    exact BIBase.Entails.rfl
  · iintro ⟨%g, %hg, HG⟩
    iexists g
    isplitr [HG]
    · ipureintro
      exact ⟨fun x hx => hg 0 x ((mem_yB _ x).2 hx), fun x hx => hg 1 x ((mem_yB _ x).2 hx), fun x hx => hg 2 x ((mem_yB _ x).2 hx), fun x hx => hg 3 x ((mem_yB _ x).2 hx)⟩
    · iexact HG

/-- The buffer whole is its four parts. -/
theorem os_eq (c : Dev nD) (f : Buf (Elt F) (yO.view.loc (c : Thread nD τ))) :
    pt c yO f = iprop(ptR c yO rO0 f ∗ ptR c yO rO1 f ∗ ptR c yO rO2 f ∗ ptR c yO rO3 f) := by
  rw [pt, cut_eq (ℓ := yO.view.loc (c : Thread nD τ)) Finset.univ _ (fun x : S60x16x4x128.Idx => (⟨(x 1 : ℕ) / 4, by have : (x 1 : ℕ) < 16 := (x 1).isLt; omega⟩ : Fin 4)) os_cut f,
    BI.bigSep_eq_bigSepL_of_eq (l := [0, 1, 2, 3]) (by decide) (by decide)]
  rfl

/-- The four parts, each at its own contents, are the buffer whole at contents agreeing with each. -/
theorem os_join (c : Dev nD) f0 f1 f2 f3 :
    iprop(ptR c yO rO0 f0 ∗ ptR c yO rO1 f1 ∗ ptR c yO rO2 f2 ∗ ptR c yO rO3 f3)
      ⊢ iprop(∃ g, ⌜(∀ x ∈ rO0.set, g x = f0 x) ∧ (∀ x ∈ rO1.set, g x = f1 x) ∧ (∀ x ∈ rO2.set, g x = f2 x) ∧ (∀ x ∈ rO3.set, g x = f3 x)⌝ ∗ pt (F := F) c yO g) := by
  refine BIBase.Entails.trans ?_ ((cut_join (ℓ := yO.view.loc (c : Thread nD τ)) Finset.univ _ (fun x : S60x16x4x128.Idx => (⟨(x 1 : ℕ) / 4, by have : (x 1 : ℕ) < 16 := (x 1).isLt; omega⟩ : Fin 4)) os_cut ![f0, f1, f2, f3] f0).trans ?_)
  · rw [BI.bigSep_eq_bigSepL_of_eq (l := [0, 1, 2, 3]) (by decide) (by decide)]
    exact BIBase.Entails.rfl
  · iintro ⟨%g, %hg, HG⟩
    iexists g
    isplitr [HG]
    · ipureintro
      exact ⟨fun x hx => hg 0 x ((mem_yO _ x).2 hx), fun x hx => hg 1 x ((mem_yO _ x).2 hx), fun x hx => hg 2 x ((mem_yO _ x).2 hx), fun x hx => hg 3 x ((mem_yO _ x).2 hx)⟩
    · iexact HG

end Cert.KernelIdeal.Hand
end
-- ==== Proof.ILand.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp

public import proofs.«01_k».proof.Proof.IBase

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The kernel's weights as the weight buffer's elements see them: plane, row and column of the widened argument. -/
def wAt (c : Dev nD) (f : Buf (Elt F) ((Memref.whole main_v6).view.loc (c : Thread nD τ))) : Buf (Elt F) (tB.view.loc (c : Thread nD τ)) :=
  fun x => f (ValueIdx.ix3 (x 0) ⟨(x 1 : ℕ) % 3688, Nat.mod_lt _ (by decide)⟩ (x 2))

/-- A weight copy of 3584 rows leaves the widened argument's rows in its piece of the weight buffer. -/
theorem landA (c : Dev nD) (off offw : Fin 3 → ℕ)
    (h : ∀ a, off a + S1x3584x512.size a ≤ S3x3712x2048.size a) (hw : ∀ a, offw a + S1x3584x512.size a ≤ S3x3688x2048.size a)
    (he : offw = off) (g2 : Buf (Elt F) (tB.view.loc (c : Thread nD τ)))
    (f3 : Buf (Elt F) ((Memref.whole main_v6).view.loc (c : Thread nD τ))) :
    ∀ x ∈ (Rect.unit (s := S3x3712x2048) off S1x3584x512.size h).set,
      View.write (Elt F) ((tB.slice (Rect.unit (s := S3x3712x2048) off S1x3584x512.size h) (fun _ => rfl)).squeeze S3584x512 squeezes_S1x3584x512_S3584x512).view g2
        (ReadAs.same.apply (View.read (Elt F) (((Memref.whole main_v6 : Memref sig .tc .hbm S3x3688x2048 .fp8e4m3).slice
          (Rect.unit (s := S3x3688x2048) offw S1x3584x512.size hw) (fun _ => rfl)).squeeze S3584x512 squeezes_S1x3584x512_S3584x512).view f3)) Finset.univ x
      = wAt c f3 x := by
  intro x hx
  subst he
  have hm := Rect.mem_set_unit.mp hx
  have h0 := hm 0; have h1 := hm 1; have h2 := hm 2
  have b1 : (x 1 : ℕ) - offw 1 < 3584 := by
    have : (x 1 : ℕ) < offw 1 + 3584 := h1.2
    have := h1.1; omega
  have b2 : (x 2 : ℕ) - offw 2 < 512 := by
    have : (x 2 : ℕ) < offw 2 + 512 := h2.2
    have := h2.1; omega
  have b0 : (x 0 : ℕ) = offw 0 := by
    have : (x 0 : ℕ) < offw 0 + 1 := h0.2
    have := h0.1; omega
  have hlt : (x 1 : ℕ) < 3688 := by
    have : offw 1 + 3584 ≤ 3688 := hw 1
    have := h1.1; omega
  have key : x = ((tB.slice (Rect.unit (s := S3x3712x2048) offw S1x3584x512.size h) (fun _ => rfl)).squeeze S3584x512 squeezes_S1x3584x512_S3584x512).view.emb
      (ValueIdx.ix2 ⟨(x 1 : ℕ) - offw 1, b1⟩ ⟨(x 2 : ℕ) - offw 2, b2⟩) := by
    show x = (Rect.unit (s := S3x3712x2048) offw S1x3584x512.size h).emb (Shape.reshapeEquiv _ _)
    rw [ValueIdx.reshapeEquiv_ix2_1ab]
    funext a
    apply Fin.ext
    have e : ((Rect.unit (s := S3x3712x2048) offw S1x3584x512.size h).emb (ValueIdx.ix3 (⟨0, Nat.one_pos⟩ : Fin 1) (⟨(x 1 : ℕ) - offw 1, b1⟩ : Fin 3584) (⟨(x 2 : ℕ) - offw 2, b2⟩ : Fin 512)) a : ℕ) = offw a + 1 * _ := rfl
    rw [e]
    fin_cases a
    · show (x 0 : ℕ) = offw 0 + 1 * 0
      omega
    · show (x 1 : ℕ) = offw 1 + 1 * ((x 1 : ℕ) - offw 1)
      have := h1.1; omega
    · show (x 2 : ℕ) = offw 2 + 1 * ((x 2 : ℕ) - offw 2)
      have := h2.1; omega
  conv_lhs => rw [key]
  rw [View.write_emb_of_mem _ _ (Finset.mem_univ _)]
  show f3 ((Rect.unit (s := S3x3688x2048) offw S1x3584x512.size hw).emb (Shape.reshapeEquiv _ _)) = f3 _
  rw [ValueIdx.reshapeEquiv_ix2_1ab]
  congr 1
  funext a
  apply Fin.ext
  have e : ((Rect.unit (s := S3x3688x2048) offw S1x3584x512.size hw).emb (ValueIdx.ix3 (⟨0, Nat.one_pos⟩ : Fin 1) (⟨(x 1 : ℕ) - offw 1, b1⟩ : Fin 3584) (⟨(x 2 : ℕ) - offw 2, b2⟩ : Fin 512)) a : ℕ) = offw a + 1 * _ := rfl
  rw [e]
  fin_cases a
  · show offw 0 + 1 * 0 = (x 0 : ℕ)
    omega
  · show offw 1 + 1 * ((x 1 : ℕ) - offw 1) = (x 1 : ℕ) % 3688
    rw [Nat.mod_eq_of_lt hlt]; have := h1.1; omega
  · show offw 2 + 1 * ((x 2 : ℕ) - offw 2) = (x 2 : ℕ)
    have := h2.1; omega

/-- A weight copy of 104 rows leaves the widened argument's rows in its piece of the weight buffer. -/
theorem landB (c : Dev nD) (off offw : Fin 3 → ℕ)
    (h : ∀ a, off a + S1x104x512.size a ≤ S3x3712x2048.size a) (hw : ∀ a, offw a + S1x104x512.size a ≤ S3x3688x2048.size a)
    (he : offw = off) (g2 : Buf (Elt F) (tB.view.loc (c : Thread nD τ)))
    (f3 : Buf (Elt F) ((Memref.whole main_v6).view.loc (c : Thread nD τ))) :
    ∀ x ∈ (Rect.unit (s := S3x3712x2048) off S1x104x512.size h).set,
      View.write (Elt F) ((tB.slice (Rect.unit (s := S3x3712x2048) off S1x104x512.size h) (fun _ => rfl)).squeeze S104x512 squeezes_S1x104x512_S104x512).view g2
        (ReadAs.same.apply (View.read (Elt F) (((Memref.whole main_v6 : Memref sig .tc .hbm S3x3688x2048 .fp8e4m3).slice
          (Rect.unit (s := S3x3688x2048) offw S1x104x512.size hw) (fun _ => rfl)).squeeze S104x512 squeezes_S1x104x512_S104x512).view f3)) Finset.univ x
      = wAt c f3 x := by
  intro x hx
  subst he
  have hm := Rect.mem_set_unit.mp hx
  have h0 := hm 0; have h1 := hm 1; have h2 := hm 2
  have b1 : (x 1 : ℕ) - offw 1 < 104 := by
    have : (x 1 : ℕ) < offw 1 + 104 := h1.2
    have := h1.1; omega
  have b2 : (x 2 : ℕ) - offw 2 < 512 := by
    have : (x 2 : ℕ) < offw 2 + 512 := h2.2
    have := h2.1; omega
  have b0 : (x 0 : ℕ) = offw 0 := by
    have : (x 0 : ℕ) < offw 0 + 1 := h0.2
    have := h0.1; omega
  have hlt : (x 1 : ℕ) < 3688 := by
    have : offw 1 + 104 ≤ 3688 := hw 1
    have := h1.1; omega
  have key : x = ((tB.slice (Rect.unit (s := S3x3712x2048) offw S1x104x512.size h) (fun _ => rfl)).squeeze S104x512 squeezes_S1x104x512_S104x512).view.emb
      (ValueIdx.ix2 ⟨(x 1 : ℕ) - offw 1, b1⟩ ⟨(x 2 : ℕ) - offw 2, b2⟩) := by
    show x = (Rect.unit (s := S3x3712x2048) offw S1x104x512.size h).emb (Shape.reshapeEquiv _ _)
    rw [ValueIdx.reshapeEquiv_ix2_1ab]
    funext a
    apply Fin.ext
    have e : ((Rect.unit (s := S3x3712x2048) offw S1x104x512.size h).emb (ValueIdx.ix3 (⟨0, Nat.one_pos⟩ : Fin 1) (⟨(x 1 : ℕ) - offw 1, b1⟩ : Fin 104) (⟨(x 2 : ℕ) - offw 2, b2⟩ : Fin 512)) a : ℕ) = offw a + 1 * _ := rfl
    rw [e]
    fin_cases a
    · show (x 0 : ℕ) = offw 0 + 1 * 0
      omega
    · show (x 1 : ℕ) = offw 1 + 1 * ((x 1 : ℕ) - offw 1)
      have := h1.1; omega
    · show (x 2 : ℕ) = offw 2 + 1 * ((x 2 : ℕ) - offw 2)
      have := h2.1; omega
  conv_lhs => rw [key]
  rw [View.write_emb_of_mem _ _ (Finset.mem_univ _)]
  show f3 ((Rect.unit (s := S3x3688x2048) offw S1x104x512.size hw).emb (Shape.reshapeEquiv _ _)) = f3 _
  rw [ValueIdx.reshapeEquiv_ix2_1ab]
  congr 1
  funext a
  apply Fin.ext
  have e : ((Rect.unit (s := S3x3688x2048) offw S1x104x512.size hw).emb (ValueIdx.ix3 (⟨0, Nat.one_pos⟩ : Fin 1) (⟨(x 1 : ℕ) - offw 1, b1⟩ : Fin 104) (⟨(x 2 : ℕ) - offw 2, b2⟩ : Fin 512)) a : ℕ) = offw a + 1 * _ := rfl
  rw [e]
  fin_cases a
  · show offw 0 + 1 * 0 = (x 0 : ℕ)
    omega
  · show offw 1 + 1 * ((x 1 : ℕ) - offw 1) = (x 1 : ℕ) % 3688
    rw [Nat.mod_eq_of_lt hlt]; have := h1.1; omega
  · show offw 2 + 1 * ((x 2 : ℕ) - offw 2) = (x 2 : ℕ)
    have := h2.1; omega

end Cert.KernelIdeal.Hand
end
-- ==== Proof.IRun.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp

public import proofs.«01_k».proof.Proof.ILand

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem coord0 (i : grid0.Coords) : (i 0 : ℕ) = 0 := Nat.lt_one_iff.mp (i 0).isLt

/-- Row part 1 of tap 0, chunk 0: where its copy starts in the widened argument. -/
theorem off_eq1 (i : grid0.Coords) : k0_off1 i = ![0, 3584, 0] := by
  unfold k0_off1; rw [coord0]; rfl

/-- Row part 1 of tap 1, chunk 0: where its copy starts in the widened argument. -/
theorem off_eq2 (i : grid0.Coords) : k0_off2 i = ![1, 3584, 0] := by
  unfold k0_off2; rw [coord0]; rfl

/-- Row part 1 of tap 2, chunk 0: where its copy starts in the widened argument. -/
theorem off_eq3 (i : grid0.Coords) : k0_off3 i = ![2, 3584, 0] := by
  unfold k0_off3; rw [coord0]; rfl

/-- Row part 1 of tap 0, chunk 1: where its copy starts in the widened argument. -/
theorem off_eq4 (i : grid0.Coords) : k0_off4 i = ![0, 3584, 512] := by
  unfold k0_off4; rw [coord0]; rfl

/-- Row part 1 of tap 1, chunk 1: where its copy starts in the widened argument. -/
theorem off_eq5 (i : grid0.Coords) : k0_off5 i = ![1, 3584, 512] := by
  unfold k0_off5; rw [coord0]; rfl

/-- Row part 1 of tap 2, chunk 1: where its copy starts in the widened argument. -/
theorem off_eq6 (i : grid0.Coords) : k0_off6 i = ![2, 3584, 512] := by
  unfold k0_off6; rw [coord0]; rfl

/-- Row part 1 of tap 0, chunk 2: where its copy starts in the widened argument. -/
theorem off_eq7 (i : grid0.Coords) : k0_off7 i = ![0, 3584, 1024] := by
  unfold k0_off7; rw [coord0]; rfl

/-- Row part 1 of tap 1, chunk 2: where its copy starts in the widened argument. -/
theorem off_eq8 (i : grid0.Coords) : k0_off8 i = ![1, 3584, 1024] := by
  unfold k0_off8; rw [coord0]; rfl

/-- Row part 1 of tap 2, chunk 2: where its copy starts in the widened argument. -/
theorem off_eq9 (i : grid0.Coords) : k0_off9 i = ![2, 3584, 1024] := by
  unfold k0_off9; rw [coord0]; rfl

/-- Row part 1 of tap 0, chunk 3: where its copy starts in the widened argument. -/
theorem off_eq10 (i : grid0.Coords) : k0_off10 i = ![0, 3584, 1536] := by
  unfold k0_off10; rw [coord0]; rfl

/-- Row part 1 of tap 1, chunk 3: where its copy starts in the widened argument. -/
theorem off_eq11 (i : grid0.Coords) : k0_off11 i = ![1, 3584, 1536] := by
  unfold k0_off11; rw [coord0]; rfl

/-- Row part 1 of tap 2, chunk 3: where its copy starts in the widened argument. -/
theorem off_eq12 (i : grid0.Coords) : k0_off12 i = ![2, 3584, 1536] := by
  unfold k0_off12; rw [coord0]; rfl

set_option maxHeartbeats 0 in
/-- What the body leaves in each part of the result, as a function of what it starts from and of the four joined slabs of
    weights `t0` … `t3`, and the run of the body that leaves it. -/
def run (c : Dev nD) (i : grid0.Coords)
    (f1 : Buf (Elt F) ((Memref.whole main_v1).view.loc (c : Thread nD τ))) (f2 : Buf (Elt F) ((Memref.whole main_v4).view.loc (c : Thread nD τ))) (f3 : Buf (Elt F) ((Memref.whole main_v6).view.loc (c : Thread nD τ))) (f4 : Buf (Elt F) ((Memref.whole main_arg3).view.loc (c : Thread nD τ))) (f5 : Buf (Elt F) ((Memref.whole main_arg4).view.loc (c : Thread nD τ))) (f6 : Buf (Elt F) ((Memref.whole main_v7).view.loc (c : Thread nD τ))) (g1 : Buf (Elt F) ((Memref.whole cc0_scratch0).view.loc (c : Thread nD τ))) (g2 : Buf (Elt F) ((Memref.whole cc0_scratch1).view.loc (c : Thread nD τ))) (g3 : Buf (Elt F) ((Memref.whole cc0_scratch2).view.loc (c : Thread nD τ))) (g4 : Buf (Elt F) ((Memref.whole cc0_scratch3).view.loc (c : Thread nD τ))) (g5 : Buf (Elt F) ((Memref.whole cc0_scratch4).view.loc (c : Thread nD τ))) (g6 : Buf (Elt F) ((Memref.whole cc0_scratch5).view.loc (c : Thread nD τ))) (g7 : Buf (Elt F) ((Memref.whole cc0_scratch6).view.loc (c : Thread nD τ))) :
    { Y : (Buf (Elt F) (tB.view.loc (c : Thread nD τ)) → Buf (Elt F) (tB.view.loc (c : Thread nD τ)) → Buf (Elt F) (tB.view.loc (c : Thread nD τ)) → Buf (Elt F) (tB.view.loc (c : Thread nD τ)) → (S60x4x4x128.Idx → Elt F .bf16)) × (Buf (Elt F) (tB.view.loc (c : Thread nD τ)) → Buf (Elt F) (tB.view.loc (c : Thread nD τ)) → Buf (Elt F) (tB.view.loc (c : Thread nD τ)) → Buf (Elt F) (tB.view.loc (c : Thread nD τ)) → (S60x4x4x128.Idx → Elt F .bf16)) × (Buf (Elt F) (tB.view.loc (c : Thread nD τ)) → Buf (Elt F) (tB.view.loc (c : Thread nD τ)) → Buf (Elt F) (tB.view.loc (c : Thread nD τ)) → Buf (Elt F) (tB.view.loc (c : Thread nD τ)) → (S60x4x4x128.Idx → Elt F .bf16)) × (Buf (Elt F) (tB.view.loc (c : Thread nD τ)) → Buf (Elt F) (tB.view.loc (c : Thread nD τ)) → Buf (Elt F) (tB.view.loc (c : Thread nD τ)) → Buf (Elt F) (tB.view.loc (c : Thread nD τ)) → (S60x4x4x128.Idx → Elt F .bf16)) //
      ∀ (W : Waits sig Unit) (K : PUnit → sProp 𝕄),
        iprop(ptR c tB rT000 g2 ∗ ptR c tB rT001 g2 ∗ ptR c tB rT010 g2 ∗ ptR c tB rT011 g2 ∗ ptR c tB rT020 g2 ∗ ptR c tB rT021 g2 ∗ ptR c tB rP0 g2 ∗ ptR c tB rT100 g2 ∗ ptR c tB rT101 g2 ∗ ptR c tB rT110 g2 ∗ ptR c tB rT111 g2 ∗ ptR c tB rT120 g2 ∗ ptR c tB rT121 g2 ∗ ptR c tB rP1 g2 ∗ ptR c tB rT200 g2 ∗ ptR c tB rT201 g2 ∗ ptR c tB rT210 g2 ∗ ptR c tB rT211 g2 ∗ ptR c tB rT220 g2 ∗ ptR c tB rT221 g2 ∗ ptR c tB rP2 g2 ∗ ptR c tB rT300 g2 ∗ ptR c tB rT301 g2 ∗ ptR c tB rT310 g2 ∗ ptR c tB rT311 g2 ∗ ptR c tB rT320 g2 ∗ ptR c tB rT321 g2 ∗ ptR c tB rP3 g2 ∗ ptR c yB rY0 g4 ∗ ptR c yO rO0 f6 ∗ ptR c yB rY1 g4 ∗ ptR c yO rO1 f6 ∗ ptR c yB rY2 g4 ∗ ptR c yO rO2 f6 ∗ ptR c yB rY3 g4 ∗ ptR c yO rO3 f6 ∗ pt c (Memref.whole main_v1) f1 ∗ pt c (Memref.whole main_v4) f2 ∗ pt c (Memref.whole main_arg3) f4 ∗ pt c (Memref.whole main_arg4) f5 ∗ pt c (Memref.whole cc0_scratch0) g1 ∗ pt c (Memref.whole cc0_scratch2) g3 ∗ pt c (Memref.whole cc0_scratch4) g5 ∗ pt c (Memref.whole cc0_scratch5) g6 ∗ pt c (Memref.whole cc0_scratch6) g7 ∗ tokV6 c 0 f3 ∗ tokV6 c 1 f3 ∗ tokV6 c 2 f3 ∗ tokV6 c 3 f3 ∗ tokV6 c 4 f3 ∗ tokV6 c 5 f3 ∗ tokV6 c 6 f3 ∗ tokV6 c 7 f3 ∗ tokV6 c 8 f3 ∗ tokV6 c 9 f3 ∗ tokV6 c 10 f3 ∗ tokV6 c 11 f3 ∗ tokV6 c 12 f3 ∗ tokV6 c 13 f3 ∗ tokV6 c 14 f3 ∗ tokV6 c 15 f3 ∗ tokV6 c 16 f3 ∗ tokV6 c 17 f3 ∗ tokV6 c 18 f3 ∗ tokV6 c 19 f3 ∗ tokV6 c 20 f3 ∗ tokV6 c 21 f3 ∗ tokV6 c 22 f3 ∗ tokV6 c 23 f3 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ owes (c : Thread nD τ) 0 W
          ∗ (∀ t0 t1 t2 t3, ⌜(∀ x ∈ rS0.set, (x 1 : ℕ) < 3688 → t0 x = wAt c f3 x) ∧ (∀ x ∈ rS1.set, (x 1 : ℕ) < 3688 → t1 x = wAt c f3 x)
                ∧ (∀ x ∈ rS2.set, (x 1 : ℕ) < 3688 → t2 x = wAt c f3 x) ∧ (∀ x ∈ rS3.set, (x 1 : ℕ) < 3688 → t3 x = wAt c f3 x)⌝ -∗
              iprop(ptR c yO rO0 (yO.view.writes (Elt F) f6 [⟨Rect.unit (s := S60x16x4x128) ![0, 0, 0, 0] S60x4x4x128.size inb_S60x16x4x128_S60x4x4x128_0_0_0_0, Y.1 t0 t1 t2 t3⟩]) ∗ ptR c yO rO1 (yO.view.writes (Elt F) f6 [⟨Rect.unit (s := S60x16x4x128) ![0, 4, 0, 0] S60x4x4x128.size inb_S60x16x4x128_S60x4x4x128_0_4_0_0, Y.2.1 t0 t1 t2 t3⟩]) ∗ ptR c yO rO2 (yO.view.writes (Elt F) f6 [⟨Rect.unit (s := S60x16x4x128) ![0, 8, 0, 0] S60x4x4x128.size inb_S60x16x4x128_S60x4x4x128_0_8_0_0, Y.2.2.1 t0 t1 t2 t3⟩]) ∗ ptR c yO rO3 (yO.view.writes (Elt F) f6 [⟨Rect.unit (s := S60x16x4x128) ![0, 12, 0, 0] S60x4x4x128.size inb_S60x16x4x128_S60x4x4x128_0_12_0_0, Y.2.2.2 t0 t1 t2 t3⟩]) ∗ pt c (Memref.whole main_v1) f1 ∗ pt c (Memref.whole main_v4) f2 ∗ pt c (Memref.whole main_arg3) f4 ∗ pt c (Memref.whole main_arg4) f5 ∗ tokV6 c 0 f3 ∗ tokV6 c 1 f3 ∗ tokV6 c 2 f3 ∗ tokV6 c 3 f3 ∗ tokV6 c 4 f3 ∗ tokV6 c 5 f3 ∗ tokV6 c 6 f3 ∗ tokV6 c 7 f3 ∗ tokV6 c 8 f3 ∗ tokV6 c 9 f3 ∗ tokV6 c 10 f3 ∗ tokV6 c 11 f3 ∗ tokV6 c 12 f3 ∗ tokV6 c 13 f3 ∗ tokV6 c 14 f3 ∗ tokV6 c 15 f3 ∗ tokV6 c 16 f3 ∗ tokV6 c 17 f3 ∗ tokV6 c 18 f3 ∗ tokV6 c 19 f3 ∗ tokV6 c 20 f3 ∗ tokV6 c 21 f3 ∗ tokV6 c 22 f3 ∗ tokV6 c 23 f3 ∗ (∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ (∃ g, pt (F := F) c (Memref.whole cc0_scratch5) g) ∗ (∃ g, pt (F := F) c (Memref.whole cc0_scratch6) g) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ (∃ W', owes (c : Thread nD τ) 0 W')) -∗ K ⟨⟩))
          ⊢ wp frame (wpE (defs₀ (F := F)) Variants.none c none) Set.univ (cc0_r2plus1d i (Memref.whole main_v1) (Memref.isWhole_whole _) (Memref.whole main_v4) (Memref.isWhole_whole _) (Memref.whole main_v6) (Memref.isWhole_whole _) (Memref.whole main_arg3) (Memref.isWhole_whole _) (Memref.whole main_arg4) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) K } := by
  refine ⟨(?y0, ?y1, ?y2, ?y3), fun W K => ?run⟩
  case run =>
    sl_unfold [cc0_r2plus1d]
    iintro ⟨T000, T001, T010, T011, T020, T021, P0, T100, T101, T110, T111, T120, T121, P1, T200, T201, T210, T211, T220, T221, P2, T300, T301, T310, T311, T320, T321, P3, Y0, O0, Y1, O1, Y2, O2, Y3, O3, H1, H2, H4, H5, G1, G3, G5, G6, G7, V0, V1, V2, V3, V4, V5, V6, V7, V8, V9, V10, V11, V12, V13, V14, V15, V16, V17, V18, V19, V20, V21, V22, V23, S0, S1, S2, S3, S4, S5, S6, S7, S8, S9, S10, S11, S12, S13, S14, S15, S16, S17, S18, S19, S20, S21, S22, S23, S24, S25, S26, S27, S28, S29, S30, S31, HW, HK⟩
    sl_exec_parts
    ihave TS0 := (joinSlab0 c (wAt c f3) _ _ _ _ _ _ _ (landA c ![0, 0, 0] ![0, 0, 0] (by decide) (by decide) rfl g2 f3) (landB c ![0, 3584, 0] (k0_off1 i) (by decide) (k0_off1_inb i) (off_eq1 i) g2 f3) (landA c ![1, 0, 0] ![1, 0, 0] (by decide) (by decide) rfl g2 f3) (landB c ![1, 3584, 0] (k0_off2 i) (by decide) (k0_off2_inb i) (off_eq2 i) g2 f3) (landA c ![2, 0, 0] ![2, 0, 0] (by decide) (by decide) rfl g2 f3) (landB c ![2, 3584, 0] (k0_off3 i) (by decide) (k0_off3_inb i) (off_eq3 i) g2 f3)) $$ [T000 T001 T010 T011 T020 T021 P0]
    · isplitl [T000]; · iexact T000
      isplitl [T001]; · iexact T001
      isplitl [T010]; · iexact T010
      isplitl [T011]; · iexact T011
      isplitl [T020]; · iexact T020
      isplitl [T021]; · iexact T021
      iexact P0
    icases TS0 with ⟨%t0, %ht0, TS0⟩
    sl_exec_parts
    ihave TS1 := (joinSlab1 c (wAt c f3) _ _ _ _ _ _ _ (landA c ![0, 0, 512] ![0, 0, 512] (by decide) (by decide) rfl g2 f3) (landB c ![0, 3584, 512] (k0_off4 i) (by decide) (k0_off4_inb i) (off_eq4 i) g2 f3) (landA c ![1, 0, 512] ![1, 0, 512] (by decide) (by decide) rfl g2 f3) (landB c ![1, 3584, 512] (k0_off5 i) (by decide) (k0_off5_inb i) (off_eq5 i) g2 f3) (landA c ![2, 0, 512] ![2, 0, 512] (by decide) (by decide) rfl g2 f3) (landB c ![2, 3584, 512] (k0_off6 i) (by decide) (k0_off6_inb i) (off_eq6 i) g2 f3)) $$ [T100 T101 T110 T111 T120 T121 P1]
    · isplitl [T100]; · iexact T100
      isplitl [T101]; · iexact T101
      isplitl [T110]; · iexact T110
      isplitl [T111]; · iexact T111
      isplitl [T120]; · iexact T120
      isplitl [T121]; · iexact T121
      iexact P1
    icases TS1 with ⟨%t1, %ht1, TS1⟩
    sl_exec_parts
    ihave TS2 := (joinSlab2 c (wAt c f3) _ _ _ _ _ _ _ (landA c ![0, 0, 1024] ![0, 0, 1024] (by decide) (by decide) rfl g2 f3) (landB c ![0, 3584, 1024] (k0_off7 i) (by decide) (k0_off7_inb i) (off_eq7 i) g2 f3) (landA c ![1, 0, 1024] ![1, 0, 1024] (by decide) (by decide) rfl g2 f3) (landB c ![1, 3584, 1024] (k0_off8 i) (by decide) (k0_off8_inb i) (off_eq8 i) g2 f3) (landA c ![2, 0, 1024] ![2, 0, 1024] (by decide) (by decide) rfl g2 f3) (landB c ![2, 3584, 1024] (k0_off9 i) (by decide) (k0_off9_inb i) (off_eq9 i) g2 f3)) $$ [T200 T201 T210 T211 T220 T221 P2]
    · isplitl [T200]; · iexact T200
      isplitl [T201]; · iexact T201
      isplitl [T210]; · iexact T210
      isplitl [T211]; · iexact T211
      isplitl [T220]; · iexact T220
      isplitl [T221]; · iexact T221
      iexact P2
    icases TS2 with ⟨%t2, %ht2, TS2⟩
    sl_exec_parts
    ihave TS3 := (joinSlab3 c (wAt c f3) _ _ _ _ _ _ _ (landA c ![0, 0, 1536] ![0, 0, 1536] (by decide) (by decide) rfl g2 f3) (landB c ![0, 3584, 1536] (k0_off10 i) (by decide) (k0_off10_inb i) (off_eq10 i) g2 f3) (landA c ![1, 0, 1536] ![1, 0, 1536] (by decide) (by decide) rfl g2 f3) (landB c ![1, 3584, 1536] (k0_off11 i) (by decide) (k0_off11_inb i) (off_eq11 i) g2 f3) (landA c ![2, 0, 1536] ![2, 0, 1536] (by decide) (by decide) rfl g2 f3) (landB c ![2, 3584, 1536] (k0_off12 i) (by decide) (k0_off12_inb i) (off_eq12 i) g2 f3)) $$ [T300 T301 T310 T311 T320 T321 P3]
    · isplitl [T300]; · iexact T300
      isplitl [T301]; · iexact T301
      isplitl [T310]; · iexact T310
      isplitl [T311]; · iexact T311
      isplitl [T320]; · iexact T320
      isplitl [T321]; · iexact T321
      iexact P3
    icases TS3 with ⟨%t3, %ht3, TS3⟩
    sl_exec_parts
    sl_step
    ispecialize HK $$ %t0 %t1 %t2 %t3 %⟨ht0, ht1, ht2, ht3⟩
    iapply HK
    isplitl [O0]; · iexact O0
    isplitl [O1]; · iexact O1
    isplitl [O2]; · iexact O2
    isplitl [O3]; · iexact O3
    isplitl [H1]; · iexact H1
    isplitl [H2]; · iexact H2
    isplitl [H4]; · iexact H4
    isplitl [H5]; · iexact H5
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    isplitl [G1]; · iexists _; iexact G1
    isplitl [TS0 TS1 TS2 TS3]
    · ihave TS := (slabs_join c _ _ _ _) $$ [TS0 TS1 TS2 TS3]
      · isplitl [TS0]; · iexact TS0
        isplitl [TS1]; · iexact TS1
        isplitl [TS2]; · iexact TS2
        iexact TS3
      icases TS with ⟨%g, -, TS⟩
      iexists _; iexact TS
    isplitl [G3]; · iexists _; iexact G3
    isplitl [Y0 Y1 Y2 Y3]
    · ihave YS := (ys_join c _ _ _ _) $$ [Y0 Y1 Y2 Y3]
      · isplitl [Y0]; · iexact Y0
        isplitl [Y1]; · iexact Y1
        isplitl [Y2]; · iexact Y2
        iexact Y3
      icases YS with ⟨%g, -, YS⟩
      iexists _; iexact YS
    isplitl [G5]; · iexists _; iexact G5
    isplitl [G6]; · iexists _; iexact G6
    isplitl [G7]; · iexists _; iexact G7
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    iexists _; iexact HW
end Cert.KernelIdeal.Hand
end
-- ==== Proof.IBody.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp

public import proofs.«01_k».proof.Proof.IRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The four slabs of the weight buffer hold the widened weights wherever the widened argument has rows. -/
def Landed (c : Dev nD) (f3 : Buf (Elt F) ((Memref.whole main_v6).view.loc (c : Thread nD τ))) (t0 t1 t2 t3 : Buf (Elt F) (tB.view.loc (c : Thread nD τ))) : Prop :=
  (∀ x ∈ rS0.set, (x 1 : ℕ) < 3688 → t0 x = wAt c f3 x) ∧ (∀ x ∈ rS1.set, (x 1 : ℕ) < 3688 → t1 x = wAt c f3 x)
    ∧ (∀ x ∈ rS2.set, (x 1 : ℕ) < 3688 → t2 x = wAt c f3 x) ∧ (∀ x ∈ rS3.set, (x 1 : ℕ) < 3688 → t3 x = wAt c f3 x)

/-- What the run says of the result's final contents `g`: each part is what the run stores there, from landed slabs. -/
def Result (c : Dev nD) (i : grid0.Coords) (f1 : Buf (Elt F) ((Memref.whole main_v1).view.loc (c : Thread nD τ))) (f2 : Buf (Elt F) ((Memref.whole main_v4).view.loc (c : Thread nD τ))) (f3 : Buf (Elt F) ((Memref.whole main_v6).view.loc (c : Thread nD τ))) (f4 : Buf (Elt F) ((Memref.whole main_arg3).view.loc (c : Thread nD τ))) (f5 : Buf (Elt F) ((Memref.whole main_arg4).view.loc (c : Thread nD τ))) (f6 : Buf (Elt F) ((Memref.whole main_v7).view.loc (c : Thread nD τ))) (g1 : Buf (Elt F) ((Memref.whole cc0_scratch0).view.loc (c : Thread nD τ))) (g2 : Buf (Elt F) ((Memref.whole cc0_scratch1).view.loc (c : Thread nD τ))) (g3 : Buf (Elt F) ((Memref.whole cc0_scratch2).view.loc (c : Thread nD τ))) (g4 : Buf (Elt F) ((Memref.whole cc0_scratch3).view.loc (c : Thread nD τ))) (g5 : Buf (Elt F) ((Memref.whole cc0_scratch4).view.loc (c : Thread nD τ))) (g6 : Buf (Elt F) ((Memref.whole cc0_scratch5).view.loc (c : Thread nD τ))) (g7 : Buf (Elt F) ((Memref.whole cc0_scratch6).view.loc (c : Thread nD τ)))
    (g : Buf (Elt F) ((Memref.whole main_v7).view.loc (c : Thread nD τ))) : Prop :=
  ∃ t0 t1 t2 t3, Landed c f3 t0 t1 t2 t3 ∧ (∀ x ∈ rO0.set, g x = yO.view.writes (Elt F) f6 [⟨Rect.unit (s := S60x16x4x128) ![0, 0, 0, 0] S60x4x4x128.size inb_S60x16x4x128_S60x4x4x128_0_0_0_0, (run c i f1 f2 f3 f4 f5 f6 g1 g2 g3 g4 g5 g6 g7).1.1 t0 t1 t2 t3⟩] x) ∧ (∀ x ∈ rO1.set, g x = yO.view.writes (Elt F) f6 [⟨Rect.unit (s := S60x16x4x128) ![0, 4, 0, 0] S60x4x4x128.size inb_S60x16x4x128_S60x4x4x128_0_4_0_0, (run c i f1 f2 f3 f4 f5 f6 g1 g2 g3 g4 g5 g6 g7).1.2.1 t0 t1 t2 t3⟩] x) ∧ (∀ x ∈ rO2.set, g x = yO.view.writes (Elt F) f6 [⟨Rect.unit (s := S60x16x4x128) ![0, 8, 0, 0] S60x4x4x128.size inb_S60x16x4x128_S60x4x4x128_0_8_0_0, (run c i f1 f2 f3 f4 f5 f6 g1 g2 g3 g4 g5 g6 g7).1.2.2.1 t0 t1 t2 t3⟩] x) ∧ (∀ x ∈ rO3.set, g x = yO.view.writes (Elt F) f6 [⟨Rect.unit (s := S60x16x4x128) ![0, 12, 0, 0] S60x4x4x128.size inb_S60x16x4x128_S60x4x4x128_0_12_0_0, (run c i f1 f2 f3 f4 f5 f6 g1 g2 g3 g4 g5 g6 g7).1.2.2.2 t0 t1 t2 t3⟩] x)

/-- A buffer whole is its 24 read tokens and the share left over. -/
theorem toks_eq (c : Dev nD) (f3 : Buf (Elt F) ((Memref.whole main_v6).view.loc (c : Thread nD τ))) :
    (pt c (Memref.whole main_v6) f3 : sProp 𝕄) ⊣⊢ iprop(((Memref.whole main_v6).view.loc (c : Thread nD τ) ↦{Transfers.shareDrop fullShare 24} f3) ∗ tokV6 c 0 f3 ∗ tokV6 c 1 f3 ∗ tokV6 c 2 f3 ∗ tokV6 c 3 f3 ∗ tokV6 c 4 f3 ∗ tokV6 c 5 f3 ∗ tokV6 c 6 f3 ∗ tokV6 c 7 f3 ∗ tokV6 c 8 f3 ∗ tokV6 c 9 f3 ∗ tokV6 c 10 f3 ∗ tokV6 c 11 f3 ∗ tokV6 c 12 f3 ∗ tokV6 c 13 f3 ∗ tokV6 c 14 f3 ∗ tokV6 c 15 f3 ∗ tokV6 c 16 f3 ∗ tokV6 c 17 f3 ∗ tokV6 c 18 f3 ∗ tokV6 c 19 f3 ∗ tokV6 c 20 f3 ∗ tokV6 c 21 f3 ∗ tokV6 c 22 f3 ∗ tokV6 c 23 f3) := by
  have h := Transfers.pointsTo_toks_range (ℓ := (Memref.whole main_v6).view.loc (c : Thread nD τ)) (S := Finset.univ) (f := f3) (Ix := Unit) (Name := ℕ) (U := Pipeline.UD sig nD τ) (Lvl := ℕ) fullShare 24
  rw [BI.bigSep_eq_bigSepL_of_eq (l := [0, 1, 2, 3, 4, 5, 6, 7, 8, 9, 10, 11, 12, 13, 14, 15, 16, 17, 18, 19, 20, 21, 22, 23]) (by decide) (by decide)] at h
  exact h

set_option maxHeartbeats 0 in
/-- The body on whole buffers: from the arguments, the scratch and the result at anything and every semaphore at zero, it
    runs to the arguments unchanged, the result as `Result` says, the scratch at something and the semaphores at zero. -/
theorem body_whole (c : Dev nD) (i : grid0.Coords) (f1 : Buf (Elt F) ((Memref.whole main_v1).view.loc (c : Thread nD τ))) (f2 : Buf (Elt F) ((Memref.whole main_v4).view.loc (c : Thread nD τ))) (f3 : Buf (Elt F) ((Memref.whole main_v6).view.loc (c : Thread nD τ))) (f4 : Buf (Elt F) ((Memref.whole main_arg3).view.loc (c : Thread nD τ))) (f5 : Buf (Elt F) ((Memref.whole main_arg4).view.loc (c : Thread nD τ))) (f6 : Buf (Elt F) ((Memref.whole main_v7).view.loc (c : Thread nD τ))) (g1 : Buf (Elt F) ((Memref.whole cc0_scratch0).view.loc (c : Thread nD τ))) (g2 : Buf (Elt F) ((Memref.whole cc0_scratch1).view.loc (c : Thread nD τ))) (g3 : Buf (Elt F) ((Memref.whole cc0_scratch2).view.loc (c : Thread nD τ))) (g4 : Buf (Elt F) ((Memref.whole cc0_scratch3).view.loc (c : Thread nD τ))) (g5 : Buf (Elt F) ((Memref.whole cc0_scratch4).view.loc (c : Thread nD τ))) (g6 : Buf (Elt F) ((Memref.whole cc0_scratch5).view.loc (c : Thread nD τ))) (g7 : Buf (Elt F) ((Memref.whole cc0_scratch6).view.loc (c : Thread nD τ))) (W : Waits sig Unit) (K : PUnit → sProp 𝕄) :
    iprop(pt c (Memref.whole main_v1) f1 ∗ pt c (Memref.whole main_v4) f2 ∗ pt c (Memref.whole main_v6) f3 ∗ pt c (Memref.whole main_arg3) f4 ∗ pt c (Memref.whole main_arg4) f5 ∗ pt c (Memref.whole main_v7) f6 ∗ pt c (Memref.whole cc0_scratch0) g1 ∗ pt c (Memref.whole cc0_scratch1) g2 ∗ pt c (Memref.whole cc0_scratch2) g3 ∗ pt c (Memref.whole cc0_scratch3) g4 ∗ pt c (Memref.whole cc0_scratch4) g5 ∗ pt c (Memref.whole cc0_scratch5) g6 ∗ pt c (Memref.whole cc0_scratch6) g7 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ owes (c : Thread nD τ) 0 W
      ∗ (∀ g, ⌜Result c i f1 f2 f3 f4 f5 f6 g1 g2 g3 g4 g5 g6 g7 g⌝ -∗ iprop(pt c (Memref.whole main_v1) f1 ∗ pt c (Memref.whole main_v4) f2 ∗ pt c (Memref.whole main_v6) f3 ∗ pt c (Memref.whole main_arg3) f4 ∗ pt c (Memref.whole main_arg4) f5 ∗ pt c (Memref.whole main_v7) g ∗ (∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ (∃ g, pt (F := F) c (Memref.whole cc0_scratch5) g) ∗ (∃ g, pt (F := F) c (Memref.whole cc0_scratch6) g) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ (∃ W', owes (c : Thread nD τ) 0 W')) -∗ K ⟨⟩))
    ⊢ wp frame (wpE (defs₀ (F := F)) Variants.none c none) Set.univ (cc0_r2plus1d i (Memref.whole main_v1) (Memref.isWhole_whole _) (Memref.whole main_v4) (Memref.isWhole_whole _) (Memref.whole main_v6) (Memref.isWhole_whole _) (Memref.whole main_arg3) (Memref.isWhole_whole _) (Memref.whole main_arg4) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) K := by
  rw [show pt c (Memref.whole cc0_scratch1) g2 = pt c tB g2 from rfl, slabs_eq, slab0_eq, slab1_eq, slab2_eq, slab3_eq,
    show pt c (Memref.whole cc0_scratch3) g4 = pt c yB g4 from rfl, ys_eq,
    show pt c (Memref.whole main_v7) f6 = pt c yO f6 from rfl, os_eq]
  iintro ⟨H1, H2, H3, H4, H5, ⟨O0, O1, O2, O3⟩, G1, ⟨⟨T000, T001, T010, T011, T020, T021, P0⟩, ⟨T100, T101, T110, T111, T120, T121, P1⟩, ⟨T200, T201, T210, T211, T220, T221, P2⟩, ⟨T300, T301, T310, T311, T320, T321, P3⟩⟩, G3, ⟨Y0, Y1, Y2, Y3⟩, G5, G6, G7, S0, S1, S2, S3, S4, S5, S6, S7, S8, S9, S10, S11, S12, S13, S14, S15, S16, S17, S18, S19, S20, S21, S22, S23, S24, S25, S26, S27, S28, S29, S30, S31, HW, HK⟩
  ihave H3 := (toks_eq c f3).1 $$ H3
  icases H3 with ⟨V, V0, V1, V2, V3, V4, V5, V6, V7, V8, V9, V10, V11, V12, V13, V14, V15, V16, V17, V18, V19, V20, V21, V22, V23⟩
  iapply ((run c i f1 f2 f3 f4 f5 f6 g1 g2 g3 g4 g5 g6 g7).2 W K)
  isplitl [T000]; · iexact T000
  isplitl [T001]; · iexact T001
  isplitl [T010]; · iexact T010
  isplitl [T011]; · iexact T011
  isplitl [T020]; · iexact T020
  isplitl [T021]; · iexact T021
  isplitl [P0]; · iexact P0
  isplitl [T100]; · iexact T100
  isplitl [T101]; · iexact T101
  isplitl [T110]; · iexact T110
  isplitl [T111]; · iexact T111
  isplitl [T120]; · iexact T120
  isplitl [T121]; · iexact T121
  isplitl [P1]; · iexact P1
  isplitl [T200]; · iexact T200
  isplitl [T201]; · iexact T201
  isplitl [T210]; · iexact T210
  isplitl [T211]; · iexact T211
  isplitl [T220]; · iexact T220
  isplitl [T221]; · iexact T221
  isplitl [P2]; · iexact P2
  isplitl [T300]; · iexact T300
  isplitl [T301]; · iexact T301
  isplitl [T310]; · iexact T310
  isplitl [T311]; · iexact T311
  isplitl [T320]; · iexact T320
  isplitl [T321]; · iexact T321
  isplitl [P3]; · iexact P3
  isplitl [Y0]; · iexact Y0
  isplitl [O0]; · iexact O0
  isplitl [Y1]; · iexact Y1
  isplitl [O1]; · iexact O1
  isplitl [Y2]; · iexact Y2
  isplitl [O2]; · iexact O2
  isplitl [Y3]; · iexact Y3
  isplitl [O3]; · iexact O3
  isplitl [H1]; · iexact H1
  isplitl [H2]; · iexact H2
  isplitl [H4]; · iexact H4
  isplitl [H5]; · iexact H5
  isplitl [G1]; · iexact G1
  isplitl [G3]; · iexact G3
  isplitl [G5]; · iexact G5
  isplitl [G6]; · iexact G6
  isplitl [G7]; · iexact G7
  isplitl [V0]; · iexact V0
  isplitl [V1]; · iexact V1
  isplitl [V2]; · iexact V2
  isplitl [V3]; · iexact V3
  isplitl [V4]; · iexact V4
  isplitl [V5]; · iexact V5
  isplitl [V6]; · iexact V6
  isplitl [V7]; · iexact V7
  isplitl [V8]; · iexact V8
  isplitl [V9]; · iexact V9
  isplitl [V10]; · iexact V10
  isplitl [V11]; · iexact V11
  isplitl [V12]; · iexact V12
  isplitl [V13]; · iexact V13
  isplitl [V14]; · iexact V14
  isplitl [V15]; · iexact V15
  isplitl [V16]; · iexact V16
  isplitl [V17]; · iexact V17
  isplitl [V18]; · iexact V18
  isplitl [V19]; · iexact V19
  isplitl [V20]; · iexact V20
  isplitl [V21]; · iexact V21
  isplitl [V22]; · iexact V22
  isplitl [V23]; · iexact V23
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [HW]; · iexact HW
  iintro %t0 %t1 %t2 %t3 %ht ⟨O0, O1, O2, O3, H1, H2, H4, H5, V0, V1, V2, V3, V4, V5, V6, V7, V8, V9, V10, V11, V12, V13, V14, V15, V16, V17, V18, V19, V20, V21, V22, V23, G1, G2, G3, G4, G5, G6, G7, S0, S1, S2, S3, S4, S5, S6, S7, S8, S9, S10, S11, S12, S13, S14, S15, S16, S17, S18, S19, S20, S21, S22, S23, S24, S25, S26, S27, S28, S29, S30, S31, HW⟩
  ihave O := (os_join c _ _ _ _) $$ [O0 O1 O2 O3]
  · isplitl [O0]; · iexact O0
    isplitl [O1]; · iexact O1
    isplitl [O2]; · iexact O2
    iexact O3
  icases O with ⟨%g, %hg, O⟩
  ispecialize HK $$ %g %⟨t0, t1, t2, t3, ht, hg⟩
  iapply HK
  isplitl [H1]; · iexact H1
  isplitl [H2]; · iexact H2
  isplitl [V V0 V1 V2 V3 V4 V5 V6 V7 V8 V9 V10 V11 V12 V13 V14 V15 V16 V17 V18 V19 V20 V21 V22 V23]
  · iapply (toks_eq c f3).2
    isplitl [V]; · iexact V
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    iexact V23
  isplitl [H4]; · iexact H4
  isplitl [H5]; · iexact H5
  isplitl [O]; · iexact O
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  iexact HW

end Cert.KernelIdeal.Hand
end
-- ==== Proof.IFrame.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp

public import proofs.«01_k».proof.Proof.IBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program around its region: the host lines before it, the region, the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- The body's own semaphores: all 32. -/
abbrev osem0 : Fin 32 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31] : Fin 32 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)]; rfl

/-- The buffers the body reads by its own transfers. -/
def H0 : Finset (Ref sig .tc) := {main_v1, main_v4, main_v6, main_arg3, main_arg4}
/-- The buffer it writes by its own transfers: the result. -/
def R0 : Finset (Ref sig .tc) := {main_v7}
/-- The buffers the host lines after the region write. -/
def T0 : Finset (Ref sig .tc) := {main_v8, main_v9, main_v10}
theorem H0_sub : H0 ⊆ Pipeline.restRefs sig (cfg0.spec) := by decide
theorem R0_sub : R0 ⊆ Pipeline.restRefs sig (cfg0.spec) \ H0 := by decide

theorem hbmPts0_eq (c : Dev nD) :
    (bigSep H0 (fun b => ((c : Thread nD τ).loc b) ↦{fullShare} V m c b) : sProp 𝕄) = iprop(pt c (Memref.whole main_v1) (V m c main_v1) ∗ pt c (Memref.whole main_v4) (V m c main_v4) ∗ pt c (Memref.whole main_v6) (V m c main_v6) ∗ pt c (Memref.whole main_arg3) (V m c main_arg3) ∗ pt c (Memref.whole main_arg4) (V m c main_arg4)) := by
  rw [BI.bigSep_eq_bigSepL_of_eq [main_v1, main_v4, main_v6, main_arg3, main_arg4] (by decide) (by decide)]; rfl

theorem ownedPts0_eq (c : Dev nD) : (Pipeline.owned R0 c : sProp 𝕄) = iprop(∃ f, pt c (Memref.whole main_v7) f) := by
  unfold Pipeline.owned; rw [BI.bigSep_eq_bigSepL_of_eq [main_v7] (by decide) (by decide)]; rfl

theorem scoped_eq (c : Dev nD) :
    (Pipeline.scopedRest (Ix := Unit) (Name := ℕ) (U := Pipeline.UD sig nD τ) (Lvl := ℕ) (Val := Elt F) (cfg0.spec) c : sProp 𝕄) = iprop((∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ (∃ g, pt (F := F) c (Memref.whole cc0_scratch5) g) ∗ (∃ g, pt (F := F) c (Memref.whole cc0_scratch6) g)) :=
  scopedRest0_eq c

theorem PhiDR0_eq (c : Dev nD) :
    (Pipeline.ΦDR osem0 (cfg0.spec) H0 R0 (V m) c : sProp 𝕄)
      = iprop(iprop((∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ (∃ g, pt (F := F) c (Memref.whole cc0_scratch5) g) ∗ (∃ g, pt (F := F) c (Memref.whole cc0_scratch6) g)) ∗ (∃ r, prngReg c r) ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) ∗ iprop(pt c (Memref.whole main_v1) (V m c main_v1) ∗ pt c (Memref.whole main_v4) (V m c main_v4) ∗ pt c (Memref.whole main_v6) (V m c main_v6) ∗ pt c (Memref.whole main_arg3) (V m c main_arg3) ∗ pt c (Memref.whole main_arg4) (V m c main_arg4)) ∗ iprop(∃ f, pt c (Memref.whole main_v7) f)) := by
  rw [Pipeline.ΦDR_eq, scoped_eq, ownSems00_eq, hbmPts0_eq, ownedPts0_eq]

/-- The proof data of the one pipeline: no windows, the own-transfer invariant with the result owned, nothing owed. -/
def dats (_ : Fin 1) (c : Dev nD) : Dat τ (Elt F) Unit ℕ (Pipeline.UD sig nD τ) ℕ cfg0 c where
  A w := w.elim0
  after w _ := w.elim0
  Φ _ := Pipeline.ΦDR osem0 (cfg0.spec) H0 R0 (V m) c
  q _ := fullShare
  owed _ := 0

set_option maxHeartbeats 0 in
theorem sound_body (c : Dev nD) (t : Fin cfg0.N) :
    iprop((dats m 0 c).Φ t.castSucc ∗ (dats m 0 c).owesAt () t.castSucc) ⊢ wp frame (wpE (defs₀ (F := F)) Variants.none c none) Set.univ (bodyAt0 t)
      (fun _ => iprop((dats m 0 c).Φ t.succ ∗ (dats m 0 c).owesAt () t.succ)) := by
  unfold bodyAt0
  rw [show (dats m 0 c).Φ t.succ = (dats m 0 c).Φ t.castSucc from rfl]
  rw [show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%g1, G1⟩, ⟨%g2, G2⟩, ⟨%g3, G3⟩, ⟨%g4, G4⟩, ⟨%g5, G5⟩, ⟨%g6, G6⟩, ⟨%g7, G7⟩⟩, Hg, ⟨S0, S1, S2, S3, S4, S5, S6, S7, S8, S9, S10, S11, S12, S13, S14, S15, S16, S17, S18, S19, S20, S21, S22, S23, S24, S25, S26, S27, S28, S29, S30, S31⟩, ⟨H1, H2, H3, H4, H5⟩, ⟨%f6, O⟩⟩, ⟨%W, -, HW⟩⟩
  iapply (body_whole c _ (V m c main_v1) (V m c main_v4) (V m c main_v6) (V m c main_arg3) (V m c main_arg4) f6 g1 g2 g3 g4 g5 g6 g7 W _)
  isplitl [H1]; · iexact H1
  isplitl [H2]; · iexact H2
  isplitl [H3]; · iexact H3
  isplitl [H4]; · iexact H4
  isplitl [H5]; · iexact H5
  isplitl [O]; · iexact O
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [HW]; · iexact HW
  iintro %g %hg ⟨H1, H2, H3, H4, H5, O, G1, G2, G3, G4, G5, G6, G7, S0, S1, S2, S3, S4, S5, S6, S7, S8, S9, S10, S11, S12, S13, S14, S15, S16, S17, S18, S19, S20, S21, S22, S23, S24, S25, S26, S27, S28, S29, S30, S31, ⟨%W', HW⟩⟩
  isplitr [HW]
  · isplitl [G1 G2 G3 G4 G5 G6 G7]
    · isplitl [G1]; iexact G1; isplitl [G2]; iexact G2; isplitl [G3]; iexact G3; isplitl [G4]; iexact G4; isplitl [G5]; iexact G5; isplitl [G6]; iexact G6; iexact G7
    isplitl [Hg]; · iexact Hg
    isplitl [S0 S1 S2 S3 S4 S5 S6 S7 S8 S9 S10 S11 S12 S13 S14 S15 S16 S17 S18 S19 S20 S21 S22 S23 S24 S25 S26 S27 S28 S29 S30 S31]
    · isplitl [S0]; iexact S0; isplitl [S1]; iexact S1; isplitl [S2]; iexact S2; isplitl [S3]; iexact S3; isplitl [S4]; iexact S4; isplitl [S5]; iexact S5; isplitl [S6]; iexact S6; isplitl [S7]; iexact S7; isplitl [S8]; iexact S8; isplitl [S9]; iexact S9; isplitl [S10]; iexact S10; isplitl [S11]; iexact S11; isplitl [S12]; iexact S12; isplitl [S13]; iexact S13; isplitl [S14]; iexact S14; isplitl [S15]; iexact S15; isplitl [S16]; iexact S16; isplitl [S17]; iexact S17; isplitl [S18]; iexact S18; isplitl [S19]; iexact S19; isplitl [S20]; iexact S20; isplitl [S21]; iexact S21; isplitl [S22]; iexact S22; isplitl [S23]; iexact S23; isplitl [S24]; iexact S24; isplitl [S25]; iexact S25; isplitl [S26]; iexact S26; isplitl [S27]; iexact S27; isplitl [S28]; iexact S28; isplitl [S29]; iexact S29; isplitl [S30]; iexact S30; iexact S31
    isplitl [H1 H2 H3 H4 H5]
    · isplitl [H1]; iexact H1; isplitl [H2]; iexact H2; isplitl [H3]; iexact H3; isplitl [H4]; iexact H4; iexact H5
    iexists g; iexact O
  iexists W'; isplitr
  · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [show (Finset.univ : Finset (Fin cfg0.W)) = ∅ from rfl, BI.bigSep_empty, BI.bigSep_empty, defs₀_row]
  refine triple_restated (sound_body m c t) rfl ?_ fun _ => ?_
  · iintro ⟨H, HO, -⟩
    isplitl [H]; · iexact H
    iexact HO
  · iintro ⟨H, HO⟩
    isplitl [H]; · iexact H
    isplitl [HO]; · iexact HO
    iempintro

theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl | rfl <;>
    (simp only [StableHlo.unary_writes, StableHlo.reshape_writes, Finset.mem_singleton] at hb
     have hb' := Proc.devRef_injective _ hb
     subst hb'
     decide)

set_option backward.isDefEq.respectTransparency.types false in
theorem run_main : θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_T)
    (hmain := hmain m Variants.none) (hA := fun _ w => w.elim0)
    (hin := fun _ => .rfl) (hout := fun _ => .rfl)

/-- Every argument ends as it began and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c)⟩, h.2⟩) (run_main m ρ)

end Cert.KernelIdeal.Hand
end
-- ==== Proof.IChain.lean ====
module
public import proofs.«01_k».proof.Proof.IBase
public import Idealize.ShloMosaic.Lib.Mxu.Lemmas
public import Idealize.ShloMosaic.Lib.MatmulPlain
public import Idealize.ShloMosaic.Lib.Pointwise

@[expose] public section

namespace Cert.KernelIdeal.Hand

open Idealize.ShloMosaic Idealize.ShloMosaic.Mxu
open scoped BigOperators

section Steps

variable {F : FTy → Type} [FloatOps F]

/-- The staging register of pass `i`: the passes alternate. -/
def turn (i : ℕ) : Fin 2 := ⟨i % 2, Nat.mod_lt _ (by decide)⟩

/-- One right-hand tile for each of the two units. -/
abbrev Tiles (F : FTy → Type) [FloatOps F] := Fin 2 → FVec F (STile 256) .bf16

/-- Push a tile to each unit. -/
def pushPair (s : Mxu F) (r : Fin 2) (v : Tiles F) : Mxu F := (s.pushed 0 r false (v 0)).pushed 1 r false (v 1)

/-- Accumulate the same left operand on each unit. -/
def accPair (s : Mxu F) (r : Fin 2) (A : ℕ) {M : ℕ} (l : FVec F (STile M) .bf16) (h : Fits A M) : Mxu F :=
  (s.accLhs 0 r A l h).accLhs 1 r A l h

/-- `m` passes from pass number `i`: each pushes the next pass's tiles, then accumulates its own. -/
def passes (s : Mxu F) (i A : ℕ) {M : ℕ} (h : Fits A M) (R : ℕ → Tiles F) (L : ℕ → FVec F (STile M) .bf16) : ℕ → Mxu F
  | 0 => s
  | m + 1 => accPair (pushPair (passes s i A h R L m) (turn (i + (m + 1))) (R (m + 1))) (turn (i + m)) A (L m) h

/-- What a staging pair holds. -/
def Staged2 (s : Mxu F) (i : ℕ) (v : Tiles F) : Prop :=
  (∀ q, s.reg q (turn i) = some ⟨.bf16, false, v q⟩) ∧ ∀ q, s.reg q (turn (i + 1)) = none

theorem turn_ne (i : ℕ) : turn i ≠ turn (i + 1) := by
  intro h
  have := congrArg Fin.val h
  simp only [turn] at this
  omega

theorem turn_two (i : ℕ) : turn (i + 2) = turn i := by
  apply Fin.ext; simp [turn]

theorem reg_pushPair {s : Mxu F} {r : Fin 2} (v : Tiles F) (h : ∀ q, s.reg q r = none) (q : Fin 2) :
    (pushPair s r v).reg q r = some ⟨.bf16, false, v q⟩ := by
  unfold pushPair
  match q with
  | 0 => rw [reg_pushed_ne _ _ _ _ _ _ _ (fun h => absurd h.1 (by decide)), reg_pushed_of_none _ _ _ _ _ (h 0)]
  | 1 => rw [reg_pushed_of_none]; rw [reg_pushed_ne _ _ _ _ _ _ _ (fun h => absurd h.1 (by decide)), h 1]

theorem reg_pushPair_ne (s : Mxu F) {r r' : Fin 2} (hr : r' ≠ r) (v : Tiles F) (q : Fin 2) :
    (pushPair s r v).reg q r' = s.reg q r' := by
  unfold pushPair
  rw [reg_pushed_ne _ _ _ _ _ _ _ fun h => hr h.2, reg_pushed_ne _ _ _ _ _ _ _ fun h => hr h.2]

theorem acc_pushPair (s : Mxu F) (r : Fin 2) (v : Tiles F) : (pushPair s r v).acc = s.acc := by
  unfold pushPair; rw [acc_pushed, acc_pushed]

theorem reg_accPair (s : Mxu F) (r : Fin 2) (A : ℕ) {M : ℕ} (l : FVec F (STile M) .bf16) (h : Fits A M) (q : Fin 2) :
    (accPair s r A l h).reg q r = none := by
  unfold accPair
  match q with
  | 0 => rw [reg_accLhs_ne _ _ _ _ _ _ _ _ (fun h => absurd h.1 (by decide)), reg_accLhs]
  | 1 => rw [reg_accLhs]

theorem reg_accPair_ne (s : Mxu F) {r r' : Fin 2} (hr : r' ≠ r) (A : ℕ) {M : ℕ} (l : FVec F (STile M) .bf16) (h : Fits A M) (q : Fin 2) :
    (accPair s r A l h).reg q r' = s.reg q r' := by
  unfold accPair
  rw [reg_accLhs_ne _ _ _ _ _ _ _ _ fun h => hr h.2, reg_accLhs_ne _ _ _ _ _ _ _ _ fun h => hr h.2]

end Steps

section Ideal

/-- A deposit adds, whether or not the row was in use: a row not in use holds zero. -/
theorem acc_accLhs (s : Mxu Ideal) (q r : Fin 2) (A : ℕ) {M : ℕ} (l : FVec Ideal (STile M) .bf16) (h : Fits A M) (q' : Fin 2)
    (R : Fin 1024) (C : Fin 256) :
    ((s.accLhs q r A l h).acc q' R C : EReal) = (s.acc q' R C : EReal) +
      (if hq : q' = q ∧ 4 * A ≤ R.val ∧ R.val < 4 * A + M then
        ((s.staged q r).pass l (ix ⟨R.val - 4 * A, by omega⟩ C) : EReal) else (0 : EReal)) := by
  by_cases hq : q' = q ∧ 4 * A ≤ R.val ∧ R.val < 4 * A + M
  · rw [dif_pos hq]
    show (if hq : q' = q ∧ 4 * A ≤ R.val ∧ R.val < 4 * A + M then _ else _ : EReal) = _
    rw [dif_pos hq]
    cases hl : s.live q' R with
    | true => rfl
    | false =>
      have e : (s.acc q' R C : EReal) = 0 := by
        rw [s.clean q' R C hl]; exact Ideal.ofBits_zero_f32
      rw [e, zero_add]; rfl
  · rw [dif_neg hq, add_zero]
    show (if hq : q' = q ∧ 4 * A ≤ R.val ∧ R.val < 4 * A + M then _ else _ : EReal) = _
    rw [dif_neg hq]

/-- The product of a left operand and a tile, read at an element. -/
noncomputable def prod {M : ℕ} (l : FVec Ideal (STile M) .bf16) (v : FVec Ideal (STile 256) .bf16) (r : Fin M) (C : Fin 256) : EReal :=
  ∑ u : Fin 256, (l (ValueIdx.ix2 r u) : EReal) * (v (ValueIdx.ix2 u C) : EReal)

theorem pass_apply {M : ℕ} (l : FVec Ideal (STile M) .bf16) (v : FVec Ideal (STile 256) .bf16) (r : Fin M) (C : Fin 256) :
    ((⟨.bf16, false, v⟩ : Staged Ideal).pass l (ix r C) : EReal) = prod l v r C := by
  have e := Ideal.matmul_plain_apply (φ₁ := .bf16) (φ₂ := .bf16) none l v (fun _ => (0 : EReal)) r C
  rw [show ((0 : EReal) + _) = _ from zero_add _] at e
  refine Eq.trans ?_ e
  rw [show ix r C = ValueIdx.ix2 r C from by funext a; match a with | 0 => rfl | 1 => rfl]
  exact (zero_add (M := EReal) _).symm

/-- A pair's accumulate adds the product on each unit, in its own rows. -/
theorem acc_accPair {s : Mxu Ideal} {r : Fin 2} {v : Tiles Ideal} (A : ℕ) {M : ℕ} (l : FVec Ideal (STile M) .bf16) (h : Fits A M)
    (hs : ∀ q, s.reg q r = some ⟨.bf16, false, v q⟩) (q : Fin 2) (R : Fin 1024) (C : Fin 256) :
    ((accPair s r A l h).acc q R C : EReal) = (s.acc q R C : EReal) +
      (if hq : 4 * A ≤ R.val ∧ R.val < 4 * A + M then prod l (v q) ⟨R.val - 4 * A, by omega⟩ C else (0 : EReal)) := by
  unfold accPair
  have e1 : ((s.accLhs 0 r A l h).staged 1 r) = ⟨.bf16, false, v 1⟩ := by
    rw [staged_eq, reg_accLhs_ne _ _ _ _ _ _ _ _ (fun h => absurd h.1 (by decide)), hs 1]; rfl
  have e0 : s.staged 0 r = ⟨.bf16, false, v 0⟩ := by rw [staged_eq, hs 0]; rfl
  rw [acc_accLhs, acc_accLhs, e1, e0]
  match q with
  | 0 =>
    rw [dif_neg (c := (0 : Fin 2) = 1 ∧ _) (fun h => absurd h.1 (by decide)), add_zero]
    by_cases hq : 4 * A ≤ R.val ∧ R.val < 4 * A + M
    · rw [dif_pos hq, dif_pos ⟨rfl, hq⟩, pass_apply]
    · rw [dif_neg hq, dif_neg fun h => hq h.2]
  | 1 =>
    rw [dif_neg (c := (1 : Fin 2) = 0 ∧ _) (fun h => absurd h.1 (by decide)), add_zero]
    by_cases hq : 4 * A ≤ R.val ∧ R.val < 4 * A + M
    · rw [dif_pos hq, dif_pos ⟨rfl, hq⟩, pass_apply]
    · rw [dif_neg hq, dif_neg fun h => hq h.2]

/-- After `m` passes: the next tiles are staged, and each row of the address has gained the products. -/
theorem passes_spec {s : Mxu Ideal} {i A M : ℕ} {h : Fits A M} {R : ℕ → Tiles Ideal} {L : ℕ → FVec Ideal (STile M) .bf16}
    (hs : Staged2 s i (R 0)) (m : ℕ) {n : ℕ} (hn : n = i + m) :
    Staged2 (passes s i A h R L m) n (R m) ∧ ∀ q (X : Fin 1024) C,
      ((passes s i A h R L m).acc q X C : EReal) = (s.acc q X C : EReal) +
        (if hq : 4 * A ≤ X.val ∧ X.val < 4 * A + M then
          ∑ j ∈ Finset.range m, prod (L j) (R j q) ⟨X.val - 4 * A, by omega⟩ C else (0 : EReal)) := by
  subst hn
  induction m with
  | zero => exact ⟨hs, fun q X C => by simp [passes]⟩
  | succ m ih =>
    obtain ⟨⟨i1, i2⟩, i3⟩ := ih
    have hne : turn (i + m) ≠ turn (i + (m + 1)) := turn_ne _
    have p1 := reg_pushPair (s := passes s i A h R L m) (R (m + 1)) i2
    have p2 := reg_pushPair_ne (passes s i A h R L m) hne (R (m + 1))
    refine ⟨⟨fun q => ?_, fun q => ?_⟩, fun q X C => ?_⟩
    · exact (reg_accPair_ne _ hne.symm A (L m) h q).trans (p1 q)
    · rw [show i + (m + 1) + 1 = i + m + 2 from rfl, turn_two]
      exact reg_accPair _ _ A (L m) h q
    · have e := acc_accPair A (L m) h (s := pushPair (passes s i A h R L m) (turn (i + (m + 1))) (R (m + 1)))
        (r := turn (i + m)) (v := R m) (fun q => (p2 q).trans (i1 q)) q X C
      refine e.trans ?_
      rw [acc_pushPair, i3]
      by_cases hq : 4 * A ≤ X.val ∧ X.val < 4 * A + M
      · simp only [dif_pos hq, Finset.sum_range_succ, add_assoc]
      · simp only [dif_neg hq, add_zero]

/-- Zero rows everywhere, tiles staged for pass `i`: the state between two column chunks. -/
def Fresh (s : Mxu Ideal) (i : ℕ) (v : Tiles Ideal) : Prop :=
  Staged2 s i v ∧ ∀ q (X : Fin 1024) C, (s.acc q X C : EReal) = 0

end Ideal

section Chunk

variable {F : FTy → Type} [FloatOps F]

/-- The three taps of a chunk: fifteen passes each, at three addresses; the last pass stands apart. `R k` are tap `k`'s
    tiles and `L k` its left operands. -/
def taps (s : Mxu F) (i A : ℕ) (hA : Fits A 256) (R : Fin 3 → ℕ → Tiles F) (L1 : ℕ → FVec F (STile 256) .bf16)
    (L0 L2 : ℕ → FVec F (STile 192) .bf16) : Mxu F :=
  passes (passes (passes s i A hA (fun j => if j < 15 then R 1 j else R 0 0) L1 15)
    (i + 15) 0 (M := 192) (by decide) (fun j => if j < 15 then R 0 j else R 2 0) L0 15)
    (i + 30) 176 (M := 192) (by decide) (R 2) L2 14

/-- The six pops of a chunk. -/
def drain (s : Mxu F) (A : ℕ) (hA : Fits A 256) : Mxu F :=
  (((((s.pop 0 A 256 hA).pop 0 0 192 (by decide)).pop 0 176 192 (by decide)).pop 1 A 256 hA).pop 1 0 192 (by decide)).pop 1 176 192
    (by decide)

end Chunk

section ChunkIdeal

variable {s : Mxu Ideal} {i A : ℕ} {hA : Fits A 256} {R : Fin 3 → ℕ → Tiles Ideal} {L1 : ℕ → FVec Ideal (STile 256) .bf16}
  {L0 L2 : ℕ → FVec Ideal (STile 192) .bf16}

/-- Fifteen products summed. -/
noncomputable def sum15 {M : ℕ} (L : ℕ → FVec Ideal (STile M) .bf16) (R : ℕ → Tiles Ideal) (q : Fin 2) (r : Fin M) (C : Fin 256) : EReal :=
  ∑ j ∈ Finset.range 15, prod (L j) (R j q) r C

theorem sum15_congr {M : ℕ} {L : ℕ → FVec Ideal (STile M) .bf16} {R R' : ℕ → Tiles Ideal} (h : ∀ j, j < 15 → R j = R' j) (q : Fin 2)
    (r : Fin M) (C : Fin 256) : sum15 L R q r C = sum15 L R' q r C :=
  Finset.sum_congr rfl fun j hj => by rw [h j (Finset.mem_range.1 hj)]

/-- A chunk's passes from a fresh state: the last tiles are staged, and every row so far. -/
theorem taps_spec (hs : Fresh s i (R 1 0)) :
    Staged2 (taps s i A hA R L1 L0 L2) (i + 44) (R 2 14) ∧ ∀ q (X : Fin 1024) C,
      ((taps s i A hA R L1 L0 L2).acc q X C : EReal) =
      (if hq : 4 * A ≤ X.val ∧ X.val < 4 * A + 256 then sum15 L1 (R 1) q ⟨X.val - 4 * A, by omega⟩ C else 0) +
      ((if hq : 4 * 0 ≤ X.val ∧ X.val < 4 * 0 + 192 then sum15 L0 (R 0) q ⟨X.val - 4 * 0, by omega⟩ C else 0) +
      (if hq : 4 * 176 ≤ X.val ∧ X.val < 4 * 176 + 192 then
        ∑ j ∈ Finset.range 14, prod (L2 j) (R 2 j q) ⟨X.val - 4 * 176, by omega⟩ C else 0)) := by
  unfold taps
  have b1 := passes_spec (A := A) (h := hA) (R := fun j => if j < 15 then R 1 j else R 0 0) (L := L1) (i := i) (s := s)
    hs.1 15 (n := i + 15) rfl
  generalize passes s i A hA (fun j => if j < 15 then R 1 j else R 0 0) L1 15 = s1 at b1 ⊢
  have b0 := passes_spec (A := 0) (M := 192) (h := by decide) (R := fun j => if j < 15 then R 0 j else R 2 0) (L := L0) (i := i + 15)
    (s := s1) b1.1 15 (n := i + 30) (by omega)
  generalize passes s1 (i + 15) 0 (M := 192) _ (fun j => if j < 15 then R 0 j else R 2 0) L0 15 = s0 at b0 ⊢
  have b2 := passes_spec (A := 176) (M := 192) (h := by decide) (R := R 2) (L := L2) (i := i + 30)
    (s := s0) b0.1 14 (n := i + 44) (by omega)
  generalize passes s0 (i + 30) 176 (M := 192) _ (R 2) L2 14 = s2 at b2 ⊢
  refine ⟨b2.1, fun q X C => ?_⟩
  rw [b2.2, b0.2, b1.2, hs.2, zero_add, add_assoc]
  refine congrArg₂ (· + ·) ?_ (congrArg₂ (· + ·) ?_ rfl)
  · split
    · exact Finset.sum_congr rfl fun j hj => by rw [if_pos (Finset.mem_range.1 hj)]
    · rfl
  · split
    · exact Finset.sum_congr rfl fun j hj => by rw [if_pos (Finset.mem_range.1 hj)]
    · rfl

/-- After the last accumulate, from any state `p` with the same rows and the same staged tiles for it: every row of the
    result buffer. -/
theorem taps_acc (hs : Fresh s i (R 1 0)) (p : Mxu Ideal) (hp : p.acc = (taps s i A hA R L1 L0 L2).acc)
    (hr : ∀ q, p.reg q (turn (i + 44)) = (taps s i A hA R L1 L0 L2).reg q (turn (i + 44))) (q : Fin 2) (X : Fin 1024) (C : Fin 256) :
    ((accPair p (turn (i + 44)) 176 (M := 192) (L2 14) (by decide)).acc q X C : EReal) =
      (if hq : 4 * A ≤ X.val ∧ X.val < 4 * A + 256 then sum15 L1 (R 1) q ⟨X.val - 4 * A, by omega⟩ C else 0) +
      ((if hq : 4 * 0 ≤ X.val ∧ X.val < 4 * 0 + 192 then sum15 L0 (R 0) q ⟨X.val - 4 * 0, by omega⟩ C else 0) +
      (if hq : 4 * 176 ≤ X.val ∧ X.val < 4 * 176 + 192 then sum15 L2 (R 2) q ⟨X.val - 4 * 176, by omega⟩ C else 0)) := by
  have b := taps_spec (A := A) (hA := hA) (L1 := L1) (L0 := L0) (L2 := L2) hs
  generalize taps s i A hA R L1 L0 L2 = t at b hp hr
  have e := acc_accPair (s := p) (r := turn (i + 44)) (v := R 2 14) 176 (M := 192) (L2 14) (by decide)
    (fun q => (hr q).trans (b.1.1 q)) q X C
  refine e.trans ?_
  rw [hp, b.2, add_assoc, add_assoc]
  refine congrArg₂ (· + ·) rfl (congrArg₂ (· + ·) rfl ?_)
  by_cases hq : 4 * 176 ≤ X.val ∧ X.val < 4 * 176 + 192
  · rw [dif_pos hq, dif_pos hq, dif_pos hq]
    exact (Finset.sum_range_succ (fun j => prod (L2 j) (R 2 j q) ⟨X.val - 4 * 176, by omega⟩ C) 14).symm
  · rw [dif_neg hq, dif_neg hq, dif_neg hq, add_zero]

/-- Popping the three addresses leaves no row. -/
theorem drain_acc (t : Mxu Ideal) (h : ∀ q (X : Fin 1024) C, ¬ (4 * A ≤ X.val ∧ X.val < 4 * A + 256) → ¬ (X.val < 192) →
    ¬ (704 ≤ X.val ∧ X.val < 896) → (t.acc q X C : EReal) = 0) (q : Fin 2) (X : Fin 1024) (C : Fin 256) :
    ((drain t A hA).acc q X C : EReal) = 0 := by
  have z : (FloatOps.ofBits (F := Ideal) FTy.f32 0 : EReal) = 0 := Ideal.ofBits_zero_f32
  unfold drain
  simp only [pop, z]
  split_ifs <;> try rfl
  rename_i h1 h2 h3 h4 h5 h6
  match q with
  | 0 => exact h 0 X C (by omega) (by omega) (by omega)
  | 1 => exact h 1 X C (by omega) (by omega) (by omega)

theorem drain_fresh {t : Mxu Ideal} {v : Tiles Ideal} {m : ℕ} (hv : Staged2 t m v)
    (h : ∀ q (X : Fin 1024) C, ¬ (4 * A ≤ X.val ∧ X.val < 4 * A + 256) → ¬ (X.val < 192) →
    ¬ (704 ≤ X.val ∧ X.val < 896) → (t.acc q X C : EReal) = 0) : Fresh (drain t A hA) m v :=
  ⟨hv, drain_acc t h⟩

/-- The next chunk begins fresh. -/
theorem taps_next (hs : Fresh s i (R 1 0)) (v : Tiles Ideal) :
    Fresh (drain (accPair (pushPair (taps s i A hA R L1 L0 L2) (turn (i + 45)) v) (turn (i + 44)) 176 (M := 192) (L2 14) (by decide)) A hA)
      (i + 45) v := by
  have hne : turn (i + 44) ≠ turn (i + 45) := turn_ne _
  have b := (taps_spec (A := A) (hA := hA) (L1 := L1) (L0 := L0) (L2 := L2) hs).1
  have a := taps_acc (A := A) (hA := hA) (L1 := L1) (L0 := L0) (L2 := L2) hs _ (acc_pushPair _ (turn (i + 45)) v)
    (reg_pushPair_ne _ hne v)
  generalize taps s i A hA R L1 L0 L2 = t at a b ⊢
  refine drain_fresh ⟨fun q => ?_, fun q => ?_⟩ fun q X C h1 h0 h2 => ?_
  · exact (reg_accPair_ne _ hne.symm _ _ _ q).trans (reg_pushPair v b.2 q)
  · rw [show i + 45 + 1 = i + 44 + 2 from rfl, turn_two (i + 44)]
    exact reg_accPair (F := Ideal) _ _ _ _ _ q
  · rw [a, dif_neg h1, dif_neg (by omega), dif_neg (by omega), add_zero, add_zero]

end ChunkIdeal

end Cert.KernelIdeal.Hand
-- ==== Proof.ISums.lean ====
module

public import proofs.«01_k».proof.Proof.IRun
public import proofs.«01_k».proof.Proof.IChain
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Mxu
open scoped BigOperators

section Chain

variable {F : FTy → Type} [FloatOps F]

abbrev Slab (F : FTy → Type) [FloatOps F] := S3x3712x2048.Idx → Elt F .fp8e4m3
abbrev Grid (F : FTy → Type) [FloatOps F] := S256x3712.Idx → Elt F .fp8e4m3

theorem inb_tile (n : Fin 4) (k : Fin 3) (q : Fin 2) (j : ℕ) (hj : j < 14) :
    ∀ a, (![k.val, 256 * j, 512 * n.val + 256 * q.val] : Fin 3 → ℕ) a + S1x256x256.size a ≤ S3x3712x2048.size a := by
  intro a
  have := n.isLt; have := k.isLt; have := q.isLt
  match a with
  | 0 => show k.val + 1 ≤ 3; omega
  | 1 => show 256 * j + 256 ≤ 3712; omega
  | 2 => show 512 * n.val + 256 * q.val + 256 ≤ 2048; omega

theorem inb_half (n : Fin 4) (k : Fin 3) (q : Fin 2) (m : ℕ) (hm : m ≤ 3584) :
    ∀ a, (![k.val, m, 512 * n.val + 256 * q.val] : Fin 3 → ℕ) a + S1x128x256.size a ≤ S3x3712x2048.size a := by
  intro a
  have := n.isLt; have := k.isLt; have := q.isLt
  match a with
  | 0 => show k.val + 1 ≤ 3; omega
  | 1 => show m + 128 ≤ 3712; omega
  | 2 => show 512 * n.val + 256 * q.val + 256 ≤ 2048; omega

/-- The right-hand tile of tap `k`, pass `j`, in column chunk `n`: of the slab `t`, the last one's upper half of the masked slab `tm`. -/
def tileOf (t tm : Slab F) (n : Fin 4) (k : Fin 3) (j : ℕ) : Tiles F := fun q =>
  if h : j < 14 then
    extf .bf16 (shapeCast S256x256 (View.readAt (Elt F) tB.view
      (Rect.unit (s := S3x3712x2048) ![k.val, 256 * j, 512 * n.val + 256 * q.val] S1x256x256.size (inb_tile n k q j h)).toLoadRect t)
      shapeCasts_S1x256x256_S256x256) bitsLt_fp8e4m3_bf16
  else
    extf .bf16 (concatenate S256x256 0
      [⟨S128x256, shapeCast S128x256 (View.readAt (Elt F) tB.view
        (Rect.unit (s := S3x3712x2048) ![k.val, 3584, 512 * n.val + 256 * q.val] S1x128x256.size (inb_half n k q 3584 (by decide))).toLoadRect tm) shapeCasts_S1x128x256_S128x256⟩,
       ⟨S128x256, shapeCast S128x256 (View.readAt (Elt F) tB.view
        (Rect.unit (s := S3x3712x2048) ![k.val, 0, 512 * n.val + 256 * q.val] S1x128x256.size (inb_half n k q 0 (by decide))).toLoadRect t) shapeCasts_S1x128x256_S128x256⟩]
      concatenates_S128x256_S128x256_S256x256_d0) bitsLt_fp8e4m3_bf16

theorem inb_lhs {M w : ℕ} (r0 m : ℕ) (h : r0 + M ≤ 256 ∧ m + w ≤ 3712) :
    ∀ a, (![r0, m] : Fin 2 → ℕ) a + (⟨2, ![M, w]⟩ : Shape).size a ≤ S256x3712.size a := by
  intro a
  match a with
  | 0 => exact h.1
  | 1 => exact h.2

/-- The left operand of pass `j` over all 256 rows, `G` the stores that filled the buffer. -/
def lhs256 (G : List (View.Piece (Elt F) S256x3712 .fp8e4m3)) (j : ℕ) : FVec F S256x256 .bf16 :=
  if h : j < 14 then
    extf .bf16 ((Memref.whole cc0_scratch2).view.readCov G
      (Rect.unit (s := S256x3712) ![0, 256 * j] S256x256.size (inb_lhs (M := 256) (w := 256) 0 (256 * j) ⟨by decide, by omega⟩)).toLoadRect) bitsLt_fp8e4m3_bf16
  else
    extf .bf16 (k0_pay78 ((Memref.whole cc0_scratch2).view.readCov G
      (Rect.unit (s := S256x3712) ![0, 3584] S256x128.size (inb_lhs (M := 256) (w := 128) 0 3584 (by decide))).toLoadRect)) bitsLt_fp8e4m3_bf16

/-- The left operand of pass `j` over 192 rows from row `r0`. -/
def lhs192 (G : List (View.Piece (Elt F) S256x3712 .fp8e4m3)) (r0 : ℕ) (hr : r0 ≤ 64) (j : ℕ) : FVec F S192x256 .bf16 :=
  if h : j < 14 then
    extf .bf16 ((Memref.whole cc0_scratch2).view.readCov G
      (Rect.unit (s := S256x3712) ![r0, 256 * j] S192x256.size (inb_lhs (M := 192) (w := 256) r0 (256 * j) ⟨by omega, by omega⟩)).toLoadRect) bitsLt_fp8e4m3_bf16
  else
    extf .bf16 (k0_pay207 ((Memref.whole cc0_scratch2).view.readCov G
      (Rect.unit (s := S256x3712) ![r0, 3584] S192x128.size (inb_lhs (M := 192) (w := 128) r0 3584 ⟨by omega, by decide⟩)).toLoadRect)) bitsLt_fp8e4m3_bf16

/-- The whole buffer `tB` after the three masking stores. -/
abbrev masked (t : Slab F) (L : List (View.Piece (Elt F) S3x3712x2048 .fp8e4m3)) : Slab F := tB.view.writes (Elt F) t L

variable (c : Dev nD) (f1 : Buf (Elt F) ((Memref.whole main_v1).view.loc (c : Thread nD τ)))
  (g1 : Buf (Elt F) ((Memref.whole cc0_scratch0).view.loc (c : Thread nD τ))) (t0 t1 t2 t3 : Buf (Elt F) (tB.view.loc (c : Thread nD τ)))

/-- The tiles of column chunk 0, the others alike. -/
abbrev tiles0 : Fin 3 → ℕ → Tiles F := tileOf t0 (masked t0 (run.sl.TS0_3 c t0)) 0
abbrev tiles1 : Fin 3 → ℕ → Tiles F := tileOf t1 (masked t1 (run.sl.TS1_3 c t1)) 1
abbrev tiles2 : Fin 3 → ℕ → Tiles F := tileOf t2 (masked t2 (run.sl.TS2_3 c t2)) 2
abbrev tiles3 : Fin 3 → ℕ → Tiles F := tileOf t3 (masked t3 (run.sl.TS3_3 c t3)) 3

/-- The left operands: of tap 1 all rows, of tap 0 the first 192, of tap 2 the last 192. -/
abbrev left1 := lhs256 (run.sl.G3_5 c f1 g1)
abbrev left0 := lhs192 (run.sl.G3_5 c f1 g1) 0 (by decide)
abbrev left2 := lhs192 (run.sl.G3_5 c f1 g1) 64 (by decide)

/-- The machine's state after the passes of each chunk, and after its pops. -/
theorem chain0 : run.sl.k0_mxu183 c f1 g1 t0 t1 =
    accPair (pushPair (taps (run.sl.r_2 c t0) 0 48 fits_48_256 (tiles0 c t0) (left1 c f1 g1) (left0 c f1 g1) (left2 c f1 g1)) (turn 45)
      (tiles1 c t1 1 0)) (turn 44) 176 (left2 c f1 g1 14) fits_176_192 := rfl

theorem chain1 : run.sl.k0_mxu369 c f1 g1 t0 t1 t2 =
    accPair (pushPair (taps (run.sl.k0_mxu189 c f1 g1 t0 t1) 45 112 fits_112_256 (tiles1 c t1) (left1 c f1 g1) (left0 c f1 g1) (left2 c f1 g1)) (turn 90)
      (tiles2 c t2 1 0)) (turn 89) 176 (left2 c f1 g1 14) fits_176_192 := rfl

theorem chain2 : run.sl.k0_mxu555 c f1 g1 t0 t1 t2 t3 =
    accPair (pushPair (taps (run.sl.k0_mxu375 c f1 g1 t0 t1 t2) 90 48 fits_48_256 (tiles2 c t2) (left1 c f1 g1) (left0 c f1 g1) (left2 c f1 g1)) (turn 135)
      (tiles3 c t3 1 0)) (turn 134) 176 (left2 c f1 g1 14) fits_176_192 := rfl

theorem chain3 : run.sl.k0_mxu739 c f1 g1 t0 t1 t2 t3 =
    accPair (taps (run.sl.k0_mxu561 c f1 g1 t0 t1 t2 t3) 135 112 fits_112_256 (tiles3 c t3) (left1 c f1 g1) (left0 c f1 g1) (left2 c f1 g1))
      (turn 179) 176 (left2 c f1 g1 14) fits_176_192 := rfl

theorem drain0 : run.sl.k0_mxu189 c f1 g1 t0 t1 = drain (run.sl.k0_mxu183 c f1 g1 t0 t1) 48 fits_48_256 := rfl
theorem drain1 : run.sl.k0_mxu375 c f1 g1 t0 t1 t2 = drain (run.sl.k0_mxu369 c f1 g1 t0 t1 t2) 112 fits_112_256 := rfl
theorem drain2 : run.sl.k0_mxu561 c f1 g1 t0 t1 t2 t3 = drain (run.sl.k0_mxu555 c f1 g1 t0 t1 t2 t3) 48 fits_48_256 := rfl

theorem start0 : run.sl.r_2 c t0 = pushPair Mxu.init (turn 0) (tiles0 c t0 1 0) := rfl

end Chain

section Sums

variable (c : Dev nD) (f1 : Buf (Elt Ideal) ((Memref.whole main_v1).view.loc (c : Thread nD τ)))
  (g1 : Buf (Elt Ideal) ((Memref.whole cc0_scratch0).view.loc (c : Thread nD τ))) (t0 t1 t2 t3 : Buf (Elt Ideal) (tB.view.loc (c : Thread nD τ)))

theorem fresh0 : Fresh (run.sl.r_2 c t0) 0 (tiles0 c t0 1 0) := by
  rw [start0]
  refine ⟨⟨reg_pushPair _ fun q => reg_init q _, fun q => ?_⟩, fun q X C => ?_⟩
  · exact (reg_pushPair_ne _ (turn_ne 0).symm _ q).trans (reg_init q _)
  · rw [acc_pushPair]; exact Ideal.ofBits_zero_f32

theorem fresh1 : Fresh (run.sl.k0_mxu189 c f1 g1 t0 t1) 45 (tiles1 c t1 1 0) := by
  rw [drain0, chain0]; exact taps_next (fresh0 c t0) _

theorem fresh2 : Fresh (run.sl.k0_mxu375 c f1 g1 t0 t1 t2) 90 (tiles2 c t2 1 0) := by
  rw [drain1, chain1]; exact taps_next (fresh1 c f1 g1 t0 t1) _

theorem fresh3 : Fresh (run.sl.k0_mxu561 c f1 g1 t0 t1 t2 t3) 135 (tiles3 c t3 1 0) := by
  rw [drain2, chain2]; exact taps_next (fresh2 c f1 g1 t0 t1 t2) _

/-- What the pops of a chunk read: tap `k`'s sums, `s` the state before the pops and `A` tap 1's address. -/
structure Popped (s : Mxu Ideal) (A : ℕ) (hA : Fits A 256) (R : Fin 3 → ℕ → Tiles Ideal) : Prop where
  p1 : ∀ q (r : Fin 256) C, (s.read q A hA (ix r C) : EReal) = sum15 (left1 c f1 g1) (R 1) q r C
  p0 : ∀ q (r : Fin 192) C, (s.read q 0 fits_0_192 (ix r C) : EReal) = sum15 (left0 c f1 g1) (R 0) q r C
  p2 : ∀ q (r : Fin 192) C, (s.read q 176 fits_176_192 (ix r C) : EReal) = sum15 (left2 c f1 g1) (R 2) q r C

theorem popped_of {s p : Mxu Ideal} {i A : ℕ} {hA : Fits A 256} (hA1 : 48 ≤ A) (hA2 : A ≤ 112) {R : Fin 3 → ℕ → Tiles Ideal}
    (hs : Fresh s i (R 1 0)) (hp : p.acc = (taps s i A hA R (left1 c f1 g1) (left0 c f1 g1) (left2 c f1 g1)).acc)
    (hr : ∀ q, p.reg q (turn (i + 44)) = (taps s i A hA R (left1 c f1 g1) (left0 c f1 g1) (left2 c f1 g1)).reg q (turn (i + 44))) :
    Popped c f1 g1 (accPair p (turn (i + 44)) 176 (left2 c f1 g1 14) fits_176_192) A hA R := by
  have e := taps_acc hs p hp hr
  constructor
  · intro q r C
    have := r.isLt
    refine (e q _ C).trans ?_
    rw [dif_pos (by simp only [row, ix]; omega), dif_neg (by simp only [row, ix]; omega), dif_neg (by simp only [row, ix]; omega), add_zero, add_zero]
    congr 1; apply Fin.ext; simp only [row, ix]; exact Nat.add_sub_cancel_left _ _
  · intro q r C
    have := r.isLt
    refine (e q _ C).trans ?_
    rw [dif_neg (by simp only [row, ix]; omega), dif_pos (by simp only [row, ix]; omega), dif_neg (by simp only [row, ix]; omega), add_zero, zero_add]
    congr 1; apply Fin.ext; simp only [row, ix]; exact Nat.add_sub_cancel_left _ _
  · intro q r C
    have := r.isLt
    refine (e q _ C).trans ?_
    rw [dif_neg (by simp only [row, ix]; omega), dif_neg (by simp only [row, ix]; omega), dif_pos (by simp only [row, ix]; omega), zero_add, zero_add]
    congr 1; apply Fin.ext; simp only [row, ix]; exact Nat.add_sub_cancel_left _ _

theorem popped0 : Popped c f1 g1 (run.sl.k0_mxu183 c f1 g1 t0 t1) 48 fits_48_256 (tiles0 c t0) := by
  rw [chain0]
  exact popped_of c f1 g1 (by decide) (by decide) (fresh0 c t0) (acc_pushPair _ _ _) (reg_pushPair_ne _ (turn_ne 44) _)
theorem popped1 : Popped c f1 g1 (run.sl.k0_mxu369 c f1 g1 t0 t1 t2) 112 fits_112_256 (tiles1 c t1) := by
  rw [chain1]
  exact popped_of c f1 g1 (by decide) (by decide) (fresh1 c f1 g1 t0 t1) (acc_pushPair _ _ _) (reg_pushPair_ne _ (turn_ne 89) _)
theorem popped2 : Popped c f1 g1 (run.sl.k0_mxu555 c f1 g1 t0 t1 t2 t3) 48 fits_48_256 (tiles2 c t2) := by
  rw [chain2]
  exact popped_of c f1 g1 (by decide) (by decide) (fresh2 c f1 g1 t0 t1 t2) (acc_pushPair _ _ _) (reg_pushPair_ne _ (turn_ne 134) _)
theorem popped3 : Popped c f1 g1 (run.sl.k0_mxu739 c f1 g1 t0 t1 t2 t3) 112 fits_112_256 (tiles3 c t3) := by
  rw [chain3]
  exact popped_of c f1 g1 (by decide) (by decide) (fresh3 c f1 g1 t0 t1 t2 t3) rfl (fun _ => rfl)

end Sums

end Cert.KernelIdeal.Hand
-- ==== Proof.IPoint.lean ====
module

public import proofs.«01_k».proof.Proof.ISums
public import Idealize.ShloMosaic.Lib.BitcastPair

@[expose] public section

set_option maxRecDepth 16384

noncomputable section

namespace Cert.KernelIdeal.Hand

open Cert.KernelIdeal Cert.KernelIdeal.Gen
open Idealize.ShloMosaic Idealize.ShloMosaic.TcCoe Idealize.ShloMosaic.Mxu
open scoped BigOperators

section Stores

variable {Val : EltTy → Type} [∀ e, Nonempty (Val e)] {s : Shape} {e : EltTy}

/-- Inside the last store's rectangle the contents are its payload, at the index less the offsets; -/
theorem canon_in {off size : Fin s.rank → ℕ} {inb : ∀ a, off a + size a ≤ s.size a} (w : (Rect.unit off size inb).shape.Idx → Val e)
    (L : List (View.Piece Val s e)) (y : s.Idx) (x : (Rect.unit off size inb).shape.Idx) (h : ∀ a, (y a : ℕ) = off a + (x a : ℕ)) :
    View.canon (⟨Rect.unit off size inb, w⟩ :: L) y = w x := by
  have e : y = (Rect.unit off size inb).emb x := funext fun a => Fin.ext (by
    rw [h a]; show off a + _ = off a + 1 * (x a : ℕ); rw [Nat.one_mul])
  rw [e]; exact View.canon_cons_emb _ _ _ _

/-- off it, those of the stores before. -/
theorem canon_out {off size : Fin s.rank → ℕ} {inb : ∀ a, off a + size a ≤ s.size a} (w : (Rect.unit off size inb).shape.Idx → Val e)
    (L : List (View.Piece Val s e)) (y : s.Idx) (a : Fin s.rank) (h : (y a : ℕ) < off a ∨ off a + size a ≤ (y a : ℕ)) :
    View.canon (⟨Rect.unit off size inb, w⟩ :: L) y = View.canon L y :=
  View.canon_cons_of_not_mem _ _ fun hm => by
    have := (Rect.mem_set_unit (inb := inb)).mp hm a; omega

theorem writes_in {sig : RefSig} {κ : Kind} {sp : Space} (v : View sig κ sp s e) (f : v.ty.Contents Val)
    {off size : Fin s.rank → ℕ} {inb : ∀ a, off a + size a ≤ s.size a} (w : (Rect.unit off size inb).shape.Idx → Val e)
    (L : List (View.Piece Val s e)) (y : s.Idx) (x : (Rect.unit off size inb).shape.Idx) (h : ∀ a, (y a : ℕ) = off a + (x a : ℕ)) :
    v.read Val (v.writes Val f (⟨Rect.unit off size inb, w⟩ :: L)) y = w x := by
  have e : y = (Rect.unit off size inb).emb x := funext fun a => Fin.ext (by
    rw [h a]; show off a + _ = off a + 1 * (x a : ℕ); rw [Nat.one_mul])
  rw [e]; exact View.read_writes_cons_emb v f _ _ _ _

theorem writes_out {sig : RefSig} {κ : Kind} {sp : Space} (v : View sig κ sp s e) (f : v.ty.Contents Val)
    {off size : Fin s.rank → ℕ} {inb : ∀ a, off a + size a ≤ s.size a} (w : (Rect.unit off size inb).shape.Idx → Val e)
    (L : List (View.Piece Val s e)) (y : s.Idx) (a : Fin s.rank) (h : (y a : ℕ) < off a ∨ off a + size a ≤ (y a : ℕ)) :
    v.read Val (v.writes Val f (⟨Rect.unit off size inb, w⟩ :: L)) y = v.read Val (v.writes Val f L) y := by
  rw [View.writes_cons, View.read_slice_write_of_not_mem]
  intro hm; rw [Rect.map_emb_univ] at hm
  have := (Rect.mem_set_unit (inb := inb)).mp hm a; omega

end Stores

section Codes

variable {F : FTy → Type} [FloatOps F] (c : Dev nD) (f1 : Buf (Elt F) ((Memref.whole main_v1).view.loc (c : Thread nD τ)))
  (g1 : Buf (Elt F) ((Memref.whole cc0_scratch0).view.loc (c : Thread nD τ)))

/-- The four frames' stores over the grid of rows: frame `f` at rows `64 f ..`, over zeros. -/
def gridL (f1 : S4x60x3686.Idx → Elt F .fp8e4m3) : List (View.Piece (Elt F) S256x3712 .fp8e4m3) :=
  [⟨Rect.unit (s := S256x3712) ![192, 0] S60x3686.size inb_S256x3712_S60x3686_192_0, k0_pay2 (fun x => f1 (ValueIdx.ix3 (3 : Fin 4) (x 1) (x 2)))⟩,
   ⟨Rect.unit (s := S256x3712) ![128, 0] S60x3686.size inb_S256x3712_S60x3686_128_0, k0_pay2 (fun x => f1 (ValueIdx.ix3 (2 : Fin 4) (x 1) (x 2)))⟩,
   ⟨Rect.unit (s := S256x3712) ![64, 0] S60x3686.size inb_S256x3712_S60x3686_64_0, k0_pay2 (fun x => f1 (ValueIdx.ix3 (1 : Fin 4) (x 1) (x 2)))⟩,
   ⟨Rect.unit (s := S256x3712) ![0, 0] S60x3686.size inb_S256x3712_S60x3686_0_0, k0_pay2 (fun x => f1 (ValueIdx.ix3 (0 : Fin 4) (x 1) (x 2)))⟩,
   ⟨Rect.unit (s := S256x3712) ![0, 0] S256x3712.size inb_S256x3712_S256x3712_0_0, k0_pay1⟩]

theorem frame_read (k : Fin 4) (h : ∀ a, (![k.val, 0, 0] : Fin 3 → ℕ) a + S1x60x3686.size a ≤ S4x60x3686.size a) :
    View.readAt (Elt F) (Memref.whole cc0_scratch0).view (Rect.unit (s := S4x60x3686) ![k.val, 0, 0] S1x60x3686.size h).toLoadRect
      (View.write (Elt F) (Memref.whole cc0_scratch0).view g1 (run.sl.dma0 c f1) Finset.univ)
    = fun x => (f1 : S4x60x3686.Idx → Elt F .fp8e4m3) (ValueIdx.ix3 k (x 1) (x 2)) := by
  rw [show View.write (Elt F) (Memref.whole cc0_scratch0).view g1 (run.sl.dma0 c f1) Finset.univ = run.sl.dma0 c f1 from View.write_whole_univ _ _ _]
  funext x
  show (f1 : S4x60x3686.Idx → Elt F .fp8e4m3) _ = _
  congr 1
  funext a
  have := (x 0).isLt
  match a with
  | 0 => exact Fin.ext (show k.val + 1 * (x 0 : ℕ) = k.val by have : (x 0 : ℕ) < 1 := (x 0).isLt; omega)
  | 1 => exact Fin.ext (show 0 + 1 * (x 1 : ℕ) = x 1 by omega)
  | 2 => exact Fin.ext (show 0 + 1 * (x 2 : ℕ) = x 2 by omega)

theorem grid_eq : run.sl.G3_5 c f1 g1 = gridL f1 := by
  have e0 : run.sl.v185 c f1 g1 = _ := frame_read c f1 g1 0 (by decide)
  have e1 : run.sl.v190 c f1 g1 = _ := frame_read c f1 g1 1 (by decide)
  have e2 : run.sl.v195 c f1 g1 = _ := frame_read c f1 g1 2 (by decide)
  have e3 : run.sl.v200 c f1 g1 = _ := frame_read c f1 g1 3 (by decide)
  have e : run.sl.G3_5 c f1 g1 =
    [⟨Rect.unit (s := S256x3712) ![192, 0] S60x3686.size inb_S256x3712_S60x3686_192_0, k0_pay2 (run.sl.v200 c f1 g1)⟩,
     ⟨Rect.unit (s := S256x3712) ![128, 0] S60x3686.size inb_S256x3712_S60x3686_128_0, k0_pay2 (run.sl.v195 c f1 g1)⟩,
     ⟨Rect.unit (s := S256x3712) ![64, 0] S60x3686.size inb_S256x3712_S60x3686_64_0, k0_pay2 (run.sl.v190 c f1 g1)⟩,
     ⟨Rect.unit (s := S256x3712) ![0, 0] S60x3686.size inb_S256x3712_S60x3686_0_0, k0_pay2 (run.sl.v185 c f1 g1)⟩,
     ⟨Rect.unit (s := S256x3712) ![0, 0] S256x3712.size inb_S256x3712_S256x3712_0_0, k0_pay1⟩] := rfl
  rw [e, e0, e1, e2, e3]; rfl

theorem inb_mask (n : Fin 4) (k : Fin 3) : ∀ a, (![k.val, 3680, 512 * n.val] : Fin 3 → ℕ) a + S1x32x512.size a ≤ S3x3712x2048.size a := by
  intro a; have := n.isLt; have := k.isLt
  match a with
  | 0 => show k.val + 1 ≤ 3; omega
  | 1 => show 3680 + 32 ≤ 3712; omega
  | 2 => show 512 * n.val + 512 ≤ 2048; omega

/-- The mask's stores in column chunk `n`: rows 3680 to 3685 kept, those after zeroed. -/
def maskL (n : Fin 4) (t : Slab F) : List (View.Piece (Elt F) S3x3712x2048 .fp8e4m3) :=
  [⟨Rect.unit (s := S3x3712x2048) ![(2 : Fin 3).val, 3680, 512 * n.val] S1x32x512.size (inb_mask n 2), k0_pay13 (View.readAt (Elt F) tB.view (Rect.unit (s := S3x3712x2048) ![(2 : Fin 3).val, 3680, 512 * n.val] S1x32x512.size (inb_mask n 2)).toLoadRect t)⟩,
   ⟨Rect.unit (s := S3x3712x2048) ![(1 : Fin 3).val, 3680, 512 * n.val] S1x32x512.size (inb_mask n 1), k0_pay13 (View.readAt (Elt F) tB.view (Rect.unit (s := S3x3712x2048) ![(1 : Fin 3).val, 3680, 512 * n.val] S1x32x512.size (inb_mask n 1)).toLoadRect t)⟩,
   ⟨Rect.unit (s := S3x3712x2048) ![(0 : Fin 3).val, 3680, 512 * n.val] S1x32x512.size (inb_mask n 0), k0_pay13 (View.readAt (Elt F) tB.view (Rect.unit (s := S3x3712x2048) ![(0 : Fin 3).val, 3680, 512 * n.val] S1x32x512.size (inb_mask n 0)).toLoadRect t)⟩]

variable (t0 t1 t2 t3 : Buf (Elt F) (tB.view.loc (c : Thread nD τ)))
theorem mask0 : run.sl.TS0_3 c t0 = maskL 0 t0 := rfl
theorem mask1 : run.sl.TS1_3 c t1 = maskL 1 t1 := rfl
theorem mask2 : run.sl.TS2_3 c t2 = maskL 2 t2 := rfl
theorem mask3 : run.sl.TS3_3 c t3 = maskL 3 t3 := rfl

end Codes

section Reads

theorem ix3_of_val {n0 n1 n2 : ℕ} {a a' : Fin n0} {b b' : Fin n1} {c c' : Fin n2} (ha : a.val = a'.val) (hb : b.val = b'.val) (hc : c.val = c'.val) :
    ValueIdx.ix3 a b c = ValueIdx.ix3 a' b' c' := by
  rw [Fin.ext ha, Fin.ext hb, Fin.ext hc]

theorem pay2_at (v : Vec Ideal S1x60x3686 .fp8e4m3) (r : Fin 60) (m : Fin 3686) :
    k0_pay2 v (ValueIdx.ix2 r m) = v (ValueIdx.ix3 (0 : Fin 1) r m) := by
  pointwise [k0_pay2]
  rw [ix3_eq_valueIdx]

theorem pay1_at (x : S256x3712.Idx) : (k0_pay1 (F := Ideal) x : EReal) = 0 := by
  pointwise [k0_pay1]

theorem pay12_at (r : Fin 32) (m : Fin 512) (h : r.val < 6) : k0_pay12 (ValueIdx.ix2 r m) = 1#1 := by
  pointwise [k0_pay12]
  have : ∀ r : Fin 32, r.val < 6 → IntOp.cmpi CmpIPredicate.slt (BitVec.ofNat 32 r.val) 6#32 = 1#1 := by decide
  exact this r h

theorem pay13_at (v : Vec Ideal S1x32x512 .fp8e4m3) (z : Fin 1) (r : Fin 32) (m : Fin 512) (h : r.val < 6) :
    k0_pay13 v (ValueIdx.ix3 z r m) = v (ValueIdx.ix3 z r m) := by
  pointwise [k0_pay13]
  rw [ix2_eq_valueIdx, show k0_pay12 (ValueIdx.ix2 (ValueIdx.ix3 z r m 1) (ValueIdx.ix3 z r m 2)) = 1#1 from pay12_at r m h]
  rfl

/-- Zero words read as bytes are zero bytes. -/
theorem bytes_zero {s t : Shape} (h : s.Bitcasts 32 t 8) (j : t.Idx) : bitcast t 8 (broadcast s (0#32)) h j = 0#8 := by
  apply BitVec.eq_of_getLsbD_eq
  intro q hq
  rw [bitcast_getLsbD _ h j q hq (by decide)]
  simp [broadcast]

theorem pay78_lo (v : Vec Ideal S256x128 .fp8e4m3) (r : Fin 256) (u : Fin 256) (h : u.val < 128) :
    k0_pay78 v (ValueIdx.ix2 r u) = v (ValueIdx.ix2 r ⟨u.val, h⟩) := by
  pointwise [k0_pay78]
  rw [dif_pos (show ((ValueIdx.ix2 r u 1 : Fin 256) : ℕ) < 128 from h), ix2_eq_valueIdx]

theorem pay78_hi (v : Vec Ideal S256x128 .fp8e4m3) (r : Fin 256) (u : Fin 256) (h : ¬ u.val < 128) :
    (k0_pay78 v (ValueIdx.ix2 r u) : EReal) = 0 := by
  pointwise [k0_pay78]
  rw [dif_neg (show ¬ ((ValueIdx.ix2 r u 1 : Fin 256) : ℕ) < 128 from h), bytes_zero]
  exact Ideal.ofBits_zero .fp8e4m3

theorem pay207_lo (v : Vec Ideal S192x128 .fp8e4m3) (r : Fin 192) (u : Fin 256) (h : u.val < 128) :
    k0_pay207 v (ValueIdx.ix2 r u) = v (ValueIdx.ix2 r ⟨u.val, h⟩) := by
  pointwise [k0_pay207]
  rw [dif_pos (show ((ValueIdx.ix2 r u 1 : Fin 256) : ℕ) < 128 from h), ix2_eq_valueIdx]

theorem pay207_hi (v : Vec Ideal S192x128 .fp8e4m3) (r : Fin 192) (u : Fin 256) (h : ¬ u.val < 128) :
    (k0_pay207 v (ValueIdx.ix2 r u) : EReal) = 0 := by
  pointwise [k0_pay207]
  rw [dif_neg (show ¬ ((ValueIdx.ix2 r u 1 : Fin 256) : ℕ) < 128 from h), bytes_zero]
  exact Ideal.ofBits_zero .fp8e4m3

/-- The grid's element at row `r`, column `m` as a total function: a code, or zero off the codes. -/
def gridAt (f1 : S4x60x3686.Idx → EReal) (r m : ℕ) : EReal :=
  if h : r < 256 ∧ r % 64 < 60 ∧ m < 3686 then f1 (ValueIdx.ix3 (⟨r / 64, by omega⟩ : Fin 4) (⟨r % 64, h.2.1⟩ : Fin 60) (⟨m, h.2.2⟩ : Fin 3686)) else 0

theorem canon_rows (o : ℕ) (inb : ∀ a, (![o, 0] : Fin 2 → ℕ) a + S60x3686.size a ≤ S256x3712.size a) (w : FVec Ideal S60x3686 .fp8e4m3)
    (L : List (View.Piece (Elt Ideal) S256x3712 .fp8e4m3)) (r : Fin 256) (m : Fin 3712) :
    View.canon ((⟨Rect.unit (s := S256x3712) ![o, 0] S60x3686.size inb, w⟩ : View.Piece (Elt Ideal) S256x3712 .fp8e4m3) :: L) (ValueIdx.ix2 r m)
      = if h : (o ≤ r.val ∧ r.val < o + 60) ∧ m.val < 3686 then w (ValueIdx.ix2 (⟨r.val - o, by omega⟩ : Fin 60) (⟨m.val, h.2⟩ : Fin 3686))
        else View.canon L (ValueIdx.ix2 r m) := by
  by_cases h : (o ≤ r.val ∧ r.val < o + 60) ∧ m.val < 3686
  · rw [dif_pos h]
    refine canon_in (Val := Elt Ideal) (s := S256x3712) (e := .fp8e4m3) (off := ![o, 0]) (size := S60x3686.size) (inb := inb) w L _ (ValueIdx.ix2 (⟨r.val - o, by omega⟩ : Fin 60) (⟨m.val, h.2⟩ : Fin 3686)) ?_
    intro a
    match a with
    | 0 => exact (show r.val = o + (r.val - o) by omega)
    | 1 => exact (show m.val = 0 + m.val by omega)
  · rw [dif_neg h]
    by_cases h' : o ≤ r.val ∧ r.val < o + 60
    · exact canon_out (Val := Elt Ideal) (s := S256x3712) (e := .fp8e4m3) (off := ![o, 0]) (size := S60x3686.size) (inb := inb) w L _ (1 : Fin 2) (show m.val < 0 ∨ 0 + 3686 ≤ m.val by omega)
    · exact canon_out (Val := Elt Ideal) (s := S256x3712) (e := .fp8e4m3) (off := ![o, 0]) (size := S60x3686.size) (inb := inb) w L _ (0 : Fin 2) (show r.val < o ∨ o + 60 ≤ r.val by omega)

theorem grid_at (f1 : S4x60x3686.Idx → Elt Ideal .fp8e4m3) (r : Fin 256) (m : Fin 3712) :
    (View.canon (gridL f1) (ValueIdx.ix2 r m) : EReal) = gridAt f1 r m := by
  have hr := r.isLt
  have hz : (View.canon [(⟨Rect.unit (s := S256x3712) ![0, 0] S256x3712.size inb_S256x3712_S256x3712_0_0, k0_pay1 (F := Ideal)⟩ : View.Piece (Elt Ideal) S256x3712 .fp8e4m3)] (ValueIdx.ix2 r m) : EReal) = 0 := by
    refine (canon_in (Val := Elt Ideal) (s := S256x3712) (e := .fp8e4m3) (off := ![0, 0]) (size := S256x3712.size) (inb := inb_S256x3712_S256x3712_0_0) (k0_pay1 (F := Ideal)) [] _ (ValueIdx.ix2 r m) ?_).trans (pay1_at _)
    intro a
    match a with | 0 => exact (Nat.zero_add _).symm | 1 => exact (Nat.zero_add _).symm
  refine (canon_rows 192 _ _ _ r m).trans ?_
  by_cases h : (192 ≤ r.val ∧ r.val < 192 + 60) ∧ m.val < 3686
  · rw [dif_pos h, pay2_at, gridAt, dif_pos ⟨hr, by omega, h.2⟩]
    exact congrArg f1 (ix3_of_val (show 3 = r.val / 64 by omega) (show r.val - 192 = r.val % 64 by omega) rfl)
  rw [dif_neg h]
  refine (canon_rows 128 _ _ _ r m).trans ?_
  by_cases h : (128 ≤ r.val ∧ r.val < 128 + 60) ∧ m.val < 3686
  · rw [dif_pos h, pay2_at, gridAt, dif_pos ⟨hr, by omega, h.2⟩]
    exact congrArg f1 (ix3_of_val (show 2 = r.val / 64 by omega) (show r.val - 128 = r.val % 64 by omega) rfl)
  rw [dif_neg h]
  refine (canon_rows 64 _ _ _ r m).trans ?_
  by_cases h : (64 ≤ r.val ∧ r.val < 64 + 60) ∧ m.val < 3686
  · rw [dif_pos h, pay2_at, gridAt, dif_pos ⟨hr, by omega, h.2⟩]
    exact congrArg f1 (ix3_of_val (show 1 = r.val / 64 by omega) (show r.val - 64 = r.val % 64 by omega) rfl)
  rw [dif_neg h]
  refine (canon_rows 0 _ _ _ r m).trans ?_
  by_cases h : (0 ≤ r.val ∧ r.val < 0 + 60) ∧ m.val < 3686
  · rw [dif_pos h, pay2_at, gridAt, dif_pos ⟨hr, by omega, h.2⟩]
    exact congrArg f1 (ix3_of_val (show 0 = r.val / 64 by omega) (show r.val - 0 = r.val % 64 by omega) rfl)
  rw [dif_neg h, gridAt, dif_neg (by omega)]
  exact hz

end Reads

end Cert.KernelIdeal.Hand
-- ==== Proof.ITaps.lean ====
module

public import proofs.«01_k».proof.Proof.IPoint
public import proofs.«01_k».proof.Proof.IBody

@[expose] public section

set_option maxRecDepth 16384

noncomputable section

namespace Cert.KernelIdeal.Hand

open Cert.KernelIdeal Cert.KernelIdeal.Gen
open Idealize.ShloMosaic Idealize.ShloMosaic.TcCoe Idealize.ShloMosaic.Mxu
open scoped BigOperators

/-- One masking store leaves the rows before 3686 as they were. -/
theorem mask_piece (t : Slab Ideal) (k : Fin 3) (o : ℕ) (h : ∀ a, (![k.val, 3680, o] : Fin 3 → ℕ) a + S1x32x512.size a ≤ S3x3712x2048.size a)
    (L : List (View.Piece (Elt Ideal) S3x3712x2048 .fp8e4m3)) (x : S3x3712x2048.Idx) (hx : (x 1 : ℕ) < 3686)
    (hL : tB.view.read (Elt Ideal) (tB.view.writes (Elt Ideal) t L) x = t x) :
    tB.view.read (Elt Ideal) (tB.view.writes (Elt Ideal) t ((⟨Rect.unit (s := S3x3712x2048) ![k.val, 3680, o] S1x32x512.size h,
      k0_pay13 (View.readAt (Elt Ideal) tB.view (Rect.unit (s := S3x3712x2048) ![k.val, 3680, o] S1x32x512.size h).toLoadRect t)⟩ :
        View.Piece (Elt Ideal) S3x3712x2048 .fp8e4m3) :: L)) x = t x := by
  by_cases hm : ((x 0 : ℕ) = k.val ∧ 3680 ≤ (x 1 : ℕ)) ∧ o ≤ (x 2 : ℕ) ∧ (x 2 : ℕ) < o + 512
  · refine (writes_in (Val := Elt Ideal) (s := S3x3712x2048) (e := .fp8e4m3) tB.view t (off := ![k.val, 3680, o]) (size := S1x32x512.size) (inb := h) _ L x
      (ValueIdx.ix3 (0 : Fin 1) (⟨(x 1 : ℕ) - 3680, by omega⟩ : Fin 32) (⟨(x 2 : ℕ) - o, by omega⟩ : Fin 512)) ?_).trans ?_
    · intro a
      match a with
      | 0 => exact (show (x 0 : ℕ) = k.val + 0 by omega)
      | 1 => exact (show (x 1 : ℕ) = 3680 + ((x 1 : ℕ) - 3680) by omega)
      | 2 => exact (show (x 2 : ℕ) = o + ((x 2 : ℕ) - o) by omega)
    · rw [pay13_at _ _ _ _ (show (x 1 : ℕ) - 3680 < 6 by omega)]
      refine congrArg t (funext fun a => Fin.ext ?_)
      match a with
      | 0 => exact (show k.val + 1 * 0 = (x 0 : ℕ) by omega)
      | 1 => exact (show 3680 + 1 * ((x 1 : ℕ) - 3680) = (x 1 : ℕ) by omega)
      | 2 => exact (show o + 1 * ((x 2 : ℕ) - o) = (x 2 : ℕ) by omega)
  · refine Eq.trans ?_ hL
    by_cases h0 : (x 0 : ℕ) = k.val
    · by_cases h1 : 3680 ≤ (x 1 : ℕ)
      · exact writes_out (Val := Elt Ideal) (s := S3x3712x2048) (e := .fp8e4m3) tB.view t (off := ![k.val, 3680, o]) (size := S1x32x512.size) (inb := h) _ L x (2 : Fin 3)
          (show (x 2 : ℕ) < o ∨ o + 512 ≤ (x 2 : ℕ) by omega)
      · exact writes_out (Val := Elt Ideal) (s := S3x3712x2048) (e := .fp8e4m3) tB.view t (off := ![k.val, 3680, o]) (size := S1x32x512.size) (inb := h) _ L x (1 : Fin 3)
          (show (x 1 : ℕ) < 3680 ∨ 3680 + 32 ≤ (x 1 : ℕ) by omega)
    · exact writes_out (Val := Elt Ideal) (s := S3x3712x2048) (e := .fp8e4m3) tB.view t (off := ![k.val, 3680, o]) (size := S1x32x512.size) (inb := h) _ L x (0 : Fin 3)
          (show (x 0 : ℕ) < k.val ∨ k.val + 1 ≤ (x 0 : ℕ) by omega)

theorem masked_at (t : Slab Ideal) (n : Fin 4) (x : S3x3712x2048.Idx) (hx : (x 1 : ℕ) < 3686) :
    tB.view.read (Elt Ideal) (tB.view.writes (Elt Ideal) t (maskL n t)) x = t x := by
  unfold maskL
  refine mask_piece t 2 (512 * n.val) (inb_mask n 2) _ x hx ?_
  refine mask_piece t 1 (512 * n.val) (inb_mask n 1) _ x hx ?_
  refine mask_piece t 0 (512 * n.val) (inb_mask n 0) [] x hx ?_
  rfl

theorem cast_at (v : Vec Ideal S1x256x256 .fp8e4m3) (u C : Fin 256) :
    (extf .bf16 (shapeCast S256x256 v shapeCasts_S1x256x256_S256x256) bitsLt_fp8e4m3_bf16 : FVec Ideal S256x256 .bf16) (ValueIdx.ix2 u C) = v (ValueIdx.ix3 (0 : Fin 1) u C) := by
  pointwise []
  rw [ix3_eq_valueIdx]

theorem halves_at (v w : Vec Ideal S1x128x256 .fp8e4m3) (u C : Fin 256) (hu : u.val < 128) :
    (extf .bf16 (concatenate S256x256 0 [⟨S128x256, shapeCast S128x256 v shapeCasts_S1x128x256_S128x256⟩, ⟨S128x256, shapeCast S128x256 w shapeCasts_S1x128x256_S128x256⟩]
      concatenates_S128x256_S128x256_S256x256_d0) bitsLt_fp8e4m3_bf16 : FVec Ideal S256x256 .bf16) (ValueIdx.ix2 u C) = v (ValueIdx.ix3 (0 : Fin 1) ⟨u.val, hu⟩ C) := by
  pointwise []
  rw [dif_pos (show ((ValueIdx.ix2 u C 0 : Fin 256) : ℕ) < 128 from hu), ix3_eq_valueIdx]

/-- The tile of tap `k`, pass `j`, at a row below 3686 is the slab's element there. -/
theorem tile_at (t : Slab Ideal) (n : Fin 4) (k : Fin 3) (j : ℕ) (hj : j < 15) (q : Fin 2) (u C : Fin 256) (hm : 256 * j + u.val < 3686) :
    (tileOf t (masked t (maskL n t)) n k j q (ValueIdx.ix2 u C) : EReal)
      = t (ValueIdx.ix3 k (⟨256 * j + u.val, by omega⟩ : Fin 3712) (⟨512 * n.val + 256 * q.val + C.val, by have := n.isLt; have := q.isLt; have := C.isLt; omega⟩ : Fin 2048)) := by
  unfold tileOf
  by_cases h : j < 14
  · rw [dif_pos h]
    refine (cast_at _ u C).trans ?_
    refine congrArg t (funext fun a => Fin.ext ?_)
    match a with
    | 0 => exact (show k.val + 1 * 0 = k.val by omega)
    | 1 => exact (show 256 * j + 1 * u.val = 256 * j + u.val by omega)
    | 2 => exact (show 512 * n.val + 256 * q.val + 1 * C.val = 512 * n.val + 256 * q.val + C.val by omega)
  · rw [dif_neg h]
    obtain rfl : j = 14 := by omega
    refine (halves_at _ _ u C (show u.val < 128 by omega)).trans ?_
    rw [View.readAt_apply]
    refine (masked_at t n _ (show 3584 + 1 * u.val < 3686 by omega)).trans ?_
    refine congrArg t (funext fun a => Fin.ext ?_)
    match a with
    | 0 => exact (show k.val + 1 * 0 = k.val by omega)
    | 1 => exact (show 3584 + 1 * u.val = 256 * 14 + u.val by omega)
    | 2 => exact (show 512 * n.val + 256 * q.val + 1 * C.val = 512 * n.val + 256 * q.val + C.val by omega)

theorem lhs256_at (f1 : S4x60x3686.Idx → Elt Ideal .fp8e4m3) (j : ℕ) (hj : j < 15) (r u : Fin 256) :
    (lhs256 (gridL f1) j (ValueIdx.ix2 r u) : EReal) = gridAt f1 r (256 * j + u.val) := by
  unfold lhs256
  by_cases h : j < 14
  · rw [dif_pos h, View.readCov_eq_canon']
    pointwise []
    have e := grid_at f1 r (⟨256 * j + u.val, by have := u.isLt; omega⟩ : Fin 3712)
    refine Eq.trans (congrArg (View.canon (gridL f1)) (funext fun a => Fin.ext ?_)) e
    match a with
    | 0 => exact rfl
    | 1 => exact rfl
  · rw [dif_neg h, View.readCov_eq_canon']
    obtain rfl : j = 14 := by omega
    pointwise []
    by_cases hu : u.val < 128
    · refine (pay78_lo _ r u hu).trans ?_
      have e := grid_at f1 r (⟨256 * 14 + u.val, by omega⟩ : Fin 3712)
      refine Eq.trans (congrArg (View.canon (gridL f1)) (funext fun a => Fin.ext ?_)) e
      match a with
      | 0 => exact rfl
      | 1 => exact (show 3584 + u.val = 256 * 14 + u.val by omega)
    · refine (pay78_hi _ r u hu).trans ?_
      rw [gridAt, dif_neg (by omega)]

theorem lhs192_at (f1 : S4x60x3686.Idx → Elt Ideal .fp8e4m3) (r0 : ℕ) (hr : r0 ≤ 64) (j : ℕ) (hj : j < 15) (r : Fin 192) (u : Fin 256) :
    (lhs192 (gridL f1) r0 hr j (ValueIdx.ix2 r u) : EReal) = gridAt f1 (r0 + r.val) (256 * j + u.val) := by
  unfold lhs192
  by_cases h : j < 14
  · rw [dif_pos h, View.readCov_eq_canon']
    pointwise []
    have e := grid_at f1 (⟨r0 + r.val, by have := r.isLt; omega⟩ : Fin 256) (⟨256 * j + u.val, by have := u.isLt; omega⟩ : Fin 3712)
    refine Eq.trans (congrArg (View.canon (gridL f1)) (funext fun a => Fin.ext ?_)) e
    match a with
    | 0 => exact rfl
    | 1 => exact rfl
  · rw [dif_neg h, View.readCov_eq_canon']
    obtain rfl : j = 14 := by omega
    pointwise []
    by_cases hu : u.val < 128
    · refine (pay207_lo _ r u hu).trans ?_
      have e := grid_at f1 (⟨r0 + r.val, by have := r.isLt; omega⟩ : Fin 256) (⟨256 * 14 + u.val, by omega⟩ : Fin 3712)
      refine Eq.trans (congrArg (View.canon (gridL f1)) (funext fun a => Fin.ext ?_)) e
      match a with
      | 0 => exact rfl
      | 1 => exact (show 3584 + u.val = 256 * 14 + u.val by omega)
    · refine (pay207_hi _ r u hu).trans ?_
      rw [gridAt, dif_neg (by omega)]

/-- The widened weights' element of tap `k`, row `m`, column `col`; zero past row 3685. -/
def wv (f3 : S3x3688x2048.Idx → EReal) (k : Fin 3) (m : ℕ) (col : Fin 2048) : EReal :=
  if h : m < 3686 then f3 (ValueIdx.ix3 k (⟨m, by omega⟩ : Fin 3688) col) else 0

/-- One tap's sum at grid row `r` and column `col`. -/
def tapSum (f1 : S4x60x3686.Idx → EReal) (f3 : S3x3688x2048.Idx → EReal) (k : Fin 3) (r : ℕ) (col : Fin 2048) : EReal :=
  ∑ m ∈ Finset.range 3686, gridAt f1 r m * wv f3 k m col

theorem sum_tiles (f : ℕ → EReal) (n : ℕ) : (∑ j ∈ Finset.range n, ∑ u : Fin 256, f (256 * j + u.val)) = ∑ m ∈ Finset.range (256 * n), f m := by
  induction n with
  | zero => simp
  | succ n ih =>
    rw [Finset.sum_range_succ, ih, Nat.mul_succ, Finset.sum_range_add, Fin.sum_univ_eq_sum_range (fun u => f (256 * n + u))]

theorem sum15_at {M : ℕ} (L : ℕ → FVec Ideal (⟨2, ![M, 256]⟩ : Shape) .bf16) (R : ℕ → Tiles Ideal) (f1 : S4x60x3686.Idx → EReal) (f3 : S3x3688x2048.Idx → EReal)
    (q : Fin 2) (r : Fin M) (C : Fin 256) (ρ : ℕ) (k : Fin 3) (col : Fin 2048)
    (hL : ∀ j < 15, ∀ u : Fin 256, (L j (ValueIdx.ix2 r u) : EReal) = gridAt f1 ρ (256 * j + u.val))
    (hR : ∀ j < 15, ∀ u : Fin 256, 256 * j + u.val < 3686 → (R j q (ValueIdx.ix2 u C) : EReal) = wv f3 k (256 * j + u.val) col) :
    sum15 L R q r C = tapSum f1 f3 k ρ col := by
  unfold sum15 tapSum
  have e : ∀ j ∈ Finset.range 15, prod (L j) (R j q) r C = ∑ u : Fin 256, (fun m => gridAt f1 ρ m * wv f3 k m col) (256 * j + u.val) := by
    intro j hj
    have hj := Finset.mem_range.mp hj
    refine Finset.sum_congr rfl fun u _ => ?_
    rw [hL j hj u]
    by_cases hm : 256 * j + u.val < 3686
    · rw [hR j hj u hm]
    · rw [show gridAt f1 ρ (256 * j + u.val) = 0 from by rw [gridAt, dif_neg (by omega)], zero_mul]
      show (0 : EReal) = gridAt f1 ρ (256 * j + u.val) * _
      rw [show gridAt f1 ρ (256 * j + u.val) = 0 from by rw [gridAt, dif_neg (by omega)], zero_mul]
  rw [Finset.sum_congr rfl e, sum_tiles (fun m => gridAt f1 ρ m * wv f3 k m col) 15]
  refine (Finset.sum_subset (fun m hm => Finset.mem_range.mpr (by have := Finset.mem_range.mp hm; omega)) fun m _ hm => ?_).symm
  rw [show gridAt f1 ρ m = 0 from by rw [gridAt, dif_neg (by have := mt Finset.mem_range.mpr hm; omega)], zero_mul]

end Cert.KernelIdeal.Hand
-- ==== Proof.IStores.lean ====
module

public import proofs.«01_k».proof.Proof.ITaps

@[expose] public section

set_option maxRecDepth 16384

noncomputable section

namespace Cert.KernelIdeal.Hand

open Cert.KernelIdeal Cert.KernelIdeal.Gen
open Idealize.ShloMosaic Idealize.ShloMosaic.TcCoe Idealize.ShloMosaic.Mxu
open scoped BigOperators

section Stores

variable {F : FTy → Type} [FloatOps F]

/-- The states between a chunk's pops. -/
def popped1st (s : Mxu F) (A : ℕ) (hA : Fits A 256) : Mxu F := s.pop 0 A 256 hA
def popped2nd (s : Mxu F) (A : ℕ) (hA : Fits A 256) : Mxu F := (popped1st s A hA).pop 0 0 192 fits_0_192
def popped3rd (s : Mxu F) (A : ℕ) (hA : Fits A 256) : Mxu F := (popped2nd s A hA).pop 0 176 192 fits_176_192
def popped4th (s : Mxu F) (A : ℕ) (hA : Fits A 256) : Mxu F := (popped3rd s A hA).pop 1 A 256 hA
def popped5th (s : Mxu F) (A : ℕ) (hA : Fits A 256) : Mxu F := (popped4th s A hA).pop 1 0 192 fits_0_192

/-- What the pops read: tap 1, tap 0, tap 2, of each column half. -/
def pop1 (s : Mxu F) (A : ℕ) (hA : Fits A 256) : Fin 2 → FVec F S256x256 .f32
  | 0 => s.read 0 A hA
  | 1 => (popped3rd s A hA).read 1 A hA
def pop0 (s : Mxu F) (A : ℕ) (hA : Fits A 256) : Fin 2 → FVec F S192x256 .f32
  | 0 => (popped1st s A hA).read 0 0 fits_0_192
  | 1 => (popped4th s A hA).read 1 0 fits_0_192
def pop2 (s : Mxu F) (A : ℕ) (hA : Fits A 256) : Fin 2 → FVec F S192x256 .f32
  | 0 => (popped2nd s A hA).read 0 176 fits_176_192
  | 1 => (popped5th s A hA).read 1 176 fits_176_192

variable (c : Dev nD) (f2 : Buf (Elt F) ((Memref.whole main_v4).view.loc (c : Thread nD τ))) (g5 : Buf (Elt F) ((Memref.whole cc0_scratch4).view.loc (c : Thread nD τ)))
  (f4 : Buf (Elt F) ((Memref.whole main_arg3).view.loc (c : Thread nD τ))) (f5 : Buf (Elt F) ((Memref.whole main_arg4).view.loc (c : Thread nD τ)))
  (g6 : Buf (Elt F) ((Memref.whole cc0_scratch5).view.loc (c : Thread nD τ))) (g7 : Buf (Elt F) ((Memref.whole cc0_scratch6).view.loc (c : Thread nD τ)))

theorem inb_cols (n : Fin 4) (q : Fin 2) : ∀ a, (![512 * n.val + 256 * q.val] : Fin 1 → ℕ) a + S256.size a ≤ S2048.size a := by
  intro a; have := n.isLt; have := q.isLt
  match a with
  | 0 => show 512 * n.val + 256 * q.val + 256 ≤ 2048; omega

/-- The column scales and the bias of a column half. -/
def colScale (n : Fin 4) (q : Fin 2) : Vec F S256 .f32 :=
  View.readAt (Elt F) (Memref.whole cc0_scratch5).view (Rect.unit (s := S2048) ![512 * n.val + 256 * q.val] S256.size (inb_cols n q)).toLoadRect
    (View.write (Elt F) (Memref.whole cc0_scratch5).view g6 (run.sl.dma0_2 c f4) Finset.univ)
def colBias (n : Fin 4) (q : Fin 2) : Vec F S256 .f32 :=
  View.readAt (Elt F) (Memref.whole cc0_scratch6).view (Rect.unit (s := S2048) ![512 * n.val + 256 * q.val] S256.size (inb_cols n q)).toLoadRect
    (View.write (Elt F) (Memref.whole cc0_scratch6).view g7 (run.sl.dma0_3 c f5) Finset.univ)

/-- Frame `f`'s rows of a column half, finished from the pops `P1`, `P0`, `P2`. -/
def fin (P1 : FVec F S256x256 .f32) (P0 P2 : FVec F S192x256 .f32) (ws bb : Vec F S256 .f32) : Fin 4 → FVec F S64x256 .f32
  | 0 => k0_pay212 (run.sl.v218 c f2 g5) (run.sl.v227 c f2 g5) P1 P2 (k0_pay210 ws) bb
  | 1 => k0_pay213 (run.sl.v218 c f2 g5) (run.sl.v227 c f2 g5) (run.sl.v236 c f2 g5) P1 P0 P2 (k0_pay210 ws) bb
  | 2 => k0_pay214 (run.sl.v227 c f2 g5) (run.sl.v236 c f2 g5) (run.sl.v245 c f2 g5) P1 P0 P2 (k0_pay210 ws) bb
  | 3 => k0_pay216 (k0_pay210 ws) (k0_pay211 bb) (k0_pay215 (run.sl.v236 c f2 g5) (run.sl.v245 c f2 g5) P1 P0)

/-- A chunk's finished rows, by column half and frame. -/
def rowsOf (s : Mxu F) (A : ℕ) (hA : Fits A 256) (n : Fin 4) (q : Fin 2) (f : Fin 4) : FVec F S64x256 .f32 :=
  fin c f2 g5 (pop1 s A hA q) (pop0 s A hA q) (pop2 s A hA q) (colScale c f4 g6 n q) (colBias c f5 g7 n q) f

/-- A store's payload: 128 of the 256 columns. -/
def half (y : FVec F S64x256 .f32) : Fin 2 → FVec F S1x64x1x1x128 .bf16
  | 0 => k0_pay218 y
  | 1 => k0_pay219 y

theorem inb_cell (n cq : Fin 4) (fh : Fin 2) : ∀ a, (![n.val, 0, cq.val, 2 * fh.val, 0] : Fin 5 → ℕ) a + S1x64x1x2x128.size a ≤ S4x64x4x4x128.size a := by
  intro a; have := n.isLt; have := cq.isLt; have := fh.isLt
  match a with
  | 0 => show n.val + 1 ≤ 4; omega
  | 1 => show 0 + 64 ≤ 64; omega
  | 2 => show cq.val + 1 ≤ 4; omega
  | 3 => show 2 * fh.val + 2 ≤ 4; omega
  | 4 => show 0 + 128 ≤ 128; omega

abbrev cell (n cq : Fin 4) (fh : Fin 2) : Rect S4x64x4x4x128 := Rect.unit (s := S4x64x4x4x128) ![n.val, 0, cq.val, 2 * fh.val, 0] S1x64x1x2x128.size (inb_cell n cq fh)

abbrev YL (F : FTy → Type) [FloatOps F] := List (View.Piece (Elt F) S4x64x4x4x128 .bf16)

/-- An even frame's store, beside what the buffer held; -/
def evenP (g4 : Buf (Elt F) (yB.view.loc (c : Thread nD τ))) (n cq : Fin 4) (fh : Fin 2) (w : FVec F S1x64x1x1x128 .bf16) : View.Piece (Elt F) S4x64x4x4x128 .bf16 :=
  ⟨cell n cq fh, updateSlice (View.readAt (Elt F) yB.view (cell n cq fh).toLoadRect g4) w ![0, 0, 0, 0, 0] slices_S1x64x1x2x128_S1x64x1x1x128_0_0_0_0_0⟩
/-- an odd frame's, beside the even frame's stored before. -/
def oddP (n cq : Fin 4) (fh : Fin 2) (w : FVec F S1x64x1x1x128 .bf16) (L : YL F) : View.Piece (Elt F) S4x64x4x4x128 .bf16 :=
  ⟨cell n cq fh, updateSlice (yB.view.readCov L (cell n cq fh).toLoadRect) w ![0, 0, 0, 1, 0] slices_S1x64x1x2x128_S1x64x1x1x128_0_0_0_1_0⟩

/-- The four stores of two frames of a column half after the stores `L`. -/
def store4 (g4 : Buf (Elt F) (yB.view.loc (c : Thread nD τ))) (n cqa cqb : Fin 4) (fh : Fin 2) (ye yo : FVec F S64x256 .f32) (L : YL F) : YL F :=
  let L2 := evenP c g4 n cqb fh (half ye 1) :: evenP c g4 n cqa fh (half ye 0) :: L
  let L3 := oddP n cqa fh (half yo 0) L2 :: L2
  oddP n cqb fh (half yo 1) L3 :: L3

/-- A chunk's sixteen stores. -/
def store16 (g4 : Buf (Elt F) (yB.view.loc (c : Thread nD τ))) (n : Fin 4) (Y : Fin 2 → Fin 4 → FVec F S64x256 .f32) : YL F :=
  store4 c g4 n 2 3 1 (Y 1 2) (Y 1 3) (store4 c g4 n 2 3 0 (Y 1 0) (Y 1 1) (store4 c g4 n 0 1 1 (Y 0 2) (Y 0 3) (store4 c g4 n 0 1 0 (Y 0 0) (Y 0 1) [])))

variable (f1 : Buf (Elt F) ((Memref.whole main_v1).view.loc (c : Thread nD τ)))
  (g1 : Buf (Elt F) ((Memref.whole cc0_scratch0).view.loc (c : Thread nD τ))) (t0 t1 t2 t3 : Buf (Elt F) (tB.view.loc (c : Thread nD τ)))
  (g4 : Buf (Elt F) (yB.view.loc (c : Thread nD τ)))

theorem stores0 : run.sl.Y0_16 c f1 f2 f4 f5 g1 g4 g5 g6 g7 t0 t1
    = store16 c g4 0 (rowsOf c f2 g5 f4 f5 g6 g7 (run.sl.k0_mxu183 c f1 g1 t0 t1) 48 fits_48_256 0) := rfl
theorem stores1 : run.sl.Y1_16 c f1 f2 f4 f5 g1 g4 g5 g6 g7 t0 t1 t2
    = store16 c g4 1 (rowsOf c f2 g5 f4 f5 g6 g7 (run.sl.k0_mxu369 c f1 g1 t0 t1 t2) 112 fits_112_256 1) := rfl
theorem stores2 : run.sl.Y2_16 c f1 f2 f4 f5 g1 g4 g5 g6 g7 t0 t1 t2 t3
    = store16 c g4 2 (rowsOf c f2 g5 f4 f5 g6 g7 (run.sl.k0_mxu555 c f1 g1 t0 t1 t2 t3) 48 fits_48_256 2) := rfl
theorem stores3 : run.sl.Y3_16 c f1 f2 f4 f5 g1 g4 g5 g6 g7 t0 t1 t2 t3
    = store16 c g4 3 (rowsOf c f2 g5 f4 f5 g6 g7 (run.sl.k0_mxu739 c f1 g1 t0 t1 t2 t3) 112 fits_112_256 3) := rfl

end Stores

end Cert.KernelIdeal.Hand
-- ==== Proof.IFinish.lean ====
module

public import proofs.«01_k».proof.Proof.IStores

@[expose] public section

set_option maxRecDepth 16384

noncomputable section

namespace Cert.KernelIdeal.Hand

open Cert.KernelIdeal Cert.KernelIdeal.Gen
open Idealize.ShloMosaic Idealize.ShloMosaic.TcCoe Idealize.ShloMosaic.Mxu
open scoped BigOperators

section Values

/-- The reads of a chunk's pops. -/
structure Sums (f1 : S4x60x3686.Idx → EReal) (f3 : S3x3688x2048.Idx → EReal) (n : Fin 4) (P1 : Fin 2 → FVec Ideal S256x256 .f32) (P0 P2 : Fin 2 → FVec Ideal S192x256 .f32) : Prop where
  p1 : ∀ (q : Fin 2) (r : Fin 256) (C : Fin 256) (h : 512 * n.val + 256 * q.val + C.val < 2048), (P1 q (ValueIdx.ix2 r C) : EReal) = tapSum f1 f3 1 r.val ⟨_, h⟩
  p0 : ∀ (q : Fin 2) (r : Fin 192) (C : Fin 256) (h : 512 * n.val + 256 * q.val + C.val < 2048), (P0 q (ValueIdx.ix2 r C) : EReal) = tapSum f1 f3 0 r.val ⟨_, h⟩
  p2 : ∀ (q : Fin 2) (r : Fin 192) (C : Fin 256) (h : 512 * n.val + 256 * q.val + C.val < 2048), (P2 q (ValueIdx.ix2 r C) : EReal) = tapSum f1 f3 2 (64 + r.val) ⟨_, h⟩

theorem ix_eq {n0 n1 : ℕ} (r : Fin n0) (C : Fin n1) : (ix r C : (⟨2, ![n0, n1]⟩ : Shape).Idx) = ValueIdx.ix2 r C := by
  funext a; match a with | 0 => rfl | 1 => rfl

variable (c : Dev nD) (f1 : Buf (Elt Ideal) ((Memref.whole main_v1).view.loc (c : Thread nD τ)))
  (g1 : Buf (Elt Ideal) ((Memref.whole cc0_scratch0).view.loc (c : Thread nD τ)))
  (f3 : Buf (Elt Ideal) ((Memref.whole main_v6).view.loc (c : Thread nD τ)))

theorem sums_of {s : Mxu Ideal} {A : ℕ} {hA : Fits A 256} (hA1 : 48 ≤ A) (hA2 : A ≤ 112) (n : Fin 4) (t : Slab Ideal)
    (hP : Popped c f1 g1 s A hA (tileOf t (masked t (maskL n t)) n))
    (ht : ∀ x : S3x3712x2048.Idx, 512 * n.val ≤ (x 2 : ℕ) → (x 2 : ℕ) < 512 * n.val + 512 → (x 1 : ℕ) < 3688 → t x = wAt c f3 x) :
    Sums f1 f3 n (pop1 s A hA) (pop0 s A hA) (pop2 s A hA) := by
  have hR (k : Fin 3) (q : Fin 2) (C : Fin 256) (h : 512 * n.val + 256 * q.val + C.val < 2048) : ∀ j < 15, ∀ u : Fin 256, 256 * j + u.val < 3686 →
      (tileOf t (masked t (maskL n t)) n k j q (ValueIdx.ix2 u C) : EReal) = wv f3 k (256 * j + u.val) ⟨_, h⟩ := by
    intro j hj u hu
    have := q.isLt; have := C.isLt
    rw [tile_at t n k j hj q u C hu, ht _ (show 512 * n.val ≤ 512 * n.val + 256 * q.val + C.val by omega)
      (show 512 * n.val + 256 * q.val + C.val < 512 * n.val + 512 by omega) (show 256 * j + u.val < 3688 by omega), wv, dif_pos hu]
    exact congrArg f3 (ix3_of_val rfl (show (256 * j + u.val) % 3688 = 256 * j + u.val from Nat.mod_eq_of_lt (by omega)) rfl)
  have hG := grid_eq c f1 g1
  constructor
  · intro q r C h
    have e : pop1 s A hA q = s.read q A hA := by
      match q with
      | 0 => rfl
      | 1 =>
        show (((s.pop 0 A 256 hA).pop 0 0 192 fits_0_192).pop 0 176 192 fits_176_192).read 1 A hA = _
        exact (read_pop_ne (hne := Or.inl (by decide)) ..).trans ((read_pop_ne (hne := Or.inl (by decide)) ..).trans ((read_pop_ne (hne := Or.inl (by decide)) ..)))
    rw [e, ← ix_eq, hP.p1 q r C]
    refine sum15_at _ _ f1 f3 q r C r.val 1 ⟨_, h⟩ (fun j hj u => ?_) (hR 1 q C h)
    rw [left1, hG]; exact lhs256_at f1 j hj r u
  · intro q r C h
    have e : pop0 s A hA q = s.read q 0 fits_0_192 := by
      match q with
      | 0 =>
        show (s.pop 0 A 256 hA).read 0 0 fits_0_192 = _
        exact (read_pop_ne (hne := Or.inr (by omega)) ..)
      | 1 =>
        show ((((s.pop 0 A 256 hA).pop 0 0 192 fits_0_192).pop 0 176 192 fits_176_192).pop 1 A 256 hA).read 1 0 fits_0_192 = _
        exact (read_pop_ne (hne := Or.inr (by omega)) ..).trans ((read_pop_ne (hne := Or.inl (by decide)) ..).trans ((read_pop_ne (hne := Or.inl (by decide)) ..).trans ((read_pop_ne (hne := Or.inl (by decide)) ..))))
    rw [e, ← ix_eq, hP.p0 q r C]
    refine sum15_at _ _ f1 f3 q r C r.val 0 ⟨_, h⟩ (fun j hj u => ?_) (hR 0 q C h)
    rw [left0, hG]; exact (lhs192_at f1 0 (by decide) j hj r u).trans (by rw [Nat.zero_add])
  · intro q r C h
    have e : pop2 s A hA q = s.read q 176 fits_176_192 := by
      match q with
      | 0 =>
        show ((s.pop 0 A 256 hA).pop 0 0 192 fits_0_192).read 0 176 fits_176_192 = _
        exact (read_pop_ne (hne := Or.inr (by omega)) ..).trans ((read_pop_ne (hne := Or.inr (by omega)) ..))
      | 1 =>
        show (((((s.pop 0 A 256 hA).pop 0 0 192 fits_0_192).pop 0 176 192 fits_176_192).pop 1 A 256 hA).pop 1 0 192 fits_0_192).read 1 176 fits_176_192 = _
        exact (read_pop_ne (hne := Or.inr (by omega)) ..).trans ((read_pop_ne (hne := Or.inr (by omega)) ..).trans ((read_pop_ne (hne := Or.inl (by decide)) ..).trans ((read_pop_ne (hne := Or.inl (by decide)) ..).trans ((read_pop_ne (hne := Or.inl (by decide)) ..)))))
    rw [e, ← ix_eq, hP.p2 q r C]
    refine sum15_at _ _ f1 f3 q r C (64 + r.val) 2 ⟨_, h⟩ (fun j hj u => ?_) (hR 2 q C h)
    rw [left2, hG]; exact lhs192_at f1 64 (by decide) j hj r u

end Values

section Finish

/-- The lane of a column. -/
def lane (C : Fin 256) : Fin 128 := ⟨C.val % 128, Nat.mod_lt _ (by decide)⟩

theorem twice_at (v : FVec Ideal S64x128 .f32) (p : Fin 64) (C : Fin 256) :
    concatenate S64x256 1 [⟨S64x128, v⟩, ⟨S64x128, v⟩] concatenates_S64x128_S64x128_S64x256_d1 (ValueIdx.ix2 p C) = v (ValueIdx.ix2 p (lane C)) := by
  have hC := C.isLt
  pointwise []
  by_cases h : C.val < 128
  · rw [dif_pos (show ((ValueIdx.ix2 p C 1 : Fin 256) : ℕ) < 128 from h), ix2_eq_valueIdx]
    exact congrArg v (congrArg (ValueIdx.ix2 p) (Fin.ext (Nat.mod_eq_of_lt h).symm))
  · rw [dif_neg (show ¬ ((ValueIdx.ix2 p C 1 : Fin 256) : ℕ) < 128 from h), ix2_eq_valueIdx]
    exact congrArg v (congrArg (ValueIdx.ix2 p) (Fin.ext (show C.val - 128 = C.val % 128 by omega)))

theorem pay212_at (a b : FVec Ideal S64x128 .f32) (P1 : FVec Ideal S256x256 .f32) (P2 : FVec Ideal S192x256 .f32) (w d : Vec Ideal S256 .f32) (p : Fin 64) (C : Fin 256) :
    (k0_pay212 a b P1 P2 (k0_pay210 w) d (ValueIdx.ix2 p C) : EReal)
      = max (((P1 (ValueIdx.ix2 (⟨p.val, by omega⟩ : Fin 256) C) : EReal) * (a (ValueIdx.ix2 p (lane C)) : EReal) + (P2 (ValueIdx.ix2 (⟨p.val, by omega⟩ : Fin 192) C) : EReal) * (b (ValueIdx.ix2 p (lane C)) : EReal)) * (w (ValueIdx.ix1 C) : EReal) + (d (ValueIdx.ix1 C) : EReal)) 0 := by
  rw [← twice_at a p C, ← twice_at b p C]
  unfold k0_pay212
  generalize concatenate S64x256 1 [⟨S64x128, a⟩, ⟨S64x128, a⟩] concatenates_S64x128_S64x128_S64x256_d1 = a'
  generalize concatenate S64x256 1 [⟨S64x128, b⟩, ⟨S64x128, b⟩] concatenates_S64x128_S64x128_S64x256_d1 = b'
  pointwise [k0_pay210, k0_pay211]
  simp only [ix1_eq_valueIdx, ix2_eq_valueIdx]

theorem pay213_at (a b e : FVec Ideal S64x128 .f32) (P1 : FVec Ideal S256x256 .f32) (P0 P2 : FVec Ideal S192x256 .f32) (w d : Vec Ideal S256 .f32) (p : Fin 64) (C : Fin 256) :
    (k0_pay213 a b e P1 P0 P2 (k0_pay210 w) d (ValueIdx.ix2 p C) : EReal)
      = max (((P0 (ValueIdx.ix2 (⟨p.val, by omega⟩ : Fin 192) C) : EReal) * (a (ValueIdx.ix2 p (lane C)) : EReal) + (P1 (ValueIdx.ix2 (⟨64 + p.val, by omega⟩ : Fin 256) C) : EReal) * (b (ValueIdx.ix2 p (lane C)) : EReal) + (P2 (ValueIdx.ix2 (⟨64 + p.val, by omega⟩ : Fin 192) C) : EReal) * (e (ValueIdx.ix2 p (lane C)) : EReal)) * (w (ValueIdx.ix1 C) : EReal) + (d (ValueIdx.ix1 C) : EReal)) 0 := by
  rw [← twice_at a p C, ← twice_at b p C, ← twice_at e p C]
  unfold k0_pay213
  generalize concatenate S64x256 1 [⟨S64x128, a⟩, ⟨S64x128, a⟩] concatenates_S64x128_S64x128_S64x256_d1 = a'
  generalize concatenate S64x256 1 [⟨S64x128, b⟩, ⟨S64x128, b⟩] concatenates_S64x128_S64x128_S64x256_d1 = b'
  generalize concatenate S64x256 1 [⟨S64x128, e⟩, ⟨S64x128, e⟩] concatenates_S64x128_S64x128_S64x256_d1 = e'
  pointwise [k0_pay210, k0_pay211]
  simp only [ix1_eq_valueIdx, ix2_eq_valueIdx]

theorem pay214_at (a b e : FVec Ideal S64x128 .f32) (P1 : FVec Ideal S256x256 .f32) (P0 P2 : FVec Ideal S192x256 .f32) (w d : Vec Ideal S256 .f32) (p : Fin 64) (C : Fin 256) :
    (k0_pay214 a b e P1 P0 P2 (k0_pay210 w) d (ValueIdx.ix2 p C) : EReal)
      = max (((P0 (ValueIdx.ix2 (⟨64 + p.val, by omega⟩ : Fin 192) C) : EReal) * (a (ValueIdx.ix2 p (lane C)) : EReal) + (P1 (ValueIdx.ix2 (⟨128 + p.val, by omega⟩ : Fin 256) C) : EReal) * (b (ValueIdx.ix2 p (lane C)) : EReal) + (P2 (ValueIdx.ix2 (⟨128 + p.val, by omega⟩ : Fin 192) C) : EReal) * (e (ValueIdx.ix2 p (lane C)) : EReal)) * (w (ValueIdx.ix1 C) : EReal) + (d (ValueIdx.ix1 C) : EReal)) 0 := by
  rw [← twice_at a p C, ← twice_at b p C, ← twice_at e p C]
  unfold k0_pay214
  generalize concatenate S64x256 1 [⟨S64x128, a⟩, ⟨S64x128, a⟩] concatenates_S64x128_S64x128_S64x256_d1 = a'
  generalize concatenate S64x256 1 [⟨S64x128, b⟩, ⟨S64x128, b⟩] concatenates_S64x128_S64x128_S64x256_d1 = b'
  generalize concatenate S64x256 1 [⟨S64x128, e⟩, ⟨S64x128, e⟩] concatenates_S64x128_S64x128_S64x256_d1 = e'
  pointwise [k0_pay210, k0_pay211]
  simp only [ix1_eq_valueIdx, ix2_eq_valueIdx]

theorem pay216_at (a b : FVec Ideal S64x128 .f32) (P1 : FVec Ideal S256x256 .f32) (P0 : FVec Ideal S192x256 .f32) (w d : Vec Ideal S256 .f32) (p : Fin 64) (C : Fin 256) :
    (k0_pay216 (k0_pay210 w) (k0_pay211 d) (k0_pay215 a b P1 P0) (ValueIdx.ix2 p C) : EReal)
      = max (((P0 (ValueIdx.ix2 (⟨128 + p.val, by omega⟩ : Fin 192) C) : EReal) * (a (ValueIdx.ix2 p (lane C)) : EReal) + (P1 (ValueIdx.ix2 (⟨192 + p.val, by omega⟩ : Fin 256) C) : EReal) * (b (ValueIdx.ix2 p (lane C)) : EReal)) * (w (ValueIdx.ix1 C) : EReal) + (d (ValueIdx.ix1 C) : EReal)) 0 := by
  rw [← twice_at a p C, ← twice_at b p C]
  unfold k0_pay216 k0_pay215
  generalize concatenate S64x256 1 [⟨S64x128, a⟩, ⟨S64x128, a⟩] concatenates_S64x128_S64x128_S64x256_d1 = a'
  generalize concatenate S64x256 1 [⟨S64x128, b⟩, ⟨S64x128, b⟩] concatenates_S64x128_S64x128_S64x256_d1 = b'
  pointwise [k0_pay210, k0_pay211]
  simp only [ix1_eq_valueIdx, ix2_eq_valueIdx]

end Finish

end Cert.KernelIdeal.Hand
-- ==== Proof.IScales.lean ====
module

public import proofs.«01_k».proof.Proof.IFinish

@[expose] public section

set_option maxRecDepth 16384

noncomputable section

namespace Cert.KernelIdeal.Hand

open Cert.KernelIdeal Cert.KernelIdeal.Gen
open Idealize.ShloMosaic Idealize.ShloMosaic.TcCoe Idealize.ShloMosaic.Mxu
open scoped BigOperators

section Scales

variable (c : Dev nD) (f2 : Buf (Elt Ideal) ((Memref.whole main_v4).view.loc (c : Thread nD τ))) (g5 : Buf (Elt Ideal) ((Memref.whole cc0_scratch4).view.loc (c : Thread nD τ)))
  (f4 : Buf (Elt Ideal) ((Memref.whole main_arg3).view.loc (c : Thread nD τ))) (f5 : Buf (Elt Ideal) ((Memref.whole main_arg4).view.loc (c : Thread nD τ)))
  (g6 : Buf (Elt Ideal) ((Memref.whole cc0_scratch5).view.loc (c : Thread nD τ))) (g7 : Buf (Elt Ideal) ((Memref.whole cc0_scratch6).view.loc (c : Thread nD τ)))

/-- The scale of frame `k` at lane `l` of row `p`: the first batch's for the first 30 rows. -/
def rowScale (f2 : S2x8x128.Idx → EReal) (k : Fin 4) (p : ℕ) (l : Fin 128) : EReal :=
  f2 (ValueIdx.ix3 (if p < 30 then (0 : Fin 2) else 1) (⟨k.val, by omega⟩ : Fin 8) l)

theorem v206_at (a : Fin 8) (l : Fin 128) : (run.sl.v206 c f2 g5 (ValueIdx.ix2 a l) : EReal) = f2 (ValueIdx.ix3 (0 : Fin 2) a l) := by
  have e : ∀ v : Vec Ideal S1x8x128 .f32, (shapeCast S8x128 v shapeCasts_S1x8x128_S8x128 : FVec Ideal S8x128 .f32) (ValueIdx.ix2 a l) = v (ValueIdx.ix3 (0 : Fin 1) a l) := by
    intro v; pointwise []; rw [ix3_eq_valueIdx]
  refine (e _).trans ?_
  unfold run.sl.v205
  rw [show View.write (Elt Ideal) (Memref.whole cc0_scratch4).view g5 (run.sl.dma0_1 c f2) Finset.univ = run.sl.dma0_1 c f2 from View.write_whole_univ _ _ _]
  refine congrArg f2 (funext fun b => Fin.ext ?_)
  match b with
  | 0 => rfl
  | 1 => exact (show 0 + 1 * a.val = a.val by omega)
  | 2 => exact (show 0 + 1 * l.val = l.val by omega)

theorem v208_at (a : Fin 8) (l : Fin 128) : (run.sl.v208 c f2 g5 (ValueIdx.ix2 a l) : EReal) = f2 (ValueIdx.ix3 (1 : Fin 2) a l) := by
  have e : ∀ v : Vec Ideal S1x8x128 .f32, (shapeCast S8x128 v shapeCasts_S1x8x128_S8x128 : FVec Ideal S8x128 .f32) (ValueIdx.ix2 a l) = v (ValueIdx.ix3 (0 : Fin 1) a l) := by
    intro v; pointwise []; rw [ix3_eq_valueIdx]
  refine (e _).trans ?_
  unfold run.sl.v207
  rw [show View.write (Elt Ideal) (Memref.whole cc0_scratch4).view g5 (run.sl.dma0_1 c f2) Finset.univ = run.sl.dma0_1 c f2 from View.write_whole_univ _ _ _]
  refine congrArg f2 (funext fun b => Fin.ext ?_)
  match b with
  | 0 => rfl
  | 1 => exact (show 0 + 1 * a.val = a.val by omega)
  | 2 => exact (show 0 + 1 * l.val = l.val by omega)

theorem first_rows (p : Fin 64) (l : Fin 128) (h : p.val < 30) : cmpi .slt run.sl.v209 run.sl.v210 (ValueIdx.ix2 p l) = 1#1 := by
  have : ∀ r : Fin 64, r.val < 30 → IntOp.cmpi CmpIPredicate.slt (BitVec.ofNat 32 r.val) 30#32 = 1#1 := by decide
  have e := this p h
  unfold run.sl.v209 run.sl.v210
  pointwise []
  exact e

theorem last_rows (p : Fin 64) (l : Fin 128) (h : ¬ p.val < 30) : cmpi .slt run.sl.v209 run.sl.v210 (ValueIdx.ix2 p l) = 0#1 := by
  have : ∀ r : Fin 64, ¬ r.val < 30 → IntOp.cmpi CmpIPredicate.slt (BitVec.ofNat 32 r.val) 30#32 = 0#1 := by decide
  have e := this p h
  unfold run.sl.v209 run.sl.v210
  pointwise []
  exact e

theorem v218_at (p : Fin 64) (l : Fin 128) : (run.sl.v218 c f2 g5 (ValueIdx.ix2 p l) : EReal) = rowScale f2 0 p.val l := by
  have e : ∀ v : FVec Ideal S8x128 .f32, (broadcastTo S64x128 (shapeCast S1x128 (extractStridedSlice S1x128 ![0, 0] v slices_S8x128_o0_0_S1x128) shapeCasts_S1x128_S1x128) broadcasts_S1x128_S64x128 : FVec Ideal S64x128 .f32) (ValueIdx.ix2 p l)
      = v (ValueIdx.ix2 (0 : Fin 8) l) := by
    intro v; pointwise []; rw [ix2_eq_valueIdx]
  have ea : (run.sl.v214 c f2 g5 (ValueIdx.ix2 p l) : EReal) = f2 (ValueIdx.ix3 (0 : Fin 2) (0 : Fin 8) l) := (e (run.sl.v206 c f2 g5)).trans (v206_at c f2 g5 0 l)
  have eb : (run.sl.v217 c f2 g5 (ValueIdx.ix2 p l) : EReal) = f2 (ValueIdx.ix3 (1 : Fin 2) (0 : Fin 8) l) := (e (run.sl.v208 c f2 g5)).trans (v208_at c f2 g5 0 l)
  show (Scalar.select (cmpi .slt run.sl.v209 run.sl.v210 (ValueIdx.ix2 p l)) (run.sl.v214 c f2 g5 (ValueIdx.ix2 p l)) (run.sl.v217 c f2 g5 (ValueIdx.ix2 p l)) : EReal) = _
  rw [ea, eb, rowScale]
  by_cases h : p.val < 30
  · rw [first_rows p l h, if_pos h]; rfl
  · rw [last_rows p l h, if_neg h]; rfl

theorem v227_at (p : Fin 64) (l : Fin 128) : (run.sl.v227 c f2 g5 (ValueIdx.ix2 p l) : EReal) = rowScale f2 1 p.val l := by
  have e : ∀ v : FVec Ideal S8x128 .f32, (broadcastTo S64x128 (shapeCast S1x128 (extractStridedSlice S1x128 ![1, 0] v slices_S8x128_o1_0_S1x128) shapeCasts_S1x128_S1x128) broadcasts_S1x128_S64x128 : FVec Ideal S64x128 .f32) (ValueIdx.ix2 p l)
      = v (ValueIdx.ix2 (1 : Fin 8) l) := by
    intro v; pointwise []; rw [ix2_eq_valueIdx]
  have ea : (run.sl.v223 c f2 g5 (ValueIdx.ix2 p l) : EReal) = f2 (ValueIdx.ix3 (0 : Fin 2) (1 : Fin 8) l) := (e (run.sl.v206 c f2 g5)).trans (v206_at c f2 g5 1 l)
  have eb : (run.sl.v226 c f2 g5 (ValueIdx.ix2 p l) : EReal) = f2 (ValueIdx.ix3 (1 : Fin 2) (1 : Fin 8) l) := (e (run.sl.v208 c f2 g5)).trans (v208_at c f2 g5 1 l)
  show (Scalar.select (cmpi .slt run.sl.v209 run.sl.v210 (ValueIdx.ix2 p l)) (run.sl.v223 c f2 g5 (ValueIdx.ix2 p l)) (run.sl.v226 c f2 g5 (ValueIdx.ix2 p l)) : EReal) = _
  rw [ea, eb, rowScale]
  by_cases h : p.val < 30
  · rw [first_rows p l h, if_pos h]; rfl
  · rw [last_rows p l h, if_neg h]; rfl

theorem v236_at (p : Fin 64) (l : Fin 128) : (run.sl.v236 c f2 g5 (ValueIdx.ix2 p l) : EReal) = rowScale f2 2 p.val l := by
  have e : ∀ v : FVec Ideal S8x128 .f32, (broadcastTo S64x128 (shapeCast S1x128 (extractStridedSlice S1x128 ![2, 0] v slices_S8x128_o2_0_S1x128) shapeCasts_S1x128_S1x128) broadcasts_S1x128_S64x128 : FVec Ideal S64x128 .f32) (ValueIdx.ix2 p l)
      = v (ValueIdx.ix2 (2 : Fin 8) l) := by
    intro v; pointwise []; rw [ix2_eq_valueIdx]
  have ea : (run.sl.v232 c f2 g5 (ValueIdx.ix2 p l) : EReal) = f2 (ValueIdx.ix3 (0 : Fin 2) (2 : Fin 8) l) := (e (run.sl.v206 c f2 g5)).trans (v206_at c f2 g5 2 l)
  have eb : (run.sl.v235 c f2 g5 (ValueIdx.ix2 p l) : EReal) = f2 (ValueIdx.ix3 (1 : Fin 2) (2 : Fin 8) l) := (e (run.sl.v208 c f2 g5)).trans (v208_at c f2 g5 2 l)
  show (Scalar.select (cmpi .slt run.sl.v209 run.sl.v210 (ValueIdx.ix2 p l)) (run.sl.v232 c f2 g5 (ValueIdx.ix2 p l)) (run.sl.v235 c f2 g5 (ValueIdx.ix2 p l)) : EReal) = _
  rw [ea, eb, rowScale]
  by_cases h : p.val < 30
  · rw [first_rows p l h, if_pos h]; rfl
  · rw [last_rows p l h, if_neg h]; rfl

theorem v245_at (p : Fin 64) (l : Fin 128) : (run.sl.v245 c f2 g5 (ValueIdx.ix2 p l) : EReal) = rowScale f2 3 p.val l := by
  have e : ∀ v : FVec Ideal S8x128 .f32, (broadcastTo S64x128 (shapeCast S1x128 (extractStridedSlice S1x128 ![3, 0] v slices_S8x128_o3_0_S1x128) shapeCasts_S1x128_S1x128) broadcasts_S1x128_S64x128 : FVec Ideal S64x128 .f32) (ValueIdx.ix2 p l)
      = v (ValueIdx.ix2 (3 : Fin 8) l) := by
    intro v; pointwise []; rw [ix2_eq_valueIdx]
  have ea : (run.sl.v241 c f2 g5 (ValueIdx.ix2 p l) : EReal) = f2 (ValueIdx.ix3 (0 : Fin 2) (3 : Fin 8) l) := (e (run.sl.v206 c f2 g5)).trans (v206_at c f2 g5 3 l)
  have eb : (run.sl.v244 c f2 g5 (ValueIdx.ix2 p l) : EReal) = f2 (ValueIdx.ix3 (1 : Fin 2) (3 : Fin 8) l) := (e (run.sl.v208 c f2 g5)).trans (v208_at c f2 g5 3 l)
  show (Scalar.select (cmpi .slt run.sl.v209 run.sl.v210 (ValueIdx.ix2 p l)) (run.sl.v241 c f2 g5 (ValueIdx.ix2 p l)) (run.sl.v244 c f2 g5 (ValueIdx.ix2 p l)) : EReal) = _
  rw [ea, eb, rowScale]
  by_cases h : p.val < 30
  · rw [first_rows p l h, if_pos h]; rfl
  · rw [last_rows p l h, if_neg h]; rfl

theorem colScale_at (n : Fin 4) (q : Fin 2) (C : Fin 256) (h : 512 * n.val + 256 * q.val + C.val < 2048) :
    (colScale c f4 g6 n q (ValueIdx.ix1 C) : EReal) = f4 (ValueIdx.ix1 (⟨_, h⟩ : Fin 2048)) := by
  unfold colScale
  rw [show View.write (Elt Ideal) (Memref.whole cc0_scratch5).view g6 (run.sl.dma0_2 c f4) Finset.univ = run.sl.dma0_2 c f4 from View.write_whole_univ _ _ _]
  refine congrArg f4 (funext fun b => Fin.ext ?_)
  match b with
  | 0 => exact (show 512 * n.val + 256 * q.val + 1 * C.val = 512 * n.val + 256 * q.val + C.val by omega)

theorem colBias_at (n : Fin 4) (q : Fin 2) (C : Fin 256) (h : 512 * n.val + 256 * q.val + C.val < 2048) :
    (colBias c f5 g7 n q (ValueIdx.ix1 C) : EReal) = f5 (ValueIdx.ix1 (⟨_, h⟩ : Fin 2048)) := by
  unfold colBias
  rw [show View.write (Elt Ideal) (Memref.whole cc0_scratch6).view g7 (run.sl.dma0_3 c f5) Finset.univ = run.sl.dma0_3 c f5 from View.write_whole_univ _ _ _]
  refine congrArg f5 (funext fun b => Fin.ext ?_)
  match b with
  | 0 => exact (show 512 * n.val + 256 * q.val + 1 * C.val = 512 * n.val + 256 * q.val + C.val by omega)

end Scales

end Cert.KernelIdeal.Hand
-- ==== Proof.IRows.lean ====
module

public import proofs.«01_k».proof.Proof.IScales

@[expose] public section

set_option maxRecDepth 16384

noncomputable section

namespace Cert.KernelIdeal.Hand

open Cert.KernelIdeal Cert.KernelIdeal.Gen
open Idealize.ShloMosaic Idealize.ShloMosaic.TcCoe Idealize.ShloMosaic.Mxu
open scoped BigOperators

section Rows

/-- Frame `f`'s tap sums at row `p` of its grid rows and column `col`, each times its own frame's scale. -/
def accVal (f1 : S4x60x3686.Idx → EReal) (f2 : S2x8x128.Idx → EReal) (f3 : S3x3688x2048.Idx → EReal) (p : ℕ) (col : Fin 2048) (l : Fin 128) : Fin 4 → EReal
  | 0 => tapSum f1 f3 1 p col * rowScale f2 0 p l + tapSum f1 f3 2 (64 + p) col * rowScale f2 1 p l
  | 1 => tapSum f1 f3 0 p col * rowScale f2 0 p l + tapSum f1 f3 1 (64 + p) col * rowScale f2 1 p l + tapSum f1 f3 2 (64 + (64 + p)) col * rowScale f2 2 p l
  | 2 => tapSum f1 f3 0 (64 + p) col * rowScale f2 1 p l + tapSum f1 f3 1 (128 + p) col * rowScale f2 2 p l + tapSum f1 f3 2 (64 + (128 + p)) col * rowScale f2 3 p l
  | 3 => tapSum f1 f3 0 (128 + p) col * rowScale f2 2 p l + tapSum f1 f3 1 (192 + p) col * rowScale f2 3 p l

/-- The kernel's value: frame `f`, row `p` of its grid rows, column `col`; `l` the lane its row scale is read at. -/
def rowVal (f1 : S4x60x3686.Idx → EReal) (f2 : S2x8x128.Idx → EReal) (f3 : S3x3688x2048.Idx → EReal) (f4 f5 : S2048.Idx → EReal) (f : Fin 4) (p : ℕ) (col : Fin 2048) (l : Fin 128) : EReal :=
  max (accVal f1 f2 f3 p col l f * f4 (ValueIdx.ix1 col) + f5 (ValueIdx.ix1 col)) 0

variable (c : Dev nD) (f1 : S4x60x3686.Idx → EReal) (f3 : S3x3688x2048.Idx → EReal)
  (f2 : Buf (Elt Ideal) ((Memref.whole main_v4).view.loc (c : Thread nD τ))) (g5 : Buf (Elt Ideal) ((Memref.whole cc0_scratch4).view.loc (c : Thread nD τ)))
  (f4 : Buf (Elt Ideal) ((Memref.whole main_arg3).view.loc (c : Thread nD τ))) (f5 : Buf (Elt Ideal) ((Memref.whole main_arg4).view.loc (c : Thread nD τ)))
  (g6 : Buf (Elt Ideal) ((Memref.whole cc0_scratch5).view.loc (c : Thread nD τ))) (g7 : Buf (Elt Ideal) ((Memref.whole cc0_scratch6).view.loc (c : Thread nD τ)))

theorem rows_at {s : Mxu Ideal} {A : ℕ} {hA : Fits A 256} (n : Fin 4) (hS : Sums f1 f3 n (pop1 s A hA) (pop0 s A hA) (pop2 s A hA)) (q : Fin 2) (f : Fin 4)
    (p : Fin 64) (C : Fin 256) (h : 512 * n.val + 256 * q.val + C.val < 2048) :
    (rowsOf c f2 g5 f4 f5 g6 g7 s A hA n q f (ValueIdx.ix2 p C) : EReal) = rowVal f1 f2 f3 f4 f5 f p.val ⟨_, h⟩ (lane C) := by
  unfold rowsOf rowVal
  match f with
  | 0 => exact (pay212_at _ _ _ _ _ _ p C).trans (by
      rw [hS.p1 q _ C h, hS.p2 q _ C h, v218_at, v227_at, colScale_at c f4 g6 n q C h, colBias_at c f5 g7 n q C h]; rfl)
  | 1 => exact (pay213_at _ _ _ _ _ _ _ _ p C).trans (by
      rw [hS.p0 q _ C h, hS.p1 q _ C h, hS.p2 q _ C h, v218_at, v227_at, v236_at, colScale_at c f4 g6 n q C h, colBias_at c f5 g7 n q C h]; rfl)
  | 2 => exact (pay214_at _ _ _ _ _ _ _ _ p C).trans (by
      rw [hS.p0 q _ C h, hS.p1 q _ C h, hS.p2 q _ C h, v227_at, v236_at, v245_at, colScale_at c f4 g6 n q C h, colBias_at c f5 g7 n q C h]; rfl)
  | 3 => exact (pay216_at _ _ _ _ _ _ p C).trans (by
      rw [hS.p0 q _ C h, hS.p1 q _ C h, v236_at, v245_at, colScale_at c f4 g6 n q C h, colBias_at c f5 g7 n q C h]; rfl)

end Rows

section Good

theorem half0_at (y : FVec Ideal S64x256 .f32) (p : Fin 64) (l : Fin 128) :
    (half y 0 (ValueIdx.ix5 (0 : Fin 1) p (0 : Fin 1) (0 : Fin 1) l) : EReal) = y (ValueIdx.ix2 p (⟨128 * 0 + l.val, by omega⟩ : Fin 256)) := by
  unfold half
  pointwise [k0_pay218, k0_pay217]
  refine congrArg y (funext fun a => Fin.ext ?_)
  match a with
  | 0 => rfl
  | 1 => rfl

theorem half1_at (y : FVec Ideal S64x256 .f32) (p : Fin 64) (l : Fin 128) :
    (half y 1 (ValueIdx.ix5 (0 : Fin 1) p (0 : Fin 1) (0 : Fin 1) l) : EReal) = y (ValueIdx.ix2 p (⟨128 * 1 + l.val, by omega⟩ : Fin 256)) := by
  unfold half
  pointwise [k0_pay219, k0_pay217]
  refine congrArg y (funext fun a => Fin.ext ?_)
  match a with
  | 0 => rfl
  | 1 => exact (show 128 + l.val = 128 * 1 + l.val by omega)

theorem upd_hit (old : S1x64x1x2x128.Idx → Elt Ideal .bf16) (w : FVec Ideal S1x64x1x1x128 .bf16) (e : Fin 2) (h : S1x64x1x2x128.Slices ![0, 0, 0, e.val, 0] S1x64x1x1x128)
    (p : Fin 64) (l : Fin 128) :
    updateSlice old w ![0, 0, 0, e.val, 0] h (ValueIdx.ix5 (0 : Fin 1) p (0 : Fin 1) e l) = w (ValueIdx.ix5 (0 : Fin 1) p (0 : Fin 1) (0 : Fin 1) l) := by
  unfold updateSlice
  rw [dif_pos (fun a => by
    match a with
    | 0 => exact (show 0 ≤ 0 ∧ 0 < 0 + 1 by omega)
    | 1 => exact (show 0 ≤ p.val ∧ p.val < 0 + 64 by omega)
    | 2 => exact (show 0 ≤ 0 ∧ 0 < 0 + 1 by omega)
    | 3 => exact (show e.val ≤ e.val ∧ e.val < e.val + 1 by omega)
    | 4 => exact (show 0 ≤ l.val ∧ l.val < 0 + 128 by omega))]
  refine congrArg w (funext fun a => Fin.ext ?_)
  match a with
  | 0 => rfl
  | 1 => rfl
  | 2 => rfl
  | 3 => exact (show e.val - e.val = 0 by omega)
  | 4 => rfl

theorem upd_miss (old : S1x64x1x2x128.Idx → Elt Ideal .bf16) (w : FVec Ideal S1x64x1x1x128 .bf16) (e e' : Fin 2) (hne : e' ≠ e) (h : S1x64x1x2x128.Slices ![0, 0, 0, e.val, 0] S1x64x1x1x128)
    (p : Fin 64) (l : Fin 128) :
    updateSlice old w ![0, 0, 0, e.val, 0] h (ValueIdx.ix5 (0 : Fin 1) p (0 : Fin 1) e' l) = old (ValueIdx.ix5 (0 : Fin 1) p (0 : Fin 1) e' l) := by
  unfold updateSlice
  rw [dif_neg (fun hh => by
    have h3 := hh 3
    have h3' : e.val ≤ e'.val ∧ e'.val < e.val + 1 := h3
    exact hne (Fin.ext (by omega)))]

variable (c : Dev nD) (g4 : Buf (Elt Ideal) (yB.view.loc (c : Thread nD τ)))

theorem cell_in (n cq : Fin 4) (fh e : Fin 2) (w : S1x64x1x2x128.Idx → Elt Ideal .bf16) (L : YL Ideal) (x : S4x64x4x4x128.Idx)
    (h0 : (x 0 : ℕ) = n.val) (h2 : (x 2 : ℕ) = cq.val) (h3 : (x 3 : ℕ) = 2 * fh.val + e.val) :
    View.canon ((⟨cell n cq fh, w⟩ : View.Piece (Elt Ideal) S4x64x4x4x128 .bf16) :: L) x = w (ValueIdx.ix5 (0 : Fin 1) (x 1 : Fin 64) (0 : Fin 1) e (x 4 : Fin 128)) := by
  refine canon_in (Val := Elt Ideal) (s := S4x64x4x4x128) (e := .bf16) (off := ![n.val, 0, cq.val, 2 * fh.val, 0]) (size := S1x64x1x2x128.size) (inb := inb_cell n cq fh) w L x _ ?_
  intro a
  match a with
  | 0 => exact (show (x 0 : ℕ) = n.val + 0 by omega)
  | 1 => exact (show (x 1 : ℕ) = 0 + (x 1 : ℕ) by omega)
  | 2 => exact (show (x 2 : ℕ) = cq.val + 0 by omega)
  | 3 => exact (show (x 3 : ℕ) = 2 * fh.val + e.val by omega)
  | 4 => exact (show (x 4 : ℕ) = 0 + (x 4 : ℕ) by omega)

theorem cell_out (n cq : Fin 4) (fh : Fin 2) (w : S1x64x1x2x128.Idx → Elt Ideal .bf16) (L : YL Ideal) (x : S4x64x4x4x128.Idx)
    (h : (x 2 : ℕ) ≠ cq.val ∨ (x 3 : ℕ) / 2 ≠ fh.val) :
    View.canon ((⟨cell n cq fh, w⟩ : View.Piece (Elt Ideal) S4x64x4x4x128 .bf16) :: L) x = View.canon L x := by
  rcases h with h | h
  · exact canon_out (Val := Elt Ideal) (s := S4x64x4x4x128) (e := .bf16) (off := ![n.val, 0, cq.val, 2 * fh.val, 0]) (size := S1x64x1x2x128.size) (inb := inb_cell n cq fh) w L x (2 : Fin 5)
      (show (x 2 : ℕ) < cq.val ∨ cq.val + 1 ≤ (x 2 : ℕ) by omega)
  · exact canon_out (Val := Elt Ideal) (s := S4x64x4x4x128) (e := .bf16) (off := ![n.val, 0, cq.val, 2 * fh.val, 0]) (size := S1x64x1x2x128.size) (inb := inb_cell n cq fh) w L x (3 : Fin 5)
      (show (x 3 : ℕ) < 2 * fh.val ∨ 2 * fh.val + 2 ≤ (x 3 : ℕ) by omega)

theorem even_hit (n cq : Fin 4) (fh : Fin 2) (w : FVec Ideal S1x64x1x1x128 .bf16) (L : YL Ideal) (x : S4x64x4x4x128.Idx)
    (h0 : (x 0 : ℕ) = n.val) (h2 : (x 2 : ℕ) = cq.val) (h3 : (x 3 : ℕ) = 2 * fh.val) :
    View.canon (evenP c g4 n cq fh w :: L) x = w (ValueIdx.ix5 (0 : Fin 1) (x 1 : Fin 64) (0 : Fin 1) (0 : Fin 1) (x 4 : Fin 128)) :=
  (cell_in n cq fh 0 _ L x h0 h2 h3).trans (upd_hit _ w 0 _ _ _)

theorem odd_hit (n cq : Fin 4) (fh : Fin 2) (w : FVec Ideal S1x64x1x1x128 .bf16) (L' L : YL Ideal) (x : S4x64x4x4x128.Idx)
    (h0 : (x 0 : ℕ) = n.val) (h2 : (x 2 : ℕ) = cq.val) (h3 : (x 3 : ℕ) = 2 * fh.val + 1) :
    View.canon (oddP n cq fh w L' :: L) x = w (ValueIdx.ix5 (0 : Fin 1) (x 1 : Fin 64) (0 : Fin 1) (0 : Fin 1) (x 4 : Fin 128)) :=
  (cell_in n cq fh 1 _ L x h0 h2 h3).trans (upd_hit _ w 1 _ _ _)

theorem odd_keep (n cq : Fin 4) (fh : Fin 2) (w : FVec Ideal S1x64x1x1x128 .bf16) (L' L : YL Ideal) (x : S4x64x4x4x128.Idx)
    (h0 : (x 0 : ℕ) = n.val) (h2 : (x 2 : ℕ) = cq.val) (h3 : (x 3 : ℕ) = 2 * fh.val) :
    View.canon (oddP n cq fh w L' :: L) x = View.canon L' x := by
  refine (cell_in n cq fh 0 _ L x h0 h2 h3).trans ((upd_miss _ w 1 0 (by decide) _ _ _).trans ?_)
  rw [View.readCov_eq_canon']
  refine congrArg (View.canon L') (funext fun a => Fin.ext ?_)
  match a with
  | 0 => exact (show n.val + 1 * 0 = (x 0 : ℕ) by omega)
  | 1 => exact (show 0 + 1 * (x 1 : ℕ) = (x 1 : ℕ) by omega)
  | 2 => exact (show cq.val + 1 * 0 = (x 2 : ℕ) by omega)
  | 3 => exact (show 2 * fh.val + 1 * 0 = (x 3 : ℕ) by omega)
  | 4 => exact (show 0 + 1 * (x 4 : ℕ) = (x 4 : ℕ) by omega)

/-- The value a finished chunk holds at an index of the buffer. -/
def cellVal (Y : Fin 2 → Fin 4 → FVec Ideal S64x256 .f32) (x : S4x64x4x4x128.Idx) : EReal :=
  Y ⟨(x 2 : ℕ) / 2, by have : (x 2 : ℕ) < 4 := (x 2).isLt; omega⟩ (x 3)
    (ValueIdx.ix2 (x 1 : Fin 64) (⟨128 * ((x 2 : ℕ) % 2) + (x 4 : ℕ), by have : (x 4 : ℕ) < 128 := (x 4).isLt; omega⟩ : Fin 256))

theorem cellVal_of (Y : Fin 2 → Fin 4 → FVec Ideal S64x256 .f32) (x : S4x64x4x4x128.Idx) (q : Fin 2) (f : Fin 4) (b : ℕ) (hb : b < 2)
    (h2 : (x 2 : ℕ) = 2 * q.val + b) (h3 : (x 3 : ℕ) = f.val) (C : Fin 256) (hC : C.val = 128 * b + (x 4 : ℕ)) :
    (Y q f (ValueIdx.ix2 (x 1 : Fin 64) C) : EReal) = cellVal Y x := by
  unfold cellVal
  have e1 : (⟨(x 2 : ℕ) / 2, by have : (x 2 : ℕ) < 4 := (x 2).isLt; omega⟩ : Fin 2) = q := Fin.ext (show (x 2 : ℕ) / 2 = q.val by omega)
  have e2 : (x 3 : Fin 4) = f := Fin.ext h3
  have e3 : (⟨128 * ((x 2 : ℕ) % 2) + (x 4 : ℕ), by have : (x 4 : ℕ) < 128 := (x 4).isLt; omega⟩ : Fin 256) = C := Fin.ext (show 128 * ((x 2 : ℕ) % 2) + (x 4 : ℕ) = C.val by rw [hC, show (x 2 : ℕ) % 2 = b by omega])
  rw [e1, e3]
  exact congrArg (fun f => Y q f (ValueIdx.ix2 (x 1 : Fin 64) C)) e2.symm

/-- Two frames' stores of a column half: their cells hold the finished rows, the others what they did. -/
theorem store4_at (n : Fin 4) (Y : Fin 2 → Fin 4 → FVec Ideal S64x256 .f32) (q fh : Fin 2) (cqa cqb fe fo : Fin 4) (ha : cqa.val = 2 * q.val) (hb : cqb.val = 2 * q.val + 1)
    (he : fe.val = 2 * fh.val) (ho : fo.val = 2 * fh.val + 1) (L : YL Ideal) (x : S4x64x4x4x128.Idx) (h0 : (x 0 : ℕ) = n.val) :
    (View.canon (store4 c g4 n cqa cqb fh (Y q fe) (Y q fo) L) x : EReal)
      = if (x 2 : ℕ) / 2 = q.val ∧ (x 3 : ℕ) / 2 = fh.val then cellVal Y x else View.canon L x := by
  unfold store4
  dsimp only
  by_cases h : (x 2 : ℕ) / 2 = q.val ∧ (x 3 : ℕ) / 2 = fh.val
  · rw [if_pos h]
    by_cases hx2 : (x 2 : ℕ) = cqb.val
    · by_cases hx3 : (x 3 : ℕ) = 2 * fh.val + 1
      · rw [odd_hit _ _ _ _ _ _ x h0 hx2 hx3]
        exact (half1_at _ _ _).trans (cellVal_of Y x q fo 1 (by decide) (by omega) (by omega) _ rfl)
      · rw [odd_keep _ _ _ _ _ _ x h0 hx2 (by omega), oddP, cell_out _ _ _ _ _ x (by omega), even_hit _ _ _ _ _ _ _ x h0 hx2 (by omega)]
        exact (half1_at _ _ _).trans (cellVal_of Y x q fe 1 (by decide) (by omega) (by omega) _ rfl)
    · have hx2' : (x 2 : ℕ) = cqa.val := by omega
      rw [oddP, cell_out _ _ _ _ _ x (by omega)]
      by_cases hx3 : (x 3 : ℕ) = 2 * fh.val + 1
      · rw [odd_hit _ _ _ _ _ _ x h0 hx2' hx3]
        exact (half0_at _ _ _).trans (cellVal_of Y x q fo 0 (by decide) (by omega) (by omega) _ rfl)
      · rw [odd_keep _ _ _ _ _ _ x h0 hx2' (by omega), evenP, cell_out _ _ _ _ _ x (by omega), even_hit _ _ _ _ _ _ _ x h0 hx2' (by omega)]
        exact (half0_at _ _ _).trans (cellVal_of Y x q fe 0 (by decide) (by omega) (by omega) _ rfl)
  · rw [if_neg h, oddP, cell_out _ _ _ _ _ x (by omega), oddP, cell_out _ _ _ _ _ x (by omega), evenP, cell_out _ _ _ _ _ x (by omega), evenP, cell_out _ _ _ _ _ x (by omega)]

theorem store16_at (n : Fin 4) (Y : Fin 2 → Fin 4 → FVec Ideal S64x256 .f32) (x : S4x64x4x4x128.Idx) (h0 : (x 0 : ℕ) = n.val) :
    (View.canon (store16 c g4 n Y) x : EReal) = cellVal Y x := by
  unfold store16
  have h2 : (x 2 : ℕ) < 4 := (x 2).isLt
  have h3 : (x 3 : ℕ) < 4 := (x 3).isLt
  rw [store4_at c g4 n Y 1 1 2 3 2 3 rfl rfl rfl rfl _ x h0, store4_at c g4 n Y 1 0 2 3 0 1 rfl rfl rfl rfl _ x h0,
    store4_at c g4 n Y 0 1 0 1 2 3 rfl rfl rfl rfl _ x h0, store4_at c g4 n Y 0 0 0 1 0 1 rfl rfl rfl rfl _ x h0]
  show (if (x 2 : ℕ) / 2 = 1 ∧ (x 3 : ℕ) / 2 = 1 then _ else if (x 2 : ℕ) / 2 = 1 ∧ (x 3 : ℕ) / 2 = 0 then _ else if (x 2 : ℕ) / 2 = 0 ∧ (x 3 : ℕ) / 2 = 1 then _ else if (x 2 : ℕ) / 2 = 0 ∧ (x 3 : ℕ) / 2 = 0 then _ else _) = _
  split_ifs <;> first | rfl | (exfalso; omega)

end Good

end Cert.KernelIdeal.Hand
-- ==== Proof.IResult.lean ====
module

public import proofs.«01_k».proof.Proof.IRows

@[expose] public section

set_option maxRecDepth 16384

noncomputable section

namespace Cert.KernelIdeal.Hand

open Cert.KernelIdeal Cert.KernelIdeal.Gen
open Idealize.ShloMosaic Idealize.ShloMosaic.TcCoe Idealize.ShloMosaic.Mxu
open scoped BigOperators

section Element

theorem reshape_ix4 {a b d e : ℕ} (h : (⟨4, ![a, b, d, e]⟩ : Shape).numel = (⟨5, ![1, a, b, d, e]⟩ : Shape).numel)
    (x : Fin a) (y : Fin b) (z : Fin d) (w : Fin e) : Shape.reshapeEquiv h (ValueIdx.ix4 x y z w) = ValueIdx.ix5 (⟨0, Nat.one_pos⟩ : Fin 1) x y z w :=
  Shape.reshapeEquiv_eq_of_rowMajor h (by
    rw [Shape.rowMajor_val_five, Shape.rowMajor_val_four]
    show ((((0 * a + x.val) * b + y.val) * d + z.val) * e + w.val) = ((x.val * b + y.val) * d + z.val) * e + w.val
    simp only [Nat.zero_mul, Nat.zero_add])

variable (c : Dev nD) (g4 : Buf (Elt Ideal) (yB.view.loc (c : Thread nD τ)))

theorem inb_chunk (n : Fin 4) : ∀ a, ![n.val, 0, 0, 0, 0] a + S1x60x4x4x128.size a ≤ S4x64x4x4x128.size a := by
  have := n.isLt
  intro a
  match a with
  | 0 => exact (show n.val + 1 ≤ 4 by omega)
  | 1 => exact (show 0 + 60 ≤ 64 by omega)
  | 2 => exact (show 0 + 4 ≤ 4 by omega)
  | 3 => exact (show 0 + 4 ≤ 4 by omega)
  | 4 => exact (show 0 + 128 ≤ 128 by omega)

/-- The contents a chunk's transfer out reads. -/
def outOf (n : Fin 4) (L : YL Ideal) : S60x4x4x128.Idx → Elt Ideal .bf16 :=
  ReadAs.same.apply (View.read (Elt Ideal) (((Memref.whole cc0_scratch3 : Memref sig .tc .vmem S4x64x4x4x128 .bf16).slice (Rect.unit (s := S4x64x4x4x128) ![n.val, 0, 0, 0, 0] S1x60x4x4x128.size (inb_chunk n)) (fun _ => rfl)).squeeze S60x4x4x128 squeezes_S1x60x4x4x128_S60x4x4x128).view (yB.view.writes (Elt Ideal) g4 L))

theorem outOf_at (n : Fin 4) (L : YL Ideal) (p : Fin 60) (Q f : Fin 4) (l : Fin 128) :
    outOf c g4 n L (ValueIdx.ix4 p Q f l) = yB.view.read (Elt Ideal) (yB.view.writes (Elt Ideal) g4 L) (ValueIdx.ix5 n (⟨p.val, by omega⟩ : Fin 64) Q f l) := by
  show yB.view.read (Elt Ideal) (yB.view.writes (Elt Ideal) g4 L) ((Rect.unit (s := S4x64x4x4x128) ![n.val, 0, 0, 0, 0] S1x60x4x4x128.size (inb_chunk n)).emb (Shape.reshapeEquiv _ _)) = _
  rw [reshape_ix4]
  refine congrArg _ (funext fun a => Fin.ext ?_)
  match a with
  | 0 => exact (show n.val + 1 * 0 = n.val by omega)
  | 1 => exact (show 0 + 1 * p.val = p.val by omega)
  | 2 => exact (show 0 + 1 * Q.val = Q.val by omega)
  | 3 => exact (show 0 + 1 * f.val = f.val by omega)
  | 4 => exact (show 0 + 1 * l.val = l.val by omega)

theorem mem_cell (n cq : Fin 4) (fh : Fin 2) (x : S4x64x4x4x128.Idx) (h0 : (x 0 : ℕ) = n.val) (h2 : (x 2 : ℕ) = cq.val) (h3 : (x 3 : ℕ) / 2 = fh.val) :
    x ∈ (cell n cq fh).set := by
  have h1 : (x 1 : ℕ) < 64 := (x 1).isLt
  have h4 : (x 4 : ℕ) < 128 := (x 4).isLt
  refine (Rect.mem_set_unit (inb := inb_cell n cq fh)).mpr fun a => ?_
  match a with
  | 0 => exact (show n.val ≤ (x 0 : ℕ) ∧ (x 0 : ℕ) < n.val + 1 by omega)
  | 1 => exact (show 0 ≤ (x 1 : ℕ) ∧ (x 1 : ℕ) < 0 + 64 by omega)
  | 2 => exact (show cq.val ≤ (x 2 : ℕ) ∧ (x 2 : ℕ) < cq.val + 1 by omega)
  | 3 => exact (show 2 * fh.val ≤ (x 3 : ℕ) ∧ (x 3 : ℕ) < 2 * fh.val + 2 by omega)
  | 4 => exact (show 0 ≤ (x 4 : ℕ) ∧ (x 4 : ℕ) < 0 + 128 by omega)

theorem covered4 (n cqa cqb : Fin 4) (fh : Fin 2) (ye yo : FVec Ideal S64x256 .f32) (L : YL Ideal) (x : S4x64x4x4x128.Idx) (h0 : (x 0 : ℕ) = n.val)
    (h : ((x 2 : ℕ) = cqa.val ∨ (x 2 : ℕ) = cqb.val) ∧ (x 3 : ℕ) / 2 = fh.val ∨ ∃ p ∈ L, x ∈ p.1.set) : ∃ p ∈ store4 c g4 n cqa cqb fh ye yo L, x ∈ p.1.set := by
  unfold store4
  dsimp only
  rcases h with ⟨h2 | h2, h3⟩ | ⟨p, hp, hx⟩
  · exact ⟨_, List.mem_cons_of_mem _ (List.mem_cons_self ..), mem_cell n cqa fh x h0 h2 h3⟩
  · exact ⟨_, List.mem_cons_self .., mem_cell n cqb fh x h0 h2 h3⟩
  · exact ⟨p, List.mem_cons_of_mem _ (List.mem_cons_of_mem _ (List.mem_cons_of_mem _ (List.mem_cons_of_mem _ hp))), hx⟩

theorem covered16 (n : Fin 4) (Y : Fin 2 → Fin 4 → FVec Ideal S64x256 .f32) (x : S4x64x4x4x128.Idx) (h0 : (x 0 : ℕ) = n.val) :
    ∃ p ∈ store16 c g4 n Y, x ∈ p.1.set := by
  have h2 : (x 2 : ℕ) < 4 := (x 2).isLt
  have h3 : (x 3 : ℕ) < 4 := (x 3).isLt
  unfold store16
  by_cases ha : (x 2 : ℕ) < 2 <;> by_cases hb : (x 3 : ℕ) < 2
  · exact covered4 _ _ _ _ _ _ _ _ _ x h0 (.inr (covered4 _ _ _ _ _ _ _ _ _ x h0 (.inr (covered4 _ _ _ _ _ _ _ _ _ x h0 (.inr (covered4 _ _ _ _ _ _ _ _ _ x h0
      (.inl (show ((x 2 : ℕ) = 0 ∨ (x 2 : ℕ) = 1) ∧ (x 3 : ℕ) / 2 = 0 by omega))))))))
  · exact covered4 _ _ _ _ _ _ _ _ _ x h0 (.inr (covered4 _ _ _ _ _ _ _ _ _ x h0 (.inr (covered4 _ _ _ _ _ _ _ _ _ x h0
      (.inl (show ((x 2 : ℕ) = 0 ∨ (x 2 : ℕ) = 1) ∧ (x 3 : ℕ) / 2 = 1 by omega))))))
  · exact covered4 _ _ _ _ _ _ _ _ _ x h0 (.inr (covered4 _ _ _ _ _ _ _ _ _ x h0
      (.inl (show ((x 2 : ℕ) = 2 ∨ (x 2 : ℕ) = 3) ∧ (x 3 : ℕ) / 2 = 0 by omega))))
  · exact covered4 _ _ _ _ _ _ _ _ _ x h0 (.inl (show ((x 2 : ℕ) = 2 ∨ (x 2 : ℕ) = 3) ∧ (x 3 : ℕ) / 2 = 1 by omega))

variable (f1 : S4x60x3686.Idx → EReal) (f3 : S3x3688x2048.Idx → EReal)
  (f2 : Buf (Elt Ideal) ((Memref.whole main_v4).view.loc (c : Thread nD τ))) (g5 : Buf (Elt Ideal) ((Memref.whole cc0_scratch4).view.loc (c : Thread nD τ)))
  (f4 : Buf (Elt Ideal) ((Memref.whole main_arg3).view.loc (c : Thread nD τ))) (f5 : Buf (Elt Ideal) ((Memref.whole main_arg4).view.loc (c : Thread nD τ)))
  (g6 : Buf (Elt Ideal) ((Memref.whole cc0_scratch5).view.loc (c : Thread nD τ))) (g7 : Buf (Elt Ideal) ((Memref.whole cc0_scratch6).view.loc (c : Thread nD τ)))

/-- What the kernel leaves at pixel `p`, column block `j`, frame `f` and lane `l` of its result. -/
def outVal (f1 : S4x60x3686.Idx → EReal) (f2 : S2x8x128.Idx → EReal) (f3 : S3x3688x2048.Idx → EReal) (f4 f5 : S2048.Idx → EReal) (x : S60x16x4x128.Idx) : EReal :=
  rowVal f1 f2 f3 f4 f5 (x 2) (x 0).val ⟨128 * (x 1).val + (x 3).val, by
    have h1 : (x 1 : ℕ) < 16 := (x 1).isLt
    have h3 : (x 3 : ℕ) < 128 := (x 3).isLt
    omega⟩ (x 3)

theorem chunk_at {s : Mxu Ideal} {A : ℕ} {hA : Fits A 256} (n : Fin 4) (hS : Sums f1 f3 n (pop1 s A hA) (pop0 s A hA) (pop2 s A hA))
    (x : S60x16x4x128.Idx) (p : Fin 60) (Q f : Fin 4) (l : Fin 128) (h0 : (x 0).val = p.val) (h1 : (x 1).val = 4 * n.val + Q.val) (h2 : (x 2).val = f.val) (h3 : (x 3).val = l.val) :
    (outOf c g4 n (store16 c g4 n (rowsOf c f2 g5 f4 f5 g6 g7 s A hA n)) (ValueIdx.ix4 p Q f l) : EReal) = outVal f1 f2 f3 f4 f5 x := by
  have hn := n.isLt; have hQ := Q.isLt; have hl := l.isLt
  rw [outOf_at, View.read_writes_apply_eq_canon _ _ _ _ (covered16 c g4 n _ _ rfl), store16_at c g4 n _ _ rfl, cellVal]
  refine (rows_at c f1 f3 f2 g5 f4 f5 g6 g7 n hS _ _ _ _ ?_).trans ?_
  · show 512 * n.val + 256 * (Q.val / 2) + (128 * (Q.val % 2) + l.val) < 2048
    omega
  · unfold outVal
    have e2 : (x 2 : Fin 4) = f := Fin.ext h2
    have e3 : (x 3 : Fin 128) = l := Fin.ext h3
    have ec : (⟨128 * (x 1).val + (x 3).val, by have h1 : (x 1 : ℕ) < 16 := (x 1).isLt; have h3 : (x 3 : ℕ) < 128 := (x 3).isLt; omega⟩ : Fin 2048)
        = ⟨512 * n.val + 256 * (Q.val / 2) + (128 * (Q.val % 2) + l.val), by omega⟩ := Fin.ext (by
      show 128 * (x 1).val + (x 3).val = 512 * n.val + 256 * (Q.val / 2) + (128 * (Q.val % 2) + l.val)
      rw [h1, h3]; omega)
    have el : lane (⟨128 * (Q.val % 2) + l.val, by omega⟩ : Fin 256) = l := Fin.ext (show (128 * (Q.val % 2) + l.val) % 128 = l.val by omega)
    rw [ec, h0]
    show rowVal f1 f2 f3 f4 f5 f p.val _ (lane _) = rowVal f1 f2 f3 f4 f5 (x 2 : Fin 4) p.val _ (x 3 : Fin 128)
    rw [e2, e3]
    exact congrArg _ el

theorem tile_chunk (n : Fin 4) (t : Slab Ideal) (ho : ∀ a, ![0, 0, 512 * n.val] a + ![3, 3712, 512] a ≤ S3x3712x2048.size a)
    (ht : ∀ x ∈ (Rect.unit (s := S3x3712x2048) ![0, 0, 512 * n.val] ![3, 3712, 512] ho).set, (x 1 : ℕ) < 3688 → t x = wAt c f3 x) :
    ∀ x : S3x3712x2048.Idx, 512 * n.val ≤ (x 2 : ℕ) → (x 2 : ℕ) < 512 * n.val + 512 → (x 1 : ℕ) < 3688 → t x = wAt c f3 x :=
  fun x h1 h2 h3 => ht x ((mem_slab _ ho x).mpr ⟨h1, h2⟩) h3

theorem read_yO (f : Buf (Elt Ideal) ((Memref.whole main_v7).view.loc (c : Thread nD τ))) (x : S60x16x4x128.Idx) : yO.view.read (Elt Ideal) f x = f x := rfl

/-- A part of the result is its store's contents. -/
theorem part_at (n : Fin 4) (f6 : Buf (Elt Ideal) ((Memref.whole main_v7).view.loc (c : Thread nD τ)))
    (inb : ∀ a, ![0, 4 * n.val, 0, 0] a + S60x4x4x128.size a ≤ S60x16x4x128.size a) (w : S60x4x4x128.Idx → Elt Ideal .bf16)
    (x : S60x16x4x128.Idx) (p : Fin 60) (Q f : Fin 4) (l : Fin 128) (h0 : (x 0).val = p.val) (h1 : (x 1).val = 4 * n.val + Q.val) (h2 : (x 2).val = f.val) (h3 : (x 3).val = l.val) :
    yO.view.writes (Elt Ideal) f6 [⟨Rect.unit (s := S60x16x4x128) ![0, 4 * n.val, 0, 0] S60x4x4x128.size inb, w⟩] x = w (ValueIdx.ix4 p Q f l) := by
  refine (read_yO c _ x).symm.trans (writes_in (Val := Elt Ideal) (s := S60x16x4x128) (e := .bf16) (off := ![0, 4 * n.val, 0, 0]) (size := S60x4x4x128.size) (inb := inb) yO.view f6 w [] x (ValueIdx.ix4 p Q f l) ?_)
  intro a
  match a with
  | 0 => exact (show (x 0 : ℕ) = 0 + p.val by omega)
  | 1 => exact (show (x 1 : ℕ) = 4 * n.val + Q.val by omega)
  | 2 => exact (show (x 2 : ℕ) = 0 + f.val by omega)
  | 3 => exact (show (x 3 : ℕ) = 0 + l.val by omega)

end Element

section Whole

variable (c : Dev nD) (i : grid0.Coords) (f1 : Buf (Elt Ideal) ((Memref.whole main_v1).view.loc (c : Thread nD τ))) (f2 : Buf (Elt Ideal) ((Memref.whole main_v4).view.loc (c : Thread nD τ))) (f3 : Buf (Elt Ideal) ((Memref.whole main_v6).view.loc (c : Thread nD τ))) (f4 : Buf (Elt Ideal) ((Memref.whole main_arg3).view.loc (c : Thread nD τ))) (f5 : Buf (Elt Ideal) ((Memref.whole main_arg4).view.loc (c : Thread nD τ))) (f6 : Buf (Elt Ideal) ((Memref.whole main_v7).view.loc (c : Thread nD τ))) (g1 : Buf (Elt Ideal) ((Memref.whole cc0_scratch0).view.loc (c : Thread nD τ))) (g2 : Buf (Elt Ideal) ((Memref.whole cc0_scratch1).view.loc (c : Thread nD τ))) (g3 : Buf (Elt Ideal) ((Memref.whole cc0_scratch2).view.loc (c : Thread nD τ))) (g4 : Buf (Elt Ideal) ((Memref.whole cc0_scratch3).view.loc (c : Thread nD τ))) (g5 : Buf (Elt Ideal) ((Memref.whole cc0_scratch4).view.loc (c : Thread nD τ))) (g6 : Buf (Elt Ideal) ((Memref.whole cc0_scratch5).view.loc (c : Thread nD τ))) (g7 : Buf (Elt Ideal) ((Memref.whole cc0_scratch6).view.loc (c : Thread nD τ)))
  (t0 t1 t2 t3 : Buf (Elt Ideal) (tB.view.loc (c : Thread nD τ)))

theorem dma0 : run.sl.dma64 c f1 f2 f4 f5 g1 g4 g5 g6 g7 t0 t1 = outOf c g4 0 (run.sl.Y0_16 c f1 f2 f4 f5 g1 g4 g5 g6 g7 t0 t1) := by
  unfold run.sl.dma64 outOf
  generalize run.sl.Y0_16 c f1 f2 f4 f5 g1 g4 g5 g6 g7 t0 t1 = L
  rfl
theorem val0 : (run c i f1 f2 f3 f4 f5 f6 g1 g2 g3 g4 g5 g6 g7).1.1 t0 t1 t2 t3 = run.sl.dma64 c f1 f2 f4 f5 g1 g4 g5 g6 g7 t0 t1 := by
  dsimp only [run]
theorem out0 : (run c i f1 f2 f3 f4 f5 f6 g1 g2 g3 g4 g5 g6 g7).1.1 t0 t1 t2 t3
    = outOf c g4 0 (store16 c g4 0 (rowsOf c f2 g5 f4 f5 g6 g7 (run.sl.k0_mxu183 c f1 g1 t0 t1) 48 fits_48_256 0)) :=
  (val0 c i f1 f2 f3 f4 f5 f6 g1 g2 g3 g4 g5 g6 g7 t0 t1 t2 t3).trans ((dma0 c f1 f2 f4 f5 g1 g4 g5 g6 g7 t0 t1).trans
    (congrArg (outOf c g4 0) (stores0 c f2 g5 f4 f5 g6 g7 f1 g1 t0 t1 g4)))
theorem dma1 : run.sl.dma64_1 c f1 f2 f4 f5 g1 g4 g5 g6 g7 t0 t1 t2 = outOf c g4 1 (run.sl.Y1_16 c f1 f2 f4 f5 g1 g4 g5 g6 g7 t0 t1 t2) := by
  unfold run.sl.dma64_1 outOf
  generalize run.sl.Y1_16 c f1 f2 f4 f5 g1 g4 g5 g6 g7 t0 t1 t2 = L
  rfl
theorem val1 : (run c i f1 f2 f3 f4 f5 f6 g1 g2 g3 g4 g5 g6 g7).1.2.1 t0 t1 t2 t3 = run.sl.dma64_1 c f1 f2 f4 f5 g1 g4 g5 g6 g7 t0 t1 t2 := by
  dsimp only [run]
theorem out1 : (run c i f1 f2 f3 f4 f5 f6 g1 g2 g3 g4 g5 g6 g7).1.2.1 t0 t1 t2 t3
    = outOf c g4 1 (store16 c g4 1 (rowsOf c f2 g5 f4 f5 g6 g7 (run.sl.k0_mxu369 c f1 g1 t0 t1 t2) 112 fits_112_256 1)) :=
  (val1 c i f1 f2 f3 f4 f5 f6 g1 g2 g3 g4 g5 g6 g7 t0 t1 t2 t3).trans ((dma1 c f1 f2 f4 f5 g1 g4 g5 g6 g7 t0 t1 t2).trans
    (congrArg (outOf c g4 1) (stores1 c f2 g5 f4 f5 g6 g7 f1 g1 t0 t1 t2 g4)))
theorem dma2 : run.sl.dma64_2 c f1 f2 f4 f5 g1 g4 g5 g6 g7 t0 t1 t2 t3 = outOf c g4 2 (run.sl.Y2_16 c f1 f2 f4 f5 g1 g4 g5 g6 g7 t0 t1 t2 t3) := by
  unfold run.sl.dma64_2 outOf
  generalize run.sl.Y2_16 c f1 f2 f4 f5 g1 g4 g5 g6 g7 t0 t1 t2 t3 = L
  rfl
theorem val2 : (run c i f1 f2 f3 f4 f5 f6 g1 g2 g3 g4 g5 g6 g7).1.2.2.1 t0 t1 t2 t3 = run.sl.dma64_2 c f1 f2 f4 f5 g1 g4 g5 g6 g7 t0 t1 t2 t3 := by
  dsimp only [run]
theorem out2 : (run c i f1 f2 f3 f4 f5 f6 g1 g2 g3 g4 g5 g6 g7).1.2.2.1 t0 t1 t2 t3
    = outOf c g4 2 (store16 c g4 2 (rowsOf c f2 g5 f4 f5 g6 g7 (run.sl.k0_mxu555 c f1 g1 t0 t1 t2 t3) 48 fits_48_256 2)) :=
  (val2 c i f1 f2 f3 f4 f5 f6 g1 g2 g3 g4 g5 g6 g7 t0 t1 t2 t3).trans ((dma2 c f1 f2 f4 f5 g1 g4 g5 g6 g7 t0 t1 t2 t3).trans
    (congrArg (outOf c g4 2) (stores2 c f2 g5 f4 f5 g6 g7 f1 g1 t0 t1 t2 t3 g4)))
theorem dma3 : run.sl.dma255 c f1 f2 f4 f5 g1 g4 g5 g6 g7 t0 t1 t2 t3 = outOf c g4 3 (run.sl.Y3_16 c f1 f2 f4 f5 g1 g4 g5 g6 g7 t0 t1 t2 t3) := by
  unfold run.sl.dma255 outOf
  generalize run.sl.Y3_16 c f1 f2 f4 f5 g1 g4 g5 g6 g7 t0 t1 t2 t3 = L
  rfl
theorem val3 : (run c i f1 f2 f3 f4 f5 f6 g1 g2 g3 g4 g5 g6 g7).1.2.2.2 t0 t1 t2 t3 = run.sl.dma255 c f1 f2 f4 f5 g1 g4 g5 g6 g7 t0 t1 t2 t3 := by
  dsimp only [run]
theorem out3 : (run c i f1 f2 f3 f4 f5 f6 g1 g2 g3 g4 g5 g6 g7).1.2.2.2 t0 t1 t2 t3
    = outOf c g4 3 (store16 c g4 3 (rowsOf c f2 g5 f4 f5 g6 g7 (run.sl.k0_mxu739 c f1 g1 t0 t1 t2 t3) 112 fits_112_256 3)) :=
  (val3 c i f1 f2 f3 f4 f5 f6 g1 g2 g3 g4 g5 g6 g7 t0 t1 t2 t3).trans ((dma3 c f1 f2 f4 f5 g1 g4 g5 g6 g7 t0 t1 t2 t3).trans
    (congrArg (outOf c g4 3) (stores3 c f2 g5 f4 f5 g6 g7 f1 g1 t0 t1 t2 t3 g4)))

/-- The result a run leaves is the value, everywhere. -/
theorem result_at (g : Buf (Elt Ideal) ((Memref.whole main_v7).view.loc (c : Thread nD τ))) (h : Result c i f1 f2 f3 f4 f5 f6 g1 g2 g3 g4 g5 g6 g7 g) : g = outVal f1 f2 f3 f4 f5 := by
  obtain ⟨t0, t1, t2, t3, ⟨l0, l1, l2, l3⟩, o0, o1, o2, o3⟩ := h
  rw [out0] at o0; rw [out1] at o1; rw [out2] at o2; rw [out3] at o3
  have s0 := sums_of c f1 g1 f3 (by decide) (by decide) 0 t0 (popped0 c f1 g1 t0 t1) (tile_chunk c f3 0 t0 _ l0)
  have s1 := sums_of c f1 g1 f3 (by decide) (by decide) 1 t1 (popped1 c f1 g1 t0 t1 t2) (tile_chunk c f3 1 t1 _ l1)
  have s2 := sums_of c f1 g1 f3 (by decide) (by decide) 2 t2 (popped2 c f1 g1 t0 t1 t2 t3) (tile_chunk c f3 2 t2 _ l2)
  have s3 := sums_of c f1 g1 f3 (by decide) (by decide) 3 t3 (popped3 c f1 g1 t0 t1 t2 t3) (tile_chunk c f3 3 t3 _ l3)
  funext x
  have h0 : (x 0 : ℕ) < 60 := (x 0).isLt
  have h1 : (x 1 : ℕ) < 16 := (x 1).isLt
  have h2 : (x 2 : ℕ) < 4 := (x 2).isLt
  have h3 : (x 3 : ℕ) < 128 := (x 3).isLt
  have hm (o : ℕ) (ho : ∀ a, ![0, o, 0, 0] a + ![60, 4, 4, 128] a ≤ S60x16x4x128.size a) (hx : o ≤ (x 1 : ℕ) ∧ (x 1 : ℕ) < o + 4) :
      x ∈ (Rect.unit (s := S60x16x4x128) ![0, o, 0, 0] ![60, 4, 4, 128] ho).set := by
    refine (Rect.mem_set_unit (inb := ho)).mpr fun a => ?_
    match a with
    | 0 => exact (show 0 ≤ (x 0 : ℕ) ∧ (x 0 : ℕ) < 0 + 60 by omega)
    | 1 => exact hx
    | 2 => exact (show 0 ≤ (x 2 : ℕ) ∧ (x 2 : ℕ) < 0 + 4 by omega)
    | 3 => exact (show 0 ≤ (x 3 : ℕ) ∧ (x 3 : ℕ) < 0 + 128 by omega)
  have hd : (x 1 : ℕ) < 4 ∨ (4 ≤ (x 1 : ℕ) ∧ (x 1 : ℕ) < 4 + 4) ∨ (8 ≤ (x 1 : ℕ) ∧ (x 1 : ℕ) < 8 + 4) ∨ (12 ≤ (x 1 : ℕ) ∧ (x 1 : ℕ) < 12 + 4) := by omega
  rcases hd with hd | hd | hd | hd
  · have e1 : (x 1 : ℕ) = 4 * (0 : Fin 4).val + (⟨(x 1 : ℕ) - 0, by omega⟩ : Fin 4).val := show (x 1 : ℕ) = 0 + ((x 1 : ℕ) - 0) by omega
    exact (o0 x (hm 0 _ ⟨by omega, by omega⟩)).trans ((part_at c 0 f6 _ _ x (x 0) _ (x 2) (x 3) rfl e1 rfl rfl).trans (chunk_at c g4 f1 f3 f2 g5 f4 f5 g6 g7 0 s0 x (x 0) _ (x 2) (x 3) rfl e1 rfl rfl))
  · have e1 : (x 1 : ℕ) = 4 * (1 : Fin 4).val + (⟨(x 1 : ℕ) - 4, by omega⟩ : Fin 4).val := show (x 1 : ℕ) = 4 + ((x 1 : ℕ) - 4) by omega
    exact (o1 x (hm 4 _ hd)).trans ((part_at c 1 f6 _ _ x (x 0) _ (x 2) (x 3) rfl e1 rfl rfl).trans (chunk_at c g4 f1 f3 f2 g5 f4 f5 g6 g7 1 s1 x (x 0) _ (x 2) (x 3) rfl e1 rfl rfl))
  · have e1 : (x 1 : ℕ) = 4 * (2 : Fin 4).val + (⟨(x 1 : ℕ) - 8, by omega⟩ : Fin 4).val := show (x 1 : ℕ) = 8 + ((x 1 : ℕ) - 8) by omega
    exact (o2 x (hm 8 _ hd)).trans ((part_at c 2 f6 _ _ x (x 0) _ (x 2) (x 3) rfl e1 rfl rfl).trans (chunk_at c g4 f1 f3 f2 g5 f4 f5 g6 g7 2 s2 x (x 0) _ (x 2) (x 3) rfl e1 rfl rfl))
  · have e1 : (x 1 : ℕ) = 4 * (3 : Fin 4).val + (⟨(x 1 : ℕ) - 12, by omega⟩ : Fin 4).val := show (x 1 : ℕ) = 12 + ((x 1 : ℕ) - 12) by omega
    exact (o3 x (hm 12 _ hd)).trans ((part_at c 3 f6 _ _ x (x 0) _ (x 2) (x 3) rfl e1 rfl rfl).trans (chunk_at c g4 f1 f3 f2 g5 f4 f5 g6 g7 3 s3 x (x 0) _ (x 2) (x 3) rfl e1 rfl rfl))

end Whole

end Cert.KernelIdeal.Hand
-- ==== Proof.ILaunch.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp

public import proofs.«01_k».proof.Proof.IFrame
public import proofs.«01_k».proof.Proof.IResult

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- What the body leaves in the result, from what the region finds. -/
def outG (c : Dev nD) : S60x16x4x128.Idx → EReal :=
  outVal (V m c main_v1) (V m c main_v4) (V m c main_v6) (V m c main_arg3) (V m c main_arg4)

/-- Every buffer's contents with the result at its final value. -/
def outAll (c : Dev nD) : (b : Ref sig .tc) → Buf (Elt Ideal) ((c : Thread nD τ).loc b) :=
  Function.update (fun b => V m c b) main_v7 (outG m c)

/-- The contents before point `n`: as found, then with the result. -/
def outAt : ℕ → (c : Dev nD) → (b : Ref sig .tc) → Buf (Elt Ideal) ((c : Thread nD τ).loc b)
  | 0 => V m
  | _ + 1 => outAll m

theorem outAt_succ (c : Dev nD) (n : ℕ) : outAt m (n + 1) c main_v7 = outG m c := by
  show Function.update (fun b => V m c b) main_v7 (outG m c) main_v7 = outG m c
  exact Function.update_self ..

theorem resPts_eq (c : Dev nD) (G : (c : Dev nD) → (b : Ref sig .tc) → Buf (Elt Ideal) ((c : Thread nD τ).loc b)) :
    (bigSep R0 (fun b => ((c : Thread nD τ).loc b) ↦{fullShare} G c b) : sProp 𝕄) = pt c (Memref.whole main_v7) (G c main_v7) := by
  rw [BI.bigSep_eq_bigSepL_of_eq [main_v7] (by decide) (by decide)]; rfl

theorem PhiDRV_eq (c : Dev nD) (G : (c : Dev nD) → (b : Ref sig .tc) → Buf (Elt Ideal) ((c : Thread nD τ).loc b)) :
    (Pipeline.ΦDRV osem0 (cfg0.spec) H0 R0 (V m) G c : sProp 𝕄)
      = iprop(iprop((∃ g, pt (F := Ideal) c (Memref.whole cc0_scratch0) g) ∗ (∃ g, pt (F := Ideal) c (Memref.whole cc0_scratch1) g) ∗ (∃ g, pt (F := Ideal) c (Memref.whole cc0_scratch2) g) ∗ (∃ g, pt (F := Ideal) c (Memref.whole cc0_scratch3) g) ∗ (∃ g, pt (F := Ideal) c (Memref.whole cc0_scratch4) g) ∗ (∃ g, pt (F := Ideal) c (Memref.whole cc0_scratch5) g) ∗ (∃ g, pt (F := Ideal) c (Memref.whole cc0_scratch6) g)) ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0) ∗ iprop(pt c (Memref.whole main_v1) (V m c main_v1) ∗ pt c (Memref.whole main_v4) (V m c main_v4) ∗ pt c (Memref.whole main_v6) (V m c main_v6) ∗ pt c (Memref.whole main_arg3) (V m c main_arg3) ∗ pt c (Memref.whole main_arg4) (V m c main_arg4)) ∗ pt c (Memref.whole main_v7) (G c main_v7)) := by
  unfold Pipeline.ΦDRV
  rw [scoped_eq, ownSems00_eq, hbmPts0_eq, resPts_eq]

/-- The proof data that names the result's final contents. -/
def datsV (_ : Fin 1) (c : Dev nD) : Dat τ (Elt Ideal) Unit ℕ (Pipeline.UD sig nD τ) ℕ cfg0 c where
  A w := w.elim0
  after w _ := w.elim0
  Φ t := Pipeline.ΦDRV osem0 (cfg0.spec) H0 R0 (V m) (outAt m t.val) c
  q _ := fullShare
  owed _ := 0

set_option maxHeartbeats 0 in
theorem sound_bodyV (c : Dev nD) (t : Fin cfg0.N) :
    iprop((datsV m 0 c).Φ t.castSucc ∗ (datsV m 0 c).owesAt () t.castSucc) ⊢ wp frame (wpE (defs₀ (F := Ideal)) Variants.none c none) Set.univ (bodyAt0 t)
      (fun _ => iprop((datsV m 0 c).Φ t.succ ∗ (datsV m 0 c).owesAt () t.succ)) := by
  unfold bodyAt0
  rw [show (datsV m 0 c).Φ t.castSucc = Pipeline.ΦDRV osem0 (cfg0.spec) H0 R0 (V m) (outAt m t.val) c from rfl,
    show (datsV m 0 c).Φ t.succ = Pipeline.ΦDRV osem0 (cfg0.spec) H0 R0 (V m) (outAt m (t.val + 1)) c from rfl, PhiDRV_eq, PhiDRV_eq]
  unfold Dat.owesAt Pipeline.owesWithin
  rw [show (datsV m 0 c).owed t.castSucc = 0 from rfl, show (datsV m 0 c).owed t.succ = 0 from rfl]
  iintro ⟨⟨⟨⟨%g1, G1⟩, ⟨%g2, G2⟩, ⟨%g3, G3⟩, ⟨%g4, G4⟩, ⟨%g5, G5⟩, ⟨%g6, G6⟩, ⟨%g7, G7⟩⟩, ⟨S0, S1, S2, S3, S4, S5, S6, S7, S8, S9, S10, S11, S12, S13, S14, S15, S16, S17, S18, S19, S20, S21, S22, S23, S24, S25, S26, S27, S28, S29, S30, S31⟩, ⟨H1, H2, H3, H4, H5⟩, O⟩, ⟨%W, -, HW⟩⟩
  iapply (body_whole c _ (V m c main_v1) (V m c main_v4) (V m c main_v6) (V m c main_arg3) (V m c main_arg4) (outAt m t.val c main_v7) g1 g2 g3 g4 g5 g6 g7 W _)
  isplitl [H1]; · iexact H1
  isplitl [H2]; · iexact H2
  isplitl [H3]; · iexact H3
  isplitl [H4]; · iexact H4
  isplitl [H5]; · iexact H5
  isplitl [O]; · iexact O
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [HW]; · iexact HW
  iintro %g %hg ⟨H1, H2, H3, H4, H5, O, G1, G2, G3, G4, G5, G6, G7, S0, S1, S2, S3, S4, S5, S6, S7, S8, S9, S10, S11, S12, S13, S14, S15, S16, S17, S18, S19, S20, S21, S22, S23, S24, S25, S26, S27, S28, S29, S30, S31, ⟨%W', HW⟩⟩
  isplitr [HW]
  · isplitl [G1 G2 G3 G4 G5 G6 G7]
    · isplitl [G1]; iexact G1; isplitl [G2]; iexact G2; isplitl [G3]; iexact G3; isplitl [G4]; iexact G4; isplitl [G5]; iexact G5; isplitl [G6]; iexact G6; iexact G7
    isplitl [S0 S1 S2 S3 S4 S5 S6 S7 S8 S9 S10 S11 S12 S13 S14 S15 S16 S17 S18 S19 S20 S21 S22 S23 S24 S25 S26 S27 S28 S29 S30 S31]
    · isplitl [S0]; iexact S0; isplitl [S1]; iexact S1; isplitl [S2]; iexact S2; isplitl [S3]; iexact S3; isplitl [S4]; iexact S4; isplitl [S5]; iexact S5; isplitl [S6]; iexact S6; isplitl [S7]; iexact S7; isplitl [S8]; iexact S8; isplitl [S9]; iexact S9; isplitl [S10]; iexact S10; isplitl [S11]; iexact S11; isplitl [S12]; iexact S12; isplitl [S13]; iexact S13; isplitl [S14]; iexact S14; isplitl [S15]; iexact S15; isplitl [S16]; iexact S16; isplitl [S17]; iexact S17; isplitl [S18]; iexact S18; isplitl [S19]; iexact S19; isplitl [S20]; iexact S20; isplitl [S21]; iexact S21; isplitl [S22]; iexact S22; isplitl [S23]; iexact S23; isplitl [S24]; iexact S24; isplitl [S25]; iexact S25; isplitl [S26]; iexact S26; isplitl [S27]; iexact S27; isplitl [S28]; iexact S28; isplitl [S29]; iexact S29; isplitl [S30]; iexact S30; iexact S31
    isplitl [H1 H2 H3 H4 H5]
    · isplitl [H1]; iexact H1; isplitl [H2]; iexact H2; isplitl [H3]; iexact H3; isplitl [H4]; iexact H4; iexact H5
    rw [show outAt m (t.val + 1) c main_v7 = g from (outAt_succ m c t.val).trans (result_at c _ _ _ _ _ _ _ _ _ _ _ _ _ _ g hg).symm]
    iexact O
  iexists W'; isplitr
  · ipureintro; exact fun _ _ => Or.inl trivial
  iexact HW

theorem body_obligationV (c : Dev nD) : BodyObligation (datsV m 0 c) (defs₀ (F := Ideal)) Variants.none () Set.univ := fun t => by
  rw [show (Finset.univ : Finset (Fin cfg0.W)) = ∅ from rfl, BI.bigSep_empty, BI.bigSep_empty, defs₀_row]
  refine triple_restated (sound_bodyV m c t) rfl ?_ fun _ => ?_
  · iintro ⟨H, HO, -⟩
    isplitl [H]; · iexact H
    iexact HO
  · iintro ⟨H, HO⟩
    isplitl [H]; · iexact H
    isplitl [HO]; · iexact HO
    iempintro

set_option backward.isDefEq.respectTransparency.types false in
/-- The program's run: every buffer ends as the host lines after the region leave it, from the result's value. -/
theorem run_value : θ_run defs (onTc (τ := τ) (main (F := Ideal))) (s₀ m ρ) (fun r => ∀ c : Dev nD,
    ∀ b ∈ Pipeline.restRefs sig (cfg0.spec), r.2.mem ((c.tc : Thread nD τ).loc b)
      = StableHlo.after (List.flatten [hostOps1]) (Pipeline.withArrays (cfg0.spec) c (Pipeline.withR (V0 m c) R0 c (outAll m c)) fun w => (datsV m 0 c).arrAt w cfg0.N) (Proc.devRef .tc b)) :=
  (θ_run defs _ _).mono (fun r h c => (h c).2)
    (Pipeline.θ_run_frame_dmaR_aroundV cfgs (datsV m) (0 : Fin 1) launch0 osem0 defs₀ Variants.none ownSemFacts0 H0 R0 H0_sub R0_sub m ρ main
    (hbody := fun c => (body_obligationV m c).loose) (hshare := fun c => (datsV m 0 c).share_full fun _ => rfl)
    (howed := fun _ _ => rfl) (V₀ := V0 m) (opss := [hostOps1]) (hsub := sfx_sub) (hfresh := sfx_fresh) (hkeep := sfx_keeps) (G := outAll m)
    (hmain := hmain m Variants.none) (hA := fun _ w => w.elim0)
    (hin := fun _ => .rfl) (hout := fun _ => .rfl))

end Cert.KernelIdeal.Hand
end
-- ==== Proof.IHost.lean ====
module

public import proofs.«01_k».proof.Proof.ILaunch
public import Idealize.ShloMosaic.Lib.StableHlo.RunRead
public import Idealize.ShloMosaic.Lib.KernelVsHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open scoped BigOperators
open Idealize.ShloMosaic.Pipeline (Dat Cfg Window BodyObligation cellOf)

variable (m : (ℓ : Loc nD τ sig) → Buf (Elt Ideal) ℓ) (ρ : Dev nD → PrngReg)

/-- The host lines after the region, read at the result. -/
theorem after_v10 (W : Valuation τ sig (Elt Ideal)) (G : S60x16x4x128.Idx → EReal) (hG : W (Proc.devRef .tc main_v7) = G) (b : Fin 2) (f : Fin 4) (h : Fin 5) (w : Fin 6) (col : Fin 2048) :
    (StableHlo.after (List.flatten [hostOps1]) W (Proc.devRef .tc main_v10) : S2x4x5x6x2048.Idx → EReal) (ValueIdx.ix5 b f h w col)
      = G (ValueIdx.ix4 (⟨b.val * 30 + h.val * 6 + w.val, by omega⟩ : Fin 60) (⟨col.val / 128, by omega⟩ : Fin 16) f (⟨col.val % 128, by omega⟩ : Fin 128)) := by
  simp only [List.flatten_cons, List.flatten_nil, List.append_nil]
  after_reads_simp
  rw [hG]
  pointwise []
  rw [ix4_eq_valueIdx]

/-- The codes as the region finds them: frames first, pixels flat. -/
theorem V_v1 (c : Dev nD) : (V m c main_v1 : S4x60x3686.Idx → EReal) = shapeCast S4x60x3686 (transpose S4x2x5x6x3686 [1, 0, 2, 3, 4] (m ((c : Thread nD τ).loc main_arg0) : S2x4x5x6x3686.Idx → EReal) transposes_S2x4x5x6x3686_S4x2x5x6x3686_1_0_2_3_4) shapeCasts_S4x2x5x6x3686_S4x60x3686 := by
  unfold V V0
  simp only [List.flatten_cons, List.flatten_nil, List.append_nil]
  after_reads_simp
  rfl

theorem codes_at (x : S2x4x5x6x3686.Idx → EReal) (fs : Fin 4) (b : Fin 2) (h : Fin 5) (w : Fin 6) (mm : Fin 3686) :
    shapeCast S4x60x3686 (transpose S4x2x5x6x3686 [1, 0, 2, 3, 4] x transposes_S2x4x5x6x3686_S4x2x5x6x3686_1_0_2_3_4) shapeCasts_S4x2x5x6x3686_S4x60x3686
      (ValueIdx.ix3 fs (⟨b.val * 30 + h.val * 6 + w.val, by omega⟩ : Fin 60) mm) = x (ValueIdx.ix5 b fs h w mm) := by
  rw [shapeCast_apply _ _ _ (ValueIdx.ix5 fs b h w mm) (by
    show _ = (Shape.rowMajor (s := ⟨3, ![4, 60, 3686]⟩) _).val
    rw [Shape.rowMajor_val_five, Shape.rowMajor_val_three]
    simp [ValueIdx.ix5, ValueIdx.ix3]
    omega)]
  pointwise []
  rw [ix5_eq_valueIdx]

/-- The scales as the region finds them: over lanes, and four rows of padding. -/
theorem V_v4 (c : Dev nD) : (V m c main_v4 : S2x8x128.Idx → EReal) = pad S2x8x128 ![0, 0, 0] ![0, 4, 0] ![0, 0, 0]
        (broadcastInDim S2x4x128 ![0, 1, 2] bcast_S2x4x1_S2x4x128_0_1_2
            (broadcastInDim S2x4x1 ![0, 1] bcast_S2x4_S2x4x1_0_1 (m ((c : Thread nD τ).loc main_arg1) : S2x4.Idx → EReal)))
        (sitofp (F := Ideal) FTy.f32 (constantI S_ 32 0#32) : S_.Idx → EReal) pads_S2x4x128_S2x8x128_000_040_000 h_S_ := by
  unfold V V0
  simp only [List.flatten_cons, List.flatten_nil, List.append_nil]
  after_reads_simp
  rfl

theorem scales_at (x : S2x4.Idx → EReal) (v : S_.Idx → EReal) (b : Fin 2) (k : Fin 4) (l : Fin 128) :
    pad S2x8x128 ![0, 0, 0] ![0, 4, 0] ![0, 0, 0]
        (broadcastInDim S2x4x128 ![0, 1, 2] bcast_S2x4x1_S2x4x128_0_1_2
            (broadcastInDim S2x4x1 ![0, 1] bcast_S2x4_S2x4x1_0_1 x)) v pads_S2x4x128_S2x8x128_000_040_000 h_S_
      (ValueIdx.ix3 b (⟨k.val, by omega⟩ : Fin 8) l) = x (ValueIdx.ix2 b k) := by
  rw [pad_apply_of_inside _ _ _ _ _ _ _ _ (ValueIdx.ix3 b k l) (by intro a; fin_cases a <;> simp [ValueIdx.ix3])]
  pointwise []
  rw [ix2_eq_valueIdx]

theorem upto_arg2 (c : Dev nD) : StableHlo.upto (hostOps0 ++ (hostOps0_1 ++ hostOps0_2)) (fun b => m (c, b)) 8 (Proc.devRef .tc main_arg2) = m ((c : Thread nD τ).loc main_arg2) := by
  after_reads_simp
/-- The weights as the region finds them: two more rows at the end of each tap. -/
theorem V_v6 (c : Dev nD) : ∃ z : S3x2x2048.Idx → EReal, (V m c main_v6 : S3x3688x2048.Idx → EReal) =
    concatenate S3x3688x2048 1 [⟨S3x3686x2048, (m ((c : Thread nD τ).loc main_arg2) : S3x3686x2048.Idx → EReal)⟩, ⟨S3x2x2048, z⟩] concatenates_S3x3686x2048_S3x2x2048_S3x3688x2048_d1 := by
  refine ⟨StableHlo.upto (hostOps0 ++ (hostOps0_1 ++ hostOps0_2)) (fun b => m (c, b)) 8 (Proc.devRef .tc main_v5), ?_⟩
  rw [show (m ((c : Thread nD τ).loc main_arg2) : S3x3686x2048.Idx → EReal) = StableHlo.upto (hostOps0 ++ (hostOps0_1 ++ hostOps0_2)) (fun b => m (c, b)) 8 (Proc.devRef .tc main_arg2) from (upto_arg2 m c).symm]
  unfold V V0
  simp only [List.flatten_cons, List.flatten_nil, List.append_nil]
  after_reads_simp

theorem weights_at (x : S3x3686x2048.Idx → EReal) (z : S3x2x2048.Idx → EReal) (k : Fin 3) (mm : Fin 3686) (col : Fin 2048) :
    concatenate S3x3688x2048 1 [⟨S3x3686x2048, x⟩, ⟨S3x2x2048, z⟩] concatenates_S3x3686x2048_S3x2x2048_S3x3688x2048_d1
      (ValueIdx.ix3 k (⟨mm.val, by omega⟩ : Fin 3688) col) = x (ValueIdx.ix3 k mm col) := by
  rw [concatenate_pair_apply]
  refine (dif_pos (show (mm.val : ℕ) < 3686 from mm.isLt)).trans ?_
  exact congrArg x (funext fun a => Fin.ext (by fin_cases a <;> rfl))

/-- One tap's product over the whole contraction. -/
def tapOf (x0 : S2x4x5x6x3686.Idx → EReal) (x2 : S3x3686x2048.Idx → EReal) (k : Fin 3) (b : Fin 2) (fs : Fin 4) (h : Fin 5) (w : Fin 6) (col : Fin 2048) : EReal :=
  ∑ mm : Fin 3686, x0 (ValueIdx.ix5 b fs h w mm) * x2 (ValueIdx.ix3 k mm col)

theorem row64 (r a q : ℕ) (hr : r = 64 * a + q) (hq : q < 60) : r / 64 = a ∧ r % 64 = q := by omega

theorem gridAt_eq (f1 : S4x60x3686.Idx → EReal) (x0 : S2x4x5x6x3686.Idx → EReal)
    (H : ∀ (fs : Fin 4) (b : Fin 2) (h : Fin 5) (w : Fin 6) (mm : Fin 3686), f1 (ValueIdx.ix3 fs (⟨b.val * 30 + h.val * 6 + w.val, by omega⟩ : Fin 60) mm) = x0 (ValueIdx.ix5 b fs h w mm))
    (b : Fin 2) (fs : Fin 4) (h : Fin 5) (w : Fin 6) (mm : Fin 3686) (r : ℕ) (hr : r = 64 * fs.val + (b.val * 30 + h.val * 6 + w.val)) :
    gridAt f1 r mm.val = x0 (ValueIdx.ix5 b fs h w mm) := by
  unfold gridAt
  have hq : b.val * 30 + h.val * 6 + w.val < 60 := by omega
  obtain ⟨hd, hm⟩ := row64 _ _ _ hr hq
  rw [dif_pos ⟨by omega, by omega, mm.isLt⟩, ← H]
  refine congrArg f1 (congrArg₂ (fun x y => ValueIdx.ix3 x y mm) (Fin.ext hd) (Fin.ext hm))

theorem tapSum_eq (c : Dev nD) (k : Fin 3) (b : Fin 2) (fs : Fin 4) (h : Fin 5) (w : Fin 6) (col : Fin 2048) (r : ℕ) (hr : r = 64 * fs.val + (b.val * 30 + h.val * 6 + w.val)) :
    tapSum (V m c main_v1) (V m c main_v6) k r col = tapOf (m ((c : Thread nD τ).loc main_arg0)) (m ((c : Thread nD τ).loc main_arg2)) k b fs h w col := by
  unfold tapSum tapOf
  rw [Finset.sum_range]
  refine Finset.sum_congr rfl fun mm _ => ?_
  obtain ⟨z, hz⟩ := V_v6 m c
  refine congrArg₂ (· * ·) (gridAt_eq _ _ (fun fs b h w mm => ?_) b fs h w mm r hr) ?_
  · rw [V_v1]; exact codes_at _ fs b h w mm
  · unfold wv
    rw [dif_pos mm.isLt, hz]
    exact weights_at _ z k mm col

theorem rowScale_of (f2 : S2x8x128.Idx → EReal) (x1 : S2x4.Idx → EReal)
    (H : ∀ (b : Fin 2) (k : Fin 4) (l : Fin 128), f2 (ValueIdx.ix3 b (⟨k.val, by omega⟩ : Fin 8) l) = x1 (ValueIdx.ix2 b k))
    (k : Fin 4) (b : Fin 2) (h : Fin 5) (w : Fin 6) (l : Fin 128) :
    rowScale f2 k (b.val * 30 + h.val * 6 + w.val) l = x1 (ValueIdx.ix2 b k) := by
  unfold rowScale
  rw [← H b k l, show (if b.val * 30 + h.val * 6 + w.val < 30 then (0 : Fin 2) else 1) = b from by
    split <;> exact Fin.ext (by simp; omega)]

theorem rowScale_eq (c : Dev nD) (k : Fin 4) (b : Fin 2) (h : Fin 5) (w : Fin 6) (l : Fin 128) :
    rowScale (V m c main_v4) k (b.val * 30 + h.val * 6 + w.val) l = (m ((c : Thread nD τ).loc main_arg1) : S2x4.Idx → EReal) (ValueIdx.ix2 b k) :=
  rowScale_of _ _ (fun b k l => by rw [V_v4]; exact scales_at _ _ b k l) k b h w l

/-- Frame `f`'s sum over its taps, each tap's product times its own frame's scale. -/
def accOf (x0 : S2x4x5x6x3686.Idx → EReal) (x1 : S2x4.Idx → EReal) (x2 : S3x3686x2048.Idx → EReal) (b : Fin 2) (h : Fin 5) (w : Fin 6) (col : Fin 2048) : Fin 4 → EReal
  | 0 => tapOf x0 x2 1 b 0 h w col * x1 (ValueIdx.ix2 b 0) + tapOf x0 x2 2 b 1 h w col * x1 (ValueIdx.ix2 b 1)
  | 1 => tapOf x0 x2 0 b 0 h w col * x1 (ValueIdx.ix2 b 0) + tapOf x0 x2 1 b 1 h w col * x1 (ValueIdx.ix2 b 1) + tapOf x0 x2 2 b 2 h w col * x1 (ValueIdx.ix2 b 2)
  | 2 => tapOf x0 x2 0 b 1 h w col * x1 (ValueIdx.ix2 b 1) + tapOf x0 x2 1 b 2 h w col * x1 (ValueIdx.ix2 b 2) + tapOf x0 x2 2 b 3 h w col * x1 (ValueIdx.ix2 b 3)
  | 3 => tapOf x0 x2 0 b 2 h w col * x1 (ValueIdx.ix2 b 2) + tapOf x0 x2 1 b 3 h w col * x1 (ValueIdx.ix2 b 3)

/-- The result: the sum over the taps by its column's scale, plus the bias, cut at zero. -/
def valueOf (x0 : S2x4x5x6x3686.Idx → EReal) (x1 : S2x4.Idx → EReal) (x2 : S3x3686x2048.Idx → EReal) (x3 x4 : S2048.Idx → EReal) (i : S2x4x5x6x2048.Idx) : EReal :=
  max (accOf x0 x1 x2 (i 0) (i 2) (i 3) (i 4) (i 1) * x3 (ValueIdx.ix1 (i 4)) + x4 (ValueIdx.ix1 (i 4))) 0

theorem accVal_eq (c : Dev nD) (b : Fin 2) (f : Fin 4) (h : Fin 5) (w : Fin 6) (col : Fin 2048) (l : Fin 128) :
    accVal (V m c main_v1) (V m c main_v4) (V m c main_v6) (b.val * 30 + h.val * 6 + w.val) col l f
      = accOf (m ((c : Thread nD τ).loc main_arg0)) (m ((c : Thread nD τ).loc main_arg1)) (m ((c : Thread nD τ).loc main_arg2)) b h w col f := by
  match f with
  | 0 => exact (congrArg₂ (· + ·) (congrArg₂ (· * ·) (tapSum_eq m c 1 b 0 h w col _ (by show _ = 64 * 0 + _; omega)) (rowScale_eq m c 0 b h w l))
      (congrArg₂ (· * ·) (tapSum_eq m c 2 b 1 h w col _ (by show _ = 64 * 1 + _; omega)) (rowScale_eq m c 1 b h w l)))
  | 1 => exact (congrArg₂ (· + ·) (congrArg₂ (· + ·) (congrArg₂ (· * ·) (tapSum_eq m c 0 b 0 h w col _ (by show _ = 64 * 0 + _; omega)) (rowScale_eq m c 0 b h w l))
      (congrArg₂ (· * ·) (tapSum_eq m c 1 b 1 h w col _ (by show _ = 64 * 1 + _; omega)) (rowScale_eq m c 1 b h w l)))
      (congrArg₂ (· * ·) (tapSum_eq m c 2 b 2 h w col _ (by show _ = 64 * 2 + _; omega)) (rowScale_eq m c 2 b h w l)))
  | 2 => exact (congrArg₂ (· + ·) (congrArg₂ (· + ·) (congrArg₂ (· * ·) (tapSum_eq m c 0 b 1 h w col _ (by show _ = 64 * 1 + _; omega)) (rowScale_eq m c 1 b h w l))
      (congrArg₂ (· * ·) (tapSum_eq m c 1 b 2 h w col _ (by show _ = 64 * 2 + _; omega)) (rowScale_eq m c 2 b h w l)))
      (congrArg₂ (· * ·) (tapSum_eq m c 2 b 3 h w col _ (by show _ = 64 * 3 + _; omega)) (rowScale_eq m c 3 b h w l)))
  | 3 => exact (congrArg₂ (· + ·) (congrArg₂ (· * ·) (tapSum_eq m c 0 b 2 h w col _ (by show _ = 64 * 2 + _; omega)) (rowScale_eq m c 2 b h w l))
      (congrArg₂ (· * ·) (tapSum_eq m c 1 b 3 h w col _ (by show _ = 64 * 3 + _; omega)) (rowScale_eq m c 3 b h w l)))

/-- The kernel's result, as a term over its arguments. -/
theorem result_value (c : Dev nD) (W : Valuation τ sig (Elt Ideal)) (hW : W (Proc.devRef .tc main_v7) = outG m c) :
    (StableHlo.after (List.flatten [hostOps1]) W (Proc.devRef .tc main_v10) : S2x4x5x6x2048.Idx → EReal)
      = valueOf (m ((c : Thread nD τ).loc main_arg0)) (m ((c : Thread nD τ).loc main_arg1)) (m ((c : Thread nD τ).loc main_arg2)) (m ((c : Thread nD τ).loc main_arg3)) (m ((c : Thread nD τ).loc main_arg4)) := by
  funext (i : S2x4x5x6x2048.Idx)
  obtain ⟨b, f, h, w, col, rfl⟩ : ∃ b f h w col, i = ValueIdx.ix5 b f h w col := ⟨_, _, _, _, _, ValueIdx.eq_ix5 i⟩
  rw [after_v10 W _ hW]
  show rowVal _ _ _ _ _ f (b.val * 30 + h.val * 6 + w.val) (⟨128 * (col.val / 128) + col.val % 128, _⟩ : Fin 2048) _ = max (accOf _ _ _ b h w col f * _ + _) 0
  rw [show (⟨128 * (col.val / 128) + col.val % 128, by omega⟩ : Fin 2048) = col from Fin.ext (Nat.div_add_mod _ _)]
  unfold rowVal
  rw [accVal_eq, V_main_arg3, V_main_arg4]

/-- The kernel's run: the result holds its value and the arguments are unchanged. -/
theorem run_result : θ_run defs (onTc (τ := τ) (main (F := Ideal))) ⟨m, fun _ => 0, ρ⟩ (fun r => ∀ c : Dev nD,
      r.2.mem ((c.tc : Thread nD τ).loc main_v10) = valueOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_value m ρ)
  have keep : ∀ b : Ref sig .tc, b ∉ ([main_v8, main_v9, main_v10] : List (Ref sig .tc)) → b ∉ R0 → V m c b = m ((c.tc : Thread nD τ).loc b) →
      StableHlo.after (List.flatten [hostOps1]) (Pipeline.withArrays (cfg0.spec) c (Pipeline.withR (V0 m c) R0 c (outAll m c)) fun w => (datsV m 0 c).arrAt w cfg0.N) (Proc.devRef .tc b) = m ((c.tc : Thread nD τ).loc b) := by
    intro b hb hR hV
    rw [StableHlo.after_unwritten (ops := List.flatten [hostOps1]) [main_v8, main_v9, main_v10] (by rfl) hb, Pipeline.withArrays_of_ne _ c _ _ b (fun w => w.elim0), Pipeline.withR_of_not_mem _ _ _ _ _ hR]
    exact hV
  refine ⟨(h c main_v10 (Pipeline.mem_restRefs_of main_v10 (by decide) (by decide))).trans (result_value m c _ ?_), ?_, ?_, ?_, ?_, ?_⟩
  · rw [Pipeline.withArrays_of_ne _ c _ _ main_v7 (fun w => w.elim0), Pipeline.withR_of_mem _ _ _ _ _ (by decide)]
    exact outAt_succ m c 0
  · exact (h c main_arg0 (Pipeline.mem_restRefs_of main_arg0 (by decide) (by decide))).trans (keep _ (by decide) (by decide) (V_main_arg0 m c))
  · exact (h c main_arg1 (Pipeline.mem_restRefs_of main_arg1 (by decide) (by decide))).trans (keep _ (by decide) (by decide) (V_main_arg1 m c))
  · exact (h c main_arg2 (Pipeline.mem_restRefs_of main_arg2 (by decide) (by decide))).trans (keep _ (by decide) (by decide) (V_main_arg2 m c))
  · exact (h c main_arg3 (Pipeline.mem_restRefs_of main_arg3 (by decide) (by decide))).trans (keep _ (by decide) (by decide) (V_main_arg3 m c))
  · exact (h c main_arg4 (Pipeline.mem_restRefs_of main_arg4 (by decide) (by decide))).trans (keep _ (by decide) (by decide) (V_main_arg4 m c))

end Cert.KernelIdeal.Hand
end
-- ==== Proof.SBase.lean ====
module

public import proofs.«01_k».proof.Proof.Gen.Spatial
public import proofs.«01_k».proof.Proof.Gen.Spatial.Skeleton
public import proofs.«01_k».proof.Proof.Gen.Spatial.Launch
public import proofs.«01_k».proof.Proof.Gen.Spatial.Points
public import proofs.«01_k».proof.Proof.Gen.Spatial.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp

@[expose] public section

set_option maxRecDepth 16384

noncomputable section

namespace Cert.Spatial.Hand

open Cert.Spatial Cert.Spatial.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The whole of a buffer at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A rectangle of a buffer at contents `f`. -/
abbrev ptR (c : Dev nD) {sp : Space} {S : Shape} {e : EltTy} (M : Memref sig .tc sp S e) (R : Rect S) (f : Buf (Elt F) (M.view.loc (c : Thread nD τ))) : sProp 𝕄 :=
  M.view.loc (c : Thread nD τ) ↦[M.view.setOn R.set]{fullShare} f

/-- Read token `j` of the widened weights. -/
abbrev tokW (c : Dev nD) (j : ℕ) (f : Buf (Elt F) ((Memref.whole main_v1).view.loc (c : Thread nD τ))) : sProp 𝕄 :=
  (Memref.whole main_v1).view.loc (c : Thread nD τ) ↦{Transfers.shareTokN fullShare j} f

abbrev wB : Memref sig .tc .vmem S4x9x512x1024 .fp8e4m3 := Memref.whole cc0_scratch1

theorem rW_inb (s : Fin 4) (t : Fin 9) (a : Fin 4) : ![(s : ℕ), (t : ℕ), 0, 0] a + S1x1x512x1024.size a ≤ S4x9x512x1024.size a := by
  have hs := s.isLt
  have ht := t.isLt
  match a with
  | 0 => show (s : ℕ) + 1 ≤ 4; omega
  | 1 => show (t : ℕ) + 1 ≤ 9; omega
  | 2 => show 0 + 512 ≤ 512; omega
  | 3 => show 0 + 1024 ≤ 1024; omega

/-- The weights of one tap in one slot of the ring. -/
abbrev rW (s : Fin 4) (t : Fin 9) : Rect S4x9x512x1024 := Rect.unit (s := S4x9x512x1024) ![(s : ℕ), (t : ℕ), 0, 0] S1x1x512x1024.size (rW_inb s t)

/-! ## Cutting a buffer into rectangles and joining them again -/

section Cut

variable {c : Dev nD} {sp : Space} {S : Shape} {e : EltTy} {T : Type} [Fintype T] [DecidableEq T]

/-- A family of element sets in which each element's place is one member of the family cuts the set `A` into disjoint parts. -/
theorem cut_eq {ℓ : Loc nD τ sig} (A : Finset (Idx ℓ)) (K : T → Finset (Idx ℓ)) (place : Idx ℓ → T) (h : ∀ t x, x ∈ K t ↔ x ∈ A ∧ place x = t)
    (f : Buf (Elt F) ℓ) : (ℓ ↦[A]{fullShare} f : sProp 𝕄) = BI.bigSep (Finset.univ : Finset T) (fun t => ℓ ↦[K t]{fullShare} f) := by
  rw [← pointsTo_biUnion Finset.univ K (fun t _ t' _ htt => Finset.disjoint_left.2 fun x hx hx' => htt (((h t x).1 hx).2.symm.trans ((h t' x).1 hx').2))]
  congr 1
  ext x
  rw [Finset.mem_biUnion]
  exact ⟨fun hx => ⟨place x, Finset.mem_univ _, (h _ x).2 ⟨hx, rfl⟩⟩, fun ⟨t, _, ht⟩ => ((h t x).1 ht).1⟩

/-- The parts of such a cut, each at its own contents, joined: some contents agree with each part's on that part. -/
theorem cut_join {ℓ : Loc nD τ sig} (A : Finset (Idx ℓ)) (K : T → Finset (Idx ℓ)) (place : Idx ℓ → T) (h : ∀ t x, x ∈ K t ↔ x ∈ A ∧ place x = t)
    (f : T → Buf (Elt F) ℓ) (f₀ : Buf (Elt F) ℓ) :
    BI.bigSep (Finset.univ : Finset T) (fun t => ℓ ↦[K t]{fullShare} f t)
      ⊢ (iprop(∃ g, ⌜∀ t, ∀ x ∈ K t, g x = f t x⌝ ∗ ℓ ↦[A]{fullShare} g) : sProp 𝕄) := by
  refine (pointsTo_biUnion_join Finset.univ K f f₀ (fun t _ t' _ htt => Finset.disjoint_left.2 fun x hx hx' => htt (((h t x).1 hx).2.symm.trans ((h t' x).1 hx').2))).trans ?_
  have e : Finset.univ.biUnion K = A := by
    ext x
    rw [Finset.mem_biUnion]
    exact ⟨fun ⟨t, _, ht⟩ => ((h t x).1 ht).1, fun hx => ⟨place x, Finset.mem_univ _, (h _ x).2 ⟨hx, rfl⟩⟩⟩
  rw [e]
  iintro ⟨%g, %hg, HG⟩
  iexists g
  isplitr [HG]
  · ipureintro; exact fun t x hx => hg t (Finset.mem_univ t) x hx
  · iexact HG

end Cut

theorem mem_wB (R : Rect S4x9x512x1024) (x : S4x9x512x1024.Idx) : x ∈ wB.view.setOn R.set ↔ x ∈ R.set := View.mem_setOn (v := wB.view) (x := x)

/-- The slot and the tap an element of the ring belongs to. -/
def wPlace (x : S4x9x512x1024.Idx) : Fin 4 × Fin 9 := (⟨(x 0 : ℕ), (x 0).isLt⟩, ⟨(x 1 : ℕ), (x 1).isLt⟩)

theorem w_cut (p : Fin 4 × Fin 9) (x : S4x9x512x1024.Idx) :
    x ∈ wB.view.setOn (rW p.1 p.2).set ↔ x ∈ (Finset.univ : Finset S4x9x512x1024.Idx) ∧ wPlace x = p := by
  obtain ⟨s, t⟩ := p
  rw [mem_wB, Rect.mem_set_unit]
  simp only [Finset.mem_univ, true_and, wPlace, Prod.mk.injEq, Fin.ext_iff]
  have h2 : (x 2 : ℕ) < 512 := (x 2).isLt
  have h3 : (x 3 : ℕ) < 1024 := (x 3).isLt
  constructor
  · intro h
    have a0 := h 0
    have a1 := h 1
    change (s : ℕ) ≤ (x 0 : ℕ) ∧ (x 0 : ℕ) < (s : ℕ) + 1 at a0
    change (t : ℕ) ≤ (x 1 : ℕ) ∧ (x 1 : ℕ) < (t : ℕ) + 1 at a1
    omega
  · rintro ⟨e0, e1⟩ a
    match a with
    | 0 => show (s : ℕ) ≤ (x 0 : ℕ) ∧ (x 0 : ℕ) < (s : ℕ) + 1; omega
    | 1 => show (t : ℕ) ≤ (x 1 : ℕ) ∧ (x 1 : ℕ) < (t : ℕ) + 1; omega
    | 2 => show 0 ≤ (x 2 : ℕ) ∧ (x 2 : ℕ) < 0 + 512; omega
    | 3 => show 0 ≤ (x 3 : ℕ) ∧ (x 3 : ℕ) < 0 + 1024; omega

/-- The ring is its thirty-six parts. -/
theorem w_eq (c : Dev nD) (f : Buf (Elt F) (wB.view.loc (c : Thread nD τ))) :
    (pt c wB f : sProp 𝕄) = iprop(ptR c wB (rW 0 0) f ∗ ptR c wB (rW 0 1) f ∗ ptR c wB (rW 0 2) f ∗ ptR c wB (rW 0 3) f ∗ ptR c wB (rW 0 4) f ∗ ptR c wB (rW 0 5) f ∗ ptR c wB (rW 0 6) f ∗ ptR c wB (rW 0 7) f ∗ ptR c wB (rW 0 8) f ∗ ptR c wB (rW 1 0) f ∗ ptR c wB (rW 1 1) f ∗ ptR c wB (rW 1 2) f ∗ ptR c wB (rW 1 3) f ∗ ptR c wB (rW 1 4) f ∗ ptR c wB (rW 1 5) f ∗ ptR c wB (rW 1 6) f ∗ ptR c wB (rW 1 7) f ∗ ptR c wB (rW 1 8) f ∗ ptR c wB (rW 2 0) f ∗ ptR c wB (rW 2 1) f ∗ ptR c wB (rW 2 2) f ∗ ptR c wB (rW 2 3) f ∗ ptR c wB (rW 2 4) f ∗ ptR c wB (rW 2 5) f ∗ ptR c wB (rW 2 6) f ∗ ptR c wB (rW 2 7) f ∗ ptR c wB (rW 2 8) f ∗ ptR c wB (rW 3 0) f ∗ ptR c wB (rW 3 1) f ∗ ptR c wB (rW 3 2) f ∗ ptR c wB (rW 3 3) f ∗ ptR c wB (rW 3 4) f ∗ ptR c wB (rW 3 5) f ∗ ptR c wB (rW 3 6) f ∗ ptR c wB (rW 3 7) f ∗ ptR c wB (rW 3 8) f) := by
  rw [pt, cut_eq (ℓ := wB.view.loc (c : Thread nD τ)) _ _ wPlace w_cut f,
    BI.bigSep_eq_bigSepL_of_eq (l := [(0, 0), (0, 1), (0, 2), (0, 3), (0, 4), (0, 5), (0, 6), (0, 7), (0, 8), (1, 0), (1, 1), (1, 2), (1, 3), (1, 4), (1, 5), (1, 6), (1, 7), (1, 8), (2, 0), (2, 1), (2, 2), (2, 3), (2, 4), (2, 5), (2, 6), (2, 7), (2, 8), (3, 0), (3, 1), (3, 2), (3, 3), (3, 4), (3, 5), (3, 6), (3, 7), (3, 8)]) (by decide) (by decide)]
  rfl

/-- Its parts, each at its own contents, make the ring. -/
theorem w_join (c : Dev nD) (h0 h1 h2 h3 h4 h5 h6 h7 h8 h9 h10 h11 h12 h13 h14 h15 h16 h17 h18 h19 h20 h21 h22 h23 h24 h25 h26 h27 h28 h29 h30 h31 h32 h33 h34 h35 : Buf (Elt F) (wB.view.loc (c : Thread nD τ))) :
    iprop(ptR c wB (rW 0 0) h0 ∗ ptR c wB (rW 0 1) h1 ∗ ptR c wB (rW 0 2) h2 ∗ ptR c wB (rW 0 3) h3 ∗ ptR c wB (rW 0 4) h4 ∗ ptR c wB (rW 0 5) h5 ∗ ptR c wB (rW 0 6) h6 ∗ ptR c wB (rW 0 7) h7 ∗ ptR c wB (rW 0 8) h8 ∗ ptR c wB (rW 1 0) h9 ∗ ptR c wB (rW 1 1) h10 ∗ ptR c wB (rW 1 2) h11 ∗ ptR c wB (rW 1 3) h12 ∗ ptR c wB (rW 1 4) h13 ∗ ptR c wB (rW 1 5) h14 ∗ ptR c wB (rW 1 6) h15 ∗ ptR c wB (rW 1 7) h16 ∗ ptR c wB (rW 1 8) h17 ∗ ptR c wB (rW 2 0) h18 ∗ ptR c wB (rW 2 1) h19 ∗ ptR c wB (rW 2 2) h20 ∗ ptR c wB (rW 2 3) h21 ∗ ptR c wB (rW 2 4) h22 ∗ ptR c wB (rW 2 5) h23 ∗ ptR c wB (rW 2 6) h24 ∗ ptR c wB (rW 2 7) h25 ∗ ptR c wB (rW 2 8) h26 ∗ ptR c wB (rW 3 0) h27 ∗ ptR c wB (rW 3 1) h28 ∗ ptR c wB (rW 3 2) h29 ∗ ptR c wB (rW 3 3) h30 ∗ ptR c wB (rW 3 4) h31 ∗ ptR c wB (rW 3 5) h32 ∗ ptR c wB (rW 3 6) h33 ∗ ptR c wB (rW 3 7) h34 ∗ ptR c wB (rW 3 8) h35) ⊢ (iprop(∃ g, pt c wB g) : sProp 𝕄) := by
  have h := cut_join (ℓ := wB.view.loc (c : Thread nD τ)) (F := F) Finset.univ _ wPlace w_cut
    (fun p => ![![h0, h1, h2, h3, h4, h5, h6, h7, h8], ![h9, h10, h11, h12, h13, h14, h15, h16, h17], ![h18, h19, h20, h21, h22, h23, h24, h25, h26], ![h27, h28, h29, h30, h31, h32, h33, h34, h35]] p.1 p.2) h0
  rw [BI.bigSep_eq_bigSepL_of_eq (l := [(0, 0), (0, 1), (0, 2), (0, 3), (0, 4), (0, 5), (0, 6), (0, 7), (0, 8), (1, 0), (1, 1), (1, 2), (1, 3), (1, 4), (1, 5), (1, 6), (1, 7), (1, 8), (2, 0), (2, 1), (2, 2), (2, 3), (2, 4), (2, 5), (2, 6), (2, 7), (2, 8), (3, 0), (3, 1), (3, 2), (3, 3), (3, 4), (3, 5), (3, 6), (3, 7), (3, 8)]) (by decide) (by decide)] at h
  refine h.trans ?_
  iintro ⟨%g, -, H⟩
  iexists g
  iexact H

end Cert.Spatial.Hand
end
-- ==== Proof.SRun.lean ====
module

public import proofs.«01_k».proof.Proof.Gen.Spatial
public import proofs.«01_k».proof.Proof.Gen.Spatial.Skeleton
public import proofs.«01_k».proof.Proof.Gen.Spatial.Launch
public import proofs.«01_k».proof.Proof.Gen.Spatial.Points
public import proofs.«01_k».proof.Proof.Gen.Spatial.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp
public import proofs.«01_k».proof.Proof.SBase

@[expose] public section

set_option maxRecDepth 16384

noncomputable section

namespace Cert.Spatial.Hand

open Cert.Spatial Cert.Spatial.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 0 in
set_option sl_exec.stepHeartbeats 4000000 in
/-- What the body leaves in the result, as a function of what it starts from, and the run of the body that leaves it. -/
def run (c : Dev nD) (i : grid0.Coords)
    (f1 : Buf (Elt F) ((Memref.whole main_arg0).view.loc (c : Thread nD τ))) (fx : Buf (Elt F) ((Memref.whole cc0_stg0_0).view.loc (c : Thread nD τ))) (f3 : Buf (Elt F) ((Memref.whole main_v1).view.loc (c : Thread nD τ))) (f4 : Buf (Elt F) ((Memref.whole main_arg3).view.loc (c : Thread nD τ))) (f5 : Buf (Elt F) ((Memref.whole main_arg4).view.loc (c : Thread nD τ))) (f6 : Buf (Elt F) ((Memref.whole main_v2).view.loc (c : Thread nD τ))) (g1 : Buf (Elt F) ((Memref.whole cc0_scratch0).view.loc (c : Thread nD τ))) (g2 : Buf (Elt F) ((Memref.whole cc0_scratch1).view.loc (c : Thread nD τ))) (g3 : Buf (Elt F) ((Memref.whole cc0_scratch2).view.loc (c : Thread nD τ))) (g4 : Buf (Elt F) ((Memref.whole cc0_scratch3).view.loc (c : Thread nD τ))) (g5 : Buf (Elt F) ((Memref.whole cc0_scratch4).view.loc (c : Thread nD τ))) :
    { Y : Buf (Elt F) ((Memref.whole main_v2).view.loc (c : Thread nD τ)) //
      ∀ (W : Waits sig Unit) (K : PUnit → sProp 𝕄),
        iprop(ptR c wB (rW 0 0) g2 ∗ ptR c wB (rW 0 1) g2 ∗ ptR c wB (rW 0 2) g2 ∗ ptR c wB (rW 0 3) g2 ∗ ptR c wB (rW 0 4) g2 ∗ ptR c wB (rW 0 5) g2 ∗ ptR c wB (rW 0 6) g2 ∗ ptR c wB (rW 0 7) g2 ∗ ptR c wB (rW 0 8) g2 ∗ ptR c wB (rW 1 0) g2 ∗ ptR c wB (rW 1 1) g2 ∗ ptR c wB (rW 1 2) g2 ∗ ptR c wB (rW 1 3) g2 ∗ ptR c wB (rW 1 4) g2 ∗ ptR c wB (rW 1 5) g2 ∗ ptR c wB (rW 1 6) g2 ∗ ptR c wB (rW 1 7) g2 ∗ ptR c wB (rW 1 8) g2 ∗ ptR c wB (rW 2 0) g2 ∗ ptR c wB (rW 2 1) g2 ∗ ptR c wB (rW 2 2) g2 ∗ ptR c wB (rW 2 3) g2 ∗ ptR c wB (rW 2 4) g2 ∗ ptR c wB (rW 2 5) g2 ∗ ptR c wB (rW 2 6) g2 ∗ ptR c wB (rW 2 7) g2 ∗ ptR c wB (rW 2 8) g2 ∗ ptR c wB (rW 3 0) g2 ∗ ptR c wB (rW 3 1) g2 ∗ ptR c wB (rW 3 2) g2 ∗ ptR c wB (rW 3 3) g2 ∗ ptR c wB (rW 3 4) g2 ∗ ptR c wB (rW 3 5) g2 ∗ ptR c wB (rW 3 6) g2 ∗ ptR c wB (rW 3 7) g2 ∗ ptR c wB (rW 3 8) g2 ∗ pt c (Memref.whole main_arg0) f1 ∗ pt c (Memref.whole main_arg3) f4 ∗ pt c (Memref.whole main_arg4) f5 ∗ pt c (Memref.whole cc0_stg0_0) fx ∗ pt c (Memref.whole main_v2) f6 ∗ pt c (Memref.whole cc0_scratch0) g1 ∗ pt c (Memref.whole cc0_scratch2) g3 ∗ pt c (Memref.whole cc0_scratch3) g4 ∗ pt c (Memref.whole cc0_scratch4) g5 ∗ tokW c 0 f3 ∗ tokW c 1 f3 ∗ tokW c 2 f3 ∗ tokW c 3 f3 ∗ tokW c 4 f3 ∗ tokW c 5 f3 ∗ tokW c 6 f3 ∗ tokW c 7 f3 ∗ tokW c 8 f3 ∗ tokW c 9 f3 ∗ tokW c 10 f3 ∗ tokW c 11 f3 ∗ tokW c 12 f3 ∗ tokW c 13 f3 ∗ tokW c 14 f3 ∗ tokW c 15 f3 ∗ tokW c 16 f3 ∗ tokW c 17 f3 ∗ tokW c 18 f3 ∗ tokW c 19 f3 ∗ tokW c 20 f3 ∗ tokW c 21 f3 ∗ tokW c 22 f3 ∗ tokW c 23 f3 ∗ tokW c 24 f3 ∗ tokW c 25 f3 ∗ tokW c 26 f3 ∗ tokW c 27 f3 ∗ tokW c 28 f3 ∗ tokW c 29 f3 ∗ tokW c 30 f3 ∗ tokW c 31 f3 ∗ tokW c 32 f3 ∗ tokW c 33 f3 ∗ tokW c 34 f3 ∗ tokW c 35 f3 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ owes (c : Thread nD τ) 0 W
          ∗ (iprop(pt c (Memref.whole main_arg0) f1 ∗ pt c (Memref.whole main_arg3) f4 ∗ pt c (Memref.whole main_arg4) f5 ∗ pt c (Memref.whole cc0_stg0_0) fx ∗ pt c (Memref.whole main_v2) (Y) ∗ tokW c 0 f3 ∗ tokW c 1 f3 ∗ tokW c 2 f3 ∗ tokW c 3 f3 ∗ tokW c 4 f3 ∗ tokW c 5 f3 ∗ tokW c 6 f3 ∗ tokW c 7 f3 ∗ tokW c 8 f3 ∗ tokW c 9 f3 ∗ tokW c 10 f3 ∗ tokW c 11 f3 ∗ tokW c 12 f3 ∗ tokW c 13 f3 ∗ tokW c 14 f3 ∗ tokW c 15 f3 ∗ tokW c 16 f3 ∗ tokW c 17 f3 ∗ tokW c 18 f3 ∗ tokW c 19 f3 ∗ tokW c 20 f3 ∗ tokW c 21 f3 ∗ tokW c 22 f3 ∗ tokW c 23 f3 ∗ tokW c 24 f3 ∗ tokW c 25 f3 ∗ tokW c 26 f3 ∗ tokW c 27 f3 ∗ tokW c 28 f3 ∗ tokW c 29 f3 ∗ tokW c 30 f3 ∗ tokW c 31 f3 ∗ tokW c 32 f3 ∗ tokW c 33 f3 ∗ tokW c 34 f3 ∗ tokW c 35 f3 ∗ (∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ (∃ W', owes (c : Thread nD τ) 0 W')) -∗ K ⟨⟩))
          ⊢ wp frame (wpE (defs₀ (F := F)) Variants.none c none) Set.univ (cc0_spatial i (Memref.whole main_arg0) (Memref.isWhole_whole _) (Memref.whole cc0_stg0_0) (Memref.isWhole_whole _) (Memref.whole main_v1) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) K } := by
  refine ⟨?y, fun W K => ?run⟩
  case run =>
    sl_unfold [cc0_spatial]
    iintro ⟨T00, T01, T02, T03, T04, T05, T06, T07, T08, T10, T11, T12, T13, T14, T15, T16, T17, T18, T20, T21, T22, T23, T24, T25, T26, T27, T28, T30, T31, T32, T33, T34, T35, T36, T37, T38, H1, H4, H5, X, O, G1, G3, G4, G5, V0, V1, V2, V3, V4, V5, V6, V7, V8, V9, V10, V11, V12, V13, V14, V15, V16, V17, V18, V19, V20, V21, V22, V23, V24, V25, V26, V27, V28, V29, V30, V31, V32, V33, V34, V35, S0, S1, S2, S3, S4, S5, S6, S7, S8, S9, S10, S11, S12, S13, S14, S15, S16, S17, S18, S19, S20, S21, S22, S23, S24, S25, S26, S27, S28, S29, S30, S31, S32, S33, S34, S35, S36, S37, S38, S39, HW, HK⟩
    sl_exec_parts
    sl_step
    iapply HK
    isplitl [H1]; · iexact H1
    isplitl [H4]; · iexact H4
    isplitl [H5]; · iexact H5
    isplitl [X]; · iexact X
    isplitl [O]; · iexact O
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    isplitl [V24]; · iexact V24
    isplitl [V25]; · iexact V25
    isplitl [V26]; · iexact V26
    isplitl [V27]; · iexact V27
    isplitl [V28]; · iexact V28
    isplitl [V29]; · iexact V29
    isplitl [V30]; · iexact V30
    isplitl [V31]; · iexact V31
    isplitl [V32]; · iexact V32
    isplitl [V33]; · iexact V33
    isplitl [V34]; · iexact V34
    isplitl [V35]; · iexact V35
    isplitl [G1]; · iexists _; iexact G1
    isplitl [T00 T01 T02 T03 T04 T05 T06 T07 T08 T10 T11 T12 T13 T14 T15 T16 T17 T18 T20 T21 T22 T23 T24 T25 T26 T27 T28 T30 T31 T32 T33 T34 T35 T36 T37 T38]
    · iapply (w_join c _ _ _ _ _ _ _ _ _ _ _ _ _ _ _ _ _ _ _ _ _ _ _ _ _ _ _ _ _ _ _ _ _ _ _ _)
      isplitl [T00]; · iexact T00
      isplitl [T01]; · iexact T01
      isplitl [T02]; · iexact T02
      isplitl [T03]; · iexact T03
      isplitl [T04]; · iexact T04
      isplitl [T05]; · iexact T05
      isplitl [T06]; · iexact T06
      isplitl [T07]; · iexact T07
      isplitl [T08]; · iexact T08
      isplitl [T10]; · iexact T10
      isplitl [T11]; · iexact T11
      isplitl [T12]; · iexact T12
      isplitl [T13]; · iexact T13
      isplitl [T14]; · iexact T14
      isplitl [T15]; · iexact T15
      isplitl [T16]; · iexact T16
      isplitl [T17]; · iexact T17
      isplitl [T18]; · iexact T18
      isplitl [T20]; · iexact T20
      isplitl [T21]; · iexact T21
      isplitl [T22]; · iexact T22
      isplitl [T23]; · iexact T23
      isplitl [T24]; · iexact T24
      isplitl [T25]; · iexact T25
      isplitl [T26]; · iexact T26
      isplitl [T27]; · iexact T27
      isplitl [T28]; · iexact T28
      isplitl [T30]; · iexact T30
      isplitl [T31]; · iexact T31
      isplitl [T32]; · iexact T32
      isplitl [T33]; · iexact T33
      isplitl [T34]; · iexact T34
      isplitl [T35]; · iexact T35
      isplitl [T36]; · iexact T36
      isplitl [T37]; · iexact T37
      iexact T38
    isplitl [G3]; · iexists _; iexact G3
    isplitl [G4]; · iexists _; iexact G4
    isplitl [G5]; · iexists _; iexact G5
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    isplitl [S39]; · iexact S39
    iexists _; iexact HW

end Cert.Spatial.Hand
end
-- ==== Proof.SBody.lean ====
module

public import proofs.«01_k».proof.Proof.Gen.Spatial
public import proofs.«01_k».proof.Proof.Gen.Spatial.Skeleton
public import proofs.«01_k».proof.Proof.Gen.Spatial.Launch
public import proofs.«01_k».proof.Proof.Gen.Spatial.Points
public import proofs.«01_k».proof.Proof.Gen.Spatial.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp
public import proofs.«01_k».proof.Proof.SBase
public import proofs.«01_k».proof.Proof.SRun

@[expose] public section

set_option maxRecDepth 16384

noncomputable section

namespace Cert.Spatial.Hand

open Cert.Spatial Cert.Spatial.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A buffer whole is its thirty-six read tokens and the share left over. -/
theorem toks_eq (c : Dev nD) (f3 : Buf (Elt F) ((Memref.whole main_v1).view.loc (c : Thread nD τ))) :
    (pt c (Memref.whole main_v1) f3 : sProp 𝕄) ⊣⊢ iprop(((Memref.whole main_v1).view.loc (c : Thread nD τ) ↦{Transfers.shareDrop fullShare 36} f3) ∗ tokW c 0 f3 ∗ tokW c 1 f3 ∗ tokW c 2 f3 ∗ tokW c 3 f3 ∗ tokW c 4 f3 ∗ tokW c 5 f3 ∗ tokW c 6 f3 ∗ tokW c 7 f3 ∗ tokW c 8 f3 ∗ tokW c 9 f3 ∗ tokW c 10 f3 ∗ tokW c 11 f3 ∗ tokW c 12 f3 ∗ tokW c 13 f3 ∗ tokW c 14 f3 ∗ tokW c 15 f3 ∗ tokW c 16 f3 ∗ tokW c 17 f3 ∗ tokW c 18 f3 ∗ tokW c 19 f3 ∗ tokW c 20 f3 ∗ tokW c 21 f3 ∗ tokW c 22 f3 ∗ tokW c 23 f3 ∗ tokW c 24 f3 ∗ tokW c 25 f3 ∗ tokW c 26 f3 ∗ tokW c 27 f3 ∗ tokW c 28 f3 ∗ tokW c 29 f3 ∗ tokW c 30 f3 ∗ tokW c 31 f3 ∗ tokW c 32 f3 ∗ tokW c 33 f3 ∗ tokW c 34 f3 ∗ tokW c 35 f3) := by
  have h := Transfers.pointsTo_toks_range (ℓ := (Memref.whole main_v1).view.loc (c : Thread nD τ)) (S := Finset.univ) (f := f3) (Ix := Unit) (Name := ℕ) (U := Pipeline.UD sig nD τ) (Lvl := ℕ) fullShare 36
  rw [BI.bigSep_eq_bigSepL_of_eq (l := [0, 1, 2, 3, 4, 5, 6, 7, 8, 9, 10, 11, 12, 13, 14, 15, 16, 17, 18, 19, 20, 21, 22, 23, 24, 25, 26, 27, 28, 29, 30, 31, 32, 33, 34, 35]) (by decide) (by decide)] at h
  exact h

set_option maxHeartbeats 0 in
/-- The body on whole buffers: from the arguments, the scratch and the result at anything and every semaphore at zero, it
    runs to the arguments unchanged, the result as `run` says, the scratch at something and the semaphores at zero. -/
theorem body_whole (c : Dev nD) (i : grid0.Coords) (f1 : Buf (Elt F) ((Memref.whole main_arg0).view.loc (c : Thread nD τ))) (fx : Buf (Elt F) ((Memref.whole cc0_stg0_0).view.loc (c : Thread nD τ))) (f3 : Buf (Elt F) ((Memref.whole main_v1).view.loc (c : Thread nD τ))) (f4 : Buf (Elt F) ((Memref.whole main_arg3).view.loc (c : Thread nD τ))) (f5 : Buf (Elt F) ((Memref.whole main_arg4).view.loc (c : Thread nD τ))) (f6 : Buf (Elt F) ((Memref.whole main_v2).view.loc (c : Thread nD τ))) (g1 : Buf (Elt F) ((Memref.whole cc0_scratch0).view.loc (c : Thread nD τ))) (g2 : Buf (Elt F) ((Memref.whole cc0_scratch1).view.loc (c : Thread nD τ))) (g3 : Buf (Elt F) ((Memref.whole cc0_scratch2).view.loc (c : Thread nD τ))) (g4 : Buf (Elt F) ((Memref.whole cc0_scratch3).view.loc (c : Thread nD τ))) (g5 : Buf (Elt F) ((Memref.whole cc0_scratch4).view.loc (c : Thread nD τ))) (W : Waits sig Unit) (K : PUnit → sProp 𝕄) :
    iprop(pt c (Memref.whole main_arg0) f1 ∗ pt c (Memref.whole cc0_stg0_0) fx ∗ pt c (Memref.whole main_v1) f3 ∗ pt c (Memref.whole main_arg3) f4 ∗ pt c (Memref.whole main_arg4) f5 ∗ pt c (Memref.whole main_v2) f6 ∗ pt c (Memref.whole cc0_scratch0) g1 ∗ pt c (Memref.whole cc0_scratch1) g2 ∗ pt c (Memref.whole cc0_scratch2) g3 ∗ pt c (Memref.whole cc0_scratch3) g4 ∗ pt c (Memref.whole cc0_scratch4) g5 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ owes (c : Thread nD τ) 0 W
      ∗ (iprop(pt c (Memref.whole main_arg0) f1 ∗ pt c (Memref.whole cc0_stg0_0) fx ∗ pt c (Memref.whole main_v1) f3 ∗ pt c (Memref.whole main_arg3) f4 ∗ pt c (Memref.whole main_arg4) f5 ∗ pt c (Memref.whole main_v2) (run c i f1 fx f3 f4 f5 f6 g1 g2 g3 g4 g5).1 ∗ (∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ (∃ W', owes (c : Thread nD τ) 0 W')) -∗ K ⟨⟩))
    ⊢ wp frame (wpE (defs₀ (F := F)) Variants.none c none) Set.univ (cc0_spatial i (Memref.whole main_arg0) (Memref.isWhole_whole _) (Memref.whole cc0_stg0_0) (Memref.isWhole_whole _) (Memref.whole main_v1) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) K := by
  rw [show pt c (Memref.whole cc0_scratch1) g2 = pt c wB g2 from rfl, w_eq]
  iintro ⟨H1, X, H3, H4, H5, O, G1, ⟨T00, T01, T02, T03, T04, T05, T06, T07, T08, T10, T11, T12, T13, T14, T15, T16, T17, T18, T20, T21, T22, T23, T24, T25, T26, T27, T28, T30, T31, T32, T33, T34, T35, T36, T37, T38⟩, G3, G4, G5, S0, S1, S2, S3, S4, S5, S6, S7, S8, S9, S10, S11, S12, S13, S14, S15, S16, S17, S18, S19, S20, S21, S22, S23, S24, S25, S26, S27, S28, S29, S30, S31, S32, S33, S34, S35, S36, S37, S38, S39, HW, HK⟩
  ihave H3 := (toks_eq c f3).1 $$ H3
  icases H3 with ⟨V, V0, V1, V2, V3, V4, V5, V6, V7, V8, V9, V10, V11, V12, V13, V14, V15, V16, V17, V18, V19, V20, V21, V22, V23, V24, V25, V26, V27, V28, V29, V30, V31, V32, V33, V34, V35⟩
  iapply ((run c i f1 fx f3 f4 f5 f6 g1 g2 g3 g4 g5).2 W K)
  isplitl [T00]; · iexact T00
  isplitl [T01]; · iexact T01
  isplitl [T02]; · iexact T02
  isplitl [T03]; · iexact T03
  isplitl [T04]; · iexact T04
  isplitl [T05]; · iexact T05
  isplitl [T06]; · iexact T06
  isplitl [T07]; · iexact T07
  isplitl [T08]; · iexact T08
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T20]; · iexact T20
  isplitl [T21]; · iexact T21
  isplitl [T22]; · iexact T22
  isplitl [T23]; · iexact T23
  isplitl [T24]; · iexact T24
  isplitl [T25]; · iexact T25
  isplitl [T26]; · iexact T26
  isplitl [T27]; · iexact T27
  isplitl [T28]; · iexact T28
  isplitl [T30]; · iexact T30
  isplitl [T31]; · iexact T31
  isplitl [T32]; · iexact T32
  isplitl [T33]; · iexact T33
  isplitl [T34]; · iexact T34
  isplitl [T35]; · iexact T35
  isplitl [T36]; · iexact T36
  isplitl [T37]; · iexact T37
  isplitl [T38]; · iexact T38
  isplitl [H1]; · iexact H1
  isplitl [H4]; · iexact H4
  isplitl [H5]; · iexact H5
  isplitl [X]; · iexact X
  isplitl [O]; · iexact O
  isplitl [G1]; · iexact G1
  isplitl [G3]; · iexact G3
  isplitl [G4]; · iexact G4
  isplitl [G5]; · iexact G5
  isplitl [V0]; · iexact V0
  isplitl [V1]; · iexact V1
  isplitl [V2]; · iexact V2
  isplitl [V3]; · iexact V3
  isplitl [V4]; · iexact V4
  isplitl [V5]; · iexact V5
  isplitl [V6]; · iexact V6
  isplitl [V7]; · iexact V7
  isplitl [V8]; · iexact V8
  isplitl [V9]; · iexact V9
  isplitl [V10]; · iexact V10
  isplitl [V11]; · iexact V11
  isplitl [V12]; · iexact V12
  isplitl [V13]; · iexact V13
  isplitl [V14]; · iexact V14
  isplitl [V15]; · iexact V15
  isplitl [V16]; · iexact V16
  isplitl [V17]; · iexact V17
  isplitl [V18]; · iexact V18
  isplitl [V19]; · iexact V19
  isplitl [V20]; · iexact V20
  isplitl [V21]; · iexact V21
  isplitl [V22]; · iexact V22
  isplitl [V23]; · iexact V23
  isplitl [V24]; · iexact V24
  isplitl [V25]; · iexact V25
  isplitl [V26]; · iexact V26
  isplitl [V27]; · iexact V27
  isplitl [V28]; · iexact V28
  isplitl [V29]; · iexact V29
  isplitl [V30]; · iexact V30
  isplitl [V31]; · iexact V31
  isplitl [V32]; · iexact V32
  isplitl [V33]; · iexact V33
  isplitl [V34]; · iexact V34
  isplitl [V35]; · iexact V35
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  isplitl [HW]; · iexact HW
  iintro ⟨H1, H4, H5, X, O, V0, V1, V2, V3, V4, V5, V6, V7, V8, V9, V10, V11, V12, V13, V14, V15, V16, V17, V18, V19, V20, V21, V22, V23, V24, V25, V26, V27, V28, V29, V30, V31, V32, V33, V34, V35, G1, G2, G3, G4, G5, S0, S1, S2, S3, S4, S5, S6, S7, S8, S9, S10, S11, S12, S13, S14, S15, S16, S17, S18, S19, S20, S21, S22, S23, S24, S25, S26, S27, S28, S29, S30, S31, S32, S33, S34, S35, S36, S37, S38, S39, HW⟩
  iapply HK
  isplitl [H1]; · iexact H1
  isplitl [X]; · iexact X
  isplitl [V V0 V1 V2 V3 V4 V5 V6 V7 V8 V9 V10 V11 V12 V13 V14 V15 V16 V17 V18 V19 V20 V21 V22 V23 V24 V25 V26 V27 V28 V29 V30 V31 V32 V33 V34 V35]
  · iapply (toks_eq c f3).2
    isplitl [V]; · iexact V
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    isplitl [V24]; · iexact V24
    isplitl [V25]; · iexact V25
    isplitl [V26]; · iexact V26
    isplitl [V27]; · iexact V27
    isplitl [V28]; · iexact V28
    isplitl [V29]; · iexact V29
    isplitl [V30]; · iexact V30
    isplitl [V31]; · iexact V31
    isplitl [V32]; · iexact V32
    isplitl [V33]; · iexact V33
    isplitl [V34]; · iexact V34
    iexact V35
  isplitl [H4]; · iexact H4
  isplitl [H5]; · iexact H5
  isplitl [O]; · iexact O
  isplitl [G1]; · iexact G1
  isplitl [G2]; · iexact G2
  isplitl [G3]; · iexact G3
  isplitl [G4]; · iexact G4
  isplitl [G5]; · iexact G5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  iexact HW

end Cert.Spatial.Hand
end
-- ==== Proof.SFrame.lean ====
module

public import proofs.«01_k».proof.Proof.Gen.Spatial
public import proofs.«01_k».proof.Proof.Gen.Spatial.Skeleton
public import proofs.«01_k».proof.Proof.Gen.Spatial.Launch
public import proofs.«01_k».proof.Proof.Gen.Spatial.Points
public import proofs.«01_k».proof.Proof.Gen.Spatial.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp
public import proofs.«01_k».proof.Proof.SBase
public import proofs.«01_k».proof.Proof.SBody

@[expose] public section

set_option maxRecDepth 16384

noncomputable section

namespace Cert.Spatial.Hand

open Cert.Spatial Cert.Spatial.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its region: the host lines before it, then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own semaphores: all 40. -/
abbrev osem0 : Fin 40 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40] : Fin 40 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide)]; rfl

/-- The buffers the body reads by its own transfers. -/
def H0 : Finset (Ref sig .tc) := {main_arg0, main_v1, main_arg3, main_arg4}
/-- The buffer it writes by its own transfers: the result. -/
def R0 : Finset (Ref sig .tc) := {main_v2}
theorem H0_sub : H0 ⊆ Pipeline.restRefs sig (cfg0.spec) := by decide
theorem R0_sub : R0 ⊆ Pipeline.restRefs sig (cfg0.spec) \ H0 := by decide

theorem hbmPts0_eq (c : Dev nD) :
    (bigSep H0 (fun b => ((c : Thread nD τ).loc b) ↦{fullShare} V m c b) : sProp 𝕄) = iprop(pt c (Memref.whole main_arg0) (V m c main_arg0) ∗ pt c (Memref.whole main_v1) (V m c main_v1) ∗ pt c (Memref.whole main_arg3) (V m c main_arg3) ∗ pt c (Memref.whole main_arg4) (V m c main_arg4)) := by
  rw [BI.bigSep_eq_bigSepL_of_eq [main_arg0, main_v1, main_arg3, main_arg4] (by decide) (by decide)]; rfl

theorem ownedPts0_eq (c : Dev nD) : (Pipeline.owned R0 c : sProp 𝕄) = iprop(∃ f, pt c (Memref.whole main_v2) f) := by
  unfold Pipeline.owned; rw [BI.bigSep_eq_bigSepL_of_eq [main_v2] (by decide) (by decide)]; rfl

theorem scoped_eq (c : Dev nD) :
    (Pipeline.scopedRest (Ix := Unit) (Name := ℕ) (U := Pipeline.UD sig nD τ) (Lvl := ℕ) (Val := Elt F) (cfg0.spec) c : sProp 𝕄) = iprop((∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g)) :=
  scopedRest0_eq c

theorem PhiDR0_eq (c : Dev nD) :
    (Pipeline.ΦDR osem0 (cfg0.spec) H0 R0 (V m) c : sProp 𝕄)
      = iprop(iprop((∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) ∗ iprop(pt c (Memref.whole main_arg0) (V m c main_arg0) ∗ pt c (Memref.whole main_v1) (V m c main_v1) ∗ pt c (Memref.whole main_arg3) (V m c main_arg3) ∗ pt c (Memref.whole main_arg4) (V m c main_arg4)) ∗ iprop(∃ f, pt c (Memref.whole main_v2) f)) := by
  rw [Pipeline.ΦDR_eq, scoped_eq, ownSems00_eq, hbmPts0_eq, ownedPts0_eq]

/-- What the body leaves in the scale's staging buffer: the scale it found there. -/
def afterB (c : Dev nD) (w : Fin cfg0.W) (t : Fin cfg0.N) : (cfg0.win w).block.Idx → Elt F (cfg0.win w).elt :=
  match w with
  | 0 => iblk m c 0 t

/-- The proof data of the one pipeline: the scale in its window, the own-transfer invariant with the result owned, nothing owed. -/
def dats (_ : Fin 1) (c : Dev nD) : Dat τ (Elt F) Unit ℕ (Pipeline.UD sig nD τ) ℕ cfg0 c where
  A w := V m c (Pipeline.arrRef spec0 w)
  after w t := afterB m c w t
  Φ _ := Pipeline.ΦDR osem0 (cfg0.spec) H0 R0 (V m) c
  q _ := fullShare
  owed _ := 0

/-- The scale's block, as the staging buffer holds it. -/
abbrev xs (c : Dev nD) (t : Fin cfg0.N) : Buf (Elt F) ((Memref.whole cc0_stg0_0).view.loc (c : Thread nD τ)) := iblk m c 0 t

theorem stage_eq (t : Fin cfg0.N) : (cfg0.win 0).stage (cfg0.slots t 0) = Memref.whole cc0_stg0_0 := by
  rw [show cfg0.slots t 0 = (0 : Fin 1) from Subsingleton.elim (α := Fin 1) _ _]

theorem bodyAt_eq (t : Fin cfg0.N) : bodyAt0 (F := F) t = (let i := grid0.coords t; cc0_spatial i (Memref.whole main_arg0) (Memref.isWhole_whole _) (Memref.whole cc0_stg0_0) (Memref.isWhole_whole _) (Memref.whole main_v1) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) := by
  have key : ∀ (M : Memref sig .tc .smem S1 .f32) (hM : M.IsWhole), M = Memref.whole cc0_stg0_0 →
      cc0_spatial (F := F) (grid0.coords t) (Memref.whole main_arg0) (Memref.isWhole_whole _) M hM (Memref.whole main_v1) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 = cc0_spatial (grid0.coords t) (Memref.whole main_arg0) (Memref.isWhole_whole _) (Memref.whole cc0_stg0_0) (Memref.isWhole_whole _) (Memref.whole main_v1) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 := by
    rintro _ _ rfl; rfl
  exact key _ _ (stage_eq t)

theorem before_eq (c : Dev nD) (t : Fin cfg0.N) (d) : (dats m 0 c).before 0 t d = iblk m c 0 t :=
  ((dats m 0 c).before_in_eq_fetched 0 rfl (fun _ => rfl) (fun _ _ _ => rfl) (fun t => rfl) t d).trans rfl

theorem win_eq (c : Dev nD) (t : Fin cfg0.N) (Z : S1.Idx → Elt F .f32) :
    (owns (c : Thread nD τ) ((cfg0.win 0).stage (cfg0.slots t 0)) fullShare Z : sProp 𝕄) = pt c (Memref.whole cc0_stg0_0) Z := by
  have h : cfg0.slots t 0 = (0 : Fin 1) := Subsingleton.elim (α := Fin 1) _ _
  generalize cfg0.slots t 0 = s at h ⊢
  subst h
  exact owns_whole (c : Thread nD τ) cc0_stg0_0 fullShare Z

set_option maxHeartbeats 0 in
theorem sound_body (c : Dev nD) (t : Fin cfg0.N) :
    iprop((dats m 0 c).Φ t.castSucc ∗ (dats m 0 c).owesAt () t.castSucc ∗ pt c (Memref.whole cc0_stg0_0) (xs m c t)) ⊢ wp frame (wpE (defs₀ (F := F)) Variants.none c none) Set.univ (bodyAt0 t)
      (fun _ => iprop((dats m 0 c).Φ t.succ ∗ (dats m 0 c).owesAt () t.succ ∗ pt c (Memref.whole cc0_stg0_0) (xs m c t))) := by
  rw [bodyAt_eq]
  rw [show (dats m 0 c).Φ t.succ = (dats m 0 c).Φ t.castSucc from rfl]
  rw [show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%g1, G1⟩, ⟨%g2, G2⟩, ⟨%g3, G3⟩, ⟨%g4, G4⟩, ⟨%g5, G5⟩⟩, Hg, ⟨S0, S1, S2, S3, S4, S5, S6, S7, S8, S9, S10, S11, S12, S13, S14, S15, S16, S17, S18, S19, S20, S21, S22, S23, S24, S25, S26, S27, S28, S29, S30, S31, S32, S33, S34, S35, S36, S37, S38, S39⟩, ⟨H1, H3, H4, H5⟩, ⟨%f6, O⟩⟩, ⟨%W, -, HW⟩, X⟩
  iapply (body_whole c _ (V m c main_arg0) (xs m c t) (V m c main_v1) (V m c main_arg3) (V m c main_arg4) f6 g1 g2 g3 g4 g5 W _)
  isplitl [H1]; · iexact H1
  isplitl [X]; · iexact X
  isplitl [H3]; · iexact H3
  isplitl [H4]; · iexact H4
  isplitl [H5]; · iexact H5
  isplitl [O]; · iexact O
  isplitl [G1]; · iexact G1
  isplitl [G2]; · iexact G2
  isplitl [G3]; · iexact G3
  isplitl [G4]; · iexact G4
  isplitl [G5]; · iexact G5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  isplitl [HW]; · iexact HW
  iintro ⟨H1, X, H3, H4, H5, O, G1, G2, G3, G4, G5, S0, S1, S2, S3, S4, S5, S6, S7, S8, S9, S10, S11, S12, S13, S14, S15, S16, S17, S18, S19, S20, S21, S22, S23, S24, S25, S26, S27, S28, S29, S30, S31, S32, S33, S34, S35, S36, S37, S38, S39, ⟨%W', HW⟩⟩
  isplitr [HW X]
  · isplitl [G1 G2 G3 G4 G5]
    · isplitl [G1]; iexact G1; isplitl [G2]; iexact G2; isplitl [G3]; iexact G3; isplitl [G4]; iexact G4; iexact G5
    isplitl [Hg]; · iexact Hg
    isplitl [S0 S1 S2 S3 S4 S5 S6 S7 S8 S9 S10 S11 S12 S13 S14 S15 S16 S17 S18 S19 S20 S21 S22 S23 S24 S25 S26 S27 S28 S29 S30 S31 S32 S33 S34 S35 S36 S37 S38 S39]
    · isplitl [S0]; iexact S0; isplitl [S1]; iexact S1; isplitl [S2]; iexact S2; isplitl [S3]; iexact S3; isplitl [S4]; iexact S4; isplitl [S5]; iexact S5; isplitl [S6]; iexact S6; isplitl [S7]; iexact S7; isplitl [S8]; iexact S8; isplitl [S9]; iexact S9; isplitl [S10]; iexact S10; isplitl [S11]; iexact S11; isplitl [S12]; iexact S12; isplitl [S13]; iexact S13; isplitl [S14]; iexact S14; isplitl [S15]; iexact S15; isplitl [S16]; iexact S16; isplitl [S17]; iexact S17; isplitl [S18]; iexact S18; isplitl [S19]; iexact S19; isplitl [S20]; iexact S20; isplitl [S21]; iexact S21; isplitl [S22]; iexact S22; isplitl [S23]; iexact S23; isplitl [S24]; iexact S24; isplitl [S25]; iexact S25; isplitl [S26]; iexact S26; isplitl [S27]; iexact S27; isplitl [S28]; iexact S28; isplitl [S29]; iexact S29; isplitl [S30]; iexact S30; isplitl [S31]; iexact S31; isplitl [S32]; iexact S32; isplitl [S33]; iexact S33; isplitl [S34]; iexact S34; isplitl [S35]; iexact S35; isplitl [S36]; iexact S36; isplitl [S37]; iexact S37; isplitl [S38]; iexact S38; iexact S39
    isplitl [H1 H3 H4 H5]
    · isplitl [H1]; iexact H1; isplitl [H3]; iexact H3; isplitl [H4]; iexact H4; iexact H5
    iexists _; iexact O
  isplitl [HW]
  · iexists W'; isplitr
    · ipureintro; exact fun _ _ => Or.inl trivial
    iexact HW
  iexact X

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  · rw [bigSep_W0]
    iintro ⟨H, HO, ⟨%d, X⟩⟩
    isplitl [H]; · iexact H
    isplitl [HO]; · iexact HO
    rw [before_eq, win_eq]
    exact .rfl
  · rw [bigSep_W0]
    iintro ⟨H, HO, X⟩
    isplitl [H]; · iexact H
    isplitl [HO]; · iexact HO
    show _ ⊢ owns (c : Thread nD τ) ((cfg0.win 0).stage (cfg0.slots t 0)) fullShare (iblk m c 0 t)
    rw [win_eq]

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m)
    (hmain := hmainD m Variants.none) (hA := fun _ _ => rfl)
    (hin := fun _ => .rfl) (hout := fun _ => .rfl)

/-- Every argument ends as it began and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).1 0).trans (((dats m 0 c).arrAt_in 0 rfl _).trans (V_main_arg1 m c)), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c)⟩, h.2⟩) (run_main m ρ)

end Cert.Spatial.Hand
end
-- ==== Proof.JBase.lean ====
module

public import proofs.«01_k».proof.Proof.Gen.SpatialIdeal
public import proofs.«01_k».proof.Proof.Gen.SpatialIdeal.Skeleton
public import proofs.«01_k».proof.Proof.Gen.SpatialIdeal.Launch
public import proofs.«01_k».proof.Proof.Gen.SpatialIdeal.Points
public import proofs.«01_k».proof.Proof.Gen.SpatialIdeal.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The whole of a buffer at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A rectangle of a buffer at contents `f`. -/
abbrev ptR (c : Dev nD) {sp : Space} {S : Shape} {e : EltTy} (M : Memref sig .tc sp S e) (R : Rect S) (f : Buf (Elt F) (M.view.loc (c : Thread nD τ))) : sProp 𝕄 :=
  M.view.loc (c : Thread nD τ) ↦[M.view.setOn R.set]{fullShare} f

/-- Read token `j` of the widened weights. -/
abbrev tokW (c : Dev nD) (j : ℕ) (f : Buf (Elt F) ((Memref.whole main_v1).view.loc (c : Thread nD τ))) : sProp 𝕄 :=
  (Memref.whole main_v1).view.loc (c : Thread nD τ) ↦{Transfers.shareTokN fullShare j} f

abbrev wB : Memref sig .tc .vmem S4x9x512x1024 .fp8e4m3 := Memref.whole cc0_scratch1

theorem rW_inb (s : Fin 4) (t : Fin 9) (a : Fin 4) : ![(s : ℕ), (t : ℕ), 0, 0] a + S1x1x512x1024.size a ≤ S4x9x512x1024.size a := by
  have hs := s.isLt
  have ht := t.isLt
  match a with
  | 0 => show (s : ℕ) + 1 ≤ 4; omega
  | 1 => show (t : ℕ) + 1 ≤ 9; omega
  | 2 => show 0 + 512 ≤ 512; omega
  | 3 => show 0 + 1024 ≤ 1024; omega

/-- The weights of one tap in one slot of the ring. -/
abbrev rW (s : Fin 4) (t : Fin 9) : Rect S4x9x512x1024 := Rect.unit (s := S4x9x512x1024) ![(s : ℕ), (t : ℕ), 0, 0] S1x1x512x1024.size (rW_inb s t)

/-! ## Cutting a buffer into rectangles and joining them again -/

section Cut

variable {c : Dev nD} {sp : Space} {S : Shape} {e : EltTy} {T : Type} [Fintype T] [DecidableEq T]

/-- A family of element sets in which each element's place is one member of the family cuts the set `A` into disjoint parts. -/
theorem cut_eq {ℓ : Loc nD τ sig} (A : Finset (Idx ℓ)) (K : T → Finset (Idx ℓ)) (place : Idx ℓ → T) (h : ∀ t x, x ∈ K t ↔ x ∈ A ∧ place x = t)
    (f : Buf (Elt F) ℓ) : (ℓ ↦[A]{fullShare} f : sProp 𝕄) = BI.bigSep (Finset.univ : Finset T) (fun t => ℓ ↦[K t]{fullShare} f) := by
  rw [← pointsTo_biUnion Finset.univ K (fun t _ t' _ htt => Finset.disjoint_left.2 fun x hx hx' => htt (((h t x).1 hx).2.symm.trans ((h t' x).1 hx').2))]
  congr 1
  ext x
  rw [Finset.mem_biUnion]
  exact ⟨fun hx => ⟨place x, Finset.mem_univ _, (h _ x).2 ⟨hx, rfl⟩⟩, fun ⟨t, _, ht⟩ => ((h t x).1 ht).1⟩

/-- The parts of such a cut, each at its own contents, joined: some contents agree with each part's on that part. -/
theorem cut_join {ℓ : Loc nD τ sig} (A : Finset (Idx ℓ)) (K : T → Finset (Idx ℓ)) (place : Idx ℓ → T) (h : ∀ t x, x ∈ K t ↔ x ∈ A ∧ place x = t)
    (f : T → Buf (Elt F) ℓ) (f₀ : Buf (Elt F) ℓ) :
    BI.bigSep (Finset.univ : Finset T) (fun t => ℓ ↦[K t]{fullShare} f t)
      ⊢ (iprop(∃ g, ⌜∀ t, ∀ x ∈ K t, g x = f t x⌝ ∗ ℓ ↦[A]{fullShare} g) : sProp 𝕄) := by
  refine (pointsTo_biUnion_join Finset.univ K f f₀ (fun t _ t' _ htt => Finset.disjoint_left.2 fun x hx hx' => htt (((h t x).1 hx).2.symm.trans ((h t' x).1 hx').2))).trans ?_
  have e : Finset.univ.biUnion K = A := by
    ext x
    rw [Finset.mem_biUnion]
    exact ⟨fun ⟨t, _, ht⟩ => ((h t x).1 ht).1, fun hx => ⟨place x, Finset.mem_univ _, (h _ x).2 ⟨hx, rfl⟩⟩⟩
  rw [e]
  iintro ⟨%g, %hg, HG⟩
  iexists g
  isplitr [HG]
  · ipureintro; exact fun t x hx => hg t (Finset.mem_univ t) x hx
  · iexact HG

end Cut

theorem mem_wB (R : Rect S4x9x512x1024) (x : S4x9x512x1024.Idx) : x ∈ wB.view.setOn R.set ↔ x ∈ R.set := View.mem_setOn (v := wB.view) (x := x)

/-- The slot and the tap an element of the ring belongs to. -/
def wPlace (x : S4x9x512x1024.Idx) : Fin 4 × Fin 9 := (⟨(x 0 : ℕ), (x 0).isLt⟩, ⟨(x 1 : ℕ), (x 1).isLt⟩)

theorem w_cut (p : Fin 4 × Fin 9) (x : S4x9x512x1024.Idx) :
    x ∈ wB.view.setOn (rW p.1 p.2).set ↔ x ∈ (Finset.univ : Finset S4x9x512x1024.Idx) ∧ wPlace x = p := by
  obtain ⟨s, t⟩ := p
  rw [mem_wB, Rect.mem_set_unit]
  simp only [Finset.mem_univ, true_and, wPlace, Prod.mk.injEq, Fin.ext_iff]
  have h2 : (x 2 : ℕ) < 512 := (x 2).isLt
  have h3 : (x 3 : ℕ) < 1024 := (x 3).isLt
  constructor
  · intro h
    have a0 := h 0
    have a1 := h 1
    change (s : ℕ) ≤ (x 0 : ℕ) ∧ (x 0 : ℕ) < (s : ℕ) + 1 at a0
    change (t : ℕ) ≤ (x 1 : ℕ) ∧ (x 1 : ℕ) < (t : ℕ) + 1 at a1
    omega
  · rintro ⟨e0, e1⟩ a
    match a with
    | 0 => show (s : ℕ) ≤ (x 0 : ℕ) ∧ (x 0 : ℕ) < (s : ℕ) + 1; omega
    | 1 => show (t : ℕ) ≤ (x 1 : ℕ) ∧ (x 1 : ℕ) < (t : ℕ) + 1; omega
    | 2 => show 0 ≤ (x 2 : ℕ) ∧ (x 2 : ℕ) < 0 + 512; omega
    | 3 => show 0 ≤ (x 3 : ℕ) ∧ (x 3 : ℕ) < 0 + 1024; omega

/-- The ring is its thirty-six parts. -/
theorem w_eq (c : Dev nD) (f : Buf (Elt F) (wB.view.loc (c : Thread nD τ))) :
    (pt c wB f : sProp 𝕄) = iprop(ptR c wB (rW 0 0) f ∗ ptR c wB (rW 0 1) f ∗ ptR c wB (rW 0 2) f ∗ ptR c wB (rW 0 3) f ∗ ptR c wB (rW 0 4) f ∗ ptR c wB (rW 0 5) f ∗ ptR c wB (rW 0 6) f ∗ ptR c wB (rW 0 7) f ∗ ptR c wB (rW 0 8) f ∗ ptR c wB (rW 1 0) f ∗ ptR c wB (rW 1 1) f ∗ ptR c wB (rW 1 2) f ∗ ptR c wB (rW 1 3) f ∗ ptR c wB (rW 1 4) f ∗ ptR c wB (rW 1 5) f ∗ ptR c wB (rW 1 6) f ∗ ptR c wB (rW 1 7) f ∗ ptR c wB (rW 1 8) f ∗ ptR c wB (rW 2 0) f ∗ ptR c wB (rW 2 1) f ∗ ptR c wB (rW 2 2) f ∗ ptR c wB (rW 2 3) f ∗ ptR c wB (rW 2 4) f ∗ ptR c wB (rW 2 5) f ∗ ptR c wB (rW 2 6) f ∗ ptR c wB (rW 2 7) f ∗ ptR c wB (rW 2 8) f ∗ ptR c wB (rW 3 0) f ∗ ptR c wB (rW 3 1) f ∗ ptR c wB (rW 3 2) f ∗ ptR c wB (rW 3 3) f ∗ ptR c wB (rW 3 4) f ∗ ptR c wB (rW 3 5) f ∗ ptR c wB (rW 3 6) f ∗ ptR c wB (rW 3 7) f ∗ ptR c wB (rW 3 8) f) := by
  rw [pt, cut_eq (ℓ := wB.view.loc (c : Thread nD τ)) _ _ wPlace w_cut f,
    BI.bigSep_eq_bigSepL_of_eq (l := [(0, 0), (0, 1), (0, 2), (0, 3), (0, 4), (0, 5), (0, 6), (0, 7), (0, 8), (1, 0), (1, 1), (1, 2), (1, 3), (1, 4), (1, 5), (1, 6), (1, 7), (1, 8), (2, 0), (2, 1), (2, 2), (2, 3), (2, 4), (2, 5), (2, 6), (2, 7), (2, 8), (3, 0), (3, 1), (3, 2), (3, 3), (3, 4), (3, 5), (3, 6), (3, 7), (3, 8)]) (by decide) (by decide)]
  rfl

/-- Its parts, each at its own contents, make the ring. -/
theorem w_join (c : Dev nD) (h0 h1 h2 h3 h4 h5 h6 h7 h8 h9 h10 h11 h12 h13 h14 h15 h16 h17 h18 h19 h20 h21 h22 h23 h24 h25 h26 h27 h28 h29 h30 h31 h32 h33 h34 h35 : Buf (Elt F) (wB.view.loc (c : Thread nD τ))) :
    iprop(ptR c wB (rW 0 0) h0 ∗ ptR c wB (rW 0 1) h1 ∗ ptR c wB (rW 0 2) h2 ∗ ptR c wB (rW 0 3) h3 ∗ ptR c wB (rW 0 4) h4 ∗ ptR c wB (rW 0 5) h5 ∗ ptR c wB (rW 0 6) h6 ∗ ptR c wB (rW 0 7) h7 ∗ ptR c wB (rW 0 8) h8 ∗ ptR c wB (rW 1 0) h9 ∗ ptR c wB (rW 1 1) h10 ∗ ptR c wB (rW 1 2) h11 ∗ ptR c wB (rW 1 3) h12 ∗ ptR c wB (rW 1 4) h13 ∗ ptR c wB (rW 1 5) h14 ∗ ptR c wB (rW 1 6) h15 ∗ ptR c wB (rW 1 7) h16 ∗ ptR c wB (rW 1 8) h17 ∗ ptR c wB (rW 2 0) h18 ∗ ptR c wB (rW 2 1) h19 ∗ ptR c wB (rW 2 2) h20 ∗ ptR c wB (rW 2 3) h21 ∗ ptR c wB (rW 2 4) h22 ∗ ptR c wB (rW 2 5) h23 ∗ ptR c wB (rW 2 6) h24 ∗ ptR c wB (rW 2 7) h25 ∗ ptR c wB (rW 2 8) h26 ∗ ptR c wB (rW 3 0) h27 ∗ ptR c wB (rW 3 1) h28 ∗ ptR c wB (rW 3 2) h29 ∗ ptR c wB (rW 3 3) h30 ∗ ptR c wB (rW 3 4) h31 ∗ ptR c wB (rW 3 5) h32 ∗ ptR c wB (rW 3 6) h33 ∗ ptR c wB (rW 3 7) h34 ∗ ptR c wB (rW 3 8) h35) ⊢ (iprop(∃ g, pt c wB g) : sProp 𝕄) := by
  have h := cut_join (ℓ := wB.view.loc (c : Thread nD τ)) (F := F) Finset.univ _ wPlace w_cut
    (fun p => ![![h0, h1, h2, h3, h4, h5, h6, h7, h8], ![h9, h10, h11, h12, h13, h14, h15, h16, h17], ![h18, h19, h20, h21, h22, h23, h24, h25, h26], ![h27, h28, h29, h30, h31, h32, h33, h34, h35]] p.1 p.2) h0
  rw [BI.bigSep_eq_bigSepL_of_eq (l := [(0, 0), (0, 1), (0, 2), (0, 3), (0, 4), (0, 5), (0, 6), (0, 7), (0, 8), (1, 0), (1, 1), (1, 2), (1, 3), (1, 4), (1, 5), (1, 6), (1, 7), (1, 8), (2, 0), (2, 1), (2, 2), (2, 3), (2, 4), (2, 5), (2, 6), (2, 7), (2, 8), (3, 0), (3, 1), (3, 2), (3, 3), (3, 4), (3, 5), (3, 6), (3, 7), (3, 8)]) (by decide) (by decide)] at h
  refine h.trans ?_
  iintro ⟨%g, -, H⟩
  iexists g
  iexact H

end Cert.SpatialIdeal.Hand
end
-- ==== Proof.JRun.lean ====
module

public import proofs.«01_k».proof.Proof.Gen.SpatialIdeal
public import proofs.«01_k».proof.Proof.Gen.SpatialIdeal.Skeleton
public import proofs.«01_k».proof.Proof.Gen.SpatialIdeal.Launch
public import proofs.«01_k».proof.Proof.Gen.SpatialIdeal.Points
public import proofs.«01_k».proof.Proof.Gen.SpatialIdeal.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp
public import proofs.«01_k».proof.Proof.JBase

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 0 in
set_option sl_exec.stepHeartbeats 4000000 in
/-- What the body leaves in the result, as a function of what it starts from, and the run of the body that leaves it. -/
def run (c : Dev nD) (i : grid0.Coords)
    (f1 : Buf (Elt F) ((Memref.whole main_arg0).view.loc (c : Thread nD τ))) (fx : Buf (Elt F) ((Memref.whole cc0_stg0_0).view.loc (c : Thread nD τ))) (f3 : Buf (Elt F) ((Memref.whole main_v1).view.loc (c : Thread nD τ))) (f4 : Buf (Elt F) ((Memref.whole main_arg3).view.loc (c : Thread nD τ))) (f5 : Buf (Elt F) ((Memref.whole main_arg4).view.loc (c : Thread nD τ))) (f6 : Buf (Elt F) ((Memref.whole main_v2).view.loc (c : Thread nD τ))) (g1 : Buf (Elt F) ((Memref.whole cc0_scratch0).view.loc (c : Thread nD τ))) (g2 : Buf (Elt F) ((Memref.whole cc0_scratch1).view.loc (c : Thread nD τ))) (g3 : Buf (Elt F) ((Memref.whole cc0_scratch2).view.loc (c : Thread nD τ))) (g4 : Buf (Elt F) ((Memref.whole cc0_scratch3).view.loc (c : Thread nD τ))) (g5 : Buf (Elt F) ((Memref.whole cc0_scratch4).view.loc (c : Thread nD τ))) :
    { Y : Buf (Elt F) ((Memref.whole main_v2).view.loc (c : Thread nD τ)) //
      ∀ (W : Waits sig Unit) (K : PUnit → sProp 𝕄),
        iprop(ptR c wB (rW 0 0) g2 ∗ ptR c wB (rW 0 1) g2 ∗ ptR c wB (rW 0 2) g2 ∗ ptR c wB (rW 0 3) g2 ∗ ptR c wB (rW 0 4) g2 ∗ ptR c wB (rW 0 5) g2 ∗ ptR c wB (rW 0 6) g2 ∗ ptR c wB (rW 0 7) g2 ∗ ptR c wB (rW 0 8) g2 ∗ ptR c wB (rW 1 0) g2 ∗ ptR c wB (rW 1 1) g2 ∗ ptR c wB (rW 1 2) g2 ∗ ptR c wB (rW 1 3) g2 ∗ ptR c wB (rW 1 4) g2 ∗ ptR c wB (rW 1 5) g2 ∗ ptR c wB (rW 1 6) g2 ∗ ptR c wB (rW 1 7) g2 ∗ ptR c wB (rW 1 8) g2 ∗ ptR c wB (rW 2 0) g2 ∗ ptR c wB (rW 2 1) g2 ∗ ptR c wB (rW 2 2) g2 ∗ ptR c wB (rW 2 3) g2 ∗ ptR c wB (rW 2 4) g2 ∗ ptR c wB (rW 2 5) g2 ∗ ptR c wB (rW 2 6) g2 ∗ ptR c wB (rW 2 7) g2 ∗ ptR c wB (rW 2 8) g2 ∗ ptR c wB (rW 3 0) g2 ∗ ptR c wB (rW 3 1) g2 ∗ ptR c wB (rW 3 2) g2 ∗ ptR c wB (rW 3 3) g2 ∗ ptR c wB (rW 3 4) g2 ∗ ptR c wB (rW 3 5) g2 ∗ ptR c wB (rW 3 6) g2 ∗ ptR c wB (rW 3 7) g2 ∗ ptR c wB (rW 3 8) g2 ∗ pt c (Memref.whole main_arg0) f1 ∗ pt c (Memref.whole main_arg3) f4 ∗ pt c (Memref.whole main_arg4) f5 ∗ pt c (Memref.whole cc0_stg0_0) fx ∗ pt c (Memref.whole main_v2) f6 ∗ pt c (Memref.whole cc0_scratch0) g1 ∗ pt c (Memref.whole cc0_scratch2) g3 ∗ pt c (Memref.whole cc0_scratch3) g4 ∗ pt c (Memref.whole cc0_scratch4) g5 ∗ tokW c 0 f3 ∗ tokW c 1 f3 ∗ tokW c 2 f3 ∗ tokW c 3 f3 ∗ tokW c 4 f3 ∗ tokW c 5 f3 ∗ tokW c 6 f3 ∗ tokW c 7 f3 ∗ tokW c 8 f3 ∗ tokW c 9 f3 ∗ tokW c 10 f3 ∗ tokW c 11 f3 ∗ tokW c 12 f3 ∗ tokW c 13 f3 ∗ tokW c 14 f3 ∗ tokW c 15 f3 ∗ tokW c 16 f3 ∗ tokW c 17 f3 ∗ tokW c 18 f3 ∗ tokW c 19 f3 ∗ tokW c 20 f3 ∗ tokW c 21 f3 ∗ tokW c 22 f3 ∗ tokW c 23 f3 ∗ tokW c 24 f3 ∗ tokW c 25 f3 ∗ tokW c 26 f3 ∗ tokW c 27 f3 ∗ tokW c 28 f3 ∗ tokW c 29 f3 ∗ tokW c 30 f3 ∗ tokW c 31 f3 ∗ tokW c 32 f3 ∗ tokW c 33 f3 ∗ tokW c 34 f3 ∗ tokW c 35 f3 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ owes (c : Thread nD τ) 0 W
          ∗ (iprop(pt c (Memref.whole main_arg0) f1 ∗ pt c (Memref.whole main_arg3) f4 ∗ pt c (Memref.whole main_arg4) f5 ∗ pt c (Memref.whole cc0_stg0_0) fx ∗ pt c (Memref.whole main_v2) (Y) ∗ tokW c 0 f3 ∗ tokW c 1 f3 ∗ tokW c 2 f3 ∗ tokW c 3 f3 ∗ tokW c 4 f3 ∗ tokW c 5 f3 ∗ tokW c 6 f3 ∗ tokW c 7 f3 ∗ tokW c 8 f3 ∗ tokW c 9 f3 ∗ tokW c 10 f3 ∗ tokW c 11 f3 ∗ tokW c 12 f3 ∗ tokW c 13 f3 ∗ tokW c 14 f3 ∗ tokW c 15 f3 ∗ tokW c 16 f3 ∗ tokW c 17 f3 ∗ tokW c 18 f3 ∗ tokW c 19 f3 ∗ tokW c 20 f3 ∗ tokW c 21 f3 ∗ tokW c 22 f3 ∗ tokW c 23 f3 ∗ tokW c 24 f3 ∗ tokW c 25 f3 ∗ tokW c 26 f3 ∗ tokW c 27 f3 ∗ tokW c 28 f3 ∗ tokW c 29 f3 ∗ tokW c 30 f3 ∗ tokW c 31 f3 ∗ tokW c 32 f3 ∗ tokW c 33 f3 ∗ tokW c 34 f3 ∗ tokW c 35 f3 ∗ (∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ (∃ W', owes (c : Thread nD τ) 0 W')) -∗ K ⟨⟩))
          ⊢ wp frame (wpE (defs₀ (F := F)) Variants.none c none) Set.univ (cc0_spatial i (Memref.whole main_arg0) (Memref.isWhole_whole _) (Memref.whole cc0_stg0_0) (Memref.isWhole_whole _) (Memref.whole main_v1) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) K } := by
  refine ⟨?y, fun W K => ?run⟩
  case run =>
    sl_unfold [cc0_spatial]
    iintro ⟨T00, T01, T02, T03, T04, T05, T06, T07, T08, T10, T11, T12, T13, T14, T15, T16, T17, T18, T20, T21, T22, T23, T24, T25, T26, T27, T28, T30, T31, T32, T33, T34, T35, T36, T37, T38, H1, H4, H5, X, O, G1, G3, G4, G5, V0, V1, V2, V3, V4, V5, V6, V7, V8, V9, V10, V11, V12, V13, V14, V15, V16, V17, V18, V19, V20, V21, V22, V23, V24, V25, V26, V27, V28, V29, V30, V31, V32, V33, V34, V35, S0, S1, S2, S3, S4, S5, S6, S7, S8, S9, S10, S11, S12, S13, S14, S15, S16, S17, S18, S19, S20, S21, S22, S23, S24, S25, S26, S27, S28, S29, S30, S31, S32, S33, S34, S35, S36, S37, S38, S39, HW, HK⟩
    sl_exec_parts
    sl_step
    iapply HK
    isplitl [H1]; · iexact H1
    isplitl [H4]; · iexact H4
    isplitl [H5]; · iexact H5
    isplitl [X]; · iexact X
    isplitl [O]; · iexact O
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    isplitl [V24]; · iexact V24
    isplitl [V25]; · iexact V25
    isplitl [V26]; · iexact V26
    isplitl [V27]; · iexact V27
    isplitl [V28]; · iexact V28
    isplitl [V29]; · iexact V29
    isplitl [V30]; · iexact V30
    isplitl [V31]; · iexact V31
    isplitl [V32]; · iexact V32
    isplitl [V33]; · iexact V33
    isplitl [V34]; · iexact V34
    isplitl [V35]; · iexact V35
    isplitl [G1]; · iexists _; iexact G1
    isplitl [T00 T01 T02 T03 T04 T05 T06 T07 T08 T10 T11 T12 T13 T14 T15 T16 T17 T18 T20 T21 T22 T23 T24 T25 T26 T27 T28 T30 T31 T32 T33 T34 T35 T36 T37 T38]
    · iapply (w_join c _ _ _ _ _ _ _ _ _ _ _ _ _ _ _ _ _ _ _ _ _ _ _ _ _ _ _ _ _ _ _ _ _ _ _ _)
      isplitl [T00]; · iexact T00
      isplitl [T01]; · iexact T01
      isplitl [T02]; · iexact T02
      isplitl [T03]; · iexact T03
      isplitl [T04]; · iexact T04
      isplitl [T05]; · iexact T05
      isplitl [T06]; · iexact T06
      isplitl [T07]; · iexact T07
      isplitl [T08]; · iexact T08
      isplitl [T10]; · iexact T10
      isplitl [T11]; · iexact T11
      isplitl [T12]; · iexact T12
      isplitl [T13]; · iexact T13
      isplitl [T14]; · iexact T14
      isplitl [T15]; · iexact T15
      isplitl [T16]; · iexact T16
      isplitl [T17]; · iexact T17
      isplitl [T18]; · iexact T18
      isplitl [T20]; · iexact T20
      isplitl [T21]; · iexact T21
      isplitl [T22]; · iexact T22
      isplitl [T23]; · iexact T23
      isplitl [T24]; · iexact T24
      isplitl [T25]; · iexact T25
      isplitl [T26]; · iexact T26
      isplitl [T27]; · iexact T27
      isplitl [T28]; · iexact T28
      isplitl [T30]; · iexact T30
      isplitl [T31]; · iexact T31
      isplitl [T32]; · iexact T32
      isplitl [T33]; · iexact T33
      isplitl [T34]; · iexact T34
      isplitl [T35]; · iexact T35
      isplitl [T36]; · iexact T36
      isplitl [T37]; · iexact T37
      iexact T38
    isplitl [G3]; · iexists _; iexact G3
    isplitl [G4]; · iexists _; iexact G4
    isplitl [G5]; · iexists _; iexact G5
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    isplitl [S31]; · iexact S31
    isplitl [S32]; · iexact S32
    isplitl [S33]; · iexact S33
    isplitl [S34]; · iexact S34
    isplitl [S35]; · iexact S35
    isplitl [S36]; · iexact S36
    isplitl [S37]; · iexact S37
    isplitl [S38]; · iexact S38
    isplitl [S39]; · iexact S39
    iexists _; iexact HW

end Cert.SpatialIdeal.Hand
end
-- ==== Proof.JBody.lean ====
module

public import proofs.«01_k».proof.Proof.Gen.SpatialIdeal
public import proofs.«01_k».proof.Proof.Gen.SpatialIdeal.Skeleton
public import proofs.«01_k».proof.Proof.Gen.SpatialIdeal.Launch
public import proofs.«01_k».proof.Proof.Gen.SpatialIdeal.Points
public import proofs.«01_k».proof.Proof.Gen.SpatialIdeal.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp
public import proofs.«01_k».proof.Proof.JBase
public import proofs.«01_k».proof.Proof.JRun

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A buffer whole is its thirty-six read tokens and the share left over. -/
theorem toks_eq (c : Dev nD) (f3 : Buf (Elt F) ((Memref.whole main_v1).view.loc (c : Thread nD τ))) :
    (pt c (Memref.whole main_v1) f3 : sProp 𝕄) ⊣⊢ iprop(((Memref.whole main_v1).view.loc (c : Thread nD τ) ↦{Transfers.shareDrop fullShare 36} f3) ∗ tokW c 0 f3 ∗ tokW c 1 f3 ∗ tokW c 2 f3 ∗ tokW c 3 f3 ∗ tokW c 4 f3 ∗ tokW c 5 f3 ∗ tokW c 6 f3 ∗ tokW c 7 f3 ∗ tokW c 8 f3 ∗ tokW c 9 f3 ∗ tokW c 10 f3 ∗ tokW c 11 f3 ∗ tokW c 12 f3 ∗ tokW c 13 f3 ∗ tokW c 14 f3 ∗ tokW c 15 f3 ∗ tokW c 16 f3 ∗ tokW c 17 f3 ∗ tokW c 18 f3 ∗ tokW c 19 f3 ∗ tokW c 20 f3 ∗ tokW c 21 f3 ∗ tokW c 22 f3 ∗ tokW c 23 f3 ∗ tokW c 24 f3 ∗ tokW c 25 f3 ∗ tokW c 26 f3 ∗ tokW c 27 f3 ∗ tokW c 28 f3 ∗ tokW c 29 f3 ∗ tokW c 30 f3 ∗ tokW c 31 f3 ∗ tokW c 32 f3 ∗ tokW c 33 f3 ∗ tokW c 34 f3 ∗ tokW c 35 f3) := by
  have h := Transfers.pointsTo_toks_range (ℓ := (Memref.whole main_v1).view.loc (c : Thread nD τ)) (S := Finset.univ) (f := f3) (Ix := Unit) (Name := ℕ) (U := Pipeline.UD sig nD τ) (Lvl := ℕ) fullShare 36
  rw [BI.bigSep_eq_bigSepL_of_eq (l := [0, 1, 2, 3, 4, 5, 6, 7, 8, 9, 10, 11, 12, 13, 14, 15, 16, 17, 18, 19, 20, 21, 22, 23, 24, 25, 26, 27, 28, 29, 30, 31, 32, 33, 34, 35]) (by decide) (by decide)] at h
  exact h

set_option maxHeartbeats 0 in
/-- The body on whole buffers: from the arguments, the scratch and the result at anything and every semaphore at zero, it
    runs to the arguments unchanged, the result as `run` says, the scratch at something and the semaphores at zero. -/
theorem body_whole (c : Dev nD) (i : grid0.Coords) (f1 : Buf (Elt F) ((Memref.whole main_arg0).view.loc (c : Thread nD τ))) (fx : Buf (Elt F) ((Memref.whole cc0_stg0_0).view.loc (c : Thread nD τ))) (f3 : Buf (Elt F) ((Memref.whole main_v1).view.loc (c : Thread nD τ))) (f4 : Buf (Elt F) ((Memref.whole main_arg3).view.loc (c : Thread nD τ))) (f5 : Buf (Elt F) ((Memref.whole main_arg4).view.loc (c : Thread nD τ))) (f6 : Buf (Elt F) ((Memref.whole main_v2).view.loc (c : Thread nD τ))) (g1 : Buf (Elt F) ((Memref.whole cc0_scratch0).view.loc (c : Thread nD τ))) (g2 : Buf (Elt F) ((Memref.whole cc0_scratch1).view.loc (c : Thread nD τ))) (g3 : Buf (Elt F) ((Memref.whole cc0_scratch2).view.loc (c : Thread nD τ))) (g4 : Buf (Elt F) ((Memref.whole cc0_scratch3).view.loc (c : Thread nD τ))) (g5 : Buf (Elt F) ((Memref.whole cc0_scratch4).view.loc (c : Thread nD τ))) (W : Waits sig Unit) (K : PUnit → sProp 𝕄) :
    iprop(pt c (Memref.whole main_arg0) f1 ∗ pt c (Memref.whole cc0_stg0_0) fx ∗ pt c (Memref.whole main_v1) f3 ∗ pt c (Memref.whole main_arg3) f4 ∗ pt c (Memref.whole main_arg4) f5 ∗ pt c (Memref.whole main_v2) f6 ∗ pt c (Memref.whole cc0_scratch0) g1 ∗ pt c (Memref.whole cc0_scratch1) g2 ∗ pt c (Memref.whole cc0_scratch2) g3 ∗ pt c (Memref.whole cc0_scratch3) g4 ∗ pt c (Memref.whole cc0_scratch4) g5 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ owes (c : Thread nD τ) 0 W
      ∗ (iprop(pt c (Memref.whole main_arg0) f1 ∗ pt c (Memref.whole cc0_stg0_0) fx ∗ pt c (Memref.whole main_v1) f3 ∗ pt c (Memref.whole main_arg3) f4 ∗ pt c (Memref.whole main_arg4) f5 ∗ pt c (Memref.whole main_v2) (run c i f1 fx f3 f4 f5 f6 g1 g2 g3 g4 g5).1 ∗ (∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ (∃ W', owes (c : Thread nD τ) 0 W')) -∗ K ⟨⟩))
    ⊢ wp frame (wpE (defs₀ (F := F)) Variants.none c none) Set.univ (cc0_spatial i (Memref.whole main_arg0) (Memref.isWhole_whole _) (Memref.whole cc0_stg0_0) (Memref.isWhole_whole _) (Memref.whole main_v1) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) K := by
  rw [show pt c (Memref.whole cc0_scratch1) g2 = pt c wB g2 from rfl, w_eq]
  iintro ⟨H1, X, H3, H4, H5, O, G1, ⟨T00, T01, T02, T03, T04, T05, T06, T07, T08, T10, T11, T12, T13, T14, T15, T16, T17, T18, T20, T21, T22, T23, T24, T25, T26, T27, T28, T30, T31, T32, T33, T34, T35, T36, T37, T38⟩, G3, G4, G5, S0, S1, S2, S3, S4, S5, S6, S7, S8, S9, S10, S11, S12, S13, S14, S15, S16, S17, S18, S19, S20, S21, S22, S23, S24, S25, S26, S27, S28, S29, S30, S31, S32, S33, S34, S35, S36, S37, S38, S39, HW, HK⟩
  ihave H3 := (toks_eq c f3).1 $$ H3
  icases H3 with ⟨V, V0, V1, V2, V3, V4, V5, V6, V7, V8, V9, V10, V11, V12, V13, V14, V15, V16, V17, V18, V19, V20, V21, V22, V23, V24, V25, V26, V27, V28, V29, V30, V31, V32, V33, V34, V35⟩
  iapply ((run c i f1 fx f3 f4 f5 f6 g1 g2 g3 g4 g5).2 W K)
  isplitl [T00]; · iexact T00
  isplitl [T01]; · iexact T01
  isplitl [T02]; · iexact T02
  isplitl [T03]; · iexact T03
  isplitl [T04]; · iexact T04
  isplitl [T05]; · iexact T05
  isplitl [T06]; · iexact T06
  isplitl [T07]; · iexact T07
  isplitl [T08]; · iexact T08
  isplitl [T10]; · iexact T10
  isplitl [T11]; · iexact T11
  isplitl [T12]; · iexact T12
  isplitl [T13]; · iexact T13
  isplitl [T14]; · iexact T14
  isplitl [T15]; · iexact T15
  isplitl [T16]; · iexact T16
  isplitl [T17]; · iexact T17
  isplitl [T18]; · iexact T18
  isplitl [T20]; · iexact T20
  isplitl [T21]; · iexact T21
  isplitl [T22]; · iexact T22
  isplitl [T23]; · iexact T23
  isplitl [T24]; · iexact T24
  isplitl [T25]; · iexact T25
  isplitl [T26]; · iexact T26
  isplitl [T27]; · iexact T27
  isplitl [T28]; · iexact T28
  isplitl [T30]; · iexact T30
  isplitl [T31]; · iexact T31
  isplitl [T32]; · iexact T32
  isplitl [T33]; · iexact T33
  isplitl [T34]; · iexact T34
  isplitl [T35]; · iexact T35
  isplitl [T36]; · iexact T36
  isplitl [T37]; · iexact T37
  isplitl [T38]; · iexact T38
  isplitl [H1]; · iexact H1
  isplitl [H4]; · iexact H4
  isplitl [H5]; · iexact H5
  isplitl [X]; · iexact X
  isplitl [O]; · iexact O
  isplitl [G1]; · iexact G1
  isplitl [G3]; · iexact G3
  isplitl [G4]; · iexact G4
  isplitl [G5]; · iexact G5
  isplitl [V0]; · iexact V0
  isplitl [V1]; · iexact V1
  isplitl [V2]; · iexact V2
  isplitl [V3]; · iexact V3
  isplitl [V4]; · iexact V4
  isplitl [V5]; · iexact V5
  isplitl [V6]; · iexact V6
  isplitl [V7]; · iexact V7
  isplitl [V8]; · iexact V8
  isplitl [V9]; · iexact V9
  isplitl [V10]; · iexact V10
  isplitl [V11]; · iexact V11
  isplitl [V12]; · iexact V12
  isplitl [V13]; · iexact V13
  isplitl [V14]; · iexact V14
  isplitl [V15]; · iexact V15
  isplitl [V16]; · iexact V16
  isplitl [V17]; · iexact V17
  isplitl [V18]; · iexact V18
  isplitl [V19]; · iexact V19
  isplitl [V20]; · iexact V20
  isplitl [V21]; · iexact V21
  isplitl [V22]; · iexact V22
  isplitl [V23]; · iexact V23
  isplitl [V24]; · iexact V24
  isplitl [V25]; · iexact V25
  isplitl [V26]; · iexact V26
  isplitl [V27]; · iexact V27
  isplitl [V28]; · iexact V28
  isplitl [V29]; · iexact V29
  isplitl [V30]; · iexact V30
  isplitl [V31]; · iexact V31
  isplitl [V32]; · iexact V32
  isplitl [V33]; · iexact V33
  isplitl [V34]; · iexact V34
  isplitl [V35]; · iexact V35
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  isplitl [HW]; · iexact HW
  iintro ⟨H1, H4, H5, X, O, V0, V1, V2, V3, V4, V5, V6, V7, V8, V9, V10, V11, V12, V13, V14, V15, V16, V17, V18, V19, V20, V21, V22, V23, V24, V25, V26, V27, V28, V29, V30, V31, V32, V33, V34, V35, G1, G2, G3, G4, G5, S0, S1, S2, S3, S4, S5, S6, S7, S8, S9, S10, S11, S12, S13, S14, S15, S16, S17, S18, S19, S20, S21, S22, S23, S24, S25, S26, S27, S28, S29, S30, S31, S32, S33, S34, S35, S36, S37, S38, S39, HW⟩
  iapply HK
  isplitl [H1]; · iexact H1
  isplitl [X]; · iexact X
  isplitl [V V0 V1 V2 V3 V4 V5 V6 V7 V8 V9 V10 V11 V12 V13 V14 V15 V16 V17 V18 V19 V20 V21 V22 V23 V24 V25 V26 V27 V28 V29 V30 V31 V32 V33 V34 V35]
  · iapply (toks_eq c f3).2
    isplitl [V]; · iexact V
    isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    isplitl [V8]; · iexact V8
    isplitl [V9]; · iexact V9
    isplitl [V10]; · iexact V10
    isplitl [V11]; · iexact V11
    isplitl [V12]; · iexact V12
    isplitl [V13]; · iexact V13
    isplitl [V14]; · iexact V14
    isplitl [V15]; · iexact V15
    isplitl [V16]; · iexact V16
    isplitl [V17]; · iexact V17
    isplitl [V18]; · iexact V18
    isplitl [V19]; · iexact V19
    isplitl [V20]; · iexact V20
    isplitl [V21]; · iexact V21
    isplitl [V22]; · iexact V22
    isplitl [V23]; · iexact V23
    isplitl [V24]; · iexact V24
    isplitl [V25]; · iexact V25
    isplitl [V26]; · iexact V26
    isplitl [V27]; · iexact V27
    isplitl [V28]; · iexact V28
    isplitl [V29]; · iexact V29
    isplitl [V30]; · iexact V30
    isplitl [V31]; · iexact V31
    isplitl [V32]; · iexact V32
    isplitl [V33]; · iexact V33
    isplitl [V34]; · iexact V34
    iexact V35
  isplitl [H4]; · iexact H4
  isplitl [H5]; · iexact H5
  isplitl [O]; · iexact O
  isplitl [G1]; · iexact G1
  isplitl [G2]; · iexact G2
  isplitl [G3]; · iexact G3
  isplitl [G4]; · iexact G4
  isplitl [G5]; · iexact G5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  iexact HW

end Cert.SpatialIdeal.Hand
end
-- ==== Proof.JFrame.lean ====
module

public import proofs.«01_k».proof.Proof.Gen.SpatialIdeal
public import proofs.«01_k».proof.Proof.Gen.SpatialIdeal.Skeleton
public import proofs.«01_k».proof.Proof.Gen.SpatialIdeal.Launch
public import proofs.«01_k».proof.Proof.Gen.SpatialIdeal.Points
public import proofs.«01_k».proof.Proof.Gen.SpatialIdeal.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp
public import proofs.«01_k».proof.Proof.JBase
public import proofs.«01_k».proof.Proof.JBody

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its region: the host lines before it, then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's own semaphores: all 40. -/
abbrev osem0 : Fin 40 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40] : Fin 40 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39] (by decide) (by decide)]; rfl

/-- The buffers the body reads by its own transfers. -/
def H0 : Finset (Ref sig .tc) := {main_arg0, main_v1, main_arg3, main_arg4}
/-- The buffer it writes by its own transfers: the result. -/
def R0 : Finset (Ref sig .tc) := {main_v2}
theorem H0_sub : H0 ⊆ Pipeline.restRefs sig (cfg0.spec) := by decide
theorem R0_sub : R0 ⊆ Pipeline.restRefs sig (cfg0.spec) \ H0 := by decide

theorem hbmPts0_eq (c : Dev nD) :
    (bigSep H0 (fun b => ((c : Thread nD τ).loc b) ↦{fullShare} V m c b) : sProp 𝕄) = iprop(pt c (Memref.whole main_arg0) (V m c main_arg0) ∗ pt c (Memref.whole main_v1) (V m c main_v1) ∗ pt c (Memref.whole main_arg3) (V m c main_arg3) ∗ pt c (Memref.whole main_arg4) (V m c main_arg4)) := by
  rw [BI.bigSep_eq_bigSepL_of_eq [main_arg0, main_v1, main_arg3, main_arg4] (by decide) (by decide)]; rfl

theorem ownedPts0_eq (c : Dev nD) : (Pipeline.owned R0 c : sProp 𝕄) = iprop(∃ f, pt c (Memref.whole main_v2) f) := by
  unfold Pipeline.owned; rw [BI.bigSep_eq_bigSepL_of_eq [main_v2] (by decide) (by decide)]; rfl

theorem scoped_eq (c : Dev nD) :
    (Pipeline.scopedRest (Ix := Unit) (Name := ℕ) (U := Pipeline.UD sig nD τ) (Lvl := ℕ) (Val := Elt F) (cfg0.spec) c : sProp 𝕄) = iprop((∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g)) :=
  scopedRest0_eq c

theorem PhiDR0_eq (c : Dev nD) :
    (Pipeline.ΦDR osem0 (cfg0.spec) H0 R0 (V m) c : sProp 𝕄)
      = iprop(iprop((∃ g, pt (F := F) c (Memref.whole cc0_scratch0) g) ∗ (∃ g, pt (F := F) c (Memref.whole cc0_scratch1) g) ∗ (∃ g, pt (F := F) c (Memref.whole cc0_scratch2) g) ∗ (∃ g, pt (F := F) c (Memref.whole cc0_scratch3) g) ∗ (∃ g, pt (F := F) c (Memref.whole cc0_scratch4) g)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) ∗ iprop(pt c (Memref.whole main_arg0) (V m c main_arg0) ∗ pt c (Memref.whole main_v1) (V m c main_v1) ∗ pt c (Memref.whole main_arg3) (V m c main_arg3) ∗ pt c (Memref.whole main_arg4) (V m c main_arg4)) ∗ iprop(∃ f, pt c (Memref.whole main_v2) f)) := by
  rw [Pipeline.ΦDR_eq, scoped_eq, ownSems00_eq, hbmPts0_eq, ownedPts0_eq]

/-- What the body leaves in the scale's staging buffer: the scale it found there. -/
def afterB (c : Dev nD) (w : Fin cfg0.W) (t : Fin cfg0.N) : (cfg0.win w).block.Idx → Elt F (cfg0.win w).elt :=
  match w with
  | 0 => iblk m c 0 t

/-- The proof data of the one pipeline: the scale in its window, the own-transfer invariant with the result owned, nothing owed. -/
def dats (_ : Fin 1) (c : Dev nD) : Dat τ (Elt F) Unit ℕ (Pipeline.UD sig nD τ) ℕ cfg0 c where
  A w := V m c (Pipeline.arrRef spec0 w)
  after w t := afterB m c w t
  Φ _ := Pipeline.ΦDR osem0 (cfg0.spec) H0 R0 (V m) c
  q _ := fullShare
  owed _ := 0

/-- The scale's block, as the staging buffer holds it. -/
abbrev xs (c : Dev nD) (t : Fin cfg0.N) : Buf (Elt F) ((Memref.whole cc0_stg0_0).view.loc (c : Thread nD τ)) := iblk m c 0 t

theorem stage_eq (t : Fin cfg0.N) : (cfg0.win 0).stage (cfg0.slots t 0) = Memref.whole cc0_stg0_0 := by
  rw [show cfg0.slots t 0 = (0 : Fin 1) from Subsingleton.elim (α := Fin 1) _ _]

theorem bodyAt_eq (t : Fin cfg0.N) : bodyAt0 (F := F) t = (let i := grid0.coords t; cc0_spatial i (Memref.whole main_arg0) (Memref.isWhole_whole _) (Memref.whole cc0_stg0_0) (Memref.isWhole_whole _) (Memref.whole main_v1) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) := by
  have key : ∀ (M : Memref sig .tc .smem S1 .f32) (hM : M.IsWhole), M = Memref.whole cc0_stg0_0 →
      cc0_spatial (F := F) (grid0.coords t) (Memref.whole main_arg0) (Memref.isWhole_whole _) M hM (Memref.whole main_v1) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 = cc0_spatial (grid0.coords t) (Memref.whole main_arg0) (Memref.isWhole_whole _) (Memref.whole cc0_stg0_0) (Memref.isWhole_whole _) (Memref.whole main_v1) (Memref.isWhole_whole _) (Memref.whole main_arg3) (Memref.isWhole_whole _) (Memref.whole main_arg4) (Memref.isWhole_whole _) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 := by
    rintro _ _ rfl; rfl
  exact key _ _ (stage_eq t)

theorem before_eq (c : Dev nD) (t : Fin cfg0.N) (d) : (dats m 0 c).before 0 t d = iblk m c 0 t :=
  ((dats m 0 c).before_in_eq_fetched 0 rfl (fun _ => rfl) (fun _ _ _ => rfl) (fun t => rfl) t d).trans rfl

theorem win_eq (c : Dev nD) (t : Fin cfg0.N) (Z : S1.Idx → Elt F .f32) :
    (owns (c : Thread nD τ) ((cfg0.win 0).stage (cfg0.slots t 0)) fullShare Z : sProp 𝕄) = pt c (Memref.whole cc0_stg0_0) Z := by
  have h : cfg0.slots t 0 = (0 : Fin 1) := Subsingleton.elim (α := Fin 1) _ _
  generalize cfg0.slots t 0 = s at h ⊢
  subst h
  exact owns_whole (c : Thread nD τ) cc0_stg0_0 fullShare Z

set_option maxHeartbeats 0 in
theorem sound_body (c : Dev nD) (t : Fin cfg0.N) :
    iprop((dats m 0 c).Φ t.castSucc ∗ (dats m 0 c).owesAt () t.castSucc ∗ pt c (Memref.whole cc0_stg0_0) (xs m c t)) ⊢ wp frame (wpE (defs₀ (F := F)) Variants.none c none) Set.univ (bodyAt0 t)
      (fun _ => iprop((dats m 0 c).Φ t.succ ∗ (dats m 0 c).owesAt () t.succ ∗ pt c (Memref.whole cc0_stg0_0) (xs m c t))) := by
  rw [bodyAt_eq]
  rw [show (dats m 0 c).Φ t.succ = (dats m 0 c).Φ t.castSucc from rfl]
  rw [show (dats m 0 c).Φ t.castSucc = Pipeline.ΦDR osem0 (cfg0.spec) H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%g1, G1⟩, ⟨%g2, G2⟩, ⟨%g3, G3⟩, ⟨%g4, G4⟩, ⟨%g5, G5⟩⟩, Hg, ⟨S0, S1, S2, S3, S4, S5, S6, S7, S8, S9, S10, S11, S12, S13, S14, S15, S16, S17, S18, S19, S20, S21, S22, S23, S24, S25, S26, S27, S28, S29, S30, S31, S32, S33, S34, S35, S36, S37, S38, S39⟩, ⟨H1, H3, H4, H5⟩, ⟨%f6, O⟩⟩, ⟨%W, -, HW⟩, X⟩
  iapply (body_whole c _ (V m c main_arg0) (xs m c t) (V m c main_v1) (V m c main_arg3) (V m c main_arg4) f6 g1 g2 g3 g4 g5 W _)
  isplitl [H1]; · iexact H1
  isplitl [X]; · iexact X
  isplitl [H3]; · iexact H3
  isplitl [H4]; · iexact H4
  isplitl [H5]; · iexact H5
  isplitl [O]; · iexact O
  isplitl [G1]; · iexact G1
  isplitl [G2]; · iexact G2
  isplitl [G3]; · iexact G3
  isplitl [G4]; · iexact G4
  isplitl [G5]; · iexact G5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  isplitl [HW]; · iexact HW
  iintro ⟨H1, X, H3, H4, H5, O, G1, G2, G3, G4, G5, S0, S1, S2, S3, S4, S5, S6, S7, S8, S9, S10, S11, S12, S13, S14, S15, S16, S17, S18, S19, S20, S21, S22, S23, S24, S25, S26, S27, S28, S29, S30, S31, S32, S33, S34, S35, S36, S37, S38, S39, ⟨%W', HW⟩⟩
  isplitr [HW X]
  · isplitl [G1 G2 G3 G4 G5]
    · isplitl [G1]; iexact G1; isplitl [G2]; iexact G2; isplitl [G3]; iexact G3; isplitl [G4]; iexact G4; iexact G5
    isplitl [Hg]; · iexact Hg
    isplitl [S0 S1 S2 S3 S4 S5 S6 S7 S8 S9 S10 S11 S12 S13 S14 S15 S16 S17 S18 S19 S20 S21 S22 S23 S24 S25 S26 S27 S28 S29 S30 S31 S32 S33 S34 S35 S36 S37 S38 S39]
    · isplitl [S0]; iexact S0; isplitl [S1]; iexact S1; isplitl [S2]; iexact S2; isplitl [S3]; iexact S3; isplitl [S4]; iexact S4; isplitl [S5]; iexact S5; isplitl [S6]; iexact S6; isplitl [S7]; iexact S7; isplitl [S8]; iexact S8; isplitl [S9]; iexact S9; isplitl [S10]; iexact S10; isplitl [S11]; iexact S11; isplitl [S12]; iexact S12; isplitl [S13]; iexact S13; isplitl [S14]; iexact S14; isplitl [S15]; iexact S15; isplitl [S16]; iexact S16; isplitl [S17]; iexact S17; isplitl [S18]; iexact S18; isplitl [S19]; iexact S19; isplitl [S20]; iexact S20; isplitl [S21]; iexact S21; isplitl [S22]; iexact S22; isplitl [S23]; iexact S23; isplitl [S24]; iexact S24; isplitl [S25]; iexact S25; isplitl [S26]; iexact S26; isplitl [S27]; iexact S27; isplitl [S28]; iexact S28; isplitl [S29]; iexact S29; isplitl [S30]; iexact S30; isplitl [S31]; iexact S31; isplitl [S32]; iexact S32; isplitl [S33]; iexact S33; isplitl [S34]; iexact S34; isplitl [S35]; iexact S35; isplitl [S36]; iexact S36; isplitl [S37]; iexact S37; isplitl [S38]; iexact S38; iexact S39
    isplitl [H1 H3 H4 H5]
    · isplitl [H1]; iexact H1; isplitl [H3]; iexact H3; isplitl [H4]; iexact H4; iexact H5
    iexists _; iexact O
  isplitl [HW]
  · iexists W'; isplitr
    · ipureintro; exact fun _ _ => Or.inl trivial
    iexact HW
  iexact X

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  · rw [bigSep_W0]
    iintro ⟨H, HO, ⟨%d, X⟩⟩
    isplitl [H]; · iexact H
    isplitl [HO]; · iexact HO
    rw [before_eq, win_eq]
    exact .rfl
  · rw [bigSep_W0]
    iintro ⟨H, HO, X⟩
    isplitl [H]; · iexact H
    isplitl [HO]; · iexact HO
    show _ ⊢ owns (c : Thread nD τ) ((cfg0.win 0).stage (cfg0.slots t 0)) fullShare (iblk m c 0 t)
    rw [win_eq]

set_option backward.isDefEq.respectTransparency.types false in
theorem run_main : θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m)
    (hmain := hmainD m Variants.none) (hA := fun _ _ => rfl)
    (hin := fun _ => .rfl) (hout := fun _ => .rfl)

/-- Every argument ends as it began and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).1 0).trans (((dats m 0 c).arrAt_in 0 rfl _).trans (V_main_arg1 m c)), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c)⟩, h.2⟩) (run_main m ρ)

end Cert.SpatialIdeal.Hand
end
-- ==== Proof.JChain.lean ====
module
public import Idealize.ShloMosaic.Lib.Mxu.Lemmas
public import Idealize.ShloMosaic.Lib.MatmulPlain
public import Idealize.ShloMosaic.Lib.Pointwise

@[expose] public section

namespace Cert.SpatialIdeal.Hand

open Idealize.ShloMosaic Idealize.ShloMosaic.Mxu
open scoped BigOperators

section Steps

variable {F : FTy → Type} [FloatOps F]

/-- The staging register of step `i`: the steps alternate. -/
def turn (i : ℕ) : Fin 2 := ⟨i % 2, Nat.mod_lt _ (by decide)⟩

theorem turn_ne (i : ℕ) : turn i ≠ turn (i + 1) := by
  intro h
  have := congrArg Fin.val h
  simp only [turn] at this
  omega

theorem turn_two (i : ℕ) : turn (i + 2) = turn i := by
  apply Fin.ext; simp [turn]

/-- One right-hand tile for each of the two units. -/
abbrev Tiles (F : FTy → Type) [FloatOps F] := Fin 2 → FVec F (STile 256) .bf16

/-- The rows of each class of pixels. -/
def clsRows : Fin 6 → ℕ
  | 0 => 96 | 1 => 32 | 2 => 32 | 3 => 32 | 4 => 32 | 5 => 16

/-- Where each class's accumulator lies, for the even and the odd column chunks. -/
def clsAddr : Fin 2 → Fin 6 → ℕ
  | 0, 0 => 0 | 0, 1 => 24 | 0, 2 => 32 | 0, 3 => 40 | 0, 4 => 48 | 0, 5 => 56
  | 1, 0 => 60 | 1, 1 => 84 | 1, 2 => 92 | 1, 3 => 100 | 1, 4 => 108 | 1, 5 => 116

/-- The classes after the first that tap `t` reaches. -/
def clsOf : ℕ → List (Fin 6)
  | 0 => [2, 4, 5] | 1 => [2, 3, 4, 5] | 2 => [2, 3, 5]
  | 3 => [1, 2, 4, 5] | 4 => [1, 2, 3, 4, 5] | 5 => [1, 2, 3, 5]
  | 6 => [1, 4] | 7 => [1, 3, 4] | _ => [1, 3]

theorem cls_fits : ∀ (p : Fin 2) (ci : Fin 6), Fits (clsAddr p ci) (clsRows ci) := by decide

/-- The left operands of a step, one for each class. -/
abbrev Lefts (F : FTy → Type) [FloatOps F] := (ci : Fin 6) → FVec F (STile (clsRows ci)) .bf16

/-- Push a tile to each unit. -/
def pushPair (s : Mxu F) (r : Fin 2) (v : Tiles F) : Mxu F := (s.pushed 0 r true (v 0)).pushed 1 r true (v 1)

/-- The first class's accumulate on each unit, which loads the staged tiles. -/
def first (p : Fin 2) (s : Mxu F) (r : Fin 2) (L : Lefts F) : Mxu F :=
  (s.accLhs 0 r (clsAddr p 0) (L 0) (cls_fits p 0)).accLhs 1 r (clsAddr p 0) (L 0) (cls_fits p 0)

/-- Both units have a tile loaded. -/
def Loaded (s : Mxu F) : Prop := ∀ q, (s.gmr q).isSome = true

theorem loaded_first (p : Fin 2) (s : Mxu F) (r : Fin 2) (L : Lefts F) : Loaded (first p s r L) := by
  intro q
  match q with
  | 0 => rfl
  | 1 => rfl

/-- A further accumulate on one unit, by the tile it has loaded. -/
def againOn (p : Fin 2) (ci : Fin 6) (L : Lefts F) (q : Fin 2) (s : { s : Mxu F // Loaded s }) : { s : Mxu F // Loaded s } :=
  ⟨s.1.accBy q ((s.1.gmr q).get (s.2 q)) (clsAddr p ci) (L ci) (cls_fits p ci), fun q' => s.2 q'⟩

def again (p : Fin 2) (L : Lefts F) (s : { s : Mxu F // Loaded s }) (ci : Fin 6) : { s : Mxu F // Loaded s } :=
  againOn p ci L 1 (againOn p ci L 0 s)

/-- A step: the first class's accumulates, then the other classes'. -/
def step (p : Fin 2) (s : Mxu F) (r : Fin 2) (L : Lefts F) (cs : List (Fin 6)) : Mxu F :=
  (cs.foldl (again p L) ⟨first p s r L, loaded_first p s r L⟩).1

/-- `m` steps from step number 0: each pushes the next step's tiles, then accumulates its own. -/
def steps (p : Fin 2) (s : Mxu F) (R : ℕ → Tiles F) (L : ℕ → Lefts F) : ℕ → Mxu F
  | 0 => s
  | m + 1 => step p (pushPair (steps p s R L m) (turn (m + 1)) (R (m + 1))) (turn m) (L m) (clsOf (m / 4))

/-- What a staging pair holds before step `i`. -/
def Staged2 (s : Mxu F) (i : ℕ) (v : Tiles F) : Prop :=
  (∀ q, s.reg q (turn i) = some ⟨.bf16, true, v q⟩) ∧ ∀ q, s.reg q (turn (i + 1)) = none

theorem reg_pushPair {s : Mxu F} {r : Fin 2} (v : Tiles F) (h : ∀ q, s.reg q r = none) (q : Fin 2) :
    (pushPair s r v).reg q r = some ⟨.bf16, true, v q⟩ := by
  unfold pushPair
  match q with
  | 0 => rw [reg_pushed_ne _ _ _ _ _ _ _ (fun h => absurd h.1 (by decide)), reg_pushed_of_none _ _ _ _ _ (h 0)]
  | 1 => rw [reg_pushed_of_none]; rw [reg_pushed_ne _ _ _ _ _ _ _ (fun h => absurd h.1 (by decide)), h 1]

theorem reg_pushPair_ne (s : Mxu F) {r r' : Fin 2} (hr : r' ≠ r) (v : Tiles F) (q : Fin 2) :
    (pushPair s r v).reg q r' = s.reg q r' := by
  unfold pushPair
  rw [reg_pushed_ne _ _ _ _ _ _ _ fun h => hr h.2, reg_pushed_ne _ _ _ _ _ _ _ fun h => hr h.2]

theorem acc_pushPair (s : Mxu F) (r : Fin 2) (v : Tiles F) : (pushPair s r v).acc = s.acc := by
  unfold pushPair; rw [acc_pushed, acc_pushed]

theorem reg_first (p : Fin 2) (s : Mxu F) (r : Fin 2) (L : Lefts F) (q : Fin 2) : (first p s r L).reg q r = none := by
  unfold first
  match q with
  | 0 => rw [reg_accLhs_ne _ _ _ _ _ _ _ _ (fun h => absurd h.1 (by decide)), reg_accLhs]
  | 1 => rw [reg_accLhs]

theorem reg_first_ne (p : Fin 2) (s : Mxu F) {r r' : Fin 2} (hr : r' ≠ r) (L : Lefts F) (q : Fin 2) :
    (first p s r L).reg q r' = s.reg q r' := by
  unfold first
  rw [reg_accLhs_ne _ _ _ _ _ _ _ _ fun h => hr h.2, reg_accLhs_ne _ _ _ _ _ _ _ _ fun h => hr h.2]

theorem gmr_first (p : Fin 2) {s : Mxu F} {r : Fin 2} {v : Tiles F} (L : Lefts F)
    (hs : ∀ q, s.reg q r = some ⟨.bf16, true, v q⟩) (q : Fin 2) : (first p s r L).gmr q = some ⟨.bf16, true, v q⟩ := by
  unfold first
  match q with
  | 0 => rw [gmr_accLhs_ne _ _ _ _ _ _ _ (by decide), gmr_accLhs, staged_eq, hs 0]; rfl
  | 1 => rw [gmr_accLhs, staged_eq, reg_accLhs_ne _ _ _ _ _ _ _ _ (fun h => absurd h.1 (by decide)), hs 1]; rfl

theorem reg_fold (p : Fin 2) (L : Lefts F) (cs : List (Fin 6)) (s : { s : Mxu F // Loaded s }) :
    (cs.foldl (again p L) s).1.reg = s.1.reg := by
  induction cs generalizing s with
  | nil => rfl
  | cons c cs ih => exact ih _

end Steps

section Ideal

/-- A deposit adds, whether or not the row was in use: a row not in use holds zero. -/
theorem acc_accBy (s : Mxu Ideal) (q : Fin 2) (t : Staged Ideal) (A : ℕ) {M : ℕ} (l : FVec Ideal (STile M) .bf16) (h : Fits A M) (q' : Fin 2)
    (R : Fin 1024) (C : Fin 256) :
    ((s.accBy q t A l h).acc q' R C : EReal) = (s.acc q' R C : EReal) +
      (if hq : q' = q ∧ 4 * A ≤ R.val ∧ R.val < 4 * A + M then
        (t.pass l (ix ⟨R.val - 4 * A, by omega⟩ C) : EReal) else (0 : EReal)) := by
  by_cases hq : q' = q ∧ 4 * A ≤ R.val ∧ R.val < 4 * A + M
  · rw [dif_pos hq]
    show (if hq : q' = q ∧ 4 * A ≤ R.val ∧ R.val < 4 * A + M then _ else _ : EReal) = _
    rw [dif_pos hq]
    cases hl : s.live q' R with
    | true => rfl
    | false =>
      have e : (s.acc q' R C : EReal) = 0 := by
        rw [s.clean q' R C hl]; exact Ideal.ofBits_zero_f32
      rw [e, zero_add]; rfl
  · rw [dif_neg hq, add_zero]
    show (if hq : q' = q ∧ 4 * A ≤ R.val ∧ R.val < 4 * A + M then _ else _ : EReal) = _
    rw [dif_neg hq]

/-- The product of a left operand and a tile pushed transposed, read at an element. -/
noncomputable def prod {M : ℕ} (l : FVec Ideal (STile M) .bf16) (v : FVec Ideal (STile 256) .bf16) (r : Fin M) (C : Fin 256) : EReal :=
  ∑ u : Fin 256, (l (ValueIdx.ix2 r u) : EReal) * (v (ValueIdx.ix2 C u) : EReal)

theorem pass_apply {M : ℕ} (l : FVec Ideal (STile M) .bf16) (v : FVec Ideal (STile 256) .bf16) (r : Fin M) (C : Fin 256) :
    ((⟨.bf16, true, v⟩ : Staged Ideal).pass l (ix r C) : EReal) = prod l v r C := by
  have e := Ideal.matmul_transposedRhs_apply (φ₁ := .bf16) (φ₂ := .bf16) none l v (fun _ => (0 : EReal)) r C
  rw [show ((0 : EReal) + _) = _ from zero_add _] at e
  refine Eq.trans ?_ e
  rw [show ix r C = ValueIdx.ix2 r C from by funext a; match a with | 0 => rfl | 1 => rfl]
  exact (zero_add (M := EReal) _).symm

/-- What one class's accumulates add to a row. -/
noncomputable def gain (p : Fin 2) (L : Lefts Ideal) (v : Tiles Ideal) (q : Fin 2) (X : Fin 1024) (C : Fin 256) (ci : Fin 6) : EReal :=
  if hq : 4 * clsAddr p ci ≤ X.val ∧ X.val < 4 * clsAddr p ci + clsRows ci then prod (L ci) (v q) ⟨X.val - 4 * clsAddr p ci, by omega⟩ C else 0

theorem acc_on (p : Fin 2) (ci : Fin 6) (L : Lefts Ideal) (v : Tiles Ideal) (s : Mxu Ideal) (u q : Fin 2) (X : Fin 1024) (C : Fin 256) :
    ((s.accBy u ⟨.bf16, true, v u⟩ (clsAddr p ci) (L ci) (cls_fits p ci)).acc q X C : EReal)
      = (s.acc q X C : EReal) + (if q = u then gain p L v q X C ci else 0) := by
  rw [acc_accBy]
  refine congrArg (_ + ·) ?_
  unfold gain
  by_cases h : q = u
  · subst h
    by_cases hq : 4 * clsAddr p ci ≤ X.val ∧ X.val < 4 * clsAddr p ci + clsRows ci
    · rw [dif_pos ⟨rfl, hq⟩, if_pos rfl, dif_pos hq, pass_apply]
    · rw [dif_neg fun h => hq h.2, if_pos rfl, dif_neg hq]
  · rw [dif_neg fun e => h e.1, if_neg h]

theorem acc_first (p : Fin 2) {s : Mxu Ideal} {r : Fin 2} {v : Tiles Ideal} (L : Lefts Ideal)
    (hs : ∀ q, s.reg q r = some ⟨.bf16, true, v q⟩) (q : Fin 2) (X : Fin 1024) (C : Fin 256) :
    ((first p s r L).acc q X C : EReal) = (s.acc q X C : EReal) + gain p L v q X C 0 := by
  have e0 : s.staged 0 r = ⟨.bf16, true, v 0⟩ := by rw [staged_eq, hs 0]; rfl
  have e1 : ((s.accLhs 0 r (clsAddr p 0) (L 0) (cls_fits p 0)).staged 1 r) = ⟨.bf16, true, v 1⟩ := by
    rw [staged_eq, reg_accLhs_ne _ _ _ _ _ _ _ _ (fun h => absurd h.1 (by decide)), hs 1]; rfl
  unfold first
  show (((s.accLhs 0 r (clsAddr p 0) (L 0) (cls_fits p 0)).accBy 1 ((s.accLhs 0 r (clsAddr p 0) (L 0) (cls_fits p 0)).staged 1 r) (clsAddr p 0) (L 0) (cls_fits p 0)).acc q X C : EReal) = _
  rw [e1, acc_on]
  show ((s.accBy 0 (s.staged 0 r) (clsAddr p 0) (L 0) (cls_fits p 0)).acc q X C : EReal) + _ = _
  rw [e0, acc_on]
  match q with
  | 0 => rw [if_pos rfl, if_neg (by decide), add_zero]
  | 1 => rw [if_neg (by decide), if_pos rfl, add_zero]

theorem acc_fold (p : Fin 2) (L : Lefts Ideal) {v : Tiles Ideal} (cs : List (Fin 6)) (s : { s : Mxu Ideal // Loaded s })
    (hs : ∀ q, s.1.gmr q = some ⟨.bf16, true, v q⟩) (q : Fin 2) (X : Fin 1024) (C : Fin 256) :
    ((cs.foldl (again p L) s).1.acc q X C : EReal) = (s.1.acc q X C : EReal) + (cs.map (gain p L v q X C)).sum := by
  induction cs generalizing s with
  | nil => exact (add_zero (M := EReal) _).symm
  | cons c cs ih =>
    rw [List.foldl_cons, ih (again p L s c) (fun q => hs q), List.map_cons, List.sum_cons, ← add_assoc]
    refine congrArg (· + (cs.map (gain p L v q X C)).sum) ?_
    have g0 : (s.1.gmr 0).get (s.2 0) = ⟨.bf16, true, v 0⟩ := by simp only [hs 0, Option.get_some]
    have g1 : (s.1.gmr 1).get (s.2 1) = ⟨.bf16, true, v 1⟩ := by simp only [hs 1, Option.get_some]
    show (((s.1.accBy 0 ((s.1.gmr 0).get (s.2 0)) (clsAddr p c) (L c) (cls_fits p c)).accBy 1 ((s.1.gmr 1).get (s.2 1)) (clsAddr p c) (L c) (cls_fits p c)).acc q X C : EReal) = _
    rw [g0, g1, acc_on, acc_on]
    match q with
    | 0 => rw [if_pos rfl, if_neg (by decide), add_zero]
    | 1 => rw [if_neg (by decide), if_pos rfl, add_zero]

/-- One step: the register it loaded is empty, the other untouched, and each row has gained its class's product. -/
theorem step_spec (p : Fin 2) {s : Mxu Ideal} {r : Fin 2} {v : Tiles Ideal} (L : Lefts Ideal) (cs : List (Fin 6))
    (hs : ∀ q, s.reg q r = some ⟨.bf16, true, v q⟩) :
    (∀ q, (step p s r L cs).reg q r = none) ∧ (∀ q r', r' ≠ r → (step p s r L cs).reg q r' = s.reg q r') ∧
    ∀ q (X : Fin 1024) C, ((step p s r L cs).acc q X C : EReal) = (s.acc q X C : EReal) + ((0 :: cs).map (gain p L v q X C)).sum := by
  unfold step
  refine ⟨fun q => ?_, fun q r' hr => ?_, fun q X C => ?_⟩
  · rw [reg_fold]; exact reg_first p s r L q
  · rw [reg_fold]; exact reg_first_ne p s hr L q
  · rw [acc_fold p L cs _ (gmr_first p L hs)]
    show ((first p s r L).acc q X C : EReal) + _ = _
    rw [acc_first p L hs, List.map_cons, List.sum_cons, add_assoc]

/-- After `m` steps: the next tiles are staged, and each row has gained the products of the steps that reach its class. -/
theorem steps_spec (p : Fin 2) {s : Mxu Ideal} {R : ℕ → Tiles Ideal} {L : ℕ → Lefts Ideal} (hs : Staged2 s 0 (R 0)) (m : ℕ) :
    Staged2 (steps p s R L m) m (R m) ∧ ∀ q (X : Fin 1024) C,
      ((steps p s R L m).acc q X C : EReal) = (s.acc q X C : EReal) +
        ∑ j ∈ Finset.range m, ((0 :: clsOf (j / 4)).map (gain p (L j) (R j) q X C)).sum := by
  induction m with
  | zero => exact ⟨hs, fun q X C => by simp [steps]⟩
  | succ m ih =>
    obtain ⟨⟨i1, i2⟩, i3⟩ := ih
    have hne : turn m ≠ turn (m + 1) := turn_ne _
    have p1 := reg_pushPair (s := steps p s R L m) (R (m + 1)) i2
    have p2 := reg_pushPair_ne (steps p s R L m) hne (R (m + 1))
    have t := step_spec p (s := pushPair (steps p s R L m) (turn (m + 1)) (R (m + 1))) (r := turn m) (v := R m) (L m) (clsOf (m / 4))
      (fun q => (p2 q).trans (i1 q))
    refine ⟨⟨fun q => ?_, fun q => ?_⟩, fun q X C => ?_⟩
    · exact (t.2.1 q _ hne.symm).trans (p1 q)
    · rw [show m + 1 + 1 = m + 2 from rfl, turn_two]
      exact t.1 q
    · refine (t.2.2 q X C).trans ?_
      rw [acc_pushPair, i3, Finset.sum_range_succ, add_assoc]

/-- Zero rows everywhere, tiles staged for step 0: the state between two column chunks. -/
def Fresh (s : Mxu Ideal) (v : Tiles Ideal) : Prop :=
  Staged2 s 0 v ∧ ∀ q (X : Fin 1024) C, (s.acc q X C : EReal) = 0

/-- Row `r` of a class, in the result buffer. -/
abbrev rowOf (p : Fin 2) (ci : Fin 6) (r : Fin (clsRows ci)) : Fin 1024 := row (cls_fits p ci) r

theorem cls_disj : ∀ (p : Fin 2) (a b : Fin 6), a ≠ b → 4 * clsAddr p a + clsRows a ≤ 4 * clsAddr p b ∨ 4 * clsAddr p b + clsRows b ≤ 4 * clsAddr p a := by
  decide

theorem gain_row (p : Fin 2) (L : Lefts Ideal) (v : Tiles Ideal) (q : Fin 2) (C : Fin 256) (a b : Fin 6) (r : Fin (clsRows a)) :
    gain p L v q (rowOf p a r) C b = if b = a then prod (L a) (v q) r C else 0 := by
  have hr := r.isLt
  have hv : (rowOf p a r).val = 4 * clsAddr p a + r.val := rfl
  unfold gain
  by_cases h : b = a
  · subst h
    rw [if_pos rfl, dif_pos ⟨by omega, by omega⟩]
    congr 1
    exact Fin.ext (by show (rowOf p b r).val - 4 * clsAddr p b = r.val; omega)
  · rw [if_neg h, dif_neg]
    have := cls_disj p b a h
    omega

theorem gains_row (p : Fin 2) (L : Lefts Ideal) (v : Tiles Ideal) (q : Fin 2) (C : Fin 256) (a : Fin 6) (r : Fin (clsRows a)) (cs : List (Fin 6)) (hn : cs.Nodup) :
    (cs.map (gain p L v q (rowOf p a r) C)).sum = if a ∈ cs then prod (L a) (v q) r C else 0 := by
  induction cs with
  | nil => simp
  | cons c cs ih =>
    obtain ⟨h1, h2⟩ := List.nodup_cons.1 hn
    rw [List.map_cons, List.sum_cons, ih h2, gain_row]
    by_cases h : c = a
    · subst h; rw [if_pos rfl, if_neg h1, add_zero, if_pos (List.mem_cons_self ..)]
    · rw [if_neg h, zero_add]
      refine if_congr ?_ rfl rfl
      rw [List.mem_cons]
      exact ⟨Or.inr, fun e => e.resolve_left fun e => h e.symm⟩

theorem cls_nodup : ∀ t : ℕ, (0 :: clsOf t).Nodup := by
  intro t
  match t with
  | 0 => decide
  | 1 => decide
  | 2 => decide
  | 3 => decide
  | 4 => decide
  | 5 => decide
  | 6 => decide
  | 7 => decide
  | n + 8 => show (0 :: [1, 3] : List (Fin 6)).Nodup; decide

/-- A chunk's sum at a row: the products of the steps whose tap reaches the row's class. -/
noncomputable def chunkSum (R : ℕ → Tiles Ideal) (L : ℕ → Lefts Ideal) (q : Fin 2) (ci : Fin 6) (r : Fin (clsRows ci)) (C : Fin 256) (m : ℕ) : EReal :=
  ∑ j ∈ Finset.range m, if ci ∈ (0 :: clsOf (j / 4)) then prod (L j ci) (R j q) r C else 0

theorem gains_out (p : Fin 2) (L : Lefts Ideal) (v : Tiles Ideal) (q : Fin 2) (X : Fin 1024) (C : Fin 256) (cs : List (Fin 6))
    (hX : ∀ ci, ¬ (4 * clsAddr p ci ≤ X.val ∧ X.val < 4 * clsAddr p ci + clsRows ci)) : (cs.map (gain p L v q X C)).sum = 0 := by
  induction cs with
  | nil => rfl
  | cons c cs ih => rw [List.map_cons, List.sum_cons, ih, add_zero, gain, dif_neg (hX c)]

section Drain

variable {F : FTy → Type} [FloatOps F]

/-- The class and the unit of pop number `k`. -/
def popCls (k : ℕ) : Fin 6 := ⟨k / 2 % 6, Nat.mod_lt _ (by decide)⟩
def popUnit (k : ℕ) : Fin 2 := ⟨k % 2, Nat.mod_lt _ (by decide)⟩

/-- The state after `k` pops of a chunk. -/
def popped (p : Fin 2) (s : Mxu F) : ℕ → Mxu F
  | 0 => s
  | k + 1 => (popped p s k).pop (popUnit k) (clsAddr p (popCls k)) (clsRows (popCls k)) (cls_fits p (popCls k))

/-- What pop number `k` reads. -/
def popVal (p : Fin 2) (s : Mxu F) (k : ℕ) : FVec F (STile (clsRows (popCls k))) .f32 :=
  (popped p s k).read (popUnit k) (clsAddr p (popCls k)) (cls_fits p (popCls k))

end Drain

theorem reg_popped (p : Fin 2) (s : Mxu Ideal) (k : ℕ) : (popped p s k).reg = s.reg := by
  induction k with
  | zero => rfl
  | succ k ih => exact ih

theorem popped_keep (p : Fin 2) (s : Mxu Ideal) (q : Fin 2) (ci : Fin 6) (r : Fin (clsRows ci)) (C : Fin 256) (k : ℕ) (hk : k ≤ 2 * ci.val + q.val) :
    ((popped p s k).acc q (rowOf p ci r) C : EReal) = s.acc q (rowOf p ci r) C := by
  induction k with
  | zero => rfl
  | succ k ih =>
    refine Eq.trans ?_ (ih (by omega))
    have hr := r.isLt
    have hv : (rowOf p ci r).val = 4 * clsAddr p ci + r.val := rfl
    refine if_neg fun h => ?_
    obtain ⟨h1, h2, h3⟩ := h
    by_cases hc : popCls k = ci
    · have e1 := congrArg Fin.val h1
      have e2 := congrArg Fin.val hc
      have := ci.isLt
      simp only [popUnit, popCls] at e1 e2
      omega
    · have := cls_disj p _ _ hc
      omega

/-- What a chunk's pops read is what its rows held. -/
theorem popVal_at (p : Fin 2) (s : Mxu Ideal) (k : ℕ) (hk : k < 12) (r : Fin (clsRows (popCls k))) (C : Fin 256) :
    (popVal p s k (ValueIdx.ix2 r C) : EReal) = s.acc (popUnit k) (rowOf p (popCls k) r) C :=
  popped_keep p s (popUnit k) (popCls k) r C k (by simp only [popUnit, popCls]; omega)

theorem popped_zero (p : Fin 2) (s : Mxu Ideal) (k : ℕ) (q : Fin 2) (X : Fin 1024) (C : Fin 256)
    (h : (∃ j < k, popUnit j = q ∧ 4 * clsAddr p (popCls j) ≤ X.val ∧ X.val < 4 * clsAddr p (popCls j) + clsRows (popCls j)) ∨ (s.acc q X C : EReal) = 0) :
    ((popped p s k).acc q X C : EReal) = 0 := by
  induction k with
  | zero =>
    rcases h with ⟨j, hj, _⟩ | h
    · omega
    · exact h
  | succ k ih =>
    show (if _ then _ else _ : EReal) = 0
    split
    · exact Ideal.ofBits_zero_f32
    · next hn =>
      refine ih ?_
      rcases h with ⟨j, hj, h1, h2⟩ | h
      · left
        refine ⟨j, ?_, h1, h2⟩
        rcases Nat.lt_succ_iff_lt_or_eq.1 hj with h | h
        · exact h
        · subst h; exact absurd ⟨h1.symm, h2⟩ hn
      · exact Or.inr h

variable {p : Fin 2} {s : Mxu Ideal} {R : ℕ → Tiles Ideal} {L : ℕ → Lefts Ideal}

/-- After a chunk's steps: each row of each class. -/
theorem steps_row (hs : Fresh s (R 0)) (m : ℕ) (q : Fin 2) (ci : Fin 6) (r : Fin (clsRows ci)) (C : Fin 256) :
    ((steps p s R L m).acc q (rowOf p ci r) C : EReal) = chunkSum R L q ci r C m := by
  rw [(steps_spec p hs.1 m).2, hs.2, zero_add]
  exact Finset.sum_congr rfl fun j _ => gains_row p (L j) (R j) q C ci r _ (cls_nodup _)

/-- The last chunk's last step has no push before it. -/
theorem last_row (hs : Fresh s (R 0)) (q : Fin 2) (ci : Fin 6) (r : Fin (clsRows ci)) (C : Fin 256) :
    ((step p (steps p s R L 35) (turn 35) (L 35) (clsOf 8)).acc q (rowOf p ci r) C : EReal) = chunkSum R L q ci r C 36 := by
  have b := (steps_spec (L := L) p hs.1 35).1
  refine ((step_spec p (L 35) (clsOf 8) b.1).2.2 q (rowOf p ci r) C).trans ?_
  rw [steps_row hs, gains_row p (L 35) (R 35) q C ci r _ (cls_nodup _)]
  exact (Finset.sum_range_succ (fun j => if ci ∈ (0 :: clsOf (j / 4)) then prod (L j ci) (R j q) r C else 0) 35).symm

/-- The next chunk begins fresh. -/
theorem steps_next (hs : Fresh s (R 0)) : Fresh (popped p (steps p s R L 36) 12) (R 36) := by
  have b := steps_spec (L := L) p hs.1 36
  refine ⟨⟨fun q => ?_, fun q => ?_⟩, fun q X C => popped_zero p _ 12 q X C ?_⟩
  · rw [reg_popped]; exact b.1.1 q
  · rw [reg_popped]; exact b.1.2 q
  · by_cases hX : ∃ ci, 4 * clsAddr p ci ≤ X.val ∧ X.val < 4 * clsAddr p ci + clsRows ci
    · obtain ⟨ci, h⟩ := hX
      have := ci.isLt; have := q.isLt
      have e : popCls (2 * ci.val + q.val) = ci := Fin.ext (by simp only [popCls]; omega)
      refine Or.inl ⟨2 * ci.val + q.val, by omega, Fin.ext (by simp only [popUnit]; omega), ?_⟩
      rw [e]; exact h
    · right
      rw [b.2, hs.2, zero_add]
      exact Finset.sum_eq_zero fun j _ => gains_out p _ _ q X C _ fun ci h => hX ⟨ci, h⟩

end Ideal

end Cert.SpatialIdeal.Hand
-- ==== Proof.JSums.lean ====
module

public import proofs.«01_k».proof.Proof.JRun
public import proofs.«01_k».proof.Proof.JChain
public import Idealize.ShloMosaic.Lib.Pointwise

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Mxu
open scoped BigOperators

variable {F : FTy → Type} [FloatOps F]

/-- A ring slot's weights of one tap, as the copies see them. -/
abbrev slotM (s : Fin 4) (t : Fin 9) : Memref sig .tc .vmem S512x1024 .fp8e4m3 :=
  ((Memref.whole cc0_scratch1).slice (rW s t) (fun _ => rfl)).squeeze S512x1024 squeezes_S1x1x512x1024_S512x1024

theorem inb_src (n : Fin 7) (t : Fin 9) : ∀ a, (![t.val, 512 * n.val, 0] : Fin 3 → ℕ) a + S1x512x1024.size a ≤ S9x3686x1024.size a := by
  intro a
  have := n.isLt; have := t.isLt
  match a with
  | 0 => show t.val + 1 ≤ 9; omega
  | 1 => show 512 * n.val + 512 ≤ 3686; omega
  | 2 => show 0 + 1024 ≤ 1024; omega

/-- The weights of one tap and one column chunk, where they are copied from. -/
abbrev srcM (n : Fin 7) (t : Fin 9) : Memref sig .tc .hbm S512x1024 .fp8e4m3 :=
  ((Memref.whole main_v1).slice (Rect.unit (s := S9x3686x1024) ![t.val, 512 * n.val, 0] S1x512x1024.size (inb_src n t)) (fun _ => rfl)).squeeze S512x1024 squeezes_S1x512x1024_S512x1024

variable (c : Dev nD) (f1 : Buf (Elt F) ((Memref.whole main_arg0).view.loc (c : Thread nD τ)))
  (f3 : Buf (Elt F) ((Memref.whole main_v1).view.loc (c : Thread nD τ)))
  (g1 : Buf (Elt F) ((Memref.whole cc0_scratch0).view.loc (c : Thread nD τ)))
  (g2 : Buf (Elt F) ((Memref.whole cc0_scratch1).view.loc (c : Thread nD τ)))

/-- What one copy of the weights carries. -/
def carried (n : Fin 7) (t : Fin 9) : S512x1024.Idx → Elt F .fp8e4m3 := ReadAs.same.apply (View.read (Elt F) (srcM n t).view f3)

/-- The ring slot of a chunk. -/
def slotOf (n : Fin 7) : Fin 4 := ⟨n.val % 4, Nat.mod_lt _ (by decide)⟩

/-- The ring with the first four chunks' copies landed, for one tap. -/
def ring0 (n : Fin 7) (t : Fin 9) : S4x9x512x1024.Idx → Elt F .fp8e4m3 :=
  View.write (Elt F) (slotM (slotOf n) t).view g2 (carried c f3 ⟨n.val % 4, by omega⟩ t) Finset.univ

/-- The ring as a chunk's products find it, for one tap. -/
def ring (n : Fin 7) (t : Fin 9) : S4x9x512x1024.Idx → Elt F .fp8e4m3 :=
  if n.val < 4 then ring0 c f3 g2 n t
  else View.write (Elt F) (slotM (slotOf n) t).view (ring0 c f3 g2 n t) (carried c f3 n t) Finset.univ

theorem inb_tile (s : Fin 4) (t : Fin 9) (q : Fin 2) (kd : Fin 4) :
    ∀ a, (![s.val, t.val, 256 * q.val, 256 * kd.val] : Fin 4 → ℕ) a + S1x1x256x256.size a ≤ S4x9x512x1024.size a := by
  intro a
  have := s.isLt; have := t.isLt; have := q.isLt; have := kd.isLt
  match a with
  | 0 => show s.val + 1 ≤ 4; omega
  | 1 => show t.val + 1 ≤ 9; omega
  | 2 => show 256 * q.val + 256 ≤ 512; omega
  | 3 => show 256 * kd.val + 256 ≤ 1024; omega

/-- The right-hand tile of a chunk, a tap and a quarter of the channels. -/
def tileOf (n : Fin 7) (t : Fin 9) (kd : Fin 4) : Tiles F := fun q =>
  extf .bf16 (shapeCast S256x256 (View.readAt (Elt F) wB.view
    (Rect.unit (s := S4x9x512x1024) ![(slotOf n).val, t.val, 256 * q.val, 256 * kd.val] S1x1x256x256.size (inb_tile (slotOf n) t q kd)).toLoadRect
    (ring c f3 g2 n t)) shapeCasts_S1x1x256x256_S256x256) bitsLt_fp8e4m3_bf16

/-- The tap and the quarter of step `j`. -/
def tapOf (j : ℕ) : Fin 9 := ⟨j / 4 % 9, Nat.mod_lt _ (by decide)⟩
def kdOf (j : ℕ) : Fin 4 := ⟨j % 4, Nat.mod_lt _ (by decide)⟩

/-- The tiles of a chunk's steps; after them, those of the next chunk. -/
def tiles (n j : ℕ) : Tiles F := tileOf c f3 g2 ⟨(n + j / 36) % 7, Nat.mod_lt _ (by decide)⟩ (tapOf j) (kdOf j)

/-- The first row of each class. -/
def clsRow0 : Fin 6 → ℕ
  | 0 => 0 | 1 => 96 | 2 => 128 | 3 => 160 | 4 => 192 | 5 => 224

theorem cls_rows : ∀ ci : Fin 6, clsRow0 ci + clsRows ci ≤ 240 := by decide

/-- The patches as the copy left them. -/
def patches : S9x240x1024.Idx → Elt F .bf16 :=
  View.write (Elt F) (Memref.whole cc0_scratch0).view g1 (ReadAs.same.apply (View.read (Elt F) (Memref.whole main_arg0).view f1)) Finset.univ

theorem inb_left (t : Fin 9) (ci : Fin 6) (kd : Fin 4) :
    ∀ a, (![t.val, clsRow0 ci, 256 * kd.val] : Fin 3 → ℕ) a + (⟨3, ![1, clsRows ci, 256]⟩ : Shape).size a ≤ S9x240x1024.size a := by
  intro a
  have := t.isLt; have := kd.isLt; have := cls_rows ci
  match a with
  | 0 => show t.val + 1 ≤ 9; omega
  | 1 => show clsRow0 ci + clsRows ci ≤ 240; omega
  | 2 => show 256 * kd.val + 256 ≤ 1024; omega

theorem casts_left (M : ℕ) : (⟨3, ![1, M, 256]⟩ : Shape).ShapeCasts (STile M) := by
  intros; simp [Shape.ShapeCasts, Shape.numel, Fin.prod_univ_succ]

/-- The left operand of step `j` for each class. -/
def lefts (j : ℕ) : Lefts F := fun ci =>
  shapeCast (STile (clsRows ci)) (View.readAt (Elt F) (Memref.whole cc0_scratch0).view
    (Rect.unit (s := S9x240x1024) ![(tapOf j).val, clsRow0 ci, 256 * (kdOf j).val] (⟨3, ![1, clsRows ci, 256]⟩ : Shape).size (inb_left (tapOf j) ci (kdOf j))).toLoadRect
    (patches c f1 g1)) (casts_left (clsRows ci))

end Cert.SpatialIdeal.Hand
-- ==== Proof.JStores.lean ====
module

public import proofs.«01_k».proof.Proof.JSums

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Mxu
open scoped BigOperators

section Stores

variable {F : FTy → Type} [FloatOps F]

theorem bcast_cls : ∀ ci : Fin 6, S1x256.Broadcasts (STile (clsRows ci))
  | 0 => broadcasts_S1x256_S96x256
  | 1 | 2 | 3 | 4 => broadcasts_S1x256_S32x256
  | 5 => broadcasts_S1x256_S16x256

theorem same_cls : ∀ ci : Fin 6, (STile (clsRows ci)).ShapeCasts (STile (clsRows ci))
  | 0 => shapeCasts_S96x256_S96x256
  | 1 | 2 | 3 | 4 => shapeCasts_S32x256_S32x256
  | 5 => shapeCasts_S16x256_S16x256

/-- A class's rows of a column half, finished: scaled, the bias added, cut at zero. -/
def fin (ci : Fin 6) (x : Elt F .f32) (P : FVec F (STile (clsRows ci)) .f32) (ws bb : Vec F S256 .f32) : FVec F (STile (clsRows ci)) .f32 :=
  shapeCast (STile (clsRows ci)) (maximumf (addf (mulf P (broadcastTo (STile (clsRows ci)) (shapeCast S1x256 (mulf (broadcast S256 x) ws) shapeCasts_S256_S1x256) (bcast_cls ci)))
    (broadcastTo (STile (clsRows ci)) (shapeCast S1x256 bb shapeCasts_S256_S1x256) (bcast_cls ci))) (broadcast (STile (clsRows ci)) (Scalar.ofBits .f32 0x00000000#32))) (same_cls ci)

variable (c : Dev nD) (f1 : Buf (Elt F) ((Memref.whole main_arg0).view.loc (c : Thread nD τ)))
  (fx : Buf (Elt F) ((Memref.whole cc0_stg0_0).view.loc (c : Thread nD τ)))
  (f3 : Buf (Elt F) ((Memref.whole main_v1).view.loc (c : Thread nD τ)))
  (f4 : Buf (Elt F) ((Memref.whole main_arg3).view.loc (c : Thread nD τ))) (f5 : Buf (Elt F) ((Memref.whole main_arg4).view.loc (c : Thread nD τ)))
  (g1 : Buf (Elt F) ((Memref.whole cc0_scratch0).view.loc (c : Thread nD τ)))
  (g2 : Buf (Elt F) ((Memref.whole cc0_scratch1).view.loc (c : Thread nD τ)))
  (g4 : Buf (Elt F) ((Memref.whole cc0_scratch3).view.loc (c : Thread nD τ))) (g5 : Buf (Elt F) ((Memref.whole cc0_scratch4).view.loc (c : Thread nD τ)))

theorem inb_cols (n : Fin 7) (q : Fin 2) : ∀ a, (![512 * n.val + 256 * q.val] : Fin 1 → ℕ) a + S256.size a ≤ S3686.size a := by
  intro a; have := n.isLt; have := q.isLt
  match a with
  | 0 => show 512 * n.val + 256 * q.val + 256 ≤ 3686; omega

/-- The column scales and the bias of a column half. -/
def colScale (n : Fin 7) (q : Fin 2) : Vec F S256 .f32 :=
  View.readAt (Elt F) (Memref.whole cc0_scratch3).view (Rect.unit (s := S3686) ![512 * n.val + 256 * q.val] S256.size (inb_cols n q)).toLoadRect
    (View.write (Elt F) (Memref.whole cc0_scratch3).view g4 (run.sl.dma0_10 c f4) Finset.univ)
def colBias (n : Fin 7) (q : Fin 2) : Vec F S256 .f32 :=
  View.readAt (Elt F) (Memref.whole cc0_scratch4).view (Rect.unit (s := S3686) ![512 * n.val + 256 * q.val] S256.size (inb_cols n q)).toLoadRect
    (View.write (Elt F) (Memref.whole cc0_scratch4).view g5 (run.sl.dma0_11 c f5) Finset.univ)

theorem inb_cell (n : Fin 7) (ci : Fin 6) (q : Fin 2) : ∀ a, (![clsRow0 ci, 512 * n.val + 256 * q.val] : Fin 2 → ℕ) a + (STile (clsRows ci)).size a ≤ S240x3584.size a := by
  intro a; have := n.isLt; have := q.isLt; have := cls_rows ci
  match a with
  | 0 => show clsRow0 ci + clsRows ci ≤ 240; omega
  | 1 => show 512 * n.val + 256 * q.val + 256 ≤ 3584; omega

abbrev cell (n : Fin 7) (ci : Fin 6) (q : Fin 2) : Rect S240x3584 :=
  Rect.unit (s := S240x3584) ![clsRow0 ci, 512 * n.val + 256 * q.val] (STile (clsRows ci)).size (inb_cell n ci q)

abbrev YL (F : FTy → Type) [FloatOps F] := List (View.Piece (Elt F) S240x3584 .f32)

/-- Store `k` of a chunk whose products end in `s`. -/
def piece (n : Fin 7) (p : Fin 2) (s : Mxu F) (k : ℕ) : View.Piece (Elt F) S240x3584 .f32 :=
  ⟨cell n (popCls k) (popUnit k), fin (popCls k) (run.sl.r c fx) (popVal p s k) (colScale c f4 g4 n (popUnit k)) (colBias c f5 g5 n (popUnit k))⟩

/-- The first `k` stores of a chunk after the stores `L`. -/
def stores (n : Fin 7) (p : Fin 2) (s : Mxu F) (L : YL F) : ℕ → YL F
  | 0 => L
  | k + 1 => piece c fx f4 f5 g4 g5 n p s k :: stores n p s L k

set_option maxHeartbeats 0 in
theorem stores0 : run.sl.G3_12 c f1 fx f3 f4 f5 g1 g2 g4 g5 = stores c fx f4 f5 g4 g5 0 0 (run.sl.r_320 c f1 f3 g1 g2) [] 12 := rfl

set_option maxHeartbeats 0 in
theorem stores1 : run.sl.G3_24 c f1 fx f3 f4 f5 g1 g2 g4 g5 = stores c fx f4 f5 g4 g5 1 1 (run.sl.r_648 c f1 f3 g1 g2) (run.sl.G3_12 c f1 fx f3 f4 f5 g1 g2 g4 g5) 12 := rfl

set_option maxHeartbeats 0 in
theorem stores2 : run.sl.G3_36 c f1 fx f3 f4 f5 g1 g2 g4 g5 = stores c fx f4 f5 g4 g5 2 0 (run.sl.r_975 c f1 f3 g1 g2) (run.sl.G3_24 c f1 fx f3 f4 f5 g1 g2 g4 g5) 12 := rfl

set_option maxHeartbeats 0 in
theorem stores3 : run.sl.G3_48 c f1 fx f3 f4 f5 g1 g2 g4 g5 = stores c fx f4 f5 g4 g5 3 1 (run.sl.r_1297 c f1 f3 g1 g2) (run.sl.G3_36 c f1 fx f3 f4 f5 g1 g2 g4 g5) 12 := rfl

set_option maxHeartbeats 0 in
theorem stores4 : run.sl.G3_60 c f1 fx f3 f4 f5 g1 g2 g4 g5 = stores c fx f4 f5 g4 g5 4 0 (run.sl.r_1623 c f1 f3 g1 g2) (run.sl.G3_48 c f1 fx f3 f4 f5 g1 g2 g4 g5) 12 := rfl

set_option maxHeartbeats 0 in
theorem stores5 : run.sl.G3_72 c f1 fx f3 f4 f5 g1 g2 g4 g5 = stores c fx f4 f5 g4 g5 5 1 (run.sl.r_1947 c f1 f3 g1 g2) (run.sl.G3_60 c f1 fx f3 f4 f5 g1 g2 g4 g5) 12 := rfl

set_option maxHeartbeats 0 in
theorem stores6 : run.sl.G3_84 c f1 fx f3 f4 f5 g1 g2 g4 g5 = stores c fx f4 f5 g4 g5 6 0 (run.sl.r_2267 c f1 f3 g1 g2) (run.sl.G3_72 c f1 fx f3 f4 f5 g1 g2 g4 g5) 12 := rfl

end Stores
end Cert.SpatialIdeal.Hand
end
-- ==== Proof.JElem.lean ====
module

public import proofs.«01_k».proof.Proof.JStores
public import Idealize.ShloMosaic.Lib.Pointwise

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Mxu
open scoped BigOperators

variable (c : Dev nD) (f1 : Buf (Elt Ideal) ((Memref.whole main_arg0).view.loc (c : Thread nD τ)))
  (fx : Buf (Elt Ideal) ((Memref.whole cc0_stg0_0).view.loc (c : Thread nD τ)))
  (f3 : Buf (Elt Ideal) ((Memref.whole main_v1).view.loc (c : Thread nD τ)))
  (f4 : Buf (Elt Ideal) ((Memref.whole main_arg3).view.loc (c : Thread nD τ))) (f5 : Buf (Elt Ideal) ((Memref.whole main_arg4).view.loc (c : Thread nD τ)))
  (g1 : Buf (Elt Ideal) ((Memref.whole cc0_scratch0).view.loc (c : Thread nD τ)))
  (g2 : Buf (Elt Ideal) ((Memref.whole cc0_scratch1).view.loc (c : Thread nD τ)))
  (g4 : Buf (Elt Ideal) ((Memref.whole cc0_scratch3).view.loc (c : Thread nD τ))) (g5 : Buf (Elt Ideal) ((Memref.whole cc0_scratch4).view.loc (c : Thread nD τ)))

theorem patches_at : (patches c f1 g1 : S9x240x1024.Idx → EReal) = f1 :=
  View.read_write_univ (Val := Elt Ideal) (v := (Memref.whole cc0_scratch0).view) g1 (ReadAs.same.apply (View.read (Elt Ideal) (Memref.whole main_arg0).view f1))

theorem lefts_at (j : ℕ) (ci : Fin 6) (r : Fin (clsRows ci)) (u : Fin 256) :
    (lefts c f1 g1 j ci (ValueIdx.ix2 r u) : EReal)
      = (f1 : S9x240x1024.Idx → EReal) (ValueIdx.ix3 (tapOf j) (⟨clsRow0 ci + r.val, by have := cls_rows ci; omega⟩ : Fin 240) (⟨256 * (kdOf j).val + u.val, by have := (kdOf j).isLt; omega⟩ : Fin 1024)) := by
  unfold lefts
  rw [patches_at]
  refine (shapeCast_apply _ _ _ (ValueIdx.ix3 (0 : Fin 1) r u) ?_).trans ?_
  · show _ = (Shape.rowMajor (s := ⟨2, ![clsRows ci, 256]⟩) _).val
    rw [Shape.rowMajor_val_two]
    show (Shape.rowMajor (s := ⟨3, ![1, clsRows ci, 256]⟩) _).val = _
    rw [Shape.rowMajor_val_three]
    show (0 * clsRows ci + r.val) * 256 + u.val = r.val * 256 + u.val
    rw [Nat.zero_mul, Nat.zero_add]
  · refine congrArg (f1 : S9x240x1024.Idx → EReal) (funext fun a => Fin.ext ?_)
    match a with
    | 0 => exact (show (tapOf j).val + 1 * 0 = (tapOf j).val by omega)
    | 1 => exact (show clsRow0 ci + 1 * r.val = clsRow0 ci + r.val by omega)
    | 2 => exact (show 256 * (kdOf j).val + 1 * u.val = 256 * (kdOf j).val + u.val by omega)

theorem reshape_ix2 {a b : ℕ} (h : (⟨2, ![a, b]⟩ : Shape).numel = (⟨4, ![1, 1, a, b]⟩ : Shape).numel)
    (x : Fin a) (y : Fin b) : Shape.reshapeEquiv h (ValueIdx.ix2 x y) = ValueIdx.ix4 (0 : Fin 1) (0 : Fin 1) x y :=
  Shape.reshapeEquiv_eq_of_rowMajor h (by
    rw [Shape.rowMajor_val_four, Shape.rowMajor_val_two]
    show ((0 * 1 + 0) * a + x.val) * b + y.val = x.val * b + y.val
    simp only [Nat.zero_mul, Nat.zero_add])

theorem reshape_ix2' {a b : ℕ} (h : (⟨2, ![a, b]⟩ : Shape).numel = (⟨3, ![1, a, b]⟩ : Shape).numel)
    (x : Fin a) (y : Fin b) : Shape.reshapeEquiv h (ValueIdx.ix2 x y) = ValueIdx.ix3 (0 : Fin 1) x y :=
  Shape.reshapeEquiv_eq_of_rowMajor h (by
    rw [Shape.rowMajor_val_three, Shape.rowMajor_val_two]
    show (0 * a + x.val) * b + y.val = x.val * b + y.val
    simp only [Nat.zero_mul, Nat.zero_add])

theorem carried_at (n : Fin 7) (t : Fin 9) (x : Fin 512) (y : Fin 1024) :
    (carried c f3 n t (ValueIdx.ix2 x y) : EReal) = (f3 : S9x3686x1024.Idx → EReal) (ValueIdx.ix3 t (⟨512 * n.val + x.val, by omega⟩ : Fin 3686) y) := by
  show (f3 : S9x3686x1024.Idx → EReal) ((Rect.unit (s := S9x3686x1024) ![t.val, 512 * n.val, 0] S1x512x1024.size (inb_src n t)).emb (Shape.reshapeEquiv _ _)) = _
  rw [reshape_ix2']
  refine congrArg (f3 : S9x3686x1024.Idx → EReal) (funext fun a => Fin.ext ?_)
  match a with
  | 0 => exact (show t.val + 1 * 0 = t.val by omega)
  | 1 => exact (show 512 * n.val + 1 * x.val = 512 * n.val + x.val by omega)
  | 2 => exact (show 0 + 1 * y.val = y.val by omega)

theorem slot_read (s : Fin 4) (t : Fin 9) (f : S4x9x512x1024.Idx → EReal) (x : Fin 512) (y : Fin 1024) :
    (View.read (Elt Ideal) (slotM s t).view f (ValueIdx.ix2 x y) : EReal) = f (ValueIdx.ix4 s t x y) := by
  show f ((rW s t).emb (Shape.reshapeEquiv _ _)) = _
  rw [reshape_ix2]
  refine congrArg f (funext fun a => Fin.ext ?_)
  match a with
  | 0 => exact (show s.val + 1 * 0 = s.val by omega)
  | 1 => exact (show t.val + 1 * 0 = t.val by omega)
  | 2 => exact (show 0 + 1 * x.val = x.val by omega)
  | 3 => exact (show 0 + 1 * y.val = y.val by omega)

theorem ring_at (n : Fin 7) (t : Fin 9) (x : Fin 512) (y : Fin 1024) :
    ((ring c f3 g2 n t : S4x9x512x1024.Idx → EReal) (ValueIdx.ix4 (slotOf n) t x y) : EReal) = carried c f3 n t (ValueIdx.ix2 x y) := by
  refine (slot_read (slotOf n) t (ring c f3 g2 n t) x y).symm.trans ?_
  unfold ring
  by_cases h : n.val < 4
  · rw [if_pos h]
    unfold ring0
    refine (congrFun (View.read_write_univ (Val := Elt Ideal) (v := (slotM (slotOf n) t).view) _ _) _).trans ?_
    rw [show (⟨n.val % 4, by omega⟩ : Fin 7) = n from Fin.ext (Nat.mod_eq_of_lt h)]
  · rw [if_neg h]
    exact congrFun (View.read_write_univ (Val := Elt Ideal) (v := (slotM (slotOf n) t).view) _ _) _

theorem widened_at (W : Vec Ideal S1x1x256x256 .fp8e4m3) (C u : Fin 256) :
    (extf (F := Ideal) .bf16 (shapeCast S256x256 W shapeCasts_S1x1x256x256_S256x256) bitsLt_fp8e4m3_bf16 (ValueIdx.ix2 C u) : EReal) = W (ValueIdx.ix4 (0 : Fin 1) (0 : Fin 1) C u) :=
  (rfl : _ = (shapeCast S256x256 W shapeCasts_S1x1x256x256_S256x256 (ValueIdx.ix2 C u) : EReal)).trans
    (shapeCast_apply _ _ _ (ValueIdx.ix4 (0 : Fin 1) (0 : Fin 1) C u) (by
      show (Shape.rowMajor (s := ⟨4, ![1, 1, 256, 256]⟩) _).val = (Shape.rowMajor (s := ⟨2, ![256, 256]⟩) _).val
      rw [Shape.rowMajor_val_four, Shape.rowMajor_val_two]
      show ((0 * 1 + 0) * 256 + C.val) * 256 + u.val = C.val * 256 + u.val
      omega))

theorem tileOf_at (n : Fin 7) (t : Fin 9) (kd : Fin 4) (q : Fin 2) (C u : Fin 256) :
    (tileOf c f3 g2 n t kd q (ValueIdx.ix2 C u) : EReal)
      = (f3 : S9x3686x1024.Idx → EReal) (ValueIdx.ix3 t (⟨512 * n.val + (256 * q.val + C.val), by omega⟩ : Fin 3686) (⟨256 * kd.val + u.val, by omega⟩ : Fin 1024)) := by
  unfold tileOf
  refine Eq.trans ?_ ((ring_at c f3 g2 n t (⟨256 * q.val + C.val, by omega⟩ : Fin 512) (⟨256 * kd.val + u.val, by omega⟩ : Fin 1024)).trans (carried_at c f3 n t _ _))
  refine (widened_at _ C u).trans ?_
  · refine congrArg (ring c f3 g2 n t : S4x9x512x1024.Idx → EReal) (funext fun a => Fin.ext ?_)
    match a with
    | 0 => exact (show (slotOf n).val + 1 * 0 = (slotOf n).val by omega)
    | 1 => exact (show t.val + 1 * 0 = t.val by omega)
    | 2 => exact (show 256 * q.val + 1 * C.val = 256 * q.val + C.val by omega)
    | 3 => exact (show 256 * kd.val + 1 * u.val = 256 * kd.val + u.val by omega)

/-- A step's product at a row and a column, over the patches and the weights. -/
def stepOf (f1 : S9x240x1024.Idx → EReal) (f3 : S9x3686x1024.Idx → EReal) (R : Fin 240) (col : Fin 3686) (j : ℕ) : EReal :=
  ∑ u : Fin 256, f1 (ValueIdx.ix3 (tapOf j) R (⟨256 * (kdOf j).val + u.val, by have := (kdOf j).isLt; omega⟩ : Fin 1024))
    * f3 (ValueIdx.ix3 (tapOf j) col (⟨256 * (kdOf j).val + u.val, by have := (kdOf j).isLt; omega⟩ : Fin 1024))

/-- All steps' products that reach the row's class. -/
def accOf (f1 : S9x240x1024.Idx → EReal) (f3 : S9x3686x1024.Idx → EReal) (ci : Fin 6) (R : Fin 240) (col : Fin 3686) : EReal :=
  ∑ j ∈ Finset.range 36, if ci ∈ (0 :: clsOf (j / 4)) then stepOf f1 f3 R col j else 0

theorem chunk_acc (n : Fin 7) (q : Fin 2) (ci : Fin 6) (r : Fin (clsRows ci)) (C : Fin 256) :
    chunkSum (tiles c f3 g2 n.val) (lefts c f1 g1) q ci r C 36
      = accOf f1 f3 ci (⟨clsRow0 ci + r.val, by have := cls_rows ci; omega⟩ : Fin 240) (⟨512 * n.val + (256 * q.val + C.val), by omega⟩ : Fin 3686) := by
  unfold chunkSum accOf
  refine Finset.sum_congr rfl fun j hj => ?_
  refine if_congr Iff.rfl ?_ rfl
  unfold prod stepOf
  refine Finset.sum_congr rfl fun u _ => congrArg₂ (· * ·) (lefts_at c f1 g1 j ci r u) ?_
  have hn : (⟨(n.val + j / 36) % 7, Nat.mod_lt _ (by decide)⟩ : Fin 7) = n := Fin.ext (by
    have := Finset.mem_range.1 hj
    show (n.val + j / 36) % 7 = n.val
    omega)
  unfold tiles
  rw [hn]
  exact tileOf_at c f3 g2 n (tapOf j) (kdOf j) q C u

theorem fin_at (ci : Fin 6) (x : EReal) (P : FVec Ideal (STile (clsRows ci)) .f32) (ws bb : Vec Ideal S256 .f32) (r : Fin (clsRows ci)) (C : Fin 256) :
    (fin (F := Ideal) ci x P ws bb (ValueIdx.ix2 r C) : EReal)
      = max ((P (ValueIdx.ix2 r C) : EReal) * (x * ws (ValueIdx.ix1 C)) + bb (ValueIdx.ix1 C)) 0 := by
  have key : ∀ (M : ℕ) (hb : S1x256.Broadcasts (STile M)) (v : S1x256.Idx → EReal) (r : Fin M), broadcastTo (STile M) v hb (ValueIdx.ix2 r C) = v (ValueIdx.ix2 (0 : Fin 1) C) := by
    intro M hb v r
    unfold broadcastTo
    refine congrArg v (funext fun a => Fin.ext ?_)
    fin_cases a <;> simp [ValueIdx.ix2]
  have one : ∀ (v : S256.Idx → EReal), shapeCast S1x256 v shapeCasts_S256_S1x256 (ValueIdx.ix2 (0 : Fin 1) C) = v (ValueIdx.ix1 C) := fun v =>
    shapeCast_apply _ _ _ (ValueIdx.ix1 C) (by
      show (Shape.rowMajor (s := ⟨1, ![256]⟩) _).val = (Shape.rowMajor (s := ⟨2, ![1, 256]⟩) _).val
      rw [Shape.rowMajor_val_one, Shape.rowMajor_val_two]
      simp [ValueIdx.ix1, ValueIdx.ix2])
  unfold fin
  refine (shapeCast_apply _ _ _ (ValueIdx.ix2 r C) rfl).trans ?_
  show max ((P (ValueIdx.ix2 r C) : EReal) * broadcastTo (STile (clsRows ci)) _ (bcast_cls ci) (ValueIdx.ix2 r C) + broadcastTo (STile (clsRows ci)) _ (bcast_cls ci) (ValueIdx.ix2 r C)) (Scalar.ofBits (F := Ideal) .f32 0x00000000#32 : EReal) = _
  rw [key, key, one, one, show (Scalar.ofBits (F := Ideal) .f32 0x00000000#32 : EReal) = 0 from Ideal.ofBits_zero_f32]
  rfl

theorem colScale_at (n : Fin 7) (q : Fin 2) (C : Fin 256) :
    (colScale c f4 g4 n q (ValueIdx.ix1 C) : EReal) = (f4 : S3686.Idx → EReal) (ValueIdx.ix1 (⟨512 * n.val + (256 * q.val + C.val), by omega⟩ : Fin 3686)) := by
  unfold colScale
  rw [show View.write (Elt Ideal) (Memref.whole cc0_scratch3).view g4 (run.sl.dma0_10 c f4) Finset.univ = f4 from
    View.read_write_univ (Val := Elt Ideal) (v := (Memref.whole cc0_scratch3).view) g4 (run.sl.dma0_10 c f4)]
  refine congrArg (f4 : S3686.Idx → EReal) (funext fun a => Fin.ext ?_)
  match a with
  | 0 => exact (show 512 * n.val + 256 * q.val + 1 * C.val = 512 * n.val + (256 * q.val + C.val) by omega)

theorem colBias_at (n : Fin 7) (q : Fin 2) (C : Fin 256) :
    (colBias c f5 g5 n q (ValueIdx.ix1 C) : EReal) = (f5 : S3686.Idx → EReal) (ValueIdx.ix1 (⟨512 * n.val + (256 * q.val + C.val), by omega⟩ : Fin 3686)) := by
  unfold colBias
  rw [show View.write (Elt Ideal) (Memref.whole cc0_scratch4).view g5 (run.sl.dma0_11 c f5) Finset.univ = f5 from
    View.read_write_univ (Val := Elt Ideal) (v := (Memref.whole cc0_scratch4).view) g5 (run.sl.dma0_11 c f5)]
  refine congrArg (f5 : S3686.Idx → EReal) (funext fun a => Fin.ext ?_)
  match a with
  | 0 => exact (show 512 * n.val + 256 * q.val + 1 * C.val = 512 * n.val + (256 * q.val + C.val) by omega)

/-- The class of a row. -/
def clsAt (R : Fin 240) : Fin 6 :=
  if R.val < 96 then 0 else if R.val < 128 then 1 else if R.val < 160 then 2 else if R.val < 192 then 3 else if R.val < 224 then 4 else 5

theorem cls_in (R : Fin 240) : clsRow0 (clsAt R) ≤ R.val ∧ R.val < clsRow0 (clsAt R) + clsRows (clsAt R) := by
  revert R; decide

/-- What the kernel leaves at a row and a column of its result. -/
def outVal (f1 : S9x240x1024.Idx → EReal) (x : EReal) (f3 : S9x3686x1024.Idx → EReal) (f4 f5 : S3686.Idx → EReal) (i : S240x3584.Idx) : EReal :=
  max (accOf f1 f3 (clsAt (i 0)) (i 0) (⟨(i 1).val, by have h : (i 1).val < 3584 := (i 1).isLt; omega⟩ : Fin 3686)
    * (x * f4 (ValueIdx.ix1 (⟨(i 1).val, by have h : (i 1).val < 3584 := (i 1).isLt; omega⟩ : Fin 3686))) + f5 (ValueIdx.ix1 (⟨(i 1).val, by have h : (i 1).val < 3584 := (i 1).isLt; omega⟩ : Fin 3686))) 0

end Cert.SpatialIdeal.Hand
end
-- ==== Proof.JSteps.lean ====
module

public import proofs.«01_k».proof.Proof.JSums

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Mxu

variable {F : FTy → Type} [FloatOps F]

variable (c : Dev nD) (f1 : Buf (Elt F) ((Memref.whole main_arg0).view.loc (c : Thread nD τ)))
  (f3 : Buf (Elt F) ((Memref.whole main_v1).view.loc (c : Thread nD τ)))
  (g1 : Buf (Elt F) ((Memref.whole cc0_scratch0).view.loc (c : Thread nD τ)))
  (g2 : Buf (Elt F) ((Memref.whole cc0_scratch1).view.loc (c : Thread nD τ)))

/-- A further accumulate, as the run names its states. -/
theorem again_eq (p : Fin 2) (ci : Fin 6) (L : Lefts F) (q : Fin 2) {s s' : Mxu F} (t : { s : Mxu F // Loaded s }) (h : s = t.1)
    (hq : (s.gmr q).isSome = true) (h' : s' = s.accBy q ((s.gmr q).get hq) (clsAddr p ci) (L ci) (cls_fits p ci)) :
    s' = (againOn p ci L q t).1 := by
  subst h; exact h'

/-- A step's first accumulates, after the next step's tiles were pushed. -/
theorem first_eq (p : Fin 2) (L : Lefts F) {s0 s s' s1 s2 : Mxu F} (r r' : Fin 2) (v : Tiles F) (h : s0 = s) (h0 : s1 = pushPair s0 r v)
    (h1 : s2 = s1.accLhs 0 r' (clsAddr p 0) (L 0) (cls_fits p 0)) (h2 : s' = s2.accLhs 1 r' (clsAddr p 0) (L 0) (cls_fits p 0)) :
    s' = first p (pushPair s r v) r' L := by
  subst h; subst h0; subst h1; exact h2

/-- The same with nothing pushed. -/
theorem last_eq (p : Fin 2) (L : Lefts F) {s0 s s' s2 : Mxu F} (r' : Fin 2) (h : s0 = s)
    (h1 : s2 = s0.accLhs 0 r' (clsAddr p 0) (L 0) (cls_fits p 0)) (h2 : s' = s2.accLhs 1 r' (clsAddr p 0) (L 0) (cls_fits p 0)) :
    s' = first p s r' L := by
  subst h; subst h1; exact h2

theorem start0 : run.sl.r_2 c f3 g2 = pushPair Mxu.init (turn 0) (tiles c f3 g2 0 0) := rfl

end Cert.SpatialIdeal.Hand
-- ==== Proof.JChunk0.lean ====
module

public import proofs.«01_k».proof.Proof.JSteps

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Mxu

variable {F : FTy → Type} [FloatOps F]

variable (c : Dev nD) (f1 : Buf (Elt F) ((Memref.whole main_arg0).view.loc (c : Thread nD τ)))
  (f3 : Buf (Elt F) ((Memref.whole main_v1).view.loc (c : Thread nD τ)))
  (g1 : Buf (Elt F) ((Memref.whole cc0_scratch0).view.loc (c : Thread nD τ)))
  (g2 : Buf (Elt F) ((Memref.whole cc0_scratch1).view.loc (c : Thread nD τ)))

set_option maxHeartbeats 0 in
/-- The machine's state after the steps of chunk 0. -/
theorem chain0 : run.sl.r_320 c f1 f3 g1 g2 = steps 0 (run.sl.r_2 c f3 g2) (tiles c f3 g2 0) (lefts c f1 g1) 36 := by
  iterate 4
    iterate 4 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 4 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 10 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  rfl

theorem drain0 : run.sl.k0_mxu399 c f1 f3 g1 g2 = popped 0 (run.sl.r_320 c f1 f3 g1 g2) 12 := rfl

end Cert.SpatialIdeal.Hand
-- ==== Proof.JChunk1.lean ====
module

public import proofs.«01_k».proof.Proof.JSteps

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Mxu

variable {F : FTy → Type} [FloatOps F]

variable (c : Dev nD) (f1 : Buf (Elt F) ((Memref.whole main_arg0).view.loc (c : Thread nD τ)))
  (f3 : Buf (Elt F) ((Memref.whole main_v1).view.loc (c : Thread nD τ)))
  (g1 : Buf (Elt F) ((Memref.whole cc0_scratch0).view.loc (c : Thread nD τ)))
  (g2 : Buf (Elt F) ((Memref.whole cc0_scratch1).view.loc (c : Thread nD τ)))

set_option maxHeartbeats 0 in
/-- The machine's state after the steps of chunk 1. -/
theorem chain1 : run.sl.r_648 c f1 f3 g1 g2 = steps 1 (run.sl.k0_mxu399 c f1 f3 g1 g2) (tiles c f3 g2 1) (lefts c f1 g1) 36 := by
  iterate 4
    iterate 4 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 4 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 10 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  rfl

theorem drain1 : run.sl.k0_mxu795 c f1 f3 g1 g2 = popped 1 (run.sl.r_648 c f1 f3 g1 g2) 12 := rfl

end Cert.SpatialIdeal.Hand
-- ==== Proof.JChunk2.lean ====
module

public import proofs.«01_k».proof.Proof.JSteps

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Mxu

variable {F : FTy → Type} [FloatOps F]

variable (c : Dev nD) (f1 : Buf (Elt F) ((Memref.whole main_arg0).view.loc (c : Thread nD τ)))
  (f3 : Buf (Elt F) ((Memref.whole main_v1).view.loc (c : Thread nD τ)))
  (g1 : Buf (Elt F) ((Memref.whole cc0_scratch0).view.loc (c : Thread nD τ)))
  (g2 : Buf (Elt F) ((Memref.whole cc0_scratch1).view.loc (c : Thread nD τ)))

set_option maxHeartbeats 0 in
/-- The machine's state after the steps of chunk 2. -/
theorem chain2 : run.sl.r_975 c f1 f3 g1 g2 = steps 0 (run.sl.k0_mxu795 c f1 f3 g1 g2) (tiles c f3 g2 2) (lefts c f1 g1) 36 := by
  iterate 4
    iterate 4 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 4 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 10 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  rfl

theorem drain2 : run.sl.k0_mxu1191 c f1 f3 g1 g2 = popped 0 (run.sl.r_975 c f1 f3 g1 g2) 12 := rfl

end Cert.SpatialIdeal.Hand
-- ==== Proof.JChunk3.lean ====
module

public import proofs.«01_k».proof.Proof.JSteps

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Mxu

variable {F : FTy → Type} [FloatOps F]

variable (c : Dev nD) (f1 : Buf (Elt F) ((Memref.whole main_arg0).view.loc (c : Thread nD τ)))
  (f3 : Buf (Elt F) ((Memref.whole main_v1).view.loc (c : Thread nD τ)))
  (g1 : Buf (Elt F) ((Memref.whole cc0_scratch0).view.loc (c : Thread nD τ)))
  (g2 : Buf (Elt F) ((Memref.whole cc0_scratch1).view.loc (c : Thread nD τ)))

set_option maxHeartbeats 0 in
/-- The machine's state after the steps of chunk 3. -/
theorem chain3 : run.sl.r_1297 c f1 f3 g1 g2 = steps 1 (run.sl.k0_mxu1191 c f1 f3 g1 g2) (tiles c f3 g2 3) (lefts c f1 g1) 36 := by
  iterate 4
    iterate 4 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 4 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 10 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  rfl

theorem drain3 : run.sl.k0_mxu1587 c f1 f3 g1 g2 = popped 1 (run.sl.r_1297 c f1 f3 g1 g2) 12 := rfl

end Cert.SpatialIdeal.Hand
-- ==== Proof.JChunk4.lean ====
module

public import proofs.«01_k».proof.Proof.JSteps

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Mxu

variable {F : FTy → Type} [FloatOps F]

variable (c : Dev nD) (f1 : Buf (Elt F) ((Memref.whole main_arg0).view.loc (c : Thread nD τ)))
  (f3 : Buf (Elt F) ((Memref.whole main_v1).view.loc (c : Thread nD τ)))
  (g1 : Buf (Elt F) ((Memref.whole cc0_scratch0).view.loc (c : Thread nD τ)))
  (g2 : Buf (Elt F) ((Memref.whole cc0_scratch1).view.loc (c : Thread nD τ)))

set_option maxHeartbeats 0 in
/-- The machine's state after the steps of chunk 4. -/
theorem chain4 : run.sl.r_1623 c f1 f3 g1 g2 = steps 0 (run.sl.k0_mxu1587 c f1 f3 g1 g2) (tiles c f3 g2 4) (lefts c f1 g1) 36 := by
  iterate 4
    iterate 4 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 4 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 10 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  rfl

theorem drain4 : run.sl.k0_mxu1983 c f1 f3 g1 g2 = popped 0 (run.sl.r_1623 c f1 f3 g1 g2) 12 := rfl

end Cert.SpatialIdeal.Hand
-- ==== Proof.JChunk5.lean ====
module

public import proofs.«01_k».proof.Proof.JSteps

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Mxu

variable {F : FTy → Type} [FloatOps F]

variable (c : Dev nD) (f1 : Buf (Elt F) ((Memref.whole main_arg0).view.loc (c : Thread nD τ)))
  (f3 : Buf (Elt F) ((Memref.whole main_v1).view.loc (c : Thread nD τ)))
  (g1 : Buf (Elt F) ((Memref.whole cc0_scratch0).view.loc (c : Thread nD τ)))
  (g2 : Buf (Elt F) ((Memref.whole cc0_scratch1).view.loc (c : Thread nD τ)))

set_option maxHeartbeats 0 in
/-- The machine's state after the steps of chunk 5. -/
theorem chain5 : run.sl.r_1947 c f1 f3 g1 g2 = steps 1 (run.sl.k0_mxu1983 c f1 f3 g1 g2) (tiles c f3 g2 5) (lefts c f1 g1) 36 := by
  iterate 4
    iterate 4 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 4 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 10 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  rfl

theorem drain5 : run.sl.k0_mxu2379 c f1 f3 g1 g2 = popped 1 (run.sl.r_1947 c f1 f3 g1 g2) 12 := rfl

end Cert.SpatialIdeal.Hand
-- ==== Proof.JChunk6.lean ====
module

public import proofs.«01_k».proof.Proof.JSteps

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Mxu

variable {F : FTy → Type} [FloatOps F]

variable (c : Dev nD) (f1 : Buf (Elt F) ((Memref.whole main_arg0).view.loc (c : Thread nD τ)))
  (f3 : Buf (Elt F) ((Memref.whole main_v1).view.loc (c : Thread nD τ)))
  (g1 : Buf (Elt F) ((Memref.whole cc0_scratch0).view.loc (c : Thread nD τ)))
  (g2 : Buf (Elt F) ((Memref.whole cc0_scratch1).view.loc (c : Thread nD τ)))

set_option maxHeartbeats 0 in
/-- The machine's state after the steps of chunk 6. -/
theorem chain6 : run.sl.r_2267 c f1 f3 g1 g2 = step 0 (steps 0 (run.sl.k0_mxu2379 c f1 f3 g1 g2) (tiles c f3 g2 6) (lefts c f1 g1) 35) (turn 35) (lefts c f1 g1 35) (clsOf 8) := by
  iterate 4 refine again_eq _ _ _ _ _ ?_ _ rfl
  refine last_eq _ _ _ ?_ rfl rfl
  iterate 3
    iterate 4 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 4 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 10 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  iterate 4
    iterate 8 refine again_eq _ _ _ _ _ ?_ _ rfl
    refine first_eq _ _ _ _ _ ?_ rfl rfl rfl
  iterate 4
    iterate 6 refine again_eq _ _ _ _ _ ?_ _ rfl
    refine first_eq _ _ _ _ _ ?_ rfl rfl rfl
  rfl

end Cert.SpatialIdeal.Hand
-- ==== Proof.JResult.lean ====
module

public import proofs.«01_k».proof.Proof.JElem
public import proofs.«01_k».proof.Proof.JChunk0
public import proofs.«01_k».proof.Proof.JChunk1
public import proofs.«01_k».proof.Proof.JChunk2
public import proofs.«01_k».proof.Proof.JChunk3
public import proofs.«01_k».proof.Proof.JChunk4
public import proofs.«01_k».proof.Proof.JChunk5
public import proofs.«01_k».proof.Proof.JChunk6

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Mxu
open scoped BigOperators

/-- Stores which each hold a target's values on their rectangle, read where one of them lies. -/
theorem read_stores {s : Shape} {e : EltTy} {Val : EltTy → Type} {sig : RefSig} {κ : Kind} {sp : Space} (v : View sig κ sp s e) (f : v.ty.Contents Val)
    (T : s.Idx → Val e) (y : s.Idx) (L : List (View.Piece Val s e)) (hL : ∀ p ∈ L, ∀ j, p.2 j = T (p.1.emb j)) (hy : ∃ p ∈ L, y ∈ p.1.set) :
    v.read Val (v.writes Val f L) y = T y := by
  induction L with
  | nil => obtain ⟨p, hp, _⟩ := hy; cases hp
  | cons p L ih =>
    by_cases h : y ∈ p.1.set
    · rw [← Rect.map_emb_univ] at h
      obtain ⟨j, _, hj⟩ := Finset.mem_map.1 h
      subst hj
      exact (View.read_writes_cons_emb v f p.1 p.2 L j).trans (hL p (List.mem_cons_self ..) j)
    · rw [View.writes_cons, View.read_slice_write_of_not_mem _ _ _ _ (by rw [Rect.map_emb_univ]; exact h)]
      refine ih (fun q hq => hL q (List.mem_cons_of_mem _ hq)) ?_
      obtain ⟨q, hq, hm⟩ := hy
      rcases List.mem_cons.1 hq with e | e
      · subst e; exact absurd hm h
      · exact ⟨q, e, hm⟩

variable (c : Dev nD) (f1 : Buf (Elt Ideal) ((Memref.whole main_arg0).view.loc (c : Thread nD τ)))
  (fx : Buf (Elt Ideal) ((Memref.whole cc0_stg0_0).view.loc (c : Thread nD τ)))
  (f3 : Buf (Elt Ideal) ((Memref.whole main_v1).view.loc (c : Thread nD τ)))
  (f4 : Buf (Elt Ideal) ((Memref.whole main_arg3).view.loc (c : Thread nD τ))) (f5 : Buf (Elt Ideal) ((Memref.whole main_arg4).view.loc (c : Thread nD τ)))
  (f6 : Buf (Elt Ideal) ((Memref.whole main_v2).view.loc (c : Thread nD τ)))
  (g1 : Buf (Elt Ideal) ((Memref.whole cc0_scratch0).view.loc (c : Thread nD τ)))
  (g2 : Buf (Elt Ideal) ((Memref.whole cc0_scratch1).view.loc (c : Thread nD τ)))
  (g3 : Buf (Elt Ideal) ((Memref.whole cc0_scratch2).view.loc (c : Thread nD τ)))
  (g4 : Buf (Elt Ideal) ((Memref.whole cc0_scratch3).view.loc (c : Thread nD τ))) (g5 : Buf (Elt Ideal) ((Memref.whole cc0_scratch4).view.loc (c : Thread nD τ)))

theorem fresh0 : Fresh (run.sl.r_2 c f3 g2) (tiles c f3 g2 0 0) := by
  rw [start0]
  refine ⟨⟨fun q => reg_pushPair _ (fun _ => rfl) q, fun q => ?_⟩, fun q X C => ?_⟩
  · rw [reg_pushPair_ne _ (turn_ne 0).symm]; rfl
  · rw [acc_pushPair]; exact Ideal.ofBits_zero_f32

theorem tiles_next (n : ℕ) : tiles c f3 g2 n 36 = tiles c f3 g2 (n + 1) 0 := rfl

theorem fresh1 : Fresh (run.sl.k0_mxu399 c f1 f3 g1 g2) (tiles c f3 g2 1 0) := by
  rw [drain0, chain0, ← tiles_next]; exact steps_next (fresh0 c f3 g2)
theorem fresh2 : Fresh (run.sl.k0_mxu795 c f1 f3 g1 g2) (tiles c f3 g2 2 0) := by
  rw [drain1, chain1, ← tiles_next]; exact steps_next (fresh1 c f1 f3 g1 g2)
theorem fresh3 : Fresh (run.sl.k0_mxu1191 c f1 f3 g1 g2) (tiles c f3 g2 3 0) := by
  rw [drain2, chain2, ← tiles_next]; exact steps_next (fresh2 c f1 f3 g1 g2)
theorem fresh4 : Fresh (run.sl.k0_mxu1587 c f1 f3 g1 g2) (tiles c f3 g2 4 0) := by
  rw [drain3, chain3, ← tiles_next]; exact steps_next (fresh3 c f1 f3 g1 g2)
theorem fresh5 : Fresh (run.sl.k0_mxu1983 c f1 f3 g1 g2) (tiles c f3 g2 5 0) := by
  rw [drain4, chain4, ← tiles_next]; exact steps_next (fresh4 c f1 f3 g1 g2)
theorem fresh6 : Fresh (run.sl.k0_mxu2379 c f1 f3 g1 g2) (tiles c f3 g2 6 0) := by
  rw [drain5, chain5, ← tiles_next]; exact steps_next (fresh5 c f1 f3 g1 g2)

/-- A chunk's products end in the state `s`. -/
def Rows (n : ℕ) (p : Fin 2) (s : Mxu Ideal) : Prop :=
  ∀ q ci r C, (s.acc q (rowOf p ci r) C : EReal) = chunkSum (tiles c f3 g2 n) (lefts c f1 g1) q ci r C 36

theorem rows0 : Rows c f1 f3 g1 g2 0 0 (run.sl.r_320 c f1 f3 g1 g2) := by
  intro q ci r C; rw [chain0]; exact steps_row (fresh0 c f3 g2) 36 q ci r C
theorem rows1 : Rows c f1 f3 g1 g2 1 1 (run.sl.r_648 c f1 f3 g1 g2) := by
  intro q ci r C; rw [chain1]; exact steps_row (fresh1 c f1 f3 g1 g2) 36 q ci r C
theorem rows2 : Rows c f1 f3 g1 g2 2 0 (run.sl.r_975 c f1 f3 g1 g2) := by
  intro q ci r C; rw [chain2]; exact steps_row (fresh2 c f1 f3 g1 g2) 36 q ci r C
theorem rows3 : Rows c f1 f3 g1 g2 3 1 (run.sl.r_1297 c f1 f3 g1 g2) := by
  intro q ci r C; rw [chain3]; exact steps_row (fresh3 c f1 f3 g1 g2) 36 q ci r C
theorem rows4 : Rows c f1 f3 g1 g2 4 0 (run.sl.r_1623 c f1 f3 g1 g2) := by
  intro q ci r C; rw [chain4]; exact steps_row (fresh4 c f1 f3 g1 g2) 36 q ci r C
theorem rows5 : Rows c f1 f3 g1 g2 5 1 (run.sl.r_1947 c f1 f3 g1 g2) := by
  intro q ci r C; rw [chain5]; exact steps_row (fresh5 c f1 f3 g1 g2) 36 q ci r C
theorem rows6 : Rows c f1 f3 g1 g2 6 0 (run.sl.r_2267 c f1 f3 g1 g2) := by
  intro q ci r C; rw [chain6]; exact last_row (fresh6 c f1 f3 g1 g2) q ci r C

theorem cls_at : ∀ (ci : Fin 6) (r : Fin (clsRows ci)) (h : clsRow0 ci + r.val < 240), clsAt ⟨clsRow0 ci + r.val, h⟩ = ci := by decide

abbrev target : S240x3584.Idx → EReal := outVal f1 (run.sl.r c fx) f3 f4 f5

theorem outVal_eq (x : EReal) (y : S240x3584.Idx) (ci : Fin 6) (r : Fin (clsRows ci)) (m : ℕ) (hr : clsRow0 ci + r.val < 240) (hm : m < 3686)
    (h0 : (y 0).val = clsRow0 ci + r.val) (h1 : m = (y 1).val) :
    outVal f1 x f3 f4 f5 y = max (accOf f1 f3 ci ⟨clsRow0 ci + r.val, hr⟩ ⟨m, hm⟩ * (x * (f4 : S3686.Idx → EReal) (ValueIdx.ix1 ⟨m, hm⟩)) + (f5 : S3686.Idx → EReal) (ValueIdx.ix1 ⟨m, hm⟩)) 0 := by
  subst h1
  have e : (y 0 : Fin 240) = ⟨clsRow0 ci + r.val, hr⟩ := Fin.ext h0
  have ec : clsAt (y 0) = ci := (congrArg clsAt e).trans (cls_at ci r hr)
  exact congrArg₂ (fun (k : Fin 6) (R : Fin 240) => max (accOf f1 f3 k R ⟨(y 1).val, hm⟩ * (x * (f4 : S3686.Idx → EReal) (ValueIdx.ix1 ⟨(y 1).val, hm⟩)) + (f5 : S3686.Idx → EReal) (ValueIdx.ix1 ⟨(y 1).val, hm⟩)) 0) ec e

theorem piece_good (n : Fin 7) (p : Fin 2) (s : Mxu Ideal) (hs : Rows c f1 f3 g1 g2 n.val p s) (k : ℕ) (hk : k < 12)
    (j : (piece c fx f4 f5 g4 g5 n p s k).1.shape.Idx) :
    (piece c fx f4 f5 g4 g5 n p s k).2 j = target c f1 fx f3 f4 f5 ((piece c fx f4 f5 g4 g5 n p s k).1.emb j) := by
  have hb := cls_rows (popCls k)
  obtain ⟨r, C, rfl⟩ : ∃ (r : Fin (clsRows (popCls k))) (C : Fin 256), j = ValueIdx.ix2 r C := ⟨j 0, j 1, funext fun a => by
    match a with
    | 0 => rfl
    | 1 => rfl⟩
  have hC := C.isLt; have hq := (popUnit k).isLt; have hn := n.isLt; have hr := r.isLt
  refine Eq.trans ?_ (outVal_eq c f1 f3 f4 f5 (run.sl.r c fx) _ (popCls k) r (512 * n.val + (256 * (popUnit k).val + C.val)) (by omega) (by omega)
    (show clsRow0 (popCls k) + 1 * r.val = _ by omega) (show _ = 512 * n.val + 256 * (popUnit k).val + 1 * C.val by omega)).symm
  refine (fin_at (popCls k) (run.sl.r c fx) (popVal p s k) (colScale c f4 g4 n (popUnit k)) (colBias c f5 g5 n (popUnit k)) r C).trans ?_
  rw [popVal_at p s k hk r C, hs, chunk_acc, colScale_at, colBias_at]

theorem stores_good (n : Fin 7) (p : Fin 2) (s : Mxu Ideal) (hs : Rows c f1 f3 g1 g2 n.val p s) (L : YL Ideal)
    (hL : ∀ P ∈ L, ∀ j, P.2 j = target c f1 fx f3 f4 f5 (P.1.emb j)) (k : ℕ) (hk : k ≤ 12) :
    ∀ P ∈ stores c fx f4 f5 g4 g5 n p s L k, ∀ j, P.2 j = target c f1 fx f3 f4 f5 (P.1.emb j) := by
  induction k with
  | zero => exact hL
  | succ k ih =>
    intro P hP
    rcases List.mem_cons.1 hP with e | e
    · subst e; exact piece_good c f1 fx f3 f4 f5 g1 g2 g4 g5 n p s hs k (by omega)
    · exact ih (by omega) P e

theorem stores_keep (n : Fin 7) (p : Fin 2) (s : Mxu Ideal) (L : YL Ideal) (y : S240x3584.Idx) (h : ∃ P ∈ L, y ∈ P.1.set) (k : ℕ) :
    ∃ P ∈ stores c fx f4 f5 g4 g5 n p s L k, y ∈ P.1.set := by
  induction k with
  | zero => exact h
  | succ k ih => obtain ⟨P, hP, hm⟩ := ih; exact ⟨P, List.mem_cons_of_mem _ hP, hm⟩

theorem stores_mem (n : Fin 7) (p : Fin 2) (s : Mxu Ideal) (L : YL Ideal) (k m : ℕ) (hk : k < m) :
    piece c fx f4 f5 g4 g5 n p s k ∈ stores c fx f4 f5 g4 g5 n p s L m := by
  induction m with
  | zero => omega
  | succ m ih =>
    by_cases e : k = m
    · subst e; exact List.mem_cons_self ..
    · exact List.mem_cons_of_mem _ (ih (by omega))

theorem stores_cover (n : Fin 7) (p : Fin 2) (s : Mxu Ideal) (L : YL Ideal) (y : S240x3584.Idx) (h : (y 1).val / 512 = n.val) :
    ∃ P ∈ stores c fx f4 f5 g4 g5 n p s L 12, y ∈ P.1.set := by
  have hc := cls_in (y 0)
  have hci := (clsAt (y 0)).isLt
  have hk : popCls (2 * (clsAt (y 0)).val + (y 1).val / 256 % 2) = clsAt (y 0) := Fin.ext (by
    show (2 * (clsAt (y 0)).val + (y 1).val / 256 % 2) / 2 % 6 = _; omega)
  have hu : (popUnit (2 * (clsAt (y 0)).val + (y 1).val / 256 % 2)).val = (y 1).val / 256 % 2 := by
    show (2 * (clsAt (y 0)).val + (y 1).val / 256 % 2) % 2 = _; omega
  refine ⟨_, stores_mem c fx f4 f5 g4 g5 n p s L (2 * (clsAt (y 0)).val + (y 1).val / 256 % 2) 12 (by omega), ?_⟩
  refine (Rect.mem_set_unit (inb := inb_cell n _ _)).mpr fun a => ?_
  match a with
  | 0 =>
    show clsRow0 (popCls _) ≤ (y 0).val ∧ (y 0).val < clsRow0 (popCls _) + clsRows (popCls _)
    rw [hk]; exact hc
  | 1 =>
    show 512 * n.val + 256 * (popUnit _).val ≤ (y 1).val ∧ (y 1).val < 512 * n.val + 256 * (popUnit _).val + 256
    rw [hu]; omega

theorem all_good : ∀ P ∈ run.sl.G3_84 c f1 fx f3 f4 f5 g1 g2 g4 g5, ∀ j, P.2 j = target c f1 fx f3 f4 f5 (P.1.emb j) := by
  rw [stores6, stores5, stores4, stores3, stores2, stores1, stores0]
  refine stores_good c f1 fx f3 f4 f5 g1 g2 g4 g5 6 0 _ (rows6 c f1 f3 g1 g2) _ ?_ 12 le_rfl
  refine stores_good c f1 fx f3 f4 f5 g1 g2 g4 g5 5 1 _ (rows5 c f1 f3 g1 g2) _ ?_ 12 le_rfl
  refine stores_good c f1 fx f3 f4 f5 g1 g2 g4 g5 4 0 _ (rows4 c f1 f3 g1 g2) _ ?_ 12 le_rfl
  refine stores_good c f1 fx f3 f4 f5 g1 g2 g4 g5 3 1 _ (rows3 c f1 f3 g1 g2) _ ?_ 12 le_rfl
  refine stores_good c f1 fx f3 f4 f5 g1 g2 g4 g5 2 0 _ (rows2 c f1 f3 g1 g2) _ ?_ 12 le_rfl
  refine stores_good c f1 fx f3 f4 f5 g1 g2 g4 g5 1 1 _ (rows1 c f1 f3 g1 g2) _ ?_ 12 le_rfl
  refine stores_good c f1 fx f3 f4 f5 g1 g2 g4 g5 0 0 _ (rows0 c f1 f3 g1 g2) _ ?_ 12 le_rfl
  intro P hP; cases hP

theorem all_cover (y : S240x3584.Idx) : ∃ P ∈ run.sl.G3_84 c f1 fx f3 f4 f5 g1 g2 g4 g5, y ∈ P.1.set := by
  have hy : (y 1).val < 3584 := (y 1).isLt
  rw [stores6, stores5, stores4, stores3, stores2, stores1, stores0]
  by_cases h6 : (y 1).val / 512 = 6
  · exact stores_cover c fx f4 f5 g4 g5 6 _ _ _ y h6
  refine stores_keep c fx f4 f5 g4 g5 6 _ _ _ y ?_ 12
  by_cases h5 : (y 1).val / 512 = 5
  · exact stores_cover c fx f4 f5 g4 g5 5 _ _ _ y h5
  refine stores_keep c fx f4 f5 g4 g5 5 _ _ _ y ?_ 12
  by_cases h4 : (y 1).val / 512 = 4
  · exact stores_cover c fx f4 f5 g4 g5 4 _ _ _ y h4
  refine stores_keep c fx f4 f5 g4 g5 4 _ _ _ y ?_ 12
  by_cases h3 : (y 1).val / 512 = 3
  · exact stores_cover c fx f4 f5 g4 g5 3 _ _ _ y h3
  refine stores_keep c fx f4 f5 g4 g5 3 _ _ _ y ?_ 12
  by_cases h2 : (y 1).val / 512 = 2
  · exact stores_cover c fx f4 f5 g4 g5 2 _ _ _ y h2
  refine stores_keep c fx f4 f5 g4 g5 2 _ _ _ y ?_ 12
  by_cases h1 : (y 1).val / 512 = 1
  · exact stores_cover c fx f4 f5 g4 g5 1 _ _ _ y h1
  refine stores_keep c fx f4 f5 g4 g5 1 _ _ _ y ?_ 12
  exact stores_cover c fx f4 f5 g4 g5 0 _ _ _ y (show _ = 0 by omega)

theorem copied : run.sl.dma1933 c f1 fx f3 f4 f5 g1 g2 g3 g4 g5 = target c f1 fx f3 f4 f5 :=
  funext fun y => read_stores (Memref.whole cc0_scratch2).view g3 (target c f1 fx f3 f4 f5) y _ (all_good c f1 fx f3 f4 f5 g1 g2 g4 g5) (all_cover c f1 fx f3 f4 f5 g1 g2 g4 g5 y)

end Cert.SpatialIdeal.Hand
end
-- ==== Proof.JLaunch.lean ====
module

public import proofs.«01_k».proof.Proof.Gen.SpatialIdeal
public import proofs.«01_k».proof.Proof.Gen.SpatialIdeal.Skeleton
public import proofs.«01_k».proof.Proof.Gen.SpatialIdeal.Launch
public import proofs.«01_k».proof.Proof.Gen.SpatialIdeal.Points
public import proofs.«01_k».proof.Proof.Gen.SpatialIdeal.Frame
public import Idealize.ShloMosaic.Lib.Pipeline.FrameBody
public import Idealize.ShloMosaic.Lib.Pipeline.FrameValue
public import Idealize.ShloMosaic.Lib.Pipeline.FrameSuffixV
public import Idealize.ShloMosaic.Lib.Ring
public import Idealize.ShloMosaic.Lib.ValueLayout
public import Idealize.ShloMosaic.Lib.Tactic
public import Idealize.ShloMosaic.Lib.WordCmp
public import proofs.«01_k».proof.Proof.JBase
public import proofs.«01_k».proof.Proof.JBody
public import proofs.«01_k».proof.Proof.JFrame
public import proofs.«01_k».proof.Proof.JResult

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

theorem result_at (c : Dev nD) (i : grid0.Coords) (f1 : Buf (Elt Ideal) ((Memref.whole main_arg0).view.loc (c : Thread nD τ)))
    (fx : Buf (Elt Ideal) ((Memref.whole cc0_stg0_0).view.loc (c : Thread nD τ)))
    (f3 : Buf (Elt Ideal) ((Memref.whole main_v1).view.loc (c : Thread nD τ)))
    (f4 : Buf (Elt Ideal) ((Memref.whole main_arg3).view.loc (c : Thread nD τ))) (f5 : Buf (Elt Ideal) ((Memref.whole main_arg4).view.loc (c : Thread nD τ)))
    (f6 : Buf (Elt Ideal) ((Memref.whole main_v2).view.loc (c : Thread nD τ)))
    (g1 : Buf (Elt Ideal) ((Memref.whole cc0_scratch0).view.loc (c : Thread nD τ)))
    (g2 : Buf (Elt Ideal) ((Memref.whole cc0_scratch1).view.loc (c : Thread nD τ)))
    (g3 : Buf (Elt Ideal) ((Memref.whole cc0_scratch2).view.loc (c : Thread nD τ)))
    (g4 : Buf (Elt Ideal) ((Memref.whole cc0_scratch3).view.loc (c : Thread nD τ))) (g5 : Buf (Elt Ideal) ((Memref.whole cc0_scratch4).view.loc (c : Thread nD τ))) :
    (run c i f1 fx f3 f4 f5 f6 g1 g2 g3 g4 g5).1 = target c f1 fx f3 f4 f5 := by
  dsimp only [run]
  refine (View.read_write_univ (Val := Elt Ideal) (v := (Memref.whole main_v2).view) f6 (run.sl.dma1933 c f1 fx f3 f4 f5 g1 g2 g3 g4 g5)).trans ?_
  exact copied c f1 fx f3 f4 f5 g1 g2 g3 g4 g5

/-- What the body leaves in the result, from what the region finds. -/
def outG (c : Dev nD) : Buf (Elt Ideal) ((c : Thread nD τ).loc main_v2) :=
  target c (V m c main_arg0) (xs m c ⟨0, by decide⟩) (V m c main_v1) (V m c main_arg3) (V m c main_arg4)

theorem outG_at (c : Dev nD) (t : Fin cfg0.N) :
    outG m c = target c (V m c main_arg0) (xs m c t) (V m c main_v1) (V m c main_arg3) (V m c main_arg4) := by
  rw [show t = ⟨0, by decide⟩ from Subsingleton.elim (α := Fin 1) _ _]; rfl

/-- Every buffer's contents with the result at its final value. -/
def outAll (c : Dev nD) : (b : Ref sig .tc) → Buf (Elt Ideal) ((c : Thread nD τ).loc b) :=
  Function.update (fun b => V m c b) main_v2 (outG m c)

/-- The contents before point `n`: as found, then with the result. -/
def outAt : ℕ → (c : Dev nD) → (b : Ref sig .tc) → Buf (Elt Ideal) ((c : Thread nD τ).loc b)
  | 0 => V m
  | _ + 1 => outAll m

theorem outAt_succ (c : Dev nD) (n : ℕ) : outAt m (n + 1) c main_v2 = outG m c := by
  show Function.update (fun b => V m c b) main_v2 (outG m c) main_v2 = outG m c
  exact Function.update_self ..

theorem resPts_eq (c : Dev nD) (G : (c : Dev nD) → (b : Ref sig .tc) → Buf (Elt Ideal) ((c : Thread nD τ).loc b)) :
    (Pipeline.routed R0 c (G c) : sProp 𝕄) = pt c (Memref.whole main_v2) (G c main_v2) := by
  unfold Pipeline.routed
  rw [BI.bigSep_eq_bigSepL_of_eq [main_v2] (by decide) (by decide)]; rfl

theorem PhiG_eq (c : Dev nD) (G : (c : Dev nD) → (b : Ref sig .tc) → Buf (Elt Ideal) ((c : Thread nD τ).loc b)) :
    (Pipeline.ΦDRG osem0 (cfg0.spec) H0 R0 (V m) G c : sProp 𝕄)
      = iprop(iprop((∃ g, pt (F := Ideal) c (Memref.whole cc0_scratch0) g) ∗ (∃ g, pt (F := Ideal) c (Memref.whole cc0_scratch1) g) ∗ (∃ g, pt (F := Ideal) c (Memref.whole cc0_scratch2) g) ∗ (∃ g, pt (F := Ideal) c (Memref.whole cc0_scratch3) g) ∗ (∃ g, pt (F := Ideal) c (Memref.whole cc0_scratch4) g)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0) ∗ iprop(pt c (Memref.whole main_arg0) (V m c main_arg0) ∗ pt c (Memref.whole main_v1) (V m c main_v1) ∗ pt c (Memref.whole main_arg3) (V m c main_arg3) ∗ pt c (Memref.whole main_arg4) (V m c main_arg4)) ∗ pt c (Memref.whole main_v2) (G c main_v2)) := by
  rw [Pipeline.ΦDRG_eq, scoped_eq, ownSems00_eq, hbmPts0_eq, resPts_eq]

/-- The proof data that names the result's final contents. -/
def datsG (_ : Fin 1) (c : Dev nD) : Dat τ (Elt Ideal) Unit ℕ (Pipeline.UD sig nD τ) ℕ cfg0 c where
  A w := V m c (Pipeline.arrRef spec0 w)
  after w t := afterB m c w t
  Φ t := Pipeline.ΦDRG osem0 (cfg0.spec) H0 R0 (V m) (outAt m t.val) c
  q _ := fullShare
  owed _ := 0

theorem before_eqG (c : Dev nD) (t : Fin cfg0.N) (d) : (datsG m 0 c).before 0 t d = iblk m c 0 t :=
  ((datsG m 0 c).before_in_eq_fetched 0 rfl (fun _ => rfl) (fun _ _ _ => rfl) (fun t => rfl) t d).trans rfl

set_option maxHeartbeats 0 in
theorem sound_bodyG (c : Dev nD) (t : Fin cfg0.N) :
    iprop((datsG m 0 c).Φ t.castSucc ∗ (datsG m 0 c).owesAt () t.castSucc ∗ pt c (Memref.whole cc0_stg0_0) (xs m c t)) ⊢ wp frame (wpE (defs₀ (F := Ideal)) Variants.none c none) Set.univ (bodyAt0 t)
      (fun _ => iprop((datsG m 0 c).Φ t.succ ∗ (datsG m 0 c).owesAt () t.succ ∗ pt c (Memref.whole cc0_stg0_0) (xs m c t))) := by
  rw [bodyAt_eq]
  rw [show (datsG m 0 c).Φ t.castSucc = Pipeline.ΦDRG osem0 (cfg0.spec) H0 R0 (V m) (outAt m t.val) c from rfl,
    show (datsG m 0 c).Φ t.succ = Pipeline.ΦDRG osem0 (cfg0.spec) H0 R0 (V m) (outAt m (t.val + 1)) c from rfl, PhiG_eq, PhiG_eq]
  unfold Dat.owesAt Pipeline.owesWithin
  rw [show (datsG m 0 c).owed t.castSucc = 0 from rfl, show (datsG m 0 c).owed t.succ = 0 from rfl]
  iintro ⟨⟨⟨⟨%g1, G1⟩, ⟨%g2, G2⟩, ⟨%g3, G3⟩, ⟨%g4, G4⟩, ⟨%g5, G5⟩⟩, Hg, ⟨S0, S1, S2, S3, S4, S5, S6, S7, S8, S9, S10, S11, S12, S13, S14, S15, S16, S17, S18, S19, S20, S21, S22, S23, S24, S25, S26, S27, S28, S29, S30, S31, S32, S33, S34, S35, S36, S37, S38, S39⟩, ⟨H1, H3, H4, H5⟩, O⟩, ⟨%W, -, HW⟩, X⟩
  iapply (body_whole c _ (V m c main_arg0) (xs m c t) (V m c main_v1) (V m c main_arg3) (V m c main_arg4) (outAt m t.val c main_v2) g1 g2 g3 g4 g5 W _)
  isplitl [H1]; · iexact H1
  isplitl [X]; · iexact X
  isplitl [H3]; · iexact H3
  isplitl [H4]; · iexact H4
  isplitl [H5]; · iexact H5
  isplitl [O]; · iexact O
  isplitl [G1]; · iexact G1
  isplitl [G2]; · iexact G2
  isplitl [G3]; · iexact G3
  isplitl [G4]; · iexact G4
  isplitl [G5]; · iexact G5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  isplitl [S32]; · iexact S32
  isplitl [S33]; · iexact S33
  isplitl [S34]; · iexact S34
  isplitl [S35]; · iexact S35
  isplitl [S36]; · iexact S36
  isplitl [S37]; · iexact S37
  isplitl [S38]; · iexact S38
  isplitl [S39]; · iexact S39
  isplitl [HW]; · iexact HW
  iintro ⟨H1, X, H3, H4, H5, O, G1, G2, G3, G4, G5, S0, S1, S2, S3, S4, S5, S6, S7, S8, S9, S10, S11, S12, S13, S14, S15, S16, S17, S18, S19, S20, S21, S22, S23, S24, S25, S26, S27, S28, S29, S30, S31, S32, S33, S34, S35, S36, S37, S38, S39, ⟨%W', HW⟩⟩
  isplitr [HW X]
  · isplitl [G1 G2 G3 G4 G5]
    · isplitl [G1]; iexact G1; isplitl [G2]; iexact G2; isplitl [G3]; iexact G3; isplitl [G4]; iexact G4; iexact G5
    isplitl [Hg]; · iexact Hg
    isplitl [S0 S1 S2 S3 S4 S5 S6 S7 S8 S9 S10 S11 S12 S13 S14 S15 S16 S17 S18 S19 S20 S21 S22 S23 S24 S25 S26 S27 S28 S29 S30 S31 S32 S33 S34 S35 S36 S37 S38 S39]
    · isplitl [S0]; iexact S0; isplitl [S1]; iexact S1; isplitl [S2]; iexact S2; isplitl [S3]; iexact S3; isplitl [S4]; iexact S4; isplitl [S5]; iexact S5; isplitl [S6]; iexact S6; isplitl [S7]; iexact S7; isplitl [S8]; iexact S8; isplitl [S9]; iexact S9; isplitl [S10]; iexact S10; isplitl [S11]; iexact S11; isplitl [S12]; iexact S12; isplitl [S13]; iexact S13; isplitl [S14]; iexact S14; isplitl [S15]; iexact S15; isplitl [S16]; iexact S16; isplitl [S17]; iexact S17; isplitl [S18]; iexact S18; isplitl [S19]; iexact S19; isplitl [S20]; iexact S20; isplitl [S21]; iexact S21; isplitl [S22]; iexact S22; isplitl [S23]; iexact S23; isplitl [S24]; iexact S24; isplitl [S25]; iexact S25; isplitl [S26]; iexact S26; isplitl [S27]; iexact S27; isplitl [S28]; iexact S28; isplitl [S29]; iexact S29; isplitl [S30]; iexact S30; isplitl [S31]; iexact S31; isplitl [S32]; iexact S32; isplitl [S33]; iexact S33; isplitl [S34]; iexact S34; isplitl [S35]; iexact S35; isplitl [S36]; iexact S36; isplitl [S37]; iexact S37; isplitl [S38]; iexact S38; iexact S39
    isplitl [H1 H3 H4 H5]
    · isplitl [H1]; iexact H1; isplitl [H3]; iexact H3; isplitl [H4]; iexact H4; iexact H5
    rw [outAt_succ, outG_at m c t, ← result_at c (grid0.coords t) (V m c main_arg0) (xs m c t) (V m c main_v1) (V m c main_arg3) (V m c main_arg4) (outAt m t.val c main_v2) g1 g2 g3 g4 g5]
    iexact O
  isplitl [HW]
  · iexists W'; isplitr
    · ipureintro; exact fun _ _ => Or.inl trivial
    iexact HW
  iexact X

theorem body_obligationG (c : Dev nD) : BodyObligation (datsG m 0 c) (defs₀ (F := Ideal)) Variants.none () Set.univ := fun t => by
  rw [defs₀_row]
  refine triple_restated (sound_bodyG m c t) rfl ?_ fun _ => ?_
  · rw [bigSep_W0]
    iintro ⟨H, HO, ⟨%d, X⟩⟩
    isplitl [H]; · iexact H
    isplitl [HO]; · iexact HO
    rw [before_eqG, win_eq]
    exact .rfl
  · rw [bigSep_W0]
    iintro ⟨H, HO, X⟩
    isplitl [H]; · iexact H
    isplitl [HO]; · iexact HO
    show _ ⊢ owns (c : Thread nD τ) ((cfg0.win 0).stage (cfg0.slots t 0)) fullShare (iblk m c 0 t)
    rw [win_eq]

set_option backward.isDefEq.respectTransparency.types false in
/-- The program's run: the result ends at the value named. -/
theorem run_value : θ_run defs (onTc (τ := τ) (main (F := Ideal))) (s₀ m ρ) (fun r => ∀ c : Dev nD, r.2.mem ((c.tc : Thread nD τ).loc main_v2) = outG m c) :=
  (θ_run defs _ _).mono (fun r h c => (h.2 c main_v2 (by decide)).trans (outAt_succ m c 0))
    (Pipeline.θ_run_frame_dmaRG cfgs (datsG m) (0 : Fin 1) launch0 osem0 defs₀ Variants.none ownSemFacts0 H0 R0 H0_sub R0_sub m ρ main
    (hbody := fun c => (body_obligationG m c).loose) (hshare := fun c => (datsG m 0 c).share_full fun _ => rfl)
    (howed := fun _ _ => rfl) (V := V m)
    (hmain := hmainD m Variants.none) (hA := fun _ _ => rfl) (G := outAll m)
    (hin := fun _ => .rfl) (hout := fun _ => .rfl))

end Cert.SpatialIdeal.Hand
end
-- ==== Proof.RSValue.lean ====
module

public import proofs.«01_k».proof.Proof.Gen.SpatialReferenceIdeal
public import proofs.«01_k».proof.Proof.Gen.SpatialReferenceIdeal.Skeleton
public import proofs.«01_k».proof.Proof.Gen.SpatialReferenceIdeal.Launch
public import proofs.«01_k».proof.Proof.Gen.SpatialReferenceIdeal.Points
public import proofs.«01_k».proof.Proof.Gen.SpatialReferenceIdeal.Frame
public import proofs.«01_k».proof.Proof.JElem
public import Idealize.ShloMosaic.Lib.Pipeline.Value
public import Idealize.ShloMosaic.Lib.StableHlo.RunRead
public import Idealize.ShloMosaic.Lib.Pointwise

@[expose] public section

set_option maxRecDepth 16384

noncomputable section

namespace Cert.SpatialReferenceIdeal.Hand

open Cert.SpatialReferenceIdeal Cert.SpatialReferenceIdeal.Gen
open Idealize.ShloMosaic Idealize.ShloMosaic.TcCoe Idealize.ShloMosaic.Tactic
open Idealize.SL.Sem
open Idealize.ShloMosaic.Pipeline (Dat Cfg Window)
open Cert.SpatialIdeal.Hand (accOf outVal stepOf tapOf kdOf clsOf clsAt)
open scoped BigOperators

/-- The steps' sum, grouped by taps: each tap's product over all channels. -/
theorem sum36 (f : ℕ → EReal) : ∑ j ∈ Finset.range 36, f j = ∑ t : Fin 9, ∑ k : Fin 4, f (k.val + 4 * t.val) := by
  rw [Finset.sum_range]
  exact (Equiv.sum_comp (finProdFinEquiv (m := 9) (n := 4)) (fun i : Fin 36 => f i.val)).symm.trans (Fintype.sum_prod_type _)

theorem sum1024 (f : Fin 1024 → EReal) : ∑ x, f x = ∑ k : Fin 4, ∑ u : Fin 256, f ⟨256 * k.val + u.val, by omega⟩ :=
  (Equiv.sum_comp (finProdFinEquiv (m := 4) (n := 256)) f).symm.trans ((Fintype.sum_prod_type _).trans
    (Finset.sum_congr rfl fun k _ => Finset.sum_congr rfl fun u _ => congrArg f (Fin.ext (Nat.add_comm _ _))))

theorem accOf_taps (f1 : S9x240x1024.Idx → EReal) (f3 : Cert.SpatialIdeal.S9x3686x1024.Idx → EReal) (ci : Fin 6) (R : Fin 240) (col : Fin 3686) :
    accOf f1 f3 ci R col = ∑ t : Fin 9, if ci ∈ (0 :: clsOf t.val) then ∑ ch : Fin 1024, f1 (ValueIdx.ix3 t R ch) * f3 (ValueIdx.ix3 t col ch) else 0 := by
  unfold accOf
  rw [sum36]
  refine Finset.sum_congr rfl fun t _ => ?_
  have ht : ∀ k : Fin 4, (k.val + 4 * t.val) / 4 = t.val := fun k => by omega
  have hT : ∀ k : Fin 4, tapOf (k.val + 4 * t.val) = t := fun k => Fin.ext (by show (k.val + 4 * t.val) / 4 % 9 = t.val; omega)
  have hK : ∀ k : Fin 4, kdOf (k.val + 4 * t.val) = k := fun k => Fin.ext (by show (k.val + 4 * t.val) % 4 = k.val; omega)
  simp only [ht]
  by_cases h : ci ∈ (0 :: clsOf t.val)
  · simp only [if_pos h]
    rw [sum1024]
    refine Finset.sum_congr rfl fun k _ => ?_
    unfold stepOf
    rw [hT]
    refine Finset.sum_congr rfl fun u _ => ?_
    have hu : (⟨256 * (kdOf (k.val + 4 * t.val)).val + u.val, by rw [hK]; omega⟩ : Fin 1024) = ⟨256 * k.val + u.val, by omega⟩ := Fin.ext (by show 256 * (kdOf _).val + u.val = _; rw [hK])
    rw [hu]
  · simp only [if_neg h, Finset.sum_const_zero]

theorem inb_row (t : Fin 9) (row M : ℕ) (h : row + M ≤ 240) : ∀ a, (![t.val, row, 0] : Fin 3 → ℕ) a + (⟨3, ![1, M, 1024]⟩ : Shape).size a ≤ S9x240x1024.size a := by
  intro a; have := t.isLt
  match a with
  | 0 => show t.val + 1 ≤ 9; omega
  | 1 => exact h
  | 2 => exact le_refl 1024

/-- A class's patches at a tap, or zeros. -/
def part (x0 : Vec Ideal S9x240x1024 .bf16) (t : Fin 9) (row M : ℕ) (h : row + M ≤ 240) (hs : (⟨3, ![1, M, 1024]⟩ : Shape).ShapeCasts (⟨2, ![M, 1024]⟩ : Shape)) (on : Bool) :
    FVec Ideal (⟨2, ![M, 1024]⟩ : Shape) .bf16 :=
  match on with
  | true => shapeCast (⟨2, ![M, 1024]⟩ : Shape) (View.ld x0 (Rect.unit (s := S9x240x1024) ![t.val, row, 0] (⟨3, ![1, M, 1024]⟩ : Shape).size (inb_row t row M h))) hs
  | false => broadcast (⟨2, ![M, 1024]⟩ : Shape) (Scalar.ofBits .bf16 0x0000#16)

theorem part_at (x0 : Vec Ideal S9x240x1024 .bf16) (t : Fin 9) (row M : ℕ) (h : row + M ≤ 240) (hs : (⟨3, ![1, M, 1024]⟩ : Shape).ShapeCasts (⟨2, ![M, 1024]⟩ : Shape)) (on : Bool)
    (r : Fin M) (ch : Fin 1024) :
    (part x0 t row M h hs on (ValueIdx.ix2 r ch) : EReal) = if on then x0 (ValueIdx.ix3 t (⟨row + r.val, by omega⟩ : Fin 240) ch) else 0 := by
  match on with
  | false => exact Ideal.ofBits_zero_bf16
  | true =>
    unfold part
    refine (shapeCast_apply _ _ _ (ValueIdx.ix3 (0 : Fin 1) r ch) (by
      show (Shape.rowMajor (s := ⟨3, ![1, M, 1024]⟩) _).val = (Shape.rowMajor (s := ⟨2, ![M, 1024]⟩) _).val
      rw [Shape.rowMajor_val_three, Shape.rowMajor_val_two]
      show ((0 : ℕ) * M + r.val) * 1024 + ch.val = r.val * 1024 + ch.val
      simp only [Nat.zero_mul, Nat.zero_add])).trans ?_
    refine congrArg (x0 : S9x240x1024.Idx → EReal) (funext fun a => Fin.ext ?_)
    match a with
    | 0 => exact (show t.val + 1 * 0 = t.val by omega)
    | 1 => exact (show row + 1 * r.val = row + r.val by omega)
    | 2 => exact (show 0 + 1 * ch.val = ch.val by omega)

/-- A tap's left operand: the classes it reaches, zeros elsewhere. -/
def lhs (x0 : Vec Ideal S9x240x1024 .bf16) (t : Fin 9) (o0 o1 o2 o3 o4 o5 : Bool) : FVec Ideal S240x1024 .bf16 :=
  concatenate S240x1024 0 [⟨S96x1024, part x0 t 0 96 (by decide) shapeCasts_S1x96x1024_S96x1024 o0⟩, ⟨S32x1024, part x0 t 96 32 (by decide) shapeCasts_S1x32x1024_S32x1024 o1⟩,
    ⟨S32x1024, part x0 t 128 32 (by decide) shapeCasts_S1x32x1024_S32x1024 o2⟩, ⟨S32x1024, part x0 t 160 32 (by decide) shapeCasts_S1x32x1024_S32x1024 o3⟩,
    ⟨S32x1024, part x0 t 192 32 (by decide) shapeCasts_S1x32x1024_S32x1024 o4⟩, ⟨S16x1024, part x0 t 224 16 (by decide) shapeCasts_S1x16x1024_S16x1024 o5⟩] concatenates_S96x1024_S32x1024_S32x1024_S32x1024_S32x1024_S16x1024_S240x1024_d0

/-- Whether a row's class is reached. -/
def onAt (R : Fin 240) (o0 o1 o2 o3 o4 o5 : Bool) : Bool :=
  match clsAt R with
  | 0 => o0 | 1 => o1 | 2 => o2 | 3 => o3 | 4 => o4 | 5 => o5

theorem cat6 (p0 : FVec Ideal S96x1024 .bf16) (p1 p2 p3 p4 : FVec Ideal S32x1024 .bf16) (p5 : FVec Ideal S16x1024 .bf16) (R : Fin 240) (ch : Fin 1024) :
    (concatenate S240x1024 0 [⟨S96x1024, p0⟩, ⟨S32x1024, p1⟩, ⟨S32x1024, p2⟩, ⟨S32x1024, p3⟩, ⟨S32x1024, p4⟩, ⟨S16x1024, p5⟩] concatenates_S96x1024_S32x1024_S32x1024_S32x1024_S32x1024_S16x1024_S240x1024_d0 (ValueIdx.ix2 R ch) : EReal)
      = if h : R.val < 96 then p0 (ix2 ⟨R.val, h⟩ ch) else if h : R.val - 96 < 32 then p1 (ix2 ⟨R.val - 96, h⟩ ch) else if h : R.val - 96 - 32 < 32 then p2 (ix2 ⟨R.val - 96 - 32, h⟩ ch)
        else if h : R.val - 96 - 32 - 32 < 32 then p3 (ix2 ⟨R.val - 96 - 32 - 32, h⟩ ch) else if h : R.val - 96 - 32 - 32 - 32 < 32 then p4 (ix2 ⟨R.val - 96 - 32 - 32 - 32, h⟩ ch)
        else p5 (ix2 ⟨R.val - 96 - 32 - 32 - 32 - 32, by omega⟩ ch) := by
  pointwise []
  try rfl

theorem lhs_at (x0 : Vec Ideal S9x240x1024 .bf16) (t : Fin 9) (o0 o1 o2 o3 o4 o5 : Bool) (R : Fin 240) (ch : Fin 1024) :
    (lhs x0 t o0 o1 o2 o3 o4 o5 (ValueIdx.ix2 R ch) : EReal) = if onAt R o0 o1 o2 o3 o4 o5 then x0 (ValueIdx.ix3 t R ch) else 0 := by
  unfold lhs
  rw [cat6]
  have fin : ∀ (on : Bool) (A : Fin 240), A = R → (if on then (x0 (ValueIdx.ix3 t A ch) : EReal) else 0) = if on then x0 (ValueIdx.ix3 t R ch) else 0 := by
    rintro on _ rfl; rfl
  unfold onAt clsAt
  by_cases h0 : R.val < 96
  · rw [dif_pos h0, if_pos h0, ix2_eq_valueIdx, part_at]; exact fin _ _ (Fin.ext (by show 0 + R.val = _; omega))
  rw [dif_neg h0, if_neg h0]
  by_cases h1 : R.val < 128
  · rw [dif_pos (by omega), if_pos h1, ix2_eq_valueIdx, part_at]; exact fin _ _ (Fin.ext (by show 96 + (R.val - 96) = _; omega))
  rw [dif_neg (by omega), if_neg h1]
  by_cases h2 : R.val < 160
  · rw [dif_pos (by omega), if_pos h2, ix2_eq_valueIdx, part_at]; exact fin _ _ (Fin.ext (by show 128 + (R.val - 96 - 32) = _; omega))
  rw [dif_neg (by omega), if_neg h2]
  by_cases h3 : R.val < 192
  · rw [dif_pos (by omega), if_pos h3, ix2_eq_valueIdx, part_at]; exact fin _ _ (Fin.ext (by show 160 + (R.val - 96 - 32 - 32) = _; omega))
  rw [dif_neg (by omega), if_neg h3]
  by_cases h4 : R.val < 224
  · rw [dif_pos (by omega), if_pos h4, ix2_eq_valueIdx, part_at]; exact fin _ _ (Fin.ext (by show 192 + (R.val - 96 - 32 - 32 - 32) = _; omega))
  rw [dif_neg (by omega), if_neg h4, ix2_eq_valueIdx, part_at]
  exact fin _ _ (Fin.ext (by show 224 + (R.val - 96 - 32 - 32 - 32 - 32) = _; omega))

theorem inb_w (t : Fin 9) : ∀ a, (![t.val, 0, 0] : Fin 3 → ℕ) a + S1x1024x3584.size a ≤ S9x1024x3686.size a := by
  intro a; have := t.isLt
  match a with
  | 0 => show t.val + 1 ≤ 9; omega
  | 1 => exact le_refl 1024
  | 2 => exact (by decide : 0 + 3584 ≤ 3686)

/-- A tap's weights, the first 3584 columns. -/
def wts (x2 : Vec Ideal S9x1024x3686 .fp8e4m3) (t : Fin 9) : Vec Ideal S1x1024x3584 .fp8e4m3 :=
  View.ld x2 (Rect.unit (s := S9x1024x3686) ![t.val, 0, 0] S1x1024x3584.size (inb_w t))

theorem wts_at (x2 : Vec Ideal S9x1024x3686 .fp8e4m3) (t : Fin 9) (ch : Fin 1024) (C : Fin 3584) :
    (wts x2 t (ValueIdx.ix3 (0 : Fin 1) ch C) : EReal) = x2 (ValueIdx.ix3 t ch (⟨C.val, by omega⟩ : Fin 3686)) := by
  refine congrArg (x2 : S9x1024x3686.Idx → EReal) (funext fun a => Fin.ext ?_)
  match a with
  | 0 => exact (show t.val + 1 * 0 = t.val by omega)
  | 1 => exact (show 0 + 1 * ch.val = ch.val by omega)
  | 2 => exact (show 0 + 1 * C.val = C.val by omega)

/-- A tap's product. -/
def tap (l : FVec Ideal S240x1024 .bf16) (w : Vec Ideal S1x1024x3584 .fp8e4m3) : FVec Ideal S240x3584 .f32 :=
  matmul dot_S240x1024_S1024x3584_S240x3584_1_0_0_1_n_n none l (extf .bf16 (shapeCast S1024x3584 w shapeCasts_S1x1024x3584_S1024x3584) bitsLt_fp8e4m3_bf16) (constant S240x3584 .f32 0x00000000#32)

theorem tap_at (l : FVec Ideal S240x1024 .bf16) (w : Vec Ideal S1x1024x3584 .fp8e4m3) (R : Fin 240) (C : Fin 3584) :
    (tap l w (ValueIdx.ix2 R C) : EReal) = ∑ ch : Fin 1024, (l (ValueIdx.ix2 R ch) : EReal) * w (ValueIdx.ix3 (0 : Fin 1) ch C) := by
  unfold tap
  pointwise []
  refine Finset.sum_congr rfl fun m _ => ?_
  rw [ix2_eq_valueIdx, ix3_eq_valueIdx]

theorem tap_val (x0 : Vec Ideal S9x240x1024 .bf16) (x2 : Vec Ideal S9x1024x3686 .fp8e4m3) (t : Fin 9) (o0 o1 o2 o3 o4 o5 : Bool) (R : Fin 240) (C : Fin 3584) :
    (tap (lhs x0 t o0 o1 o2 o3 o4 o5) (wts x2 t) (ValueIdx.ix2 R C) : EReal)
      = if onAt R o0 o1 o2 o3 o4 o5 then ∑ ch : Fin 1024, (x0 (ValueIdx.ix3 t R ch) : EReal) * x2 (ValueIdx.ix3 t ch (⟨C.val, by omega⟩ : Fin 3686)) else 0 := by
  rw [tap_at]
  by_cases h : onAt R o0 o1 o2 o3 o4 o5 = true
  · rw [if_pos h]
    refine Finset.sum_congr rfl fun ch _ => ?_
    rw [lhs_at, if_pos h, wts_at]
  · rw [if_neg h]
    refine Finset.sum_eq_zero fun ch _ => ?_
    rw [lhs_at, if_neg h, zero_mul]

/-- The end of the body: the scales, the bias, the cut at zero. -/
def ending (acc : FVec Ideal S240x3584 .f32) (x1 : Vec Ideal S1x1 .f32) (y3 y4 : Vec Ideal S1x3584 .f32) : FVec Ideal S240x3584 .f32 :=
  maximumf (addf (mulf acc (broadcastTo S240x3584 (mulf (broadcastTo S1x3584 (shapeCast S1x1 x1 shapeCasts_S1x1_S1x1) broadcasts_S1x1_S1x3584) (shapeCast S1x3584 y3 shapeCasts_S1x3584_S1x3584)) broadcasts_S1x3584_S240x3584))
    (broadcastTo S240x3584 (shapeCast S1x3584 y4 shapeCasts_S1x3584_S1x3584) broadcasts_S1x3584_S240x3584)) (broadcast S240x3584 (Scalar.ofBits .f32 0x00000000#32))

theorem ending_at (acc : FVec Ideal S240x3584 .f32) (x1 : Vec Ideal S1x1 .f32) (y3 y4 : Vec Ideal S1x3584 .f32) (R : Fin 240) (C : Fin 3584) :
    (ending acc x1 y3 y4 (ValueIdx.ix2 R C) : EReal)
      = max ((acc (ValueIdx.ix2 R C) : EReal) * (x1 (ValueIdx.ix2 (0 : Fin 1) (0 : Fin 1)) * y3 (ValueIdx.ix2 (0 : Fin 1) C)) + y4 (ValueIdx.ix2 (0 : Fin 1) C)) 0 := by
  unfold ending
  pointwise []
  try simp only [ix2_eq_valueIdx]
  try rfl

/-- The nine taps, summed. -/
def taps (x0 : Vec Ideal S9x240x1024 .bf16) (x2 : Vec Ideal S9x1024x3686 .fp8e4m3) : FVec Ideal S240x3584 .f32 :=
  addf (addf (addf (addf (addf (addf (addf (addf
    (tap (lhs x0 0 true false true false true true) (wts x2 0))
    (tap (lhs x0 1 true false true true true true) (wts x2 1)))
    (tap (lhs x0 2 true false true true false true) (wts x2 2)))
    (tap (lhs x0 3 true true true false true true) (wts x2 3)))
    (tap (lhs x0 4 true true true true true true) (wts x2 4)))
    (tap (lhs x0 5 true true true true false true) (wts x2 5)))
    (tap (lhs x0 6 true true false false true false) (wts x2 6)))
    (tap (lhs x0 7 true true false true true false) (wts x2 7)))
    (tap (lhs x0 8 true true false true false false) (wts x2 8))

theorem out_eq (x0 : Vec Ideal S9x240x1024 .bf16) (x1 : Vec Ideal S1x1 .f32) (x2 : Vec Ideal S9x1024x3686 .fp8e4m3) (x3 x4 : Vec Ideal S1x3686 .f32) :
    out0_5 (F := Ideal) x0 x1 x2 x3 x4 = ending (taps x0 x2) x1 (View.ld x3 r0_49) (View.ld x4 r0_49) := by
  have hz2 : (![0, 0] : Fin S240x3584.rank → Nat) = fun _ => 0 := funext fun a => by fin_cases a <;> rfl
  have hz1 : (![0, 0] : Fin S1x1.rank → Nat) = fun _ => 0 := funext fun a => by fin_cases a <;> rfl
  unfold out0_5
  rw [View.canon_unit_zero hz2, View.ld_unit_zero hz1]
  rfl

theorem on_cls : ∀ R : Fin 240, (onAt R true false true false true true = decide (clsAt R ∈ (0 :: clsOf 0))) ∧ (onAt R true false true true true true = decide (clsAt R ∈ (0 :: clsOf 1)))
    ∧ (onAt R true false true true false true = decide (clsAt R ∈ (0 :: clsOf 2))) ∧ (onAt R true true true false true true = decide (clsAt R ∈ (0 :: clsOf 3)))
    ∧ (onAt R true true true true true true = decide (clsAt R ∈ (0 :: clsOf 4))) ∧ (onAt R true true true true false true = decide (clsAt R ∈ (0 :: clsOf 5)))
    ∧ (onAt R true true false false true false = decide (clsAt R ∈ (0 :: clsOf 6))) ∧ (onAt R true true false true true false = decide (clsAt R ∈ (0 :: clsOf 7)))
    ∧ (onAt R true true false true false false = decide (clsAt R ∈ (0 :: clsOf 8))) := by
  intro R
  unfold onAt
  generalize clsAt R = k
  revert k; decide

theorem taps_at (x0 : Vec Ideal S9x240x1024 .bf16) (x2 : Vec Ideal S9x1024x3686 .fp8e4m3) (R : Fin 240) (C : Fin 3584) :
    (taps x0 x2 (ValueIdx.ix2 R C) : EReal) = accOf x0 (fun i => x2 (ValueIdx.ix3 (i 0) (i 2) (i 1))) (clsAt R) R (⟨C.val, by omega⟩ : Fin 3686) := by
  rw [accOf_taps]
  obtain ⟨h0, h1, h2, h3, h4, h5, h6, h7, h8⟩ := on_cls R
  have e : ∀ (t : Fin 9) (o0 o1 o2 o3 o4 o5 : Bool), onAt R o0 o1 o2 o3 o4 o5 = decide (clsAt R ∈ (0 :: clsOf t.val)) →
      (tap (lhs x0 t o0 o1 o2 o3 o4 o5) (wts x2 t) (ValueIdx.ix2 R C) : EReal)
        = if clsAt R ∈ (0 :: clsOf t.val) then ∑ ch : Fin 1024, (x0 (ValueIdx.ix3 t R ch) : EReal) * x2 (ValueIdx.ix3 t ch (⟨C.val, by omega⟩ : Fin 3686)) else 0 := by
    intro t o0 o1 o2 o3 o4 o5 h
    rw [tap_val, h]
    simp only [decide_eq_true_eq]
  have e9 : ∀ g : Fin 9 → EReal, ∑ t, g t = g 0 + g 1 + g 2 + g 3 + g 4 + g 5 + g 6 + g 7 + g 8 := fun g => by
    simp only [Fin.sum_univ_succ, Fin.sum_univ_zero, add_zero, add_assoc]; rfl
  rw [e9]
  show (tap _ _ _ : EReal) + tap _ _ _ + tap _ _ _ + tap _ _ _ + tap _ _ _ + tap _ _ _ + tap _ _ _ + tap _ _ _ + tap _ _ _ = _
  rw [e 0 _ _ _ _ _ _ h0, e 1 _ _ _ _ _ _ h1, e 2 _ _ _ _ _ _ h2, e 3 _ _ _ _ _ _ h3, e 4 _ _ _ _ _ _ h4, e 5 _ _ _ _ _ _ h5, e 6 _ _ _ _ _ _ h6, e 7 _ _ _ _ _ _ h7, e 8 _ _ _ _ _ _ h8]

/-- The tap and channel weights as the kernel reads them, from the argument. -/
def wOf (a2 : S3x3x1024x3686.Idx → EReal) : Cert.SpatialIdeal.S9x3686x1024.Idx → EReal := fun i =>
  a2 (ValueIdx.ix4 (⟨(i 0).val / 3, by have h : (i 0).val < 9 := (i 0).isLt; omega⟩ : Fin 3) (⟨(i 0).val % 3, by omega⟩ : Fin 3) (i 2) (i 1))

/-- What both programs leave. -/
def valueOf (a0 : S9x240x1024.Idx → EReal) (a1 : S1.Idx → EReal) (a2 : S3x3x1024x3686.Idx → EReal) (a3 a4 : S3686.Idx → EReal) : S240x3584.Idx → EReal :=
  outVal a0 (a1 (ValueIdx.ix1 (0 : Fin 1))) (wOf a2) a3 a4

theorem ld_cols (x : Vec Ideal S1x3686 .f32) (C : Fin 3584) :
    (View.ld x r0_49 (ValueIdx.ix2 (0 : Fin 1) C) : EReal) = x (ValueIdx.ix2 (0 : Fin 1) (⟨C.val, by omega⟩ : Fin 3686)) := by
  refine congrArg (x : S1x3686.Idx → EReal) (funext fun a => Fin.ext ?_)
  match a with
  | 0 => rfl
  | 1 => exact (show 0 + 1 * C.val = C.val by omega)

variable (m : (ℓ : Loc nD τ sig) → Buf (Elt Ideal) ℓ) (ρ : Dev nD → PrngReg)

/-- The one grid point. -/
def t₀ : Fin cfg0.N := ⟨0, by decide⟩

/-- The result's array after the run holds what its only block was given. -/
theorem final_out (c : Dev nD) :
    ((cfg0.win (5 : Fin 6)).blk t₀).view.read (Elt Ideal) ((dats (F := Ideal) m 0 c).arrAt (5 : Fin 6) cfg0.N)
      = (dats (F := Ideal) m 0 c).flushed (5 : Fin 6) t₀ := by
  rw [show cfg0.N = (t₀ : Fin cfg0.N).val + 1 from rfl, (dats (F := Ideal) m 0 c).arrAt_succ (5 : Fin 6) t₀]
  rw [show (cfg0.win (5 : Fin 6)).flush t₀ = true from by decide, if_pos rfl]
  exact View.read_write_univ _ _

/-- The result array after the run, over the arrays the region finds. -/
theorem final_value (c : Dev nD) :
    (dats (F := Ideal) m 0 c).arrAt (5 : Fin 6) cfg0.N = (out0_5 (F := Ideal) (V m c main_arg0) (V m c main_v0) (V m c main_v1) (V m c main_v2) (V m c main_v3) : S240x3584.Idx → EReal) := by
  have ho := final_out m c
  have hz5 : (fun a => (win0_5.index t₀) a * main_v4.ty.shape.size a) = fun _ => 0 := funext fun a => by fin_cases a <;> decide
  have hr5 := fun f => Memref.read_access_unit_zero (Elt Ideal) main_v4 hz5 (fun a => by fin_cases a <;> decide) f
  have hz0 : (fun a => (win0_0.index t₀) a * main_arg0.ty.shape.size a) = fun _ => 0 := funext fun a => by fin_cases a <;> decide
  have hr0 := fun f => Memref.read_access_unit_zero (Elt Ideal) main_arg0 hz0 (fun a => by fin_cases a <;> decide) f
  have hz1 : (fun a => (win0_1.index t₀) a * main_v0.ty.shape.size a) = fun _ => 0 := funext fun a => by fin_cases a <;> decide
  have hr1 := fun f => Memref.read_access_unit_zero (Elt Ideal) main_v0 hz1 (fun a => by fin_cases a <;> decide) f
  have hz2 : (fun a => (win0_2.index t₀) a * main_v1.ty.shape.size a) = fun _ => 0 := funext fun a => by fin_cases a <;> decide
  have hr2 := fun f => Memref.read_access_unit_zero (Elt Ideal) main_v1 hz2 (fun a => by fin_cases a <;> decide) f
  have hz3 : (fun a => (win0_3.index t₀) a * main_v2.ty.shape.size a) = fun _ => 0 := funext fun a => by fin_cases a <;> decide
  have hr3 := fun f => Memref.read_access_unit_zero (Elt Ideal) main_v2 hz3 (fun a => by fin_cases a <;> decide) f
  have hz4 : (fun a => (win0_4.index t₀) a * main_v3.ty.shape.size a) = fun _ => 0 := funext fun a => by fin_cases a <;> decide
  have hr4 := fun f => Memref.read_access_unit_zero (Elt Ideal) main_v3 hz4 (fun a => by fin_cases a <;> decide) f
  rw [hr5] at ho
  rw [ho]
  show (cfg0.win (5 : Fin 6)).cut _ ((dats (F := Ideal) m 0 c).after 5 t₀) = _
  rw [after0_5]
  unfold iblk
  rw [hr0, hr1, hr2, hr3, hr4]
  rfl

theorem V_v0 (c : Dev nD) : (V m c main_v0 : S1x1.Idx → EReal) = shapeCast S1x1 (m ((c : Thread nD τ).loc main_arg1) : S1.Idx → EReal) shapeCasts_S1_S1x1 := by
  unfold V
  after_reads_simp
  rfl
theorem V_v1 (c : Dev nD) : (V m c main_v1 : S9x1024x3686.Idx → EReal) = shapeCast S9x1024x3686 (m ((c : Thread nD τ).loc main_arg2) : S3x3x1024x3686.Idx → EReal) shapeCasts_S3x3x1024x3686_S9x1024x3686 := by
  unfold V
  after_reads_simp
  rfl
theorem V_v2 (c : Dev nD) : (V m c main_v2 : S1x3686.Idx → EReal) = shapeCast S1x3686 (m ((c : Thread nD τ).loc main_arg3) : S3686.Idx → EReal) shapeCasts_S3686_S1x3686 := by
  unfold V
  after_reads_simp
  rfl
theorem V_v3 (c : Dev nD) : (V m c main_v3 : S1x3686.Idx → EReal) = shapeCast S1x3686 (m ((c : Thread nD τ).loc main_arg4) : S3686.Idx → EReal) shapeCasts_S3686_S1x3686 := by
  unfold V
  after_reads_simp
  rfl

theorem row_at (x : S3686.Idx → EReal) (col : Fin 3686) : shapeCast S1x3686 x shapeCasts_S3686_S1x3686 (ValueIdx.ix2 (0 : Fin 1) col) = x (ValueIdx.ix1 col) :=
  shapeCast_apply _ _ _ (ValueIdx.ix1 col) (by
    show _ = (Shape.rowMajor (s := ⟨2, ![1, 3686]⟩) _).val
    rw [Shape.rowMajor_val_one, Shape.rowMajor_val_two]
    simp [ValueIdx.ix1, ValueIdx.ix2])

theorem one_at (x : S1.Idx → EReal) : shapeCast S1x1 x shapeCasts_S1_S1x1 (ValueIdx.ix2 (0 : Fin 1) (0 : Fin 1)) = x (ValueIdx.ix1 (0 : Fin 1)) :=
  shapeCast_apply _ _ _ (ValueIdx.ix1 (0 : Fin 1)) (by
    show _ = (Shape.rowMajor (s := ⟨2, ![1, 1]⟩) _).val
    rw [Shape.rowMajor_val_one, Shape.rowMajor_val_two]
    simp [ValueIdx.ix1, ValueIdx.ix2])

theorem weights_eq (a2 : S3x3x1024x3686.Idx → EReal) :
    (fun i : Cert.SpatialIdeal.S9x3686x1024.Idx => shapeCast S9x1024x3686 a2 shapeCasts_S3x3x1024x3686_S9x1024x3686 (ValueIdx.ix3 (i 0 : Fin 9) (i 2 : Fin 1024) (i 1 : Fin 3686))) = wOf a2 := by
  funext i
  have h9 : (i 0).val < 9 := (i 0).isLt
  unfold wOf
  refine shapeCast_apply _ _ _ _ ?_
  show _ = (Shape.rowMajor (s := ⟨3, ![9, 1024, 3686]⟩) _).val
  rw [Shape.rowMajor_val_four, Shape.rowMajor_val_three]
  show (((i 0).val / 3 * 3 + (i 0).val % 3) * 1024 + (i 2).val) * 3686 + (i 1).val = ((i 0).val * 1024 + (i 2).val) * 3686 + (i 1).val
  rw [show (i 0).val / 3 * 3 + (i 0).val % 3 = (i 0).val by omega]

theorem result_value (c : Dev nD) :
    ((dats (F := Ideal) m 0 c).arrAt (5 : Fin 6) cfg0.N : S240x3584.Idx → EReal)
      = valueOf (m ((c : Thread nD τ).loc main_arg0)) (m ((c : Thread nD τ).loc main_arg1)) (m ((c : Thread nD τ).loc main_arg2)) (m ((c : Thread nD τ).loc main_arg3)) (m ((c : Thread nD τ).loc main_arg4)) := by
  rw [final_value, out_eq]
  funext (i : S240x3584.Idx)
  obtain ⟨R, C, rfl⟩ : ∃ R C, i = ValueIdx.ix2 R C := ⟨_, _, ValueIdx.eq_ix2 i⟩
  refine (ending_at _ _ _ _ R C).trans ?_
  rw [taps_at, ld_cols, ld_cols, V_v0, V_v1, V_v2, V_v3, row_at, row_at, one_at, V_main_arg0, weights_eq]
  rfl

/-- The reference's run: the result holds its value and the arguments are unchanged. -/
theorem run_result : θ_run defs (onTc (τ := τ) (main (F := Ideal))) ⟨m, fun _ => 0, ρ⟩ (fun r => ∀ c : Dev nD,
      r.2.mem ((c.tc : Thread nD τ).loc main_v4) = valueOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hv := (θ_run defs _ _).mono (fun r h c => ((h c).1 5).trans (result_value m c)) (run_main m ρ)
  exact (θ_run defs _ _).mono (fun r h c => ⟨h.1 c, h.2 c⟩) (θ_run_and hv (unchanged m ρ))

end Cert.SpatialReferenceIdeal.Hand
end
-- ==== Proof.JHost.lean ====
module

public import proofs.«01_k».proof.Proof.JLaunch
public import proofs.«01_k».proof.Proof.RSValue
public import Idealize.ShloMosaic.Lib.StableHlo.RunRead

@[expose] public section

set_option maxRecDepth 16384

noncomputable section

namespace Cert.SpatialIdeal.Hand

open Cert.SpatialIdeal Cert.SpatialIdeal.Gen
open Idealize.ShloMosaic Idealize.ShloMosaic.TcCoe Idealize.ShloMosaic.Tactic
open Idealize.SL.Sem
open Idealize.ShloMosaic.Pipeline (Dat Cfg Window)
open Cert.SpatialReferenceIdeal.Hand (wOf valueOf)

variable (m : (ℓ : Loc nD τ sig) → Buf (Elt Ideal) ℓ) (ρ : Dev nD → PrngReg)

/-- The weights as the region finds them: channels last, taps flat. -/
theorem V_v1 (c : Dev nD) : (V m c main_v1 : S9x3686x1024.Idx → EReal)
    = shapeCast S9x3686x1024 (transpose S3x3x3686x1024 [0, 1, 3, 2] (m ((c : Thread nD τ).loc main_arg2) : S3x3x1024x3686.Idx → EReal) transposes_S3x3x1024x3686_S3x3x3686x1024_0_1_3_2) shapeCasts_S3x3x3686x1024_S9x3686x1024 := by
  unfold V
  after_reads_simp
  rfl

theorem weights_eq (a2 : S3x3x1024x3686.Idx → EReal) :
    shapeCast S9x3686x1024 (transpose S3x3x3686x1024 [0, 1, 3, 2] a2 transposes_S3x3x1024x3686_S3x3x3686x1024_0_1_3_2) shapeCasts_S3x3x3686x1024_S9x3686x1024 = wOf a2 := by
  funext (i : S9x3686x1024.Idx)
  have h9 : (i 0).val < 9 := (i 0).isLt
  have hi : i = ValueIdx.ix3 (i 0 : Fin 9) (i 1 : Fin 3686) (i 2 : Fin 1024) := ValueIdx.eq_ix3 i
  refine (shapeCast_apply _ _ _ (ValueIdx.ix4 (⟨(i 0).val / 3, by omega⟩ : Fin 3) (⟨(i 0).val % 3, by omega⟩ : Fin 3) (i 1 : Fin 3686) (i 2 : Fin 1024)) ?_).trans ?_
  · show _ = (Shape.rowMajor (s := ⟨3, ![9, 3686, 1024]⟩) _).val
    rw [Shape.rowMajor_val_four, Shape.rowMajor_val_three]
    show (((i 0).val / 3 * 3 + (i 0).val % 3) * 3686 + (i 1).val) * 1024 + (i 2).val = ((i 0).val * 3686 + (i 1).val) * 1024 + (i 2).val
    rw [show (i 0).val / 3 * 3 + (i 0).val % 3 = (i 0).val by omega]
  · unfold wOf transpose
    refine congrArg a2 (funext fun a => ?_)
    fin_cases a <;> rfl

/-- The scale as the body reads it. -/
theorem scale_read (c : Dev nD) (fx : Buf (Elt Ideal) ((Memref.whole cc0_stg0_0).view.loc (c : Thread nD τ))) :
    (run.sl.r c fx : EReal) = (fx : S1.Idx → EReal) (ValueIdx.ix1 (0 : Fin 1)) := by
  refine congrArg (fx : S1.Idx → EReal) (funext fun a => ?_)
  match a with
  | 0 => exact Subsingleton.elim (α := Fin 1) _ _

theorem scale_block (c : Dev nD) (t : Fin cfg0.N) : (xs m c t : S1.Idx → EReal) = m ((c : Thread nD τ).loc main_arg1) := by
  rw [← V_main_arg1 m c]
  funext (i : S1.Idx)
  show iblk m c 0 t i = _
  unfold iblk
  refine congrArg (V m c main_arg1 : S1.Idx → EReal) (funext fun a => ?_)
  match a with
  | 0 => exact Subsingleton.elim (α := Fin 1) _ _

theorem outG_eq (c : Dev nD) : (outG m c : S240x3584.Idx → EReal)
    = valueOf (m ((c : Thread nD τ).loc main_arg0)) (m ((c : Thread nD τ).loc main_arg1)) (m ((c : Thread nD τ).loc main_arg2)) (m ((c : Thread nD τ).loc main_arg3)) (m ((c : Thread nD τ).loc main_arg4)) := by
  unfold outG target valueOf
  rw [scale_read, scale_block, V_main_arg0, V_v1, V_main_arg3, V_main_arg4, weights_eq]

/-- The kernel's run: the result holds its value and the arguments are unchanged. -/
theorem run_result : θ_run defs (onTc (τ := τ) (main (F := Ideal))) ⟨m, fun _ => 0, ρ⟩ (fun r => ∀ c : Dev nD,
      r.2.mem ((c.tc : Thread nD τ).loc main_v2) = valueOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).trans (outG_eq m c), h.2.1 c⟩) (θ_run_and (run_value m ρ) (frame_any m ρ))

end Cert.SpatialIdeal.Hand
end
-- ==== Proof.RTaps.lean ====
module

public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.IPoint
public import Idealize.ShloMosaic.Lib.Pipeline.Value
public import Idealize.ShloMosaic.Lib.StableHlo.RunRead

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL.Sem
open Idealize.ShloMosaic.Pipeline (Dat Cfg Window)
open scoped BigOperators

/-- The codes times their frames' scales. -/
def scaled (x0 : Vec Ideal S2x4x30x3686 .fp8e4m3) (x1 : Vec Ideal S2x4 .f32) : FVec Ideal S2x4x30x3686 .bf16 :=
  mulf (extf .bf16 (shapeCast S2x4x30x3686 x0 shapeCasts_S2x4x30x3686_S2x4x30x3686) bitsLt_fp8e4m3_bf16)
    (broadcastTo S2x4x30x3686 (shapeCast S2x4x1x1 (truncf .bf16 x1 bitsLt_bf16_f32) shapeCasts_S2x4_S2x4x1x1) broadcasts_S2x4x1x1_S2x4x30x3686)

/-- A frame of zeros before and a frame of zeros after. -/
def padded (v : FVec Ideal S2x4x30x3686 .bf16) : FVec Ideal S2x6x30x3686 .bf16 :=
  concatenate S2x6x30x3686 1 [⟨S2x1x30x3686, broadcast S2x1x30x3686 (Scalar.ofBits .bf16 0x0000#16)⟩, ⟨S2x4x30x3686, v⟩, ⟨S2x1x30x3686, broadcast S2x1x30x3686 (Scalar.ofBits .bf16 0x0000#16)⟩] concatenates_S2x1x30x3686_S2x4x30x3686_S2x1x30x3686_S2x6x30x3686_d1

/-- One tap's product. -/
def tap (l : FVec Ideal S2x4x30x3686 .bf16) (w : Vec Ideal S1x3686x2048 .fp8e4m3) : FVec Ideal S240x2048 .f32 :=
  matmul dot_S240x3686_S3686x2048_S240x2048_1_0_0_1_n_n none (shapeCast S240x3686 l shapeCasts_S2x4x30x3686_S240x3686)
    (extf .bf16 (shapeCast S3686x2048 w shapeCasts_S1x3686x2048_S3686x2048) bitsLt_fp8e4m3_bf16) (constant S240x2048 .f32 0x00000000#32)

theorem scaled_at (x0 : Vec Ideal S2x4x30x3686 .fp8e4m3) (x1 : Vec Ideal S2x4 .f32) (b : Fin 2) (f : Fin 4) (q : Fin 30) (m : Fin 3686) :
    (scaled x0 x1 (ValueIdx.ix4 b f q m) : EReal) = (x0 (ValueIdx.ix4 b f q m) : EReal) * x1 (ValueIdx.ix2 b f) := by
  unfold scaled
  pointwise []
  rw [ix2_eq_valueIdx]

theorem padded_at (v : FVec Ideal S2x4x30x3686 .bf16) (b : Fin 2) (j : Fin 6) (q : Fin 30) (m : Fin 3686) :
    (padded v (ValueIdx.ix4 b j q m) : EReal) = if h : 1 ≤ j.val ∧ j.val < 5 then v (ValueIdx.ix4 b (⟨j.val - 1, by omega⟩ : Fin 4) q m) else 0 := by
  unfold padded
  pointwise []
  show (if h : j.val < 1 then (0 : EReal) else if h : j.val - 1 < 4 then v (ix4 b (⟨j.val - 1, h⟩ : Fin 4) q m) else 0) = _
  by_cases h : 1 ≤ j.val ∧ j.val < 5
  · rw [dif_neg (by omega), dif_pos (by omega), dif_pos h, ix4_eq_valueIdx]
  · rw [dif_neg h]
    by_cases h1 : j.val < 1
    · rw [dif_pos h1]
    · rw [dif_neg h1, dif_neg (by omega)]

theorem tap_at (l : FVec Ideal S2x4x30x3686 .bf16) (w : Vec Ideal S1x3686x2048 .fp8e4m3) (b : Fin 2) (f : Fin 4) (q : Fin 30) (col : Fin 2048) :
    (tap l w (ValueIdx.ix2 (⟨120 * b.val + 30 * f.val + q.val, by omega⟩ : Fin 240) col) : EReal)
      = ∑ m : Fin 3686, (l (ValueIdx.ix4 b f q m) : EReal) * w (ValueIdx.ix3 (0 : Fin 1) m col) := by
  unfold tap
  pointwise []
  refine Finset.sum_congr rfl fun m _ => ?_
  rw [ix4_eq_valueIdx, ix3_eq_valueIdx, show (⟨(120 * b.val + 30 * f.val + q.val) / 120, by omega⟩ : Fin 2) = b from Fin.ext (by show _ / _ = _; omega),
    show (⟨(120 * b.val + 30 * f.val + q.val) / 30 % 4, by omega⟩ : Fin 4) = f from Fin.ext (by show _ % _ = _; omega),
    show (⟨(120 * b.val + 30 * f.val + q.val) % 30, by omega⟩ : Fin 30) = q from Fin.ext (by show _ % _ = _; omega)]

theorem pay2_eq (x0 : Vec Ideal S2x4x30x3686 .fp8e4m3) (x1 : Vec Ideal S2x4 .f32) (w0 w1 w2 : Vec Ideal S1x3686x2048 .fp8e4m3) (x3 : Vec Ideal S1x2048 .f32) :
    k0_pay2 (F := Ideal) x0 x1 w0 w1 w2 x3 = mulf (addf (addf
      (tap (extractStridedSlice S2x4x30x3686 ![0, 0, 0, 0] (padded (scaled x0 x1)) slices_S2x6x30x3686_o0_0_0_0_S2x4x30x3686) w0)
      (tap (extractStridedSlice S2x4x30x3686 ![0, 1, 0, 0] (padded (scaled x0 x1)) slices_S2x6x30x3686_o0_1_0_0_S2x4x30x3686) w1))
      (tap (extractStridedSlice S2x4x30x3686 ![0, 2, 0, 0] (padded (scaled x0 x1)) slices_S2x6x30x3686_o0_2_0_0_S2x4x30x3686) w2))
      (broadcastTo S240x2048 (shapeCast S1x2048 x3 shapeCasts_S1x2048_S1x2048) broadcasts_S1x2048_S240x2048) := rfl

/-- One tap read over the padded frames: zero off the frames. -/
theorem frames_at (v : FVec Ideal S2x4x30x3686 .bf16) (k : Fin 3) (hs : S2x6x30x3686.Slices ![0, k.val, 0, 0] S2x4x30x3686) (b : Fin 2) (f : Fin 4) (q : Fin 30) (m : Fin 3686) :
    (extractStridedSlice S2x4x30x3686 ![0, k.val, 0, 0] (padded v) hs (ValueIdx.ix4 b f q m) : EReal)
      = if h : 1 ≤ f.val + k.val ∧ f.val + k.val < 5 then v (ValueIdx.ix4 b (⟨f.val + k.val - 1, by omega⟩ : Fin 4) q m) else 0 := by
  have e : extractStridedSlice S2x4x30x3686 ![0, k.val, 0, 0] (padded v) hs (ValueIdx.ix4 b f q m) = padded v (ValueIdx.ix4 b (⟨f.val + k.val, by omega⟩ : Fin 6) q m) := by
    unfold extractStridedSlice
    refine congrArg _ (funext fun a => Fin.ext ?_)
    fin_cases a <;> simp [ValueIdx.ix4] <;> omega
  rw [e, padded_at]

theorem sum_mul_scale {ι : Type} (S : Finset ι) (g : ι → EReal) (s : EReal) (h0 : 0 ≤ s) (ht : s ≠ ⊤) : ∑ i ∈ S, g i * s = (∑ i ∈ S, g i) * s := by
  classical
  induction S using Finset.induction_on with
  | empty => simp
  | insert a S ha ih => rw [Finset.sum_insert ha, Finset.sum_insert ha, ih, EReal.right_distrib_of_nonneg_of_ne_top h0 ht]

/-- One tap over a frame that is there: its product times its frame's scale. -/
theorem tap_in (x0 : Vec Ideal S2x4x30x3686 .fp8e4m3) (x1 : Vec Ideal S2x4 .f32) (wk : Vec Ideal S1x3686x2048 .fp8e4m3) (k : Fin 3)
    (hs : S2x6x30x3686.Slices ![0, k.val, 0, 0] S2x4x30x3686) (b : Fin 2) (f fs : Fin 4) (q : Fin 30) (col : Fin 2048) (hf : f.val + k.val = fs.val + 1)
    (h0 : (0 : EReal) ≤ x1 (ValueIdx.ix2 b fs)) (ht : (x1 (ValueIdx.ix2 b fs) : EReal) ≠ ⊤) :
    (tap (extractStridedSlice S2x4x30x3686 ![0, k.val, 0, 0] (padded (scaled x0 x1)) hs) wk (ValueIdx.ix2 (⟨120 * b.val + 30 * f.val + q.val, by omega⟩ : Fin 240) col) : EReal)
      = (∑ m : Fin 3686, (x0 (ValueIdx.ix4 b fs q m) : EReal) * wk (ValueIdx.ix3 (0 : Fin 1) m col)) * x1 (ValueIdx.ix2 b fs) := by
  rw [tap_at, ← sum_mul_scale _ _ _ h0 ht]
  refine Finset.sum_congr rfl fun m _ => ?_
  rw [frames_at, dif_pos ⟨by omega, by omega⟩, show (⟨f.val + k.val - 1, by omega⟩ : Fin 4) = fs from Fin.ext (show f.val + k.val - 1 = fs.val by omega), scaled_at]
  exact mul_right_comm _ _ _

/-- One tap over a frame that is not there: zero. -/
theorem tap_out (x0 : Vec Ideal S2x4x30x3686 .fp8e4m3) (x1 : Vec Ideal S2x4 .f32) (wk : Vec Ideal S1x3686x2048 .fp8e4m3) (k : Fin 3)
    (hs : S2x6x30x3686.Slices ![0, k.val, 0, 0] S2x4x30x3686) (b : Fin 2) (f : Fin 4) (q : Fin 30) (col : Fin 2048) (hf : ¬ (1 ≤ f.val + k.val ∧ f.val + k.val < 5)) :
    (tap (extractStridedSlice S2x4x30x3686 ![0, k.val, 0, 0] (padded (scaled x0 x1)) hs) wk (ValueIdx.ix2 (⟨120 * b.val + 30 * f.val + q.val, by omega⟩ : Fin 240) col) : EReal) = 0 := by
  rw [tap_at]
  refine Finset.sum_eq_zero fun m _ => ?_
  rw [frames_at, dif_neg hf, zero_mul]

theorem pay1_at (y z : FVec Ideal S240x2048 .f32) (r : Fin 240) (col : Fin 2048) :
    (k0_pay1 (F := Ideal) y z (ValueIdx.ix2 r col) : EReal) = max ((y (ValueIdx.ix2 r col) : EReal) + z (ValueIdx.ix2 r col)) 0 := by
  pointwise [k0_pay1]

theorem pay3_at (z : Vec Ideal S1x2048 .f32) (r : Fin 240) (col : Fin 2048) :
    (k0_pay3 (F := Ideal) z (ValueIdx.ix2 r col) : EReal) = z (ValueIdx.ix2 (0 : Fin 1) col) := by
  pointwise [k0_pay3]
  rw [ix2_eq_valueIdx]

theorem scale_at (t : FVec Ideal S240x2048 .f32) (z : Vec Ideal S1x2048 .f32) (r : Fin 240) (col : Fin 2048) :
    (mulf t (broadcastTo S240x2048 (shapeCast S1x2048 z shapeCasts_S1x2048_S1x2048) broadcasts_S1x2048_S240x2048) (ValueIdx.ix2 r col) : EReal)
      = (t (ValueIdx.ix2 r col) : EReal) * z (ValueIdx.ix2 (0 : Fin 1) col) := by
  pointwise []
  rw [ix2_eq_valueIdx]

variable (m : (ℓ : Loc nD τ sig) → Buf (Elt Ideal) ℓ) (ρ : Dev nD → PrngReg)

/-- The one grid point. -/
def t₀ : Fin cfg0.N := ⟨0, by decide⟩

/-- The result's array after the run holds what its only block was given. -/
theorem final_out (c : Dev nD) :
    ((cfg0.win (5 : Fin 6)).blk t₀).view.read (Elt Ideal) ((dats (F := Ideal) m 0 c).arrAt (5 : Fin 6) cfg0.N)
      = (dats (F := Ideal) m 0 c).flushed (5 : Fin 6) t₀ := by
  rw [show cfg0.N = (t₀ : Fin cfg0.N).val + 1 from rfl, (dats (F := Ideal) m 0 c).arrAt_succ (5 : Fin 6) t₀]
  rw [show (cfg0.win (5 : Fin 6)).flush t₀ = true from by decide, if_pos rfl]
  exact View.read_write_univ _ _

/-- One tap's weights, loaded. -/
def tapW (x2 : Vec Ideal S3x3686x2048 .fp8e4m3) (k : Fin 3) : Vec Ideal S1x3686x2048 .fp8e4m3 :=
  match k with
  | 0 => View.ld x2 r0_2
  | 1 => View.ld x2 r0_3
  | 2 => View.ld x2 r0_4

theorem tapW_at (x2 : Vec Ideal S3x3686x2048 .fp8e4m3) (k : Fin 3) (mm : Fin 3686) (col : Fin 2048) :
    (tapW x2 k (ValueIdx.ix3 (0 : Fin 1) mm col) : EReal) = x2 (ValueIdx.ix3 k mm col) := by
  match k with
  | 0 => exact congrArg x2 (funext fun a => Fin.ext (by fin_cases a <;> simp [ValueIdx.ix3]))
  | 1 => exact congrArg x2 (funext fun a => Fin.ext (by fin_cases a <;> simp [ValueIdx.ix3]))
  | 2 => exact congrArg x2 (funext fun a => Fin.ext (by fin_cases a <;> simp [ValueIdx.ix3]))

theorem out_eq (x0 : Vec Ideal S2x4x30x3686 .fp8e4m3) (x1 : Vec Ideal S2x4 .f32) (x2 : Vec Ideal S3x3686x2048 .fp8e4m3) (x3 x4 : Vec Ideal S1x2048 .f32) :
    out0_5 (F := Ideal) x0 x1 x2 x3 x4 = k0_pay1 (k0_pay2 x0 x1 (tapW x2 0) (tapW x2 1) (tapW x2 2) x3) (k0_pay3 x4) := by
  have hz2 : (![0, 0] : Fin S240x2048.rank → Nat) = fun _ => 0 := funext fun a => by fin_cases a <;> rfl
  have hz0 : (![0, 0, 0, 0] : Fin S2x4x30x3686.rank → Nat) = fun _ => 0 := funext fun a => by fin_cases a <;> rfl
  have hz1 : (![0, 0] : Fin S2x4.rank → Nat) = fun _ => 0 := funext fun a => by fin_cases a <;> rfl
  have hz3 : (![0, 0] : Fin S1x2048.rank → Nat) = fun _ => 0 := funext fun a => by fin_cases a <;> rfl
  unfold out0_5
  rw [View.canon_unit_zero hz2, View.ld_unit_zero hz0, View.ld_unit_zero hz1, View.ld_unit_zero hz3, View.ld_unit_zero hz3]
  rfl

/-- The result array after the run, over the arrays the region finds. -/
theorem final_value (c : Dev nD) :
    (dats (F := Ideal) m 0 c).arrAt (5 : Fin 6) cfg0.N = (out0_5 (F := Ideal) (V m c main_v0) (V m c main_arg1) (V m c main_arg2) (V m c main_v1) (V m c main_v2) : S240x2048.Idx → EReal) := by
  have ho := final_out m c
  have hz5 : (fun a => (win0_5.index t₀) a * main_v3.ty.shape.size a) = fun _ => 0 := funext fun a => by fin_cases a <;> decide
  have hr5 := fun f => Memref.read_access_unit_zero (Elt Ideal) main_v3 hz5 (fun a => by fin_cases a <;> decide) f
  have hz0 : (fun a => (win0_0.index t₀) a * main_v0.ty.shape.size a) = fun _ => 0 := funext fun a => by fin_cases a <;> decide
  have hr0 := fun f => Memref.read_access_unit_zero (Elt Ideal) main_v0 hz0 (fun a => by fin_cases a <;> decide) f
  have hz1 : (fun a => (win0_1.index t₀) a * main_arg1.ty.shape.size a) = fun _ => 0 := funext fun a => by fin_cases a <;> decide
  have hr1 := fun f => Memref.read_access_unit_zero (Elt Ideal) main_arg1 hz1 (fun a => by fin_cases a <;> decide) f
  have hz2 : (fun a => (win0_2.index t₀) a * main_arg2.ty.shape.size a) = fun _ => 0 := funext fun a => by fin_cases a <;> decide
  have hr2 := fun f => Memref.read_access_unit_zero (Elt Ideal) main_arg2 hz2 (fun a => by fin_cases a <;> decide) f
  have hz3 : (fun a => (win0_3.index t₀) a * main_v1.ty.shape.size a) = fun _ => 0 := funext fun a => by fin_cases a <;> decide
  have hr3 := fun f => Memref.read_access_unit_zero (Elt Ideal) main_v1 hz3 (fun a => by fin_cases a <;> decide) f
  have hz4 : (fun a => (win0_4.index t₀) a * main_v2.ty.shape.size a) = fun _ => 0 := funext fun a => by fin_cases a <;> decide
  have hr4 := fun f => Memref.read_access_unit_zero (Elt Ideal) main_v2 hz4 (fun a => by fin_cases a <;> decide) f
  rw [hr5] at ho
  rw [ho]
  show (cfg0.win (5 : Fin 6)).cut _ ((dats (F := Ideal) m 0 c).after 5 t₀) = _
  rw [after0_5]
  unfold iblk
  rw [hr0, hr1, hr2, hr3, hr4]
  rfl

end Cert.ReferenceIdeal.Hand
end
-- ==== Proof.RValue.lean ====
module

public import proofs.«01_k».proof.Proof.RTaps
public import proofs.«01_k».proof.Proof.IHost

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL.Sem
open Idealize.ShloMosaic.Pipeline (Dat Cfg Window)
open Cert.KernelIdeal.Hand (tapOf accOf valueOf)
open scoped BigOperators

/-- A tap's product over the flat pixels is the tap's product over height and width. -/
theorem tapOf_flat (x0 : S2x4x5x6x3686.Idx → EReal) (y0 : Vec Ideal S2x4x30x3686 .fp8e4m3) (x2 : S3x3686x2048.Idx → EReal)
    (H : ∀ (b : Fin 2) (fs : Fin 4) (h : Fin 5) (w : Fin 6) (mm : Fin 3686), (y0 (ValueIdx.ix4 b fs (⟨6 * h.val + w.val, by omega⟩ : Fin 30) mm) : EReal) = x0 (ValueIdx.ix5 b fs h w mm))
    (k : Fin 3) (b : Fin 2) (fs : Fin 4) (h : Fin 5) (w : Fin 6) (col : Fin 2048) :
    (∑ mm : Fin 3686, (y0 (ValueIdx.ix4 b fs (⟨6 * h.val + w.val, by omega⟩ : Fin 30) mm) : EReal) * tapW x2 k (ValueIdx.ix3 (0 : Fin 1) mm col)) = tapOf x0 x2 k b fs h w col := by
  unfold tapOf
  refine Finset.sum_congr rfl fun mm _ => ?_
  rw [H, tapW_at]

/-- The three taps' sum at one frame, from each tap's value where it reads inside the video and where it reads the padding. -/
theorem taps_sum (x0 : S2x4x5x6x3686.Idx → EReal) (x1 : S2x4.Idx → EReal) (x2 : S3x3686x2048.Idx → EReal) (b : Fin 2) (h : Fin 5) (w : Fin 6) (col : Fin 2048) (T : Fin 4 → Fin 3 → EReal)
    (tin : ∀ (f : Fin 4) (k : Fin 3) (fs : Fin 4), f.val + k.val = fs.val + 1 → T f k = tapOf x0 x2 k b fs h w col * x1 (ValueIdx.ix2 b fs))
    (tout : ∀ (f : Fin 4) (k : Fin 3), ¬ (1 ≤ f.val + k.val ∧ f.val + k.val < 5) → T f k = 0) (f : Fin 4) :
    T f 0 + T f 1 + T f 2 = accOf x0 x1 x2 b h w col f := by
  match f with
  | 0 => rw [tout 0 0 (by decide), tin 0 1 0 (by decide), tin 0 2 1 (by decide), zero_add]; rfl
  | 1 => rw [tin 1 0 0 (by decide), tin 1 1 1 (by decide), tin 1 2 2 (by decide)]; rfl
  | 2 => rw [tin 2 0 1 (by decide), tin 2 1 2 (by decide), tin 2 2 3 (by decide)]; rfl
  | 3 => rw [tin 3 0 2 (by decide), tin 3 1 3 (by decide), tout 3 2 (by decide), add_zero]; rfl

theorem slices_at (k : Fin 3) : S2x6x30x3686.Slices ![0, k.val, 0, 0] S2x4x30x3686 := by
  match k with
  | 0 => exact slices_S2x6x30x3686_o0_0_0_0_S2x4x30x3686
  | 1 => exact slices_S2x6x30x3686_o0_1_0_0_S2x4x30x3686
  | 2 => exact slices_S2x6x30x3686_o0_2_0_0_S2x4x30x3686

/-- One of the reference's taps: a slice of the padded scaled codes times one tap's weights. -/
def tapK (y0 : Vec Ideal S2x4x30x3686 .fp8e4m3) (x1 : Vec Ideal S2x4 .f32) (x2 : Vec Ideal S3x3686x2048 .fp8e4m3) (k : Fin 3) :=
  tap (extractStridedSlice S2x4x30x3686 ![0, k.val, 0, 0] (padded (scaled y0 x1)) (slices_at k)) (tapW x2 k)

theorem pay2_tapK (y0 : Vec Ideal S2x4x30x3686 .fp8e4m3) (x1 : Vec Ideal S2x4 .f32) (x2 : Vec Ideal S3x3686x2048 .fp8e4m3) (y3 : Vec Ideal S1x2048 .f32) (r : Fin 240) (col : Fin 2048) :
    (k0_pay2 (F := Ideal) y0 x1 (tapW x2 0) (tapW x2 1) (tapW x2 2) y3 (ValueIdx.ix2 r col) : EReal)
      = ((tapK y0 x1 x2 0 (ValueIdx.ix2 r col) : EReal) + tapK y0 x1 x2 1 (ValueIdx.ix2 r col) + tapK y0 x1 x2 2 (ValueIdx.ix2 r col)) * y3 (ValueIdx.ix2 (0 : Fin 1) col) := by
  rw [pay2_eq, scale_at]
  rfl

/-- The reference's body at one element: the same value the kernel leaves, where the scales are finite and not negative. -/
theorem body_at (x0 : S2x4x5x6x3686.Idx → EReal) (y0 : Vec Ideal S2x4x30x3686 .fp8e4m3) (x1 : Vec Ideal S2x4 .f32) (x2 : Vec Ideal S3x3686x2048 .fp8e4m3) (x3 x4 : S2048.Idx → EReal) (y3 y4 : Vec Ideal S1x2048 .f32)
    (H : ∀ (b : Fin 2) (fs : Fin 4) (h : Fin 5) (w : Fin 6) (mm : Fin 3686), (y0 (ValueIdx.ix4 b fs (⟨6 * h.val + w.val, by omega⟩ : Fin 30) mm) : EReal) = x0 (ValueIdx.ix5 b fs h w mm))
    (H3 : ∀ col : Fin 2048, (y3 (ValueIdx.ix2 (0 : Fin 1) col) : EReal) = x3 (ValueIdx.ix1 col))
    (H4 : ∀ col : Fin 2048, (y4 (ValueIdx.ix2 (0 : Fin 1) col) : EReal) = x4 (ValueIdx.ix1 col))
    (h0 : ∀ i, (0 : EReal) ≤ x1 i) (ht : ∀ i, (x1 i : EReal) ≠ ⊤) (b : Fin 2) (f : Fin 4) (h : Fin 5) (w : Fin 6) (col : Fin 2048) :
    (out0_5 (F := Ideal) y0 x1 x2 y3 y4 (ValueIdx.ix2 (⟨120 * b.val + 30 * f.val + (6 * h.val + w.val), by omega⟩ : Fin 240) col) : EReal)
      = valueOf x0 x1 x2 x3 x4 (ValueIdx.ix5 b f h w col) := by
  have key := taps_sum x0 x1 x2 b h w col (fun f k => tapK y0 x1 x2 k (ValueIdx.ix2 (⟨120 * b.val + 30 * f.val + (6 * h.val + w.val), by omega⟩ : Fin 240) col))
    (fun f k fs hf => (tap_in y0 x1 (tapW x2 k) k (slices_at k) b f fs (⟨6 * h.val + w.val, by omega⟩ : Fin 30) col hf (h0 _) (ht _)).trans
      (congrArg (fun t : EReal => t * (x1 (ValueIdx.ix2 b fs) : EReal)) (tapOf_flat x0 y0 x2 H k b fs h w col)))
    (fun f k hf => tap_out y0 x1 (tapW x2 k) k (slices_at k) b f (⟨6 * h.val + w.val, by omega⟩ : Fin 30) col hf) f
  rw [out_eq, pay1_at, pay3_at, pay2_tapK, H3, H4]
  exact congrArg (fun t : EReal => max (t * x3 (ValueIdx.ix1 col) + x4 (ValueIdx.ix1 col)) 0) key

variable (m : (ℓ : Loc nD τ sig) → Buf (Elt Ideal) ℓ) (ρ : Dev nD → PrngReg)

theorem V_v0 (c : Dev nD) : (V m c main_v0 : S2x4x30x3686.Idx → EReal) = shapeCast S2x4x30x3686 (m ((c : Thread nD τ).loc main_arg0) : S2x4x5x6x3686.Idx → EReal) shapeCasts_S2x4x5x6x3686_S2x4x30x3686 := by
  unfold V V0
  simp only [List.flatten_cons, List.flatten_nil, List.append_nil]
  after_reads_simp
  rfl
theorem V_v1 (c : Dev nD) : (V m c main_v1 : S1x2048.Idx → EReal) = shapeCast S1x2048 (m ((c : Thread nD τ).loc main_arg3) : S2048.Idx → EReal) shapeCasts_S2048_S1x2048 := by
  unfold V V0
  simp only [List.flatten_cons, List.flatten_nil, List.append_nil]
  after_reads_simp
  rfl
theorem V_v2 (c : Dev nD) : (V m c main_v2 : S1x2048.Idx → EReal) = shapeCast S1x2048 (m ((c : Thread nD τ).loc main_arg4) : S2048.Idx → EReal) shapeCasts_S2048_S1x2048 := by
  unfold V V0
  simp only [List.flatten_cons, List.flatten_nil, List.append_nil]
  after_reads_simp
  rfl

theorem codes_at (x : S2x4x5x6x3686.Idx → EReal) (b : Fin 2) (fs : Fin 4) (h : Fin 5) (w : Fin 6) (mm : Fin 3686) :
    shapeCast S2x4x30x3686 x shapeCasts_S2x4x5x6x3686_S2x4x30x3686 (ValueIdx.ix4 b fs (⟨6 * h.val + w.val, by omega⟩ : Fin 30) mm) = x (ValueIdx.ix5 b fs h w mm) :=
  shapeCast_apply _ _ _ (ValueIdx.ix5 b fs h w mm) (by
    show _ = (Shape.rowMajor (s := ⟨4, ![2, 4, 30, 3686]⟩) _).val
    rw [Shape.rowMajor_val_five, Shape.rowMajor_val_four]
    simp [ValueIdx.ix5, ValueIdx.ix4]
    omega)

theorem row_at (x : S2048.Idx → EReal) (col : Fin 2048) : shapeCast S1x2048 x shapeCasts_S2048_S1x2048 (ValueIdx.ix2 (0 : Fin 1) col) = x (ValueIdx.ix1 col) :=
  shapeCast_apply _ _ _ (ValueIdx.ix1 col) (by
    show _ = (Shape.rowMajor (s := ⟨2, ![1, 2048]⟩) _).val
    rw [Shape.rowMajor_val_one, Shape.rowMajor_val_two]
    simp [ValueIdx.ix1, ValueIdx.ix2])

theorem out_at (x : S240x2048.Idx → EReal) (b : Fin 2) (f : Fin 4) (h : Fin 5) (w : Fin 6) (col : Fin 2048) :
    shapeCast S2x4x5x6x2048 x shapeCasts_S240x2048_S2x4x5x6x2048 (ValueIdx.ix5 b f h w col)
      = x (ValueIdx.ix2 (⟨120 * b.val + 30 * f.val + (6 * h.val + w.val), by omega⟩ : Fin 240) col) :=
  shapeCast_apply _ _ _ _ (by
    show (Shape.rowMajor (s := ⟨2, ![240, 2048]⟩) _).val = (Shape.rowMajor (s := ⟨5, ![2, 4, 5, 6, 2048]⟩) _).val
    rw [Shape.rowMajor_val_five, Shape.rowMajor_val_two]
    simp [ValueIdx.ix5, ValueIdx.ix2]
    omega)

theorem after_v4 (W : Valuation τ sig (Elt Ideal)) (G : S240x2048.Idx → EReal) (hG : W (Proc.devRef .tc main_v3) = G) :
    (StableHlo.after (List.flatten [hostOps1]) W (Proc.devRef .tc main_v4) : S2x4x5x6x2048.Idx → EReal) = shapeCast S2x4x5x6x2048 G shapeCasts_S240x2048_S2x4x5x6x2048 := by
  simp only [List.flatten_cons, List.flatten_nil, List.append_nil]
  after_reads_simp
  rw [hG]
  rfl

/-- The reference's result, as a term over its arguments. -/
theorem result_value (c : Dev nD) (h0 : ∀ i, (0 : EReal) ≤ (m ((c : Thread nD τ).loc main_arg1) : S2x4.Idx → EReal) i) (ht : ∀ i, (m ((c : Thread nD τ).loc main_arg1) : S2x4.Idx → EReal) i ≠ (⊤ : EReal)) :
    Pipeline.afterTail₀ cfgs (dats m) 0 (V0 m) [hostOps1] c main_v4
      = valueOf (m ((c : Thread nD τ).loc main_arg0)) (m ((c : Thread nD τ).loc main_arg1)) (m ((c : Thread nD τ).loc main_arg2)) (m ((c : Thread nD τ).loc main_arg3)) (m ((c : Thread nD τ).loc main_arg4)) := by
  unfold Pipeline.afterTail₀
  funext (i : S2x4x5x6x2048.Idx)
  obtain ⟨b, f, h, w, col, rfl⟩ : ∃ b f h w col, i = ValueIdx.ix5 b f h w col := ⟨_, _, _, _, _, ValueIdx.eq_ix5 i⟩
  refine (congrFun (after_v4 _ _ ((Pipeline.withArrays_arr spec0 (by decide) c _ _ 5).trans (final_value m c))) _).trans ?_
  rw [out_at]
  refine body_at (m ((c : Thread nD τ).loc main_arg0)) _ (V m c main_arg1) (V m c main_arg2) (m ((c : Thread nD τ).loc main_arg3)) (m ((c : Thread nD τ).loc main_arg4)) _ _
    (fun b fs h w mm => ?_) (fun col => ?_) (fun col => ?_) ?_ ?_ b f h w col |>.trans ?_
  · rw [V_v0]; exact codes_at _ b fs h w mm
  · rw [V_v1]; exact row_at _ col
  · rw [V_v2]; exact row_at _ col
  · rw [V_main_arg1]; exact h0
  · rw [V_main_arg1]; exact ht
  · rw [V_main_arg1, V_main_arg2]

/-- The reference's run: the result holds its value and the arguments are unchanged. -/
theorem run_result (hs : ∀ c : Dev nD, ∀ i, (0 : EReal) ≤ (m ((c : Thread nD τ).loc main_arg1) : S2x4.Idx → EReal) i ∧ (m ((c : Thread nD τ).loc main_arg1) : S2x4.Idx → EReal) i ≠ (⊤ : EReal)) :
    θ_run defs (onTc (τ := τ) (main (F := Ideal))) ⟨m, fun _ => 0, ρ⟩ (fun r => ∀ c : Dev nD,
      r.2.mem ((c.tc : Thread nD τ).loc main_v4) = valueOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hv := (θ_run defs _ _).mono (fun r h c => ((h c).2 main_v4 (Pipeline.mem_restRefs_of main_v4 (by decide) (by decide))).trans (result_value m c (fun i => (hs c i).1) (fun i => (hs c i).2))) (run_main m ρ)
  exact (θ_run defs _ _).mono (fun r h c => ⟨h.1 c, h.2 c⟩) (θ_run_and hv (unchanged m ρ))

end Cert.ReferenceIdeal.Hand
end
-- ==== Proof.PreRead.lean ====
module

public import proofs.«01_k».proof.Pre_scales_in_range
public import Idealize.ShloMosaic.PureOps.Ideal.Laws

@[expose] public section

noncomputable section

namespace Cert.Pre_scales_in_range

open Idealize.ShloMosaic

/-- The precondition's one stated shape relation. -/
theorem facts : Facts := ⟨by decide⟩

/-- The word of the f32 infinity reads as the top. -/
theorem inf_bits : Ideal.ofBits .f32 0x7F800000#32 = ⊤ := by simp [Ideal.ofBits, Ideal.ieee]

/-- The precondition, read: every scale is finite and not negative. -/
theorem scales_of [_inst : Facts] (x0 : FVec Ideal S2x4x5x6x3686 .fp8e4m3) (x1 : FVec Ideal S2x4 .f32) (x2 : FVec Ideal S3x3686x2048 .fp8e4m3) (x3 x4 : FVec Ideal S2048 .f32)
    (h : fn (F := Ideal) x0 x1 x2 x3 x4 = fun _ => 1#1) (i : S2x4.Idx) : (0 : EReal) ≤ x1 i ∧ (x1 i : EReal) ≠ ⊤ := by
  have hi := congrFun h i
  simp only [fn, andi, cmpf, broadcastInDim, constant, Ideal.cmpf_def, Ideal.ofBits_def, Ideal.ofBits_zero_f32, inf_bits, Ideal.cmp] at hi
  by_cases h1 : (0 : EReal) ≤ x1 i <;> by_cases h2 : (x1 i : EReal) < ⊤ <;> simp [h1, h2, IntOp.andi] at hi
  exact ⟨h1, h2.ne⟩

end Cert.Pre_scales_in_range
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Spatial
public import proofs.«01_k».proof.Proof.Gen.Spatial.Skeleton
public import proofs.«01_k».proof.Proof.Gen.Spatial.Launch
public import proofs.«01_k».proof.Proof.Gen.Spatial.Points
public import proofs.«01_k».proof.Proof.Gen.Spatial.Frame
public import proofs.«01_k».proof.Proof.Gen.SpatialIdeal
public import proofs.«01_k».proof.Proof.Gen.SpatialIdeal.Skeleton
public import proofs.«01_k».proof.Proof.Gen.SpatialIdeal.Launch
public import proofs.«01_k».proof.Proof.Gen.SpatialIdeal.Points
public import proofs.«01_k».proof.Proof.Gen.SpatialIdeal.Frame
public import proofs.«01_k».proof.Proof.Gen.SpatialReferenceIdeal
public import proofs.«01_k».proof.Proof.Gen.SpatialReferenceIdeal.Skeleton
public import proofs.«01_k».proof.Proof.Gen.SpatialReferenceIdeal.Launch
public import proofs.«01_k».proof.Proof.Gen.SpatialReferenceIdeal.Points
public import proofs.«01_k».proof.Proof.Gen.SpatialReferenceIdeal.Frame
public import proofs.«01_k».proof.Proof.KFrame
public import proofs.«01_k».proof.Proof.IFrame
public import proofs.«01_k».proof.Proof.IHost
public import proofs.«01_k».proof.Proof.SFrame
public import proofs.«01_k».proof.Proof.JFrame
public import proofs.«01_k».proof.Proof.JHost
public import proofs.«01_k».proof.Proof.RValue
public import proofs.«01_k».proof.Proof.RSValue
public import proofs.«01_k».proof.Proof.PreRead
public import Idealize.ShloMosaic.Adequacy
public import Idealize.ShloMosaic.Init

@[expose] public section

noncomputable section

namespace Cert.Proof

open Idealize.ShloMosaic Idealize.SL.Sem Cert.Kernel

/-- The kernel and the reference, run on equal arguments whose scales are finite and not negative, leave the same result. -/
theorem algebraic : Cert.algebraic_KernelIdeal_ReferenceIdeal_pre_scales_in_range (hKernelIdeal := Cert.KernelIdeal.Gen.facts)
    (hReferenceIdeal := Cert.ReferenceIdeal.Gen.facts) (hPre_scales_in_range := Cert.Pre_scales_in_range.facts) := by
  intro m g m' g' hpre heq
  refine ⟨_, Cert.KernelIdeal.Hand.run_result m g, ?_⟩
  refine (θ_run _ _ _).mono (fun r h c => ⟨(h c).1.trans ?_, (h c).2⟩) (Cert.ReferenceIdeal.Hand.run_result m' g' fun c _ => ?_)
  · rw [(heq c).2.1]
    exact Cert.Pre_scales_in_range.scales_of (_inst := Cert.Pre_scales_in_range.facts) _ _ _ _ _ (hpre c) _
  · obtain ⟨e0, e1, e2, e3, e4⟩ := heq c
    rw [e0, e1, e2, e3, e4]

/-- The spatial slice and its reference, run on equal arguments, leave the same result. -/
theorem algebraic_spatial : Cert.algebraic_SpatialIdeal_SpatialReferenceIdeal (hSpatialIdeal := Cert.SpatialIdeal.Gen.facts)
    (hSpatialReferenceIdeal := Cert.SpatialReferenceIdeal.Gen.facts) := by
  intro m g m' g' _ heq
  refine ⟨_, Cert.SpatialIdeal.Hand.run_result m g, ?_⟩
  refine (θ_run _ _ _).mono (fun r h c => ⟨(h c).1.trans ?_, (h c).2⟩) (Cert.SpatialReferenceIdeal.Hand.run_result m' g')
  obtain ⟨e0, e1, e2, e3, e4⟩ := heq c
  rw [e0, e1, e2, e3, e4]

theorem claim : Cert.Claim := ⟨Cert.Kernel.Gen.facts, Cert.KernelIdeal.Gen.facts, Cert.ReferenceIdeal.Gen.facts, Cert.Spatial.Gen.facts,
  Cert.SpatialIdeal.Gen.facts, Cert.SpatialReferenceIdeal.Gen.facts, Cert.Pre_scales_in_range.facts,
  fun m ρ _ => Cert.Kernel.Hand.frame_any m ρ, fun m ρ _ => Cert.KernelIdeal.Hand.frame_any m ρ, fun m ρ _ => Cert.KernelIdeal.Hand.frame_any m ρ,
  fun m ρ _ => Cert.ReferenceIdeal.Gen.frame m ρ, fun m ρ _ => Cert.ReferenceIdeal.Gen.frame m ρ,
  fun m ρ _ => Cert.Spatial.Hand.frame_any m ρ, fun m ρ _ => Cert.SpatialIdeal.Hand.frame_any m ρ,
  fun m ρ _ => Cert.SpatialReferenceIdeal.Gen.frame m ρ, trivial, algebraic, trivial, algebraic_spatial⟩

end Cert.Proof

end
